-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_finite5 : Cert.Pre_finite5.Facts] (m : (ℓ : Loc Cert.Kernel5.nD Cert.Kernel5.τ Cert.Kernel5.sig) → Buf (Elt Bits) ℓ) : Prop :=
  ∀ c : Dev Cert.Kernel5.nD,
    (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).1 = (fun _ => 1#1)
    ∧ (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.1 = (fun _ => 1#1)
    ∧ (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.2.1 = (fun _ => 1#1)
    ∧ (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.2.2.1 = (fun _ => 1#1)
    ∧ (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.2.2.2.1 = (fun _ => 1#1)
    ∧ (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.2.2.2.2 = (fun _ => 1#1)

def Pre_Kernel5Ideal [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] [hPre_finite5 : Cert.Pre_finite5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v64) = v4 c
          ∧ r.2.mem ((c.tc : Thread Cert.Reference2Ideal.nD Cert.Reference2Ideal.τ).loc Cert.Reference2Ideal.main_v65) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)) (v3 : (c : Dev Cert.Kernel4Ideal.nD) → Buf (Elt Ideal) ((c.tc : Thread Cert.Kernel4Ideal.nD Cert.Kernel4Ideal.τ).loc Cert.Kernel4Ideal.main_v25_3)) (v4 : (c : Dev Cert.Kernel4Ideal.nD) → Buf (Elt Ideal) ((c.tc : Thread Cert.Kernel4Ideal.nD Cert.Kernel4Ideal.τ).loc Cert.Kernel4Ideal.main_v25_4)) (v5 : (c : Dev Cert.Kernel4Ideal.nD) → Buf (Elt Ideal) ((c.tc : Thread Cert.Kernel4Ideal.nD Cert.Kernel4Ideal.τ).loc Cert.Kernel4Ideal.main_v25_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_v25_3) = v3 c
          ∧ r.2.mem ((c.tc : Thread Cert.Kernel4Ideal.nD Cert.Kernel4Ideal.τ).loc Cert.Kernel4Ideal.main_v25_4) = v4 c
          ∧ r.2.mem ((c.tc : Thread Cert.Kernel4Ideal.nD Cert.Kernel4Ideal.τ).loc Cert.Kernel4Ideal.main_v25_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v85) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_v80) = v3 c
          ∧ r.2.mem ((c.tc : Thread Cert.Reference4Ideal.nD Cert.Reference4Ideal.τ).loc Cert.Reference4Ideal.main_v82) = v4 c
          ∧ r.2.mem ((c.tc : Thread Cert.Reference4Ideal.nD Cert.Reference4Ideal.τ).loc Cert.Reference4Ideal.main_v84) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v67_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v67_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v227) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_v43) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v28_0)) (v1 : (c : Dev Cert.Kernel9Ideal.nD) → Buf (Elt Ideal) ((c.tc : Thread Cert.Kernel9Ideal.nD Cert.Kernel9Ideal.τ).loc Cert.Kernel9Ideal.main_v28_1)) (v2 : (c : Dev Cert.Kernel9Ideal.nD) → Buf (Elt Ideal) ((c.tc : Thread Cert.Kernel9Ideal.nD Cert.Kernel9Ideal.τ).loc Cert.Kernel9Ideal.main_v28_2)) (v3 : (c : Dev Cert.Kernel9Ideal.nD) → Buf (Elt Ideal) ((c.tc : Thread Cert.Kernel9Ideal.nD Cert.Kernel9Ideal.τ).loc Cert.Kernel9Ideal.main_v28_3)) (v4 : (c : Dev Cert.Kernel9Ideal.nD) → Buf (Elt Ideal) ((c.tc : Thread Cert.Kernel9Ideal.nD Cert.Kernel9Ideal.τ).loc Cert.Kernel9Ideal.main_v28_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v28_0) = v0 c
          ∧ r.2.mem ((c.tc : Thread Cert.Kernel9Ideal.nD Cert.Kernel9Ideal.τ).loc Cert.Kernel9Ideal.main_v28_1) = v1 c
          ∧ r.2.mem ((c.tc : Thread Cert.Kernel9Ideal.nD Cert.Kernel9Ideal.τ).loc Cert.Kernel9Ideal.main_v28_2) = v2 c
          ∧ r.2.mem ((c.tc : Thread Cert.Kernel9Ideal.nD Cert.Kernel9Ideal.τ).loc Cert.Kernel9Ideal.main_v28_3) = v3 c
          ∧ r.2.mem ((c.tc : Thread Cert.Kernel9Ideal.nD Cert.Kernel9Ideal.τ).loc Cert.Kernel9Ideal.main_v28_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v95) = v0 c
          ∧ r.2.mem ((c.tc : Thread Cert.Reference9Ideal.nD Cert.Reference9Ideal.τ).loc Cert.Reference9Ideal.main_v96) = v1 c
          ∧ r.2.mem ((c.tc : Thread Cert.Reference9Ideal.nD Cert.Reference9Ideal.τ).loc Cert.Reference9Ideal.main_v97) = v2 c
          ∧ r.2.mem ((c.tc : Thread Cert.Reference9Ideal.nD Cert.Reference9Ideal.τ).loc Cert.Reference9Ideal.main_v98) = v3 c
          ∧ r.2.mem ((c.tc : Thread Cert.Reference9Ideal.nD Cert.Reference9Ideal.τ).loc Cert.Reference9Ideal.main_v24) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hPre_finite5 : Cert.Pre_finite5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_finite5 := hPre_finite5)
    ∧ quiescent_Kernel5Ideal (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
-- ==== Pre_finite5.lean ====
abbrev S8192x1024 : Shape := ⟨2, ![8192, 1024]⟩
abbrev S8192x128 : Shape := ⟨2, ![8192, 128]⟩
abbrev S1x16 : Shape := ⟨2, ![1, 16]⟩
abbrev S4x2048 : Shape := ⟨2, ![4, 2048]⟩
abbrev S_ : Shape := ⟨0, ![]⟩

class Facts : Prop where
  bcast_S_S8192x1024 : S_.BroadcastsInDim S8192x1024 (![] : Fin 0 → Fin S8192x1024.rank)
  bcast_S_S8192x128 : S_.BroadcastsInDim S8192x128 (![] : Fin 0 → Fin S8192x128.rank)
  bcast_S_S1x16 : S_.BroadcastsInDim S1x16 (![] : Fin 0 → Fin S1x16.rank)

variable [Facts]

def fn {F : FTy → Type} [FloatOps F] (main_arg0 : FVec F S8192x1024 .f32) (main_arg1 : FVec F S8192x128 .bf16) (main_arg2 : FVec F S8192x128 .bf16) (main_arg3 : FVec F S8192x1024 .f32) (main_arg4 : FVec F S1x16 .f32) (main_arg5 : FVec F S8192x1024 .bf16) (main_arg6 : IVec S4x2048 32) : IVec S8192x1024 1 × IVec S8192x128 1 × IVec S8192x128 1 × IVec S8192x1024 1 × IVec S1x16 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x128 .bf16 := Host.absf main_arg1
  let main_cst_0 : FVec F S_ .bf16 := constant S_ .bf16 0x7F80#16
  let main_v4 : FVec F S8192x128 .bf16 := broadcastInDim S8192x128 ![] bcast_S_S8192x128 main_cst_0
  let main_v5 : IVec S8192x128 1 := cmpf .olt main_v3 main_v4
  let main_v6 : FVec F S8192x128 .bf16 := Host.absf main_arg2
  let main_cst_1 : FVec F S_ .bf16 := constant S_ .bf16 0x7F80#16
  let main_v7 : FVec F S8192x128 .bf16 := broadcastInDim S8192x128 ![] bcast_S_S8192x128 main_cst_1
  let main_v8 : IVec S8192x128 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1x16 .f32 := Host.absf main_arg4
  let main_cst_3 : FVec F S_ .f32 := constant S_ .f32 0x7F800000#32
  let main_v13 : FVec F S1x16 .f32 := broadcastInDim S1x16 ![] bcast_S_S1x16 main_cst_3
  let main_v14 : IVec S1x16 1 := cmpf .olt main_v12 main_v13
  let main_v15 : FVec F S8192x1024 .bf16 := Host.absf main_arg5
  let main_cst_4 : FVec F S_ .bf16 := constant S_ .bf16 0x7F80#16
  let main_v16 : FVec F S8192x1024 .bf16 := broadcastInDim S8192x1024 ![] bcast_S_S8192x1024 main_cst_4
  let main_v17 : IVec S8192x1024 1 := cmpf .olt main_v15 main_v16
  (main_v2, main_v5, main_v8, main_v11, main_v14, main_v17)
-- ==== Kernel.lean ====
abbrev S8192x1024 : Shape := ⟨2, ![8192, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024x1024, .f32⟩
  | .hbm, ⟨3, _⟩ => ⟨S1x1024, .f32⟩
  | .hbm, ⟨4, _⟩ => ⟨S2x1024, .f32⟩
  | .hbm, ⟨5, _⟩ => ⟨S1024x1024, .f32⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S8192x1024, .bf16⟩
  | .hbm, ⟨13, _⟩ => ⟨S1024x1024, .f32⟩
  | .hbm, ⟨14, _⟩ => ⟨S1x1024, .f32⟩
  | .hbm, ⟨15, _⟩ => ⟨S1x1024, .f32⟩
  | .hbm, ⟨16, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_32 : BitVec 32 := 0#32
  let v58 : BitVec 1 := Scalar.cmpi .ne v57 c0_i32_32
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024x1024, .f32⟩
  | .hbm, ⟨3, _⟩ => ⟨S1x1024, .f32⟩
  | .hbm, ⟨4, _⟩ => ⟨S2x1024, .f32⟩
  | .hbm, ⟨5, _⟩ => ⟨S8192x1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S1024x1024, .f32⟩
  | .hbm, ⟨65, _⟩ => ⟨S1024x1024, .f32⟩
  | .hbm, ⟨66, _⟩ => ⟨S8192x1024, .f32⟩
  | .hbm, ⟨67, _⟩ => ⟨S8192x1024, .bf16⟩
  | .hbm, ⟨68, _⟩ => ⟨S1x1024, .f32⟩
  | .hbm, ⟨69, _⟩ => ⟨S1x1024, .f32⟩
  | .hbm, ⟨70, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel2.lean ====
abbrev S8192x1024 : Shape := ⟨2, ![8192, 1024]⟩
abbrev S1x1024x1024 : Shape := ⟨3, ![1, 1024, 1024]⟩
abbrev S2x1024 : Shape := ⟨2, ![2, 1024]⟩
abbrev S4x2048x1024 : Shape := ⟨3, ![4, 2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S2x1024, .f32⟩
  | .hbm, ⟨4, _⟩ => ⟨S4x2048x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .bf16⟩
  | .hbm, ⟨12, _⟩ => ⟨S1024x1024, .f32⟩
  | .hbm, ⟨13, _⟩ => ⟨S1x1024, .f32⟩
  | .hbm, ⟨14, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1x1024, .f32⟩
  | .local _ .vmem, ⟨15, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v78 : BitVec 1 := Scalar.cmpi .eq arg0 c7_i32
  let v79 : BitVec 32 := Scalar.extui v78
  let c0_i32_43 : BitVec 32 := 0#32
  let v80 : BitVec 1 := Scalar.cmpi .ne v79 c0_i32_43
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x1024 : Shape := ⟨2, ![8192, 1024]⟩
abbrev S1x1024x1024 : Shape := ⟨3, ![1, 1024, 1024]⟩
abbrev S2x1024 : Shape := ⟨2, ![2, 1024]⟩
abbrev S4x2048x1024 : Shape := ⟨3, ![4, 2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S2x1024, .f32⟩
  | .hbm, ⟨4, _⟩ => ⟨S4x2048x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S1024x1024, .f32⟩
  | .hbm, ⟨84, _⟩ => ⟨S1024x1024, .f32⟩
  | .hbm, ⟨85, _⟩ => ⟨S8192x1024, .f32⟩
  | .hbm, ⟨86, _⟩ => ⟨S8192x1024, .bf16⟩
  | .hbm, ⟨87, _⟩ => ⟨S1x1024, .f32⟩
  | .hbm, ⟨88, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Kernel3.lean ====
abbrev S8192x4096 : Shape := ⟨2, ![8192, 4096]⟩
abbrev S1x1024x4096 : Shape := ⟨3, ![1, 1024, 4096]⟩
abbrev S8192x1024 : Shape := ⟨2, ![8192, 1024]⟩
abbrev S2x1024 : Shape := ⟨2, ![2, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S1024x4096, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x4096 : Shape := ⟨2, ![8192, 4096]⟩
abbrev S1x1024x4096 : Shape := ⟨3, ![1, 1024, 4096]⟩
abbrev S8192x1024 : Shape := ⟨2, ![8192, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x4096, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel4.lean ====
abbrev S8192x1024 : Shape := ⟨2, ![8192, 1024]⟩
abbrev S8192x2304 : Shape := ⟨2, ![8192, 2304]⟩
abbrev S128x8192 : Shape := ⟨2, ![128, 8192]⟩
abbrev S4x2048 : Shape := ⟨2, ![4, 2048]⟩
abbrev S4x1024x1024 : Shape := ⟨3, ![4, 1024, 1024]⟩
abbrev S4x256x1024 : Shape := ⟨3, ![4, 256, 1024]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S8192x48 : Shape := ⟨2, ![8192, 48]⟩
abbrev S1024x2304 : Shape := ⟨2, ![1024, 2304]⟩
abbrev S1x2304 : Shape := ⟨2, ![1, 2304]⟩
abbrev S8192x256 : Shape := ⟨2, ![8192, 256]⟩
abbrev S1024x1024 : Shape := ⟨2, ![1024, 1024]⟩
abbrev S256x1024 : Shape := ⟨2, ![256, 1024]⟩
abbrev S128x1024 : Shape := ⟨2, ![128, 1024]⟩
abbrev S1024x48 : Shape := ⟨2, ![1024, 48]⟩
abbrev S4x128x1024 : Shape := ⟨3, ![4, 128, 1024]⟩
abbrev S4x32x1024 : Shape := ⟨3, ![4, 32, 1024]⟩
abbrev S1024x256 : Shape := ⟨2, ![1024, 256]⟩
abbrev S32x1024 : Shape := ⟨2, ![32, 1024]⟩
abbrev S1x128x1024 : Shape := ⟨3, ![1, 128, 1024]⟩
abbrev S1x32x1024 : Shape := ⟨3, ![1, 32, 1024]⟩
abbrev S1024x128 : Shape := ⟨2, ![1024, 128]⟩
abbrev S48x384 : Shape := ⟨2, ![48, 384]⟩
abbrev S1024x384 : Shape := ⟨2, ![1024, 384]⟩
abbrev S1x128 : Shape := ⟨2, ![1, 128]⟩
abbrev S1024x768 : Shape := ⟨2, ![1024, 768]⟩
abbrev S1x768 : Shape := ⟨2, ![1, 768]⟩
abbrev S768 : Shape := ⟨1, ![768]⟩

abbrev nBuf : Space → Nat
  | .hbm => 42
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S128x8192, .f32⟩
  | .hbm, ⟨3, _⟩ => ⟨S128x8192, .f32⟩
  | .hbm, ⟨4, _⟩ => ⟨S4x2048, .i32⟩
  | .hbm, ⟨5, _⟩ => ⟨S4x1024x1024, .bf16⟩
  | .hbm, ⟨6, _⟩ => ⟨S4x256x1024, .bf16⟩
  | .hbm, ⟨7, _⟩ => ⟨S4x256x1024, .bf16⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4x2048, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x16, .f32⟩
  | .hbm, ⟨28, _⟩ => ⟨S8192x16, .bf16⟩
  | .hbm, ⟨29, _⟩ => ⟨S8192x16, .f32⟩
  | .hbm, ⟨30, _⟩ => ⟨S8192x16, .f32⟩
  | .hbm, ⟨31, _⟩ => ⟨S8192x16, .bf16⟩
  | .hbm, ⟨32, _⟩ => ⟨S8192x16, .f32⟩
  | .hbm, ⟨33, _⟩ => ⟨S8192x16, .f32⟩
  | .hbm, ⟨34, _⟩ => ⟨S8192x16, .bf16⟩
  | .hbm, ⟨35, _⟩ => ⟨S8192x48, .bf16⟩
  | .hbm, ⟨36, _⟩ => ⟨S1024x2304, .f32⟩
  | .hbm, ⟨37, _⟩ => ⟨S1x2304, .f32⟩
  | .hbm, ⟨38, _⟩ => ⟨S8192x256, .bf16⟩
  | .hbm, ⟨39, _⟩ => ⟨S1024x1024, .f32⟩
  | .hbm, ⟨40, _⟩ => ⟨S256x1024, .f32⟩
  | .hbm, ⟨41, _⟩ => ⟨S256x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x48, .bf16⟩
  | .local _ .vmem, ⟨9, _⟩ => ⟨S1024x48, .bf16⟩
  | .local _ .vmem, ⟨10, _⟩ => ⟨S4x128x1024, .bf16⟩
  | .local _ .vmem, ⟨11, _⟩ => ⟨S4x128x1024, .bf16⟩
  | .local _ .vmem, ⟨12, _⟩ => ⟨S4x32x1024, .bf16⟩
  | .local _ .vmem, ⟨13, _⟩ => ⟨S4x32x1024, .bf16⟩
  | .local _ .vmem, ⟨14, _⟩ => ⟨S4x32x1024, .bf16⟩
  | .local _ .vmem, ⟨15, _⟩ => ⟨S4x32x1024, .bf16⟩
  | .local _ .vmem, ⟨16, _⟩ => ⟨S1x2304, .f32⟩
  | .local _ .vmem, ⟨17, _⟩ => ⟨S1024x256, .bf16⟩
  | .local _ .vmem, ⟨18, _⟩ => ⟨S1024x256, .bf16⟩
  | .local _ .vmem, ⟨19, _⟩ => ⟨S128x1024, .f32⟩
  | .local _ .vmem, ⟨20, _⟩ => ⟨S128x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S1024x2304, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x48 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S8192x1024 : Shape := ⟨2, ![8192, 1024]⟩
abbrev S8192x2304 : Shape := ⟨2, ![8192, 2304]⟩
abbrev S128x8192 : Shape := ⟨2, ![128, 8192]⟩
abbrev S4x2048 : Shape := ⟨2, ![4, 2048]⟩
abbrev S4x1024x1024 : Shape := ⟨3, ![4, 1024, 1024]⟩
abbrev S4x256x1024 : Shape := ⟨3, ![4, 256, 1024]⟩
abbrev S8192x256 : Shape := ⟨2, ![8192, 256]⟩
abbrev S_ : Shape := ⟨0, ![]⟩
abbrev S8192x128 : Shape := ⟨2, ![8192, 128]⟩
abbrev S4x2048x2x64 : Shape := ⟨4, ![4, 2048, 2, 64]⟩
abbrev S8 : Shape := ⟨1, ![8]⟩
abbrev S4x2048x1 : Shape := ⟨3, ![4, 2048, 1]⟩
abbrev S1x1x8 : Shape := ⟨3, ![1, 1, 8]⟩
abbrev S4x2048x8 : Shape := ⟨3, ![4, 2048, 8]⟩
abbrev S4x2048x1x8 : Shape := ⟨4, ![4, 2048, 1, 8]⟩
abbrev S4x2048x2x8 : Shape := ⟨4, ![4, 2048, 2, 8]⟩
abbrev S4x2048x2x48 : Shape := ⟨4, ![4, 2048, 2, 48]⟩
abbrev S1024x2304 : Shape := ⟨2, ![1024, 2304]⟩
abbrev S2304 : Shape := ⟨1, ![2304]⟩
abbrev S1x2304 : Shape := ⟨2, ![1, 2304]⟩
abbrev S2304x1024 : Shape := ⟨2, ![2304, 1024]⟩
abbrev S1024x1024 : Shape := ⟨2, ![1024, 1024]⟩
abbrev S256x1024 : Shape := ⟨2, ![256, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S128x8192, .f32⟩
  | .hbm, ⟨3, _⟩ => ⟨S128x8192, .f32⟩
  | .hbm, ⟨4, _⟩ => ⟨S4x2048, .i32⟩
  | .hbm, ⟨5, _⟩ => ⟨S4x1024x1024, .bf16⟩
  | .hbm, ⟨6, _⟩ => ⟨S4x256x1024, .bf16⟩
  | .hbm, ⟨7, _⟩ => ⟨S4x256x1024, .bf16⟩
  | .hbm, ⟨8, _⟩ => ⟨S8192x2304, .f32⟩
  | .hbm, ⟨9, _⟩ => ⟨S8192x1024, .f32⟩
  | .hbm, ⟨10, _⟩ => ⟨S8192x256, .f32⟩
  | .hbm, ⟨11, _⟩ => ⟨S8192x1024, .f32⟩
  | .hbm, ⟨12, _⟩ => ⟨S_, .f32⟩
  | .hbm, ⟨13, _⟩ => ⟨S8192x2304, .f32⟩
  | .hbm, ⟨14, _⟩ => ⟨S8192x1024, .f32⟩
  | .hbm, ⟨15, _⟩ => ⟨S8192x128, .f32⟩
  | .hbm, ⟨16, _⟩ => ⟨S8192x128, .f32⟩
  | .hbm, ⟨17, _⟩ => ⟨S8192x1024, .f32⟩
  | .hbm, ⟨18, _⟩ => ⟨S4x2048x2x64, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S4x2048, .f32⟩
  | .hbm, ⟨31, _⟩ => ⟨S4x2048x1, .f32⟩
  | .hbm, ⟨32, _⟩ => ⟨S1x1x8, .f32⟩
  | .hbm, ⟨33, _⟩ => ⟨S4x2048x8, .f32⟩
  | .hbm, ⟨34, _⟩ => ⟨S4x2048x8, .f32⟩
  | .hbm, ⟨35, _⟩ => ⟨S4x2048x8, .f32⟩
  | .hbm, ⟨36, _⟩ => ⟨S4x2048x8, .f32⟩
  | .hbm, ⟨37, _⟩ => ⟨S4x2048x1x8, .f32⟩
  | .hbm, ⟨38, _⟩ => ⟨S4x2048x8, .f32⟩
  | .hbm, ⟨39, _⟩ => ⟨S4x2048x1x8, .f32⟩
  | .hbm, ⟨40, _⟩ => ⟨S4x2048x2x8, .f32⟩
  | .hbm, ⟨41, _⟩ => ⟨S4x2048x2x8, .f32⟩
  | .hbm, ⟨42, _⟩ => ⟨S4x2048x2x8, .f32⟩
  | .hbm, ⟨43, _⟩ => ⟨S4x2048x2x8, .f32⟩
  | .hbm, ⟨44, _⟩ => ⟨S4x2048x2x8, .f32⟩
  | .hbm, ⟨45, _⟩ => ⟨S4x2048x2x8, .f32⟩
  | .hbm, ⟨46, _⟩ => ⟨S4x2048x2x8, .f32⟩
  | .hbm, ⟨47, _⟩ => ⟨S4x2048x2x8, .f32⟩
  | .hbm, ⟨48, _⟩ => ⟨S4x2048x2x8, .f32⟩
  | .hbm, ⟨49, _⟩ => ⟨S4x2048x2x8, .f32⟩
  | .hbm, ⟨50, _⟩ => ⟨S4x2048x2x8, .f32⟩
  | .hbm, ⟨51, _⟩ => ⟨S4x2048x2x8, .f32⟩
  | .hbm, ⟨52, _⟩ => ⟨S4x2048x2x48, .f32⟩
  | .hbm, ⟨53, _⟩ => ⟨S4x2048x2x64, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S4x2048x2x64, .f32⟩
  | .hbm, ⟨58, _⟩ => ⟨S4x2048x2x8, .f32⟩
  | .hbm, ⟨59, _⟩ => ⟨S4x2048x2x8, .f32⟩
  | .hbm, ⟨60, _⟩ => ⟨S4x2048x2x48, .f32⟩
  | .hbm, ⟨61, _⟩ => ⟨S_, .f32⟩
  | .hbm, ⟨62, _⟩ => ⟨S4x2048x2x64, .f32⟩
  | .hbm, ⟨63, _⟩ => ⟨S4x2048x2x8, .f32⟩
  | .hbm, ⟨64, _⟩ => ⟨S4x2048x2x8, .f32⟩
  | .hbm, ⟨65, _⟩ => ⟨S4x2048x2x8, .f32⟩
  | .hbm, ⟨66, _⟩ => ⟨S4x2048x2x8, .f32⟩
  | .hbm, ⟨67, _⟩ => ⟨S4x2048x2x8, .f32⟩
  | .hbm, ⟨68, _⟩ => ⟨S4x2048x2x8, .f32⟩
  | .hbm, ⟨69, _⟩ => ⟨S4x2048x2x8, .f32⟩
  | .hbm, ⟨70, _⟩ => ⟨S4x2048x2x8, .f32⟩
  | .hbm, ⟨71, _⟩ => ⟨S4x2048x2x8, .f32⟩
  | .hbm, ⟨72, _⟩ => ⟨S4x2048x2x8, .f32⟩
  | .hbm, ⟨73, _⟩ => ⟨S4x2048x2x8, .f32⟩
  | .hbm, ⟨74, _⟩ => ⟨S_, .f32⟩
  | .hbm, ⟨75, _⟩ => ⟨S4x2048x2x64, .f32⟩
  | .hbm, ⟨76, _⟩ => ⟨S4x2048x2x64, .f32⟩
  | .hbm, ⟨77, _⟩ => ⟨S_, .f32⟩
  | .hbm, ⟨78, _⟩ => ⟨S4x2048x2x64, .f32⟩
  | .hbm, ⟨79, _⟩ => ⟨S4x2048x2x64, .f32⟩
  | .hbm, ⟨80, _⟩ => ⟨S8192x128, .f32⟩
  | .hbm, ⟨81, _⟩ => ⟨S8192x2304, .f32⟩
  | .hbm, ⟨82, _⟩ => ⟨S_, .f32⟩
  | .hbm, ⟨83, _⟩ => ⟨S1024x2304, .f32⟩
  | .hbm, ⟨84, _⟩ => ⟨S_, .f32⟩
  | .hbm, ⟨85, _⟩ => ⟨S2304, .f32⟩
  | .hbm, ⟨86, _⟩ => ⟨S8192x1024, .f32⟩
  | .hbm, ⟨87, _⟩ => ⟨S8192x2304, .f32⟩
  | .hbm, ⟨88, _⟩ => ⟨S1x2304, .f32⟩
  | .hbm, ⟨89, _⟩ => ⟨S8192x2304, .f32⟩
  | .hbm, ⟨90, _⟩ => ⟨S8192x2304, .f32⟩
  | .hbm, ⟨91, _⟩ => ⟨S_, .f32⟩
  | .hbm, ⟨92, _⟩ => ⟨S2304, .f32⟩
  | .hbm, ⟨93, _⟩ => ⟨S1x2304, .f32⟩
  | .hbm, ⟨94, _⟩ => ⟨S_, .f32⟩
  | .hbm, ⟨95, _⟩ => ⟨S2304, .f32⟩
  | .hbm, ⟨96, _⟩ => ⟨S2304x1024, .f32⟩
  | .hbm, ⟨97, _⟩ => ⟨S1024x2304, .f32⟩
  | .hbm, ⟨98, _⟩ => ⟨S4x1024x1024, .f32⟩
  | .hbm, ⟨99, _⟩ => ⟨S_, .f32⟩
  | .hbm, ⟨100, _⟩ => ⟨S1024x1024, .f32⟩
  | .hbm, ⟨101, _⟩ => ⟨S4x256x1024, .f32⟩
  | .hbm, ⟨102, _⟩ => ⟨S_, .f32⟩
  | .hbm, ⟨103, _⟩ => ⟨S256x1024, .f32⟩
  | .hbm, ⟨104, _⟩ => ⟨S4x256x1024, .f32⟩
  | .hbm, ⟨105, _⟩ => ⟨S_, .f32⟩
  | .hbm, ⟨106, _⟩ => ⟨S256x1024, .f32⟩
  | .hbm, ⟨107, _⟩ => ⟨S1x2304, .f32⟩
  | .hbm, ⟨108, _⟩ => ⟨S8192x256, .f32⟩
  | .hbm, ⟨109, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_4 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_8 : Ref sig .tc := ⟨.hbm, 91, rfl⟩
abbrev main_v74 : Ref sig .tc := ⟨.hbm, 92, rfl⟩
abbrev main_v75 : Ref sig .tc := ⟨.hbm, 93, rfl⟩
abbrev main_cst_9 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩

abbrev nD : Nat := 1
abbrev τ : Topo := Topo.v7x

variable {F : FTy → Type} [FloatOps F]
-- ==== Kernel5.lean ====
abbrev S8192x1024 : Shape := ⟨2, ![8192, 1024]⟩
abbrev S8192x128 : Shape := ⟨2, ![8192, 128]⟩
abbrev S1x16 : Shape := ⟨2, ![1, 16]⟩
abbrev S4x2048 : Shape := ⟨2, ![4, 2048]⟩
abbrev S4x2048x16x64 : Shape := ⟨4, ![4, 2048, 16, 64]⟩
abbrev S_ : Shape := ⟨0, ![]⟩
abbrev S8 : Shape := ⟨1, ![8]⟩
abbrev S4x2048x1 : Shape := ⟨3, ![4, 2048, 1]⟩
abbrev S1x1x8 : Shape := ⟨3, ![1, 1, 8]⟩
abbrev S4x2048x8 : Shape := ⟨3, ![4, 2048, 8]⟩
abbrev S4x2048x1x8 : Shape := ⟨4, ![4, 2048, 1, 8]⟩
abbrev S4x2048x16x8 : Shape := ⟨4, ![4, 2048, 16, 8]⟩
abbrev S4x2048x16x48 : Shape := ⟨4, ![4, 2048, 16, 48]⟩
abbrev S2x4x2 : Shape := ⟨3, ![2, 4, 2]⟩
abbrev S2x2x4 : Shape := ⟨3, ![2, 2, 4]⟩
abbrev S2x2x4x1x1 : Shape := ⟨5, ![2, 2, 4, 1, 1]⟩
abbrev S2x2x4x128x128 : Shape := ⟨5, ![2, 2, 4, 128, 128]⟩
abbrev S2x2x512x128 : Shape := ⟨4, ![2, 2, 512, 128]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S8192x48 : Shape := ⟨2, ![8192, 48]⟩
abbrev S8192x2304 : Shape := ⟨2, ![8192, 2304]⟩
abbrev S128x8192 : Shape := ⟨2, ![128, 8192]⟩
abbrev S2x2x4x128 : Shape := ⟨4, ![2, 2, 4, 128]⟩
abbrev S128x1024 : Shape := ⟨2, ![128, 1024]⟩
abbrev S2048x128 : Shape := ⟨2, ![2048, 128]⟩
abbrev S128x48 : Shape := ⟨2, ![128, 48]⟩
abbrev S128x2304 : Shape := ⟨2, ![128, 2304]⟩
abbrev S128x2048 : Shape := ⟨2, ![128, 2048]⟩
abbrev S3x512x256 : Shape := ⟨3, ![3, 512, 256]⟩
abbrev S512x256 : Shape := ⟨2, ![512, 256]⟩
abbrev S1x512x256 : Shape := ⟨3, ![1, 512, 256]⟩
abbrev S128x128 : Shape := ⟨2, ![128, 128]⟩
abbrev S256x128 : Shape := ⟨2, ![256, 128]⟩
abbrev S128x256 : Shape := ⟨2, ![128, 256]⟩
abbrev S48x384 : Shape := ⟨2, ![48, 384]⟩
abbrev S128x384 : Shape := ⟨2, ![128, 384]⟩
abbrev S1x128 : Shape := ⟨2, ![1, 128]⟩
abbrev S512x128 : Shape := ⟨2, ![512, 128]⟩
abbrev S1x1x512x128 : Shape := ⟨4, ![1, 1, 512, 128]⟩
abbrev S512 : Shape := ⟨1, ![512]⟩
abbrev S512x1 : Shape := ⟨2, ![512, 1]⟩
abbrev S1x1x4x128 : Shape := ⟨4, ![1, 1, 4, 128]⟩
abbrev S4x128 : Shape := ⟨2, ![4, 128]⟩
abbrev S4x128x128 : Shape := ⟨3, ![4, 128, 128]⟩

abbrev nBuf : Space → Nat
  | .hbm => 85
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x128, .bf16⟩
  | .hbm, ⟨2, _⟩ => ⟨S8192x128, .bf16⟩
  | .hbm, ⟨3, _⟩ => ⟨S8192x1024, .f32⟩
  | .hbm, ⟨4, _⟩ => ⟨S1x16, .f32⟩
  | .hbm, ⟨5, _⟩ => ⟨S8192x1024, .bf16⟩
  | .hbm, ⟨6, _⟩ => ⟨S4x2048, .i32⟩
  | .hbm, ⟨7, _⟩ => ⟨S4x2048x16x64, .f32⟩
  | .hbm, ⟨8, _⟩ => ⟨S_, .f32⟩
  | .hbm, ⟨9, _⟩ => ⟨S4x2048x16x64, .f32⟩
  | .hbm, ⟨10, _⟩ => ⟨S4x2048x16x64, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S4x2048, .f32⟩
  | .hbm, ⟨23, _⟩ => ⟨S4x2048x1, .f32⟩
  | .hbm, ⟨24, _⟩ => ⟨S1x1x8, .f32⟩
  | .hbm, ⟨25, _⟩ => ⟨S4x2048x8, .f32⟩
  | .hbm, ⟨26, _⟩ => ⟨S4x2048x8, .f32⟩
  | .hbm, ⟨27, _⟩ => ⟨S4x2048x8, .f32⟩
  | .hbm, ⟨28, _⟩ => ⟨S4x2048x8, .f32⟩
  | .hbm, ⟨29, _⟩ => ⟨S4x2048x1x8, .f32⟩
  | .hbm, ⟨30, _⟩ => ⟨S4x2048x8, .f32⟩
  | .hbm, ⟨31, _⟩ => ⟨S4x2048x1x8, .f32⟩
  | .hbm, ⟨32, _⟩ => ⟨S4x2048x16x8, .f32⟩
  | .hbm, ⟨33, _⟩ => ⟨S4x2048x16x8, .f32⟩
  | .hbm, ⟨34, _⟩ => ⟨S4x2048x16x8, .f32⟩
  | .hbm, ⟨35, _⟩ => ⟨S4x2048x16x8, .f32⟩
  | .hbm, ⟨36, _⟩ => ⟨S4x2048x16x8, .f32⟩
  | .hbm, ⟨37, _⟩ => ⟨S4x2048x16x8, .f32⟩
  | .hbm, ⟨38, _⟩ => ⟨S4x2048x16x8, .f32⟩
  | .hbm, ⟨39, _⟩ => ⟨S4x2048x16x8, .f32⟩
  | .hbm, ⟨40, _⟩ => ⟨S4x2048x16x8, .f32⟩
  | .hbm, ⟨41, _⟩ => ⟨S4x2048x16x8, .f32⟩
  | .hbm, ⟨42, _⟩ => ⟨S4x2048x16x8, .f32⟩
  | .hbm, ⟨43, _⟩ => ⟨S4x2048x16x8, .f32⟩
  | .hbm, ⟨44, _⟩ => ⟨S4x2048x16x48, .f32⟩
  | .hbm, ⟨45, _⟩ => ⟨S4x2048x16x64, .f32⟩
  | .hbm, ⟨46, _⟩ => ⟨S8192x1024, .f32⟩
  | .hbm, ⟨47, _⟩ => ⟨S8192x1024, .bf16⟩
  | .hbm, ⟨48, _⟩ => ⟨S2x4x2, .f32⟩
  | .hbm, ⟨49, _⟩ => ⟨S2x2x4, .f32⟩
  | .hbm, ⟨50, _⟩ => ⟨S2x2x4x1x1, .f32⟩
  | .hbm, ⟨51, _⟩ => ⟨S2x2x4x128x128, .f32⟩
  | .hbm, ⟨52, _⟩ => ⟨S2x2x512x128, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S4x2048, .f32⟩
  | .hbm, ⟨65, _⟩ => ⟨S8192x1, .f32⟩
  | .hbm, ⟨66, _⟩ => ⟨S1x8, .f32⟩
  | .hbm, ⟨67, _⟩ => ⟨S8192x8, .f32⟩
  | .hbm, ⟨68, _⟩ => ⟨S8192x8, .f32⟩
  | .hbm, ⟨69, _⟩ => ⟨S8192x8, .f32⟩
  | .hbm, ⟨70, _⟩ => ⟨S8192x8, .f32⟩
  | .hbm, ⟨71, _⟩ => ⟨S8192x8, .f32⟩
  | .hbm, ⟨72, _⟩ => ⟨S8192x16, .f32⟩
  | .hbm, ⟨73, _⟩ => ⟨S8192x16, .bf16⟩
  | .hbm, ⟨74, _⟩ => ⟨S8192x16, .f32⟩
  | .hbm, ⟨75, _⟩ => ⟨S8192x16, .f32⟩
  | .hbm, ⟨76, _⟩ => ⟨S8192x16, .bf16⟩
  | .hbm, ⟨77, _⟩ => ⟨S8192x16, .f32⟩
  | .hbm, ⟨78, _⟩ => ⟨S8192x16, .f32⟩
  | .hbm, ⟨79, _⟩ => ⟨S8192x16, .bf16⟩
  | .hbm, ⟨80, _⟩ => ⟨S8192x48, .bf16⟩
  | .hbm, ⟨81, _⟩ => ⟨S8192x2304, .bf16⟩
  | .hbm, ⟨82, _⟩ => ⟨S128x8192, .f32⟩
  | .hbm, ⟨83, _⟩ => ⟨S128x8192, .f32⟩
  | .hbm, ⟨84, _⟩ => ⟨S2x2x4x128, .f32⟩
  | .local _ .vmem, ⟨0, _⟩ => ⟨S128x1024, .bf16⟩
  | .local _ .vmem, ⟨1, _⟩ => ⟨S128x1024, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x1024, .f32⟩
  | .local _ .vmem, ⟨7, _⟩ => ⟨S128x1024, .f32⟩
  | .local _ .vmem, ⟨8, _⟩ => ⟨S2x2x512x128, .f32⟩
  | .local _ .vmem, ⟨9, _⟩ => ⟨S128x1024, .bf16⟩
  | .local _ .vmem, ⟨10, _⟩ => ⟨S128x1024, .bf16⟩
  | .local _ .vmem, ⟨11, _⟩ => ⟨S128x48, .bf16⟩
  | .local _ .vmem, ⟨12, _⟩ => ⟨S128x48, .bf16⟩
  | .local _ .vmem, ⟨13, _⟩ => ⟨S128x2304, .bf16⟩
  | .local _ .vmem, ⟨14, _⟩ => ⟨S128x2304, .bf16⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S2x2x4x128, .f32⟩
  | .local _ .vmem, ⟨20, _⟩ => ⟨S3x512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67_0 : Ref sig .tc := ⟨.hbm, 81, rfl⟩
abbrev main_v67_1 : Ref sig .tc := ⟨.hbm, 82, rfl⟩
abbrev main_v67_2 : Ref sig .tc := ⟨.hbm, 83, rfl⟩
abbrev main_v67_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c1_i32 : BitVec 32 := 1#32
  let v8 : BitVec 32 := Scalar.subi arg1 c1_i32
  let c0_i32_4 : BitVec 32 := 0#32
  let v9 : BitVec 32 := Scalar.maxsi v8 c0_i32_4
  let c128_i32 : BitVec 32 := 128#32
  let v10 : BitVec 32 := Scalar.muli v9 c128_i32
  v10
def k0_mult2 (i : grid0.Coords) : BitVec 32 :=
  let arg1 : BitVec 32 := BitVec.ofNat 32 (i 1).val
  let c128_i32_5 : BitVec 32 := 128#32
  let v12 : BitVec 32 := Scalar.muli arg1 c128_i32_5
  v12
def k0_off1 (i : grid0.Coords) : Fin 2 → Nat :=
  let arg1 : BitVec 32 := BitVec.ofNat 32 (i 1).val
  let c1_i32 : BitVec 32 := 1#32
  let v8 : BitVec 32 := Scalar.subi arg1 c1_i32
  let c0_i32_4 : BitVec 32 := 0#32
  let v9 : BitVec 32 := Scalar.maxsi v8 c0_i32_4
  let c128_i32 : BitVec 32 := 128#32
  let v10 : BitVec 32 := Scalar.muli v9 c128_i32
  let v11 : BitVec 32 := v10
  let v14 : Index := Scalar.indexCast v11
  let c0 : Index := 0#32
  ![v14.toNat, 0]
def k0_off2 (i : grid0.Coords) : Fin 2 → Nat :=
  let arg1 : BitVec 32 := BitVec.ofNat 32 (i 1).val
  let c128_i32_5 : BitVec 32 := 128#32
  let v12 : BitVec 32 := Scalar.muli arg1 c128_i32_5
  let v13 : BitVec 32 := v12
  let v16 : Index := Scalar.indexCast v13
  let c0_6 : Index := 0#32
  ![v16.toNat, 0]
def k0_off3 (i : grid0.Coords) : Fin 3 → Nat :=
  let arg1 : BitVec 32 := BitVec.ofNat 32 (i 1).val
  let c1_i32_9 : BitVec 32 := 1#32
  let v28 : BitVec 32 := Scalar.minsi arg1 c1_i32_9
  let v29 : Index := Scalar.indexCast v28
  let c0_10 : Index := 0#32
  let c0_11 : Index := 0#32
  ![v29.toNat, 0, 0]
def k0_off4 (i : grid0.Coords) : Fin 2 → Nat :=
  let c0_313 : Index := 0#32
  let arg1 : BitVec 32 := BitVec.ofNat 32 (i 1).val
  let c1_i32 : BitVec 32 := 1#32
  let v8 : BitVec 32 := Scalar.subi arg1 c1_i32
  let c0_i32_4 : BitVec 32 := 0#32
  let v9 : BitVec 32 := Scalar.maxsi v8 c0_i32_4
  let c128_i32 : BitVec 32 := 128#32
  let v10 : BitVec 32 := Scalar.muli v9 c128_i32
  let v11 : BitVec 32 := v10
  let v739 : Index := Scalar.indexCast v11
  ![0, v739.toNat]
def k0_off5 (i : grid0.Coords) : Fin 2 → Nat :=
  let c0_315 : Index := 0#32
  let arg1 : BitVec 32 := BitVec.ofNat 32 (i 1).val
  let c128_i32_5 : BitVec 32 := 128#32
  let v12 : BitVec 32 := Scalar.muli arg1 c128_i32_5
  let v13 : BitVec 32 := v12
  let v746 : Index := Scalar.indexCast v13
  ![0, v746.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x2x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x48 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x2x4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Kernel5Ideal.lean ====
variable {F : FTy → Type} [FloatOps F] [Named F]
def κ : String → Option EReal := fun
  | "mask" => some ⊥
  | _ => none
-- ==== Reference5Ideal.lean ====
abbrev S8192x1024 : Shape := ⟨2, ![8192, 1024]⟩
abbrev S8192x128 : Shape := ⟨2, ![8192, 128]⟩
abbrev S1x16 : Shape := ⟨2, ![1, 16]⟩
abbrev S4x2048 : Shape := ⟨2, ![4, 2048]⟩
abbrev S4x2048x16x64 : Shape := ⟨4, ![4, 2048, 16, 64]⟩
abbrev S8 : Shape := ⟨1, ![8]⟩
abbrev S_ : Shape := ⟨0, ![]⟩
abbrev S4x2048x1 : Shape := ⟨3, ![4, 2048, 1]⟩
abbrev S1x1x8 : Shape := ⟨3, ![1, 1, 8]⟩
abbrev S4x2048x8 : Shape := ⟨3, ![4, 2048, 8]⟩
abbrev S4x2048x1x8 : Shape := ⟨4, ![4, 2048, 1, 8]⟩
abbrev S4x2048x16x8 : Shape := ⟨4, ![4, 2048, 16, 8]⟩
abbrev S4x2048x16x48 : Shape := ⟨4, ![4, 2048, 16, 48]⟩
abbrev S4x2048x2x64 : Shape := ⟨4, ![4, 2048, 2, 64]⟩
abbrev S4x16x128x2x8x64 : Shape := ⟨6, ![4, 16, 128, 2, 8, 64]⟩
abbrev S4x16x128x2x64 : Shape := ⟨5, ![4, 16, 128, 2, 64]⟩
abbrev S4x1x128x2x64 : Shape := ⟨5, ![4, 1, 128, 2, 64]⟩
abbrev S4x15x128x2x64 : Shape := ⟨5, ![4, 15, 128, 2, 64]⟩
abbrev S4x16x256x2x64 : Shape := ⟨5, ![4, 16, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S2x8 : Shape := ⟨2, ![2, 8]⟩
abbrev S1x1x2x8x1 : Shape := ⟨5, ![1, 1, 2, 8, 1]⟩
abbrev S4x16x2x256x128x8 : Shape := ⟨6, ![4, 16, 2, 256, 128, 8]⟩
abbrev S4x16x2x8x128x256 : Shape := ⟨6, ![4, 16, 2, 8, 128, 256]⟩
abbrev S1x16x1x1x128x256 : Shape := ⟨6, ![1, 16, 1, 1, 128, 256]⟩
abbrev S4x16x2x8x128 : Shape := ⟨5, ![4, 16, 2, 8, 128]⟩
abbrev S4x16x2x8x128x1 : Shape := ⟨6, ![4, 16, 2, 8, 128, 1]⟩
abbrev S4x16x2x64x8x128 : Shape := ⟨6, ![4, 16, 2, 64, 8, 128]⟩
abbrev S4x2048x1024 : Shape := ⟨3, ![4, 2048, 1024]⟩
abbrev S4x16x2x64x256 : Shape := ⟨5, ![4, 16, 2, 64, 256]⟩
abbrev S4x16x2x128x8x64 : Shape := ⟨6, ![4, 16, 2, 128, 8, 64]⟩
abbrev S4x16x2x256x64 : Shape := ⟨5, ![4, 16, 2, 256, 64]⟩
abbrev S8192x256 : Shape := ⟨2, ![8192, 256]⟩
abbrev S8192x2304 : Shape := ⟨2, ![8192, 2304]⟩

abbrev nBuf : Space → Nat
  | .hbm => 290
  | .vmem => 0
  | .smem => 0
  | _ => 0

abbrev hbmTy0_0 (i : Nat) : BufTy := match i % 128 with
  | 0 => ⟨S8192x1024, .f32⟩
  | 1 => ⟨S8192x128, .bf16⟩
  | 2 => ⟨S8192x128, .bf16⟩
  | 3 => ⟨S8192x1024, .f32⟩
  | 4 => ⟨S1x16, .f32⟩
  | 5 => ⟨S8192x1024, .bf16⟩
  | 6 => ⟨S4x2048, .i32⟩
  | 7 => ⟨S8192x128, .f32⟩
  | 8 => ⟨S8192x128, .f32⟩
  | 9 => ⟨S4x2048x16x64, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S4x2048, .f32⟩
  | 22 => ⟨S4x2048x1, .f32⟩
  | 23 => ⟨S1x1x8, .f32⟩
  | 24 => ⟨S4x2048x8, .f32⟩
  | 25 => ⟨S4x2048x8, .f32⟩
  | 26 => ⟨S4x2048x8, .f32⟩
  | 27 => ⟨S4x2048x8, .f32⟩
  | 28 => ⟨S4x2048x1x8, .f32⟩
  | 29 => ⟨S4x2048x8, .f32⟩
  | 30 => ⟨S4x2048x1x8, .f32⟩
  | 31 => ⟨S4x2048x16x8, .f32⟩
  | 32 => ⟨S4x2048x16x8, .f32⟩
  | 33 => ⟨S4x2048x16x8, .f32⟩
  | 34 => ⟨S4x2048x16x8, .f32⟩
  | 35 => ⟨S4x2048x16x8, .f32⟩
  | 36 => ⟨S4x2048x16x8, .f32⟩
  | 37 => ⟨S4x2048x16x8, .f32⟩
  | 38 => ⟨S4x2048x16x8, .f32⟩
  | 39 => ⟨S4x2048x16x8, .f32⟩
  | 40 => ⟨S4x2048x16x8, .f32⟩
  | 41 => ⟨S4x2048x16x8, .f32⟩
  | 42 => ⟨S4x2048x16x8, .f32⟩
  | 43 => ⟨S4x2048x16x48, .f32⟩
  | 44 => ⟨S4x2048x16x64, .f32⟩
  | 45 => ⟨S4x2048x2x64, .f32⟩
  | 46 => ⟨S4x2048x2x64, .f32⟩
  | 47 => ⟨S4x16x128x2x8x64, .f32⟩
  | 48 => ⟨S4x16x128x2x64, .f32⟩
  | 49 => ⟨S4x1x128x2x64, .f32⟩
  | 50 => ⟨S_, .f32⟩
  | 51 => ⟨S4x1x128x2x64, .f32⟩
  | 52 => ⟨S4x15x128x2x64, .f32⟩
  | 53 => ⟨S4x16x128x2x64, .f32⟩
  | 54 => ⟨S_, .f32⟩
  | 55 => ⟨S4x1x128x2x64, .f32⟩
  | 56 => ⟨S4x16x256x2x64, .f32⟩
  | 57 => ⟨S4x16x128x2x64, .f32⟩
  | 58 => ⟨S4x1x128x2x64, .f32⟩
  | 59 => ⟨S_, .f32⟩
  | 60 => ⟨S4x1x128x2x64, .f32⟩
  | 61 => ⟨S4x15x128x2x64, .f32⟩
  | 62 => ⟨S4x16x128x2x64, .f32⟩
  | 63 => ⟨S_, .f32⟩
  | 64 => ⟨S4x1x128x2x64, .f32⟩
  | 65 => ⟨S4x16x256x2x64, .f32⟩
  | 66 => ⟨S128, .i32⟩
  | 67 => ⟨S128x1, .i32⟩
  | 68 => ⟨S_, .i32⟩
  | 69 => ⟨S128x1, .i32⟩
  | 70 => ⟨S128x1, .i32⟩
  | 71 => ⟨S256, .i32⟩
  | 72 => ⟨S1x256, .i32⟩
  | 73 => ⟨S128x256, .i32⟩
  | 74 => ⟨S128x256, .i32⟩
  | 75 => ⟨S128x256, .i1⟩
  | 76 => ⟨S128x256, .i32⟩
  | 77 => ⟨S128x256, .i32⟩
  | 78 => ⟨S128x256, .i32⟩
  | 79 => ⟨S_, .i32⟩
  | 80 => ⟨S128x256, .i32⟩
  | 81 => ⟨S128x256, .i1⟩
  | 82 => ⟨S128x256, .i1⟩
  | 83 => ⟨S1x128x256, .i1⟩
  | 84 => ⟨S16, .i32⟩
  | 85 => ⟨S16x1x1, .i32⟩
  | 86 => ⟨S_, .i32⟩
  | 87 => ⟨S16x1x1, .i32⟩
  | 88 => ⟨S16x1x1, .i1⟩
  | 89 => ⟨S_, .i32⟩
  | 90 => ⟨S1x256, .i32⟩
  | 91 => ⟨S1x256, .i1⟩
  | 92 => ⟨S1x1x256, .i1⟩
  | 93 => ⟨S16x1x256, .i1⟩
  | 94 => ⟨S16x1x256, .i1⟩
  | 95 => ⟨S16x1x256, .i1⟩
  | 96 => ⟨S16x128x256, .i1⟩
  | 97 => ⟨S16x128x256, .i1⟩
  | 98 => ⟨S16x128x256, .i1⟩
  | 99 => ⟨S2x8, .f32⟩
  | 100 => ⟨S1x1x2x8x1, .f32⟩
  | 101 => ⟨S4x16x2x256x128x8, .f32⟩
  | 102 => ⟨S4x16x2x8x128x256, .f32⟩
  | 103 => ⟨S_, .f32⟩
  | 104 => ⟨S4x16x2x8x128x256, .f32⟩
  | 105 => ⟨S4x16x2x8x128x256, .f32⟩
  | 106 => ⟨S_, .f32⟩
  | 107 => ⟨S_, .f32⟩
  | 108 => ⟨S16x128x256, .f32⟩
  | 109 => ⟨S16x128x256, .f32⟩
  | 110 => ⟨S16x128x256, .f32⟩
  | 111 => ⟨S1x16x1x1x128x256, .f32⟩
  | 112 => ⟨S1x16x1x1x128x256, .f32⟩
  | 113 => ⟨S4x16x2x8x128x256, .f32⟩
  | 114 => ⟨S4x16x2x8x128x256, .f32⟩
  | 115 => ⟨S_, .f32⟩
  | 116 => ⟨S4x16x2x8x128, .f32⟩
  | 117 => ⟨S4x16x2x8x128x1, .f32⟩
  | 118 => ⟨S4x16x2x8x128x256, .f32⟩
  | 119 => ⟨S4x16x2x8x128x256, .i1⟩
  | 120 => ⟨S4x16x2x8x128x256, .f32⟩
  | 121 => ⟨S_, .f32⟩
  | 122 => ⟨S4x16x2x8x128, .f32⟩
  | 123 => ⟨S4x16x2x8x128, .f32⟩
  | 124 => ⟨S4x16x2x8x128, .f32⟩
  | 125 => ⟨S4x16x2x8x128, .f32⟩
  | 126 => ⟨S4x16x2x8x128, .i1⟩
  | 127 => ⟨S4x16x2x8x128, .f32⟩
  | _ => ⟨S8192x1024, .f32⟩

abbrev hbmTy0_1 (i : Nat) : BufTy := match i % 128 with
  | 0 => ⟨S4x16x2x8x128, .i1⟩
  | 1 => ⟨S_, .f32⟩
  | 2 => ⟨S4x16x2x8x128, .f32⟩
  | 3 => ⟨S_, .f32⟩
  | 4 => ⟨S4x16x2x8x128, .f32⟩
  | 5 => ⟨S_, .f32⟩
  | 6 => ⟨S4x16x2x8x128, .f32⟩
  | 7 => ⟨S4x16x2x8x128, .f32⟩
  | 8 => ⟨S4x16x2x8x128, .f32⟩
  | 9 => ⟨S4x16x2x8x128, .f32⟩
  | 10 => ⟨S4x16x2x8x128, .i1⟩
  | 11 => ⟨S4x16x2x8x128, .f32⟩
  | 12 => ⟨S4x16x2x8x128, .i1⟩
  | 13 => ⟨S_, .f32⟩
  | 14 => ⟨S4x16x2x8x128, .f32⟩
  | 15 => ⟨S_, .f32⟩
  | 16 => ⟨S4x16x2x8x128, .f32⟩
  | 17 => ⟨S_, .f32⟩
  | 18 => ⟨S4x16x2x8x128, .f32⟩
  | 19 => ⟨S4x16x2x8x128, .f32⟩
  | 20 => ⟨S4x16x2x8x128, .f32⟩
  | 21 => ⟨S4x16x2x8x128x1, .f32⟩
  | 22 => ⟨S4x16x2x8x128x256, .f32⟩
  | 23 => ⟨S4x16x2x8x128x256, .f32⟩
  | 24 => ⟨S4x16x2x8x128x256, .f32⟩
  | 25 => ⟨S_, .f32⟩
  | 26 => ⟨S4x16x2x8x128, .f32⟩
  | 27 => ⟨S4x16x2x8x128, .f32⟩
  | 28 => ⟨S4x16x2x8x128, .f32⟩
  | 29 => ⟨S4x16x2x8x128, .f32⟩
  | 30 => ⟨S4x16x2x8x128, .f32⟩
  | 31 => ⟨S4x16x2x8x128x1, .f32⟩
  | 32 => ⟨S4x16x2x8x128x256, .f32⟩
  | 33 => ⟨S4x16x2x8x128x256, .f32⟩
  | 34 => ⟨S4x16x2x8x128x1, .f32⟩
  | 35 => ⟨S_, .f32⟩
  | 36 => ⟨S4x16x2x8x128x1, .f32⟩
  | 37 => ⟨S4x16x2x8x128x1, .f32⟩
  | 38 => ⟨S4x16x2x64x8x128, .f32⟩
  | 39 => ⟨S4x16x128x2x8x64, .f32⟩
  | 40 => ⟨S4x2048x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S4x2048x1024, .f32⟩
  | 64 => ⟨S4x16x128x2x8x64, .f32⟩
  | 65 => ⟨S4x16x2x64x8x128, .f32⟩
  | 66 => ⟨S4x16x2x8x128x256, .f32⟩
  | 67 => ⟨S4x16x2x64x256, .f32⟩
  | 68 => ⟨S4x16x256x2x64, .f32⟩
  | 69 => ⟨S4x16x2x8x128x256, .f32⟩
  | 70 => ⟨S4x16x2x8x128x256, .f32⟩
  | 71 => ⟨S4x16x2x8x128x256, .f32⟩
  | 72 => ⟨S_, .f32⟩
  | 73 => ⟨S4x16x2x8x128, .f32⟩
  | 74 => ⟨S4x16x2x8x128x1, .f32⟩
  | 75 => ⟨S4x16x2x8x128x1, .f32⟩
  | 76 => ⟨S4x16x2x8x128x256, .f32⟩
  | 77 => ⟨S4x16x2x8x128x256, .f32⟩
  | 78 => ⟨S_, .f32⟩
  | 79 => ⟨S4x16x2x8x128, .f32⟩
  | 80 => ⟨S4x16x2x8x128, .f32⟩
  | 81 => ⟨S_, .f32⟩
  | 82 => ⟨S2x8, .f32⟩
  | 83 => ⟨S1x1x2x8x1, .f32⟩
  | 84 => ⟨S4x16x2x8x128, .f32⟩
  | 85 => ⟨S4x16x2x8x128x256, .f32⟩
  | 86 => ⟨S4x16x2x8x128x256, .f32⟩
  | 87 => ⟨S4x16x2x8x128x256, .f32⟩
  | 88 => ⟨S4x16x2x8x128x256, .f32⟩
  | 89 => ⟨S_, .f32⟩
  | 90 => ⟨S4x16x2x8x128, .f32⟩
  | 91 => ⟨S4x16x2x8x128x1, .f32⟩
  | 92 => ⟨S_, .f32⟩
  | 93 => ⟨S4x16x2x8x128, .f32⟩
  | 94 => ⟨S4x16x2x8x128, .f32⟩
  | 95 => ⟨S4x16x2x8x128, .f32⟩
  | 96 => ⟨S_, .f32⟩
  | 97 => ⟨S2x8, .f32⟩
  | 98 => ⟨S1x1x2x8x1, .f32⟩
  | 99 => ⟨S1x1x2x8x1, .f32⟩
  | 100 => ⟨S4x16x2x8x128, .f32⟩
  | 101 => ⟨S4x16x2x8x128, .f32⟩
  | 102 => ⟨S4x16x2x8x128x256, .f32⟩
  | 103 => ⟨S4x16x2x8x128x256, .f32⟩
  | 104 => ⟨S4x16x2x8x128x256, .f32⟩
  | 105 => ⟨S_, .f32⟩
  | 106 => ⟨S4x16x2x8x128x256, .f32⟩
  | 107 => ⟨S4x16x2x8x128x256, .f32⟩
  | 108 => ⟨S4x16x2x256x128x8, .f32⟩
  | 109 => ⟨S4x16x2x128x8x64, .f32⟩
  | 110 => ⟨S4x16x128x2x8x64, .f32⟩
  | 111 => ⟨S4x16x2x256x64, .f32⟩
  | 112 => ⟨S4x16x256x2x64, .f32⟩
  | 113 => ⟨S_, .f32⟩
  | 114 => ⟨S2x8, .f32⟩
  | 115 => ⟨S1x16, .f32⟩
  | 116 => ⟨S4x16x128x2x64, .f32⟩
  | 117 => ⟨S4x16x128x2x64, .f32⟩
  | 118 => ⟨S4x1x128x2x64, .f32⟩
  | 119 => ⟨S4x15x128x2x64, .f32⟩
  | 120 => ⟨S_, .f32⟩
  | 121 => ⟨S4x16x128x2x64, .f32⟩
  | 122 => ⟨S4x16x128x2x64, .f32⟩
  | 123 => ⟨S4x2048x2x64, .f32⟩
  | 124 => ⟨S4x16x128x2x64, .f32⟩
  | 125 => ⟨S4x16x128x2x64, .f32⟩
  | 126 => ⟨S4x1x128x2x64, .f32⟩
  | 127 => ⟨S4x15x128x2x64, .f32⟩
  | _ => ⟨S8192x1024, .f32⟩

abbrev hbmTy0_2 (i : Nat) : BufTy := match i % 128 with
  | 0 => ⟨S_, .f32⟩
  | 1 => ⟨S4x16x128x2x64, .f32⟩
  | 2 => ⟨S4x16x128x2x64, .f32⟩
  | 3 => ⟨S4x2048x2x64, .f32⟩
  | 4 => ⟨S4x2048x16x64, .f32⟩
  | 5 => ⟨S8192x128, .f32⟩
  | 6 => ⟨S8192x128, .f32⟩
  | 7 => ⟨S4x2048x16x8, .f32⟩
  | 8 => ⟨S4x2048x16x8, .f32⟩
  | 9 => ⟨S4x2048x16x48, .f32⟩
  | 10 => ⟨S_, .f32⟩
  | 11 => ⟨S4x2048x16x64, .f32⟩
  | 12 => ⟨S4x2048x16x8, .f32⟩
  | 13 => ⟨S4x2048x16x8, .f32⟩
  | 14 => ⟨S4x2048x16x8, .f32⟩
  | 15 => ⟨S4x2048x16x8, .f32⟩
  | 16 => ⟨S4x2048x16x8, .f32⟩
  | 17 => ⟨S4x2048x16x8, .f32⟩
  | 18 => ⟨S4x2048x16x8, .f32⟩
  | 19 => ⟨S4x2048x16x8, .f32⟩
  | 20 => ⟨S4x2048x16x8, .f32⟩
  | 21 => ⟨S4x2048x16x8, .f32⟩
  | 22 => ⟨S4x2048x16x8, .f32⟩
  | 23 => ⟨S_, .f32⟩
  | 24 => ⟨S4x2048x16x64, .f32⟩
  | 25 => ⟨S4x2048x16x64, .f32⟩
  | 26 => ⟨S_, .f32⟩
  | 27 => ⟨S4x2048x16x64, .f32⟩
  | 28 => ⟨S4x2048x16x64, .f32⟩
  | 29 => ⟨S8192x1024, .f32⟩
  | 30 => ⟨S_, .f32⟩
  | 31 => ⟨S8192x256, .f32⟩
  | 32 => ⟨S8192x2304, .f32⟩
  | 33 => ⟨S8192x2304, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c_6 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_7 : Ref sig .tc := ⟨.hbm, 86, rfl⟩
abbrev main_v70 : Ref sig .tc := ⟨.hbm, 87, rfl⟩
abbrev main_v71 : Ref sig .tc := ⟨.hbm, 88, rfl⟩
abbrev main_c_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_9 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_cst_11 : Ref sig .tc := ⟨.hbm, 107, rfl⟩
abbrev main_call0_v0 : Ref sig .tc := ⟨.hbm, 108, rfl⟩
abbrev main_call0_v1 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_12 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_13 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_14 : Ref sig .tc := ⟨.hbm, 129, rfl⟩
abbrev main_v104 : Ref sig .tc := ⟨.hbm, 130, rfl⟩
abbrev main_cst_15 : Ref sig .tc := ⟨.hbm, 131, rfl⟩
abbrev main_v105 : Ref sig .tc := ⟨.hbm, 132, rfl⟩
abbrev main_cst_16 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_17 : Ref sig .tc := ⟨.hbm, 141, rfl⟩
abbrev main_v113 : Ref sig .tc := ⟨.hbm, 142, rfl⟩
abbrev main_cst_18 : Ref sig .tc := ⟨.hbm, 143, rfl⟩
abbrev main_v114 : Ref sig .tc := ⟨.hbm, 144, rfl⟩
abbrev main_cst_19 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_20 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_call1_v0 : Ref sig .tc := ⟨.hbm, 170, rfl⟩
abbrev main_call1_v1 : Ref sig .tc := ⟨.hbm, 171, rfl⟩
abbrev main_call1_cst : Ref sig .tc := ⟨.hbm, 172, rfl⟩
abbrev main_call1_v2 : Ref sig .tc := ⟨.hbm, 173, rfl⟩
abbrev main_call1_v3 : Ref sig .tc := ⟨.hbm, 174, rfl⟩
abbrev main_call1_cst_0 : Ref sig .tc := ⟨.hbm, 175, rfl⟩
abbrev main_call1_v4 : Ref sig .tc := ⟨.hbm, 176, rfl⟩
abbrev main_v137_2 : Ref sig .tc := ⟨.hbm, 177, rfl⟩
abbrev main_call1_cst_1 : Ref sig .tc := ⟨.hbm, 178, rfl⟩
abbrev main_call1_v6 : Ref sig .tc := ⟨.hbm, 179, rfl⟩
abbrev main_call1_v7 : Ref sig .tc := ⟨.hbm, 180, rfl⟩
abbrev main_v137_1 : Ref sig .tc := ⟨.hbm, 181, rfl⟩
abbrev main_v137_0 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_call2_v0 : Ref sig .tc := ⟨.hbm, 187, rfl⟩
abbrev main_call2_v1 : Ref sig .tc := ⟨.hbm, 188, rfl⟩
abbrev main_call2_v2 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_22 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_23 : Ref sig .tc := ⟨.hbm, 206, rfl⟩
abbrev main_v157 : Ref sig .tc := ⟨.hbm, 207, rfl⟩
abbrev main_v158 : Ref sig .tc := ⟨.hbm, 208, rfl⟩
abbrev main_cst_24 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_25 : Ref sig .tc := ⟨.hbm, 217, rfl⟩
abbrev main_v166 : Ref sig .tc := ⟨.hbm, 218, rfl⟩
abbrev main_v167 : Ref sig .tc := ⟨.hbm, 219, rfl⟩
abbrev main_cst_26 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_27 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_28 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_29 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_cst_30 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_31 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_cst_32 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_cst_33 : Ref sig .tc := ⟨.hbm, 279, rfl⟩
abbrev main_v220 : Ref sig .tc := ⟨.hbm, 280, rfl⟩
abbrev main_v221 : Ref sig .tc := ⟨.hbm, 281, rfl⟩
abbrev main_cst_34 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_cst_35 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩

abbrev nD : Nat := 1
abbrev τ : Topo := Topo.v7x

variable {F : FTy → Type} [FloatOps F]
-- ==== Kernel6.lean ====
abbrev S8192x2304 : Shape := ⟨2, ![8192, 2304]⟩
abbrev S1x1024x2304 : Shape := ⟨3, ![1, 1024, 2304]⟩
abbrev S8192x1024 : Shape := ⟨2, ![8192, 1024]⟩
abbrev S2x1024 : Shape := ⟨2, ![2, 1024]⟩
abbrev S1024x2304 : Shape := ⟨2, ![1024, 2304]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2304, .bf16⟩
  | .hbm, ⟨1, _⟩ => ⟨S1x1024x2304, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S1024x2304, .f32⟩
  | .hbm, ⟨6, _⟩ => ⟨S1024x2304, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S8192x2304 : Shape := ⟨2, ![8192, 2304]⟩
abbrev S1x1024x2304 : Shape := ⟨3, ![1, 1024, 2304]⟩
abbrev S8192x1024 : Shape := ⟨2, ![8192, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2304 : Shape := ⟨2, ![1024, 2304]⟩

abbrev nBuf : Space → Nat
  | .hbm => 58
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1x1024x2304, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x2304, .f32⟩
  | .hbm, ⟨28, _⟩ => ⟨S8192x2304, .f32⟩
  | .hbm, ⟨29, _⟩ => ⟨S8192x2304, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel7.lean ====
abbrev S8192x1024 : Shape := ⟨2, ![8192, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S1x1024, .f32⟩
  | .hbm, ⟨3, _⟩ => ⟨S8192x1024, .f32⟩
  | .hbm, ⟨4, _⟩ => ⟨S2x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S8192x1024, .bf16⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x1024 : Shape := ⟨2, ![8192, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S1x1024, .f32⟩
  | .hbm, ⟨3, _⟩ => ⟨S8192x1024, .f32⟩
  | .hbm, ⟨4, _⟩ => ⟨S2x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel8.lean ====
abbrev S8192x1024 : Shape := ⟨2, ![8192, 1024]⟩
abbrev S2x1024 : Shape := ⟨2, ![2, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S8192x4096 : Shape := ⟨2, ![8192, 4096]⟩
abbrev S1024x1024 : Shape := ⟨2, ![1024, 1024]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x4096, .f32⟩
  | .hbm, ⟨3, _⟩ => ⟨S1024x4096, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S1x1024, .f32⟩
  | .hbm, ⟨8, _⟩ => ⟨S8192x1024, .bf16⟩
  | .hbm, ⟨9, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4096, .f32⟩
  | .local _ .vmem, ⟨7, _⟩ => ⟨S1024x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S2x1024 : Shape := ⟨2, ![2, 1024]⟩
abbrev S1x1024x4096 : Shape := ⟨3, ![1, 1024, 4096]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x4096, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x4096, .f32⟩
  | .hbm, ⟨23, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S8192x1024 : Shape := ⟨2, ![8192, 1024]⟩
abbrev S2x1024 : Shape := ⟨2, ![2, 1024]⟩
abbrev S1x1024x2304 : Shape := ⟨3, ![1, 1024, 2304]⟩
abbrev S1x2304 : Shape := ⟨2, ![1, 2304]⟩
abbrev S4x2048 : Shape := ⟨2, ![4, 2048]⟩
abbrev S1x1024 : Shape := ⟨2, ![1, 1024]⟩
abbrev S1024x2304 : Shape := ⟨2, ![1024, 2304]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S8192x48 : Shape := ⟨2, ![8192, 48]⟩
abbrev S8192x128 : Shape := ⟨2, ![8192, 128]⟩
abbrev S1024x1024 : Shape := ⟨2, ![1024, 1024]⟩
abbrev S1024x48 : Shape := ⟨2, ![1024, 48]⟩
abbrev S1024x128 : Shape := ⟨2, ![1024, 128]⟩
abbrev S1024 : Shape := ⟨1, ![1024]⟩
abbrev S1024x1 : Shape := ⟨2, ![1024, 1]⟩
abbrev S48x384 : Shape := ⟨2, ![48, 384]⟩
abbrev S1024x384 : Shape := ⟨2, ![1024, 384]⟩
abbrev S1x128 : Shape := ⟨2, ![1, 128]⟩

abbrev nBuf : Space → Nat
  | .hbm => 41
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x2304, .f32⟩
  | .hbm, ⟨3, _⟩ => ⟨S1x2304, .f32⟩
  | .hbm, ⟨4, _⟩ => ⟨S4x2048, .i32⟩
  | .hbm, ⟨5, _⟩ => ⟨S1x1024, .f32⟩
  | .hbm, ⟨6, _⟩ => ⟨S1024x2304, .f32⟩
  | .hbm, ⟨7, _⟩ => ⟨S1024x2304, .bf16⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4x2048, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x16, .f32⟩
  | .hbm, ⟨28, _⟩ => ⟨S8192x16, .bf16⟩
  | .hbm, ⟨29, _⟩ => ⟨S8192x16, .f32⟩
  | .hbm, ⟨30, _⟩ => ⟨S8192x16, .f32⟩
  | .hbm, ⟨31, _⟩ => ⟨S8192x16, .bf16⟩
  | .hbm, ⟨32, _⟩ => ⟨S8192x16, .f32⟩
  | .hbm, ⟨33, _⟩ => ⟨S8192x16, .f32⟩
  | .hbm, ⟨34, _⟩ => ⟨S8192x16, .bf16⟩
  | .hbm, ⟨35, _⟩ => ⟨S8192x48, .bf16⟩
  | .hbm, ⟨36, _⟩ => ⟨S8192x1024, .bf16⟩
  | .hbm, ⟨37, _⟩ => ⟨S8192x1024, .bf16⟩
  | .hbm, ⟨38, _⟩ => ⟨S8192x128, .bf16⟩
  | .hbm, ⟨39, _⟩ => ⟨S8192x128, .bf16⟩
  | .hbm, ⟨40, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2304, .bf16⟩
  | .local _ .vmem, ⟨4, _⟩ => ⟨S1x2304, .f32⟩
  | .local _ .vmem, ⟨5, _⟩ => ⟨S1024x48, .bf16⟩
  | .local _ .vmem, ⟨6, _⟩ => ⟨S1024x48, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x1024, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v28_3 : Ref sig .tc := ⟨.hbm, 39, rfl⟩
abbrev main_v28_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x48 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S8192x1024 : Shape := ⟨2, ![8192, 1024]⟩
abbrev S2x1024 : Shape := ⟨2, ![2, 1024]⟩
abbrev S1x1024x2304 : Shape := ⟨3, ![1, 1024, 2304]⟩
abbrev S1x2304 : Shape := ⟨2, ![1, 2304]⟩
abbrev S4x2048 : Shape := ⟨2, ![4, 2048]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2304 : Shape := ⟨2, ![1024, 2304]⟩
abbrev S8192x2304 : Shape := ⟨2, ![8192, 2304]⟩
abbrev S2304 : Shape := ⟨1, ![2304]⟩
abbrev S8192x128 : Shape := ⟨2, ![8192, 128]⟩
abbrev S4x2048x16x64 : Shape := ⟨4, ![4, 2048, 16, 64]⟩
abbrev S8 : Shape := ⟨1, ![8]⟩
abbrev S4x2048x1 : Shape := ⟨3, ![4, 2048, 1]⟩
abbrev S1x1x8 : Shape := ⟨3, ![1, 1, 8]⟩
abbrev S4x2048x8 : Shape := ⟨3, ![4, 2048, 8]⟩
abbrev S4x2048x1x8 : Shape := ⟨4, ![4, 2048, 1, 8]⟩
abbrev S4x2048x16x8 : Shape := ⟨4, ![4, 2048, 16, 8]⟩
abbrev S4x2048x16x48 : Shape := ⟨4, ![4, 2048, 16, 48]⟩
abbrev S4x2048x2x64 : Shape := ⟨4, ![4, 2048, 2, 64]⟩
abbrev S4x2048x2x8 : Shape := ⟨4, ![4, 2048, 2, 8]⟩
abbrev S4x2048x2x48 : Shape := ⟨4, ![4, 2048, 2, 48]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x2304, .f32⟩
  | .hbm, ⟨3, _⟩ => ⟨S1x2304, .f32⟩
  | .hbm, ⟨4, _⟩ => ⟨S4x2048, .i32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x2304, .f32⟩
  | .hbm, ⟨24, _⟩ => ⟨S8192x2304, .f32⟩
  | .hbm, ⟨25, _⟩ => ⟨S2304, .f32⟩
  | .hbm, ⟨26, _⟩ => ⟨S1x2304, .f32⟩
  | .hbm, ⟨27, _⟩ => ⟨S8192x2304, .f32⟩
  | .hbm, ⟨28, _⟩ => ⟨S8192x2304, .f32⟩
  | .hbm, ⟨29, _⟩ => ⟨S8192x1024, .f32⟩
  | .hbm, ⟨30, _⟩ => ⟨S8192x128, .f32⟩
  | .hbm, ⟨31, _⟩ => ⟨S8192x128, .f32⟩
  | .hbm, ⟨32, _⟩ => ⟨S8192x1024, .f32⟩
  | .hbm, ⟨33, _⟩ => ⟨S4x2048x16x64, .f32⟩
  | .hbm, ⟨34, _⟩ => ⟨S_, .f32⟩
  | .hbm, ⟨35, _⟩ => ⟨S4x2048x16x64, .f32⟩
  | .hbm, ⟨36, _⟩ => ⟨S4x2048x16x64, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S4x2048, .f32⟩
  | .hbm, ⟨49, _⟩ => ⟨S4x2048x1, .f32⟩
  | .hbm, ⟨50, _⟩ => ⟨S1x1x8, .f32⟩
  | .hbm, ⟨51, _⟩ => ⟨S4x2048x8, .f32⟩
  | .hbm, ⟨52, _⟩ => ⟨S4x2048x8, .f32⟩
  | .hbm, ⟨53, _⟩ => ⟨S4x2048x8, .f32⟩
  | .hbm, ⟨54, _⟩ => ⟨S4x2048x8, .f32⟩
  | .hbm, ⟨55, _⟩ => ⟨S4x2048x1x8, .f32⟩
  | .hbm, ⟨56, _⟩ => ⟨S4x2048x8, .f32⟩
  | .hbm, ⟨57, _⟩ => ⟨S4x2048x1x8, .f32⟩
  | .hbm, ⟨58, _⟩ => ⟨S4x2048x16x8, .f32⟩
  | .hbm, ⟨59, _⟩ => ⟨S4x2048x16x8, .f32⟩
  | .hbm, ⟨60, _⟩ => ⟨S4x2048x16x8, .f32⟩
  | .hbm, ⟨61, _⟩ => ⟨S4x2048x16x8, .f32⟩
  | .hbm, ⟨62, _⟩ => ⟨S4x2048x16x8, .f32⟩
  | .hbm, ⟨63, _⟩ => ⟨S4x2048x16x8, .f32⟩
  | .hbm, ⟨64, _⟩ => ⟨S4x2048x16x8, .f32⟩
  | .hbm, ⟨65, _⟩ => ⟨S4x2048x16x8, .f32⟩
  | .hbm, ⟨66, _⟩ => ⟨S4x2048x16x8, .f32⟩
  | .hbm, ⟨67, _⟩ => ⟨S4x2048x16x8, .f32⟩
  | .hbm, ⟨68, _⟩ => ⟨S4x2048x16x8, .f32⟩
  | .hbm, ⟨69, _⟩ => ⟨S4x2048x16x8, .f32⟩
  | .hbm, ⟨70, _⟩ => ⟨S4x2048x16x48, .f32⟩
  | .hbm, ⟨71, _⟩ => ⟨S4x2048x16x64, .f32⟩
  | .hbm, ⟨72, _⟩ => ⟨S8192x1024, .f32⟩
  | .hbm, ⟨73, _⟩ => ⟨S4x2048x2x64, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S4x2048, .f32⟩
  | .hbm, ⟨86, _⟩ => ⟨S4x2048x1, .f32⟩
  | .hbm, ⟨87, _⟩ => ⟨S1x1x8, .f32⟩
  | .hbm, ⟨88, _⟩ => ⟨S4x2048x8, .f32⟩
  | .hbm, ⟨89, _⟩ => ⟨S4x2048x8, .f32⟩
  | .hbm, ⟨90, _⟩ => ⟨S4x2048x8, .f32⟩
  | .hbm, ⟨91, _⟩ => ⟨S4x2048x8, .f32⟩
  | .hbm, ⟨92, _⟩ => ⟨S4x2048x1x8, .f32⟩
  | .hbm, ⟨93, _⟩ => ⟨S4x2048x8, .f32⟩
  | .hbm, ⟨94, _⟩ => ⟨S4x2048x1x8, .f32⟩
  | .hbm, ⟨95, _⟩ => ⟨S4x2048x2x8, .f32⟩
  | .hbm, ⟨96, _⟩ => ⟨S4x2048x2x8, .f32⟩
  | .hbm, ⟨97, _⟩ => ⟨S4x2048x2x8, .f32⟩
  | .hbm, ⟨98, _⟩ => ⟨S4x2048x2x8, .f32⟩
  | .hbm, ⟨99, _⟩ => ⟨S4x2048x2x8, .f32⟩
  | .hbm, ⟨100, _⟩ => ⟨S4x2048x2x8, .f32⟩
  | .hbm, ⟨101, _⟩ => ⟨S4x2048x2x8, .f32⟩
  | .hbm, ⟨102, _⟩ => ⟨S4x2048x2x8, .f32⟩
  | .hbm, ⟨103, _⟩ => ⟨S4x2048x2x8, .f32⟩
  | .hbm, ⟨104, _⟩ => ⟨S4x2048x2x8, .f32⟩
  | .hbm, ⟨105, _⟩ => ⟨S4x2048x2x8, .f32⟩
  | .hbm, ⟨106, _⟩ => ⟨S4x2048x2x8, .f32⟩
  | .hbm, ⟨107, _⟩ => ⟨S4x2048x2x48, .f32⟩
  | .hbm, ⟨108, _⟩ => ⟨S4x2048x2x64, .f32⟩
  | .hbm, ⟨109, _⟩ => ⟨S8192x128, .f32⟩
  | .hbm, ⟨110, _⟩ => ⟨S8192x1024, .bf16⟩
  | .hbm, ⟨111, _⟩ => ⟨S8192x1024, .bf16⟩
  | .hbm, ⟨112, _⟩ => ⟨S8192x128, .bf16⟩
  | .hbm, ⟨113, _⟩ => ⟨S8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩

abbrev nD : Nat := 1
abbrev τ : Topo := Topo.v7x

variable {F : FTy → Type} [FloatOps F]
-- ==== Kernel10.lean ====
abbrev S8192x1024 : Shape := ⟨2, ![8192, 1024]⟩
abbrev S8192x128 : Shape := ⟨2, ![8192, 128]⟩
abbrev S1x16 : Shape := ⟨2, ![1, 16]⟩
abbrev S2x4x2 : Shape := ⟨3, ![2, 4, 2]⟩
abbrev S2x2x4 : Shape := ⟨3, ![2, 2, 4]⟩
abbrev S2x2x4x1x1 : Shape := ⟨5, ![2, 2, 4, 1, 1]⟩
abbrev S2x2x4x128x128 : Shape := ⟨5, ![2, 2, 4, 128, 128]⟩
abbrev S2x2x512x128 : Shape := ⟨4, ![2, 2, 512, 128]⟩
abbrev S128x1024 : Shape := ⟨2, ![128, 1024]⟩
abbrev S2048x128 : Shape := ⟨2, ![2048, 128]⟩
abbrev S3x512x256 : Shape := ⟨3, ![3, 512, 256]⟩
abbrev S512x256 : Shape := ⟨2, ![512, 256]⟩
abbrev S1x512x256 : Shape := ⟨3, ![1, 512, 256]⟩
abbrev S128x128 : Shape := ⟨2, ![128, 128]⟩
abbrev S256x128 : Shape := ⟨2, ![256, 128]⟩
abbrev S128x256 : Shape := ⟨2, ![128, 256]⟩
abbrev S512x128 : Shape := ⟨2, ![512, 128]⟩
abbrev S1x1x512x128 : Shape := ⟨4, ![1, 1, 512, 128]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x128, .bf16⟩
  | .hbm, ⟨3, _⟩ => ⟨S8192x1024, .f32⟩
  | .hbm, ⟨4, _⟩ => ⟨S1x16, .f32⟩
  | .hbm, ⟨5, _⟩ => ⟨S2x4x2, .f32⟩
  | .hbm, ⟨6, _⟩ => ⟨S2x2x4, .f32⟩
  | .hbm, ⟨7, _⟩ => ⟨S2x2x4x1x1, .f32⟩
  | .hbm, ⟨8, _⟩ => ⟨S2x2x4x128x128, .f32⟩
  | .hbm, ⟨9, _⟩ => ⟨S2x2x512x128, .f32⟩
  | .hbm, ⟨10, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x1024, .f32⟩
  | .local _ .vmem, ⟨7, _⟩ => ⟨S128x1024, .f32⟩
  | .local _ .vmem, ⟨8, _⟩ => ⟨S2x2x512x128, .f32⟩
  | .local _ .vmem, ⟨9, _⟩ => ⟨S128x1024, .bf16⟩
  | .local _ .vmem, ⟨10, _⟩ => ⟨S128x1024, .bf16⟩
  | .local _ .vmem, ⟨11, _⟩ => ⟨S3x512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c1_i32 : BitVec 32 := 1#32
  let v5 : BitVec 32 := Scalar.subi arg1 c1_i32
  let c0_i32_2 : BitVec 32 := 0#32
  let v6 : BitVec 32 := Scalar.maxsi v5 c0_i32_2
  let c128_i32 : BitVec 32 := 128#32
  let v7 : BitVec 32 := Scalar.muli v6 c128_i32
  v7
def k0_mult2 (i : grid0.Coords) : BitVec 32 :=
  let arg1 : BitVec 32 := BitVec.ofNat 32 (i 1).val
  let c128_i32_3 : BitVec 32 := 128#32
  let v9 : BitVec 32 := Scalar.muli arg1 c128_i32_3
  v9
def k0_off1 (i : grid0.Coords) : Fin 2 → Nat :=
  let arg1 : BitVec 32 := BitVec.ofNat 32 (i 1).val
  let c1_i32 : BitVec 32 := 1#32
  let v5 : BitVec 32 := Scalar.subi arg1 c1_i32
  let c0_i32_2 : BitVec 32 := 0#32
  let v6 : BitVec 32 := Scalar.maxsi v5 c0_i32_2
  let c128_i32 : BitVec 32 := 128#32
  let v7 : BitVec 32 := Scalar.muli v6 c128_i32
  let v8 : BitVec 32 := v7
  let v11 : Index := Scalar.indexCast v8
  let c0 : Index := 0#32
  ![v11.toNat, 0]
def k0_off2 (i : grid0.Coords) : Fin 2 → Nat :=
  let arg1 : BitVec 32 := BitVec.ofNat 32 (i 1).val
  let c128_i32_3 : BitVec 32 := 128#32
  let v9 : BitVec 32 := Scalar.muli arg1 c128_i32_3
  let v10 : BitVec 32 := v9
  let v13 : Index := Scalar.indexCast v10
  let c0_4 : Index := 0#32
  ![v13.toNat, 0]
def k0_off3 (i : grid0.Coords) : Fin 3 → Nat :=
  let arg1 : BitVec 32 := BitVec.ofNat 32 (i 1).val
  let c1_i32_7 : BitVec 32 := 1#32
  let v25 : BitVec 32 := Scalar.minsi arg1 c1_i32_7
  let v26 : Index := Scalar.indexCast v25
  let c0_8 : Index := 0#32
  let c0_9 : Index := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x2x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Norm.lean ====
/- The gradient of a root-mean-square norm over the extended reals.

   A row `y` is scaled by `r = rsqrt (mean (y * y) + eps)`. With `s` the cotangent of the scaled row, the kernels write
   the gradient of the row as `r * (s - yn * mean (s * yn))`, where `yn = y * r`; differentiating the forward line
   gives `s * r + y * t + t * y`, where `t` carries the derivative of `r`. The two agree for every row and every
   cotangent: where the mean square is infinite both are zero, and elsewhere the row is finite, so that only products
   with finite numbers are moved. -/
module

public import Idealize.ShloMosaic.Lib.Pointwise

@[expose] public section

set_option maxRecDepth 16384

noncomputable section
open Idealize.ShloMosaic

namespace Cert.Proof

/-! ## Sums and products of extended reals -/

/-- A product with a nonnegative finite number distributes over a sum of two. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- A product with a nonnegative finite number distributes over a finite sum. -/
theorem coe_mul_sum {ι : Type} (s : Finset ι) {a : ℝ} (ha : 0 ≤ a) (f : ι → EReal) :
    (a : EReal) * ∑ k ∈ s, f k = ∑ k ∈ s, (a : EReal) * f k := by
  classical
  induction s using Finset.induction with
  | empty => simp
  | insert k s hk ih => rw [Finset.sum_insert hk, Finset.sum_insert hk, coe_mul_add ha, ih]

/-- Twice a number is two times it. -/
theorem add_self (x : EReal) : x + x = ((2 : ℝ) : EReal) * x := by
  induction x with
  | bot => rw [EReal.coe_mul_bot_of_pos (by norm_num)]; rfl
  | top => rw [EReal.coe_mul_top_of_pos (by norm_num)]; rfl
  | coe x => rw [← EReal.coe_add, ← EReal.coe_mul, two_mul]

/-- The sum of finitely many finite numbers. -/
theorem coe_sum {ι : Type} (s : Finset ι) (f : ι → ℝ) : ((∑ k ∈ s, f k : ℝ) : EReal) = ∑ k ∈ s, (f k : EReal) := by
  classical
  induction s using Finset.induction with
  | empty => simp
  | insert k s hk ih => rw [Finset.sum_insert hk, Finset.sum_insert hk, EReal.coe_add, ih]

/-- A square is not negative. -/
theorem sq_nonneg' (x : EReal) : 0 ≤ x * x := by
  induction x with
  | bot => simp
  | top => simp
  | coe x => exact_mod_cast mul_self_nonneg x

/-- The square of an infinite number is infinite. -/
theorem sq_eq_top {x : EReal} (hb : x = ⊥ ∨ x = ⊤) : x * x = ⊤ := by rcases hb with rfl | rfl <;> simp

/-- A sum of squares that is not infinite is a sum of squares of finite numbers. -/
theorem finite_of_sum_sq {n : ℕ} (y : Fin n → EReal) (h : ∑ k, y k * y k ≠ ⊤) : ∃ yr : Fin n → ℝ, y = fun k => (yr k : EReal) := by
  have hf : ∀ k, y k ≠ ⊥ ∧ y k ≠ ⊤ := by
    intro k
    by_contra hk
    have hk' : y k = ⊥ ∨ y k = ⊤ := by tauto
    apply h
    rw [eq_top_iff, ← sq_eq_top hk']
    exact Finset.single_le_sum (f := fun k => y k * y k) (fun i _ => sq_nonneg' (y i)) (Finset.mem_univ k)
  exact ⟨fun k => (y k).toReal, funext fun k => (EReal.coe_toReal (hf k).2 (hf k).1).symm⟩

/-! ## The constants of the norm -/

/-- The row length, 1024. -/
abbrev cLen : EReal := Ideal.ofBits .f32 0x44800000#32
/-- The small number under the root. -/
abbrev cEps : EReal := Ideal.ofBits .f32 0x358637BD#32
/-- Minus one half, the exponent of the root's derivative. -/
abbrev cNegHalf : EReal := Ideal.ofBits .f32 0xBF000000#32

theorem cLen_eq : cLen = ((1024 : ℝ) : EReal) := by
  simp [cLen, Ideal.ofBits, Ideal.ieee, -EReal.coe_mul]; norm_num
theorem cNegHalf_eq : cNegHalf = ((-(1 / 2) : ℝ) : EReal) := by
  simp [cNegHalf, Ideal.ofBits, Ideal.ieee, -EReal.coe_mul]; norm_num
theorem cEps_eq : ∃ e : ℝ, 0 < e ∧ cEps = (e : EReal) := by
  refine ⟨_, ?_, by simp [cEps, Ideal.ofBits, Ideal.ieee, -EReal.coe_mul]; rfl⟩
  norm_num

/-! ## The norm of a row and its gradient -/

/-- The mean square of a row, with the small number added. -/
def meanSq (y : Fin 1024 → EReal) : EReal := Ideal.div (∑ k, y k * y k) cLen + cEps
/-- The reciprocal root of the mean square. -/
def rstd (y : Fin 1024 → EReal) : EReal := Ideal.rsqrt (meanSq y)
/-- The gradient of a row from the cotangent `s` of the scaled row, as the kernels write it. -/
def normGrad (s y : Fin 1024 → EReal) (j : Fin 1024) : EReal :=
  rstd y * (s j - (y j * rstd y) * Ideal.div (∑ k, s k * (y k * rstd y)) cLen)
/-- What the derivative of the reciprocal root adds to the gradient, per entry of the row. -/
def rstdGrad (s y : Fin 1024 → EReal) : EReal :=
  Ideal.div ((∑ k, y k * s k) * (cNegHalf * Ideal.div (rstd y) (meanSq y))) cLen

/-- The mean square of a row is infinite, or the row is finite and the mean square a positive number. -/
theorem meanSq_cases (y : Fin 1024 → EReal) :
    meanSq y = ⊤ ∨ ∃ (yr : Fin 1024 → ℝ) (v : ℝ), 0 < v ∧ (y = fun k => (yr k : EReal)) ∧ meanSq y = (v : EReal) := by
  obtain ⟨e, he, hE⟩ := cEps_eq
  by_cases h : ∑ k, y k * y k = ⊤
  · left
    rw [meanSq, h, cLen_eq, Ideal.div_coe (by norm_num), hE, EReal.top_mul_coe_of_pos (by norm_num)]
    rfl
  · right
    obtain ⟨yr, rfl⟩ := finite_of_sum_sq y h
    refine ⟨yr, (∑ k, yr k * yr k) * (1 / 1024) + e, ?_, rfl, ?_⟩
    · have : 0 ≤ ∑ k, yr k * yr k := Finset.sum_nonneg fun k _ => mul_self_nonneg _
      positivity
    · rw [meanSq, cLen_eq, Ideal.div_coe (by norm_num), hE, EReal.coe_add, EReal.coe_mul, coe_sum]
      simp only [EReal.coe_mul]

/-- The kernels' gradient of a row is the derivative of the forward line. -/
theorem normGrad_eq (s y : Fin 1024 → EReal) (j : Fin 1024) :
    normGrad s y j = s j * rstd y + y j * rstdGrad s y + rstdGrad s y * y j := by
  rcases meanSq_cases y with h | ⟨yr, v, hv, rfl, h⟩
  · have hr : rstd y = 0 := by rw [rstd, h]; rfl
    have hd : Ideal.div (0 : EReal) ⊤ = 0 := by simp [Ideal.div]
    have ht : rstdGrad s y = 0 := by
      rw [rstdGrad, hr, h, hd, mul_zero, mul_zero, cLen_eq, Ideal.div_coe (by norm_num), zero_mul]
    rw [normGrad, hr, ht, zero_mul, mul_zero, mul_zero, zero_mul, add_zero, add_zero]
  · obtain ⟨a, ha, hr, hav⟩ : ∃ a : ℝ, 0 < a ∧ rstd (fun k => (yr k : EReal)) = (a : EReal) ∧ a * (1 / v) = a ^ 3 := by
      refine ⟨(Real.sqrt v)⁻¹, by positivity, ?_, ?_⟩
      · rw [rstd, h, Ideal.rsqrt_coe, if_neg (not_lt.2 hv.le), if_neg hv.ne']
      · have h2 : (1 / v) = (Real.sqrt v)⁻¹ ^ 2 := by rw [inv_pow, Real.sq_sqrt hv.le, one_div]
        rw [h2]; ring
    have hS : ∑ k, s k * ((yr k : EReal) * a) = a * ∑ k, (yr k : EReal) * s k := by
      rw [coe_mul_sum _ ha.le]
      exact Finset.sum_congr rfl fun k _ => by rw [← mul_assoc, mul_comm (a : EReal), mul_comm (yr k : EReal)]
    rw [normGrad, rstdGrad, hr, h, hS, cNegHalf_eq, cLen_eq, Ideal.div_coe hv.ne', Ideal.div_coe (by norm_num),
      Ideal.div_coe (by norm_num), ← EReal.coe_mul a, hav]
    generalize ∑ k, (yr k : EReal) * s k = S
    rw [sub_eq_add_neg, coe_mul_add ha.le, mul_comm (s j), add_assoc, mul_comm (S * _ * _) (yr j : EReal), add_self]
    congr 1
    have e1 : (a : EReal) * -((yr j : EReal) * a * (a * S * ((1 / 1024 : ℝ) : EReal))) = ((a * (-(yr j * a) * (a * (1 / 1024))) : ℝ) : EReal) * S := by
      rw [← EReal.neg_mul]
      push_cast
      ac_rfl
    have e2 : ((2 : ℝ) : EReal) * ((yr j : EReal) * (S * (((-(1 / 2) : ℝ) : EReal) * ((a ^ 3 : ℝ) : EReal)) * ((1 / 1024 : ℝ) : EReal)))
        = ((2 * (yr j * ((-(1 / 2)) * a ^ 3 * (1 / 1024))) : ℝ) : EReal) * S := by
      rw [EReal.coe_mul 2, EReal.coe_mul (yr j), EReal.coe_mul _ (1 / 1024), EReal.coe_mul (-(1 / 2))]
      ac_rfl
    rw [e1, e2]
    congr 2
    ring

theorem normGrad_congr {s s' y y' : Fin 1024 → EReal} (hs : ∀ k, s k = s' k) (hy : ∀ k, y k = y' k) (j : Fin 1024) :
    normGrad s y j = normGrad s' y' j := by
  rw [funext hs, funext hy]

end Cert.Proof
end
-- ==== Proof.HostNorm.lean ====
/- The arrays the references compute on the way to the gradient of a norm, with names, and what they hold at an index. -/
module

public import proofs.«01_k».proof.Proof.Gen.ReferenceIdeal
public import proofs.«01_k».proof.Proof.Norm

@[expose] public section

set_option maxRecDepth 16384

noncomputable section
open Idealize.ShloMosaic Idealize.ShloMosaic.TcCoe Idealize.SL.Sem

namespace Cert.Proof
open Cert.ReferenceIdeal Cert.ReferenceIdeal.Gen

/-- Row `i` of an array of rows of length 1024. -/
abbrev row {n : ℕ} {φ : FTy} (x : FVec Ideal ⟨2, ![n, 1024]⟩ φ) (i : Fin n) : Fin 1024 → EReal := fun k => x (ix2 i k)

/-- The mean squares of the rows. -/
def hVar (y : FVec Ideal S8192x1024 .f32) : FVec Ideal S8192x1 .f32 :=
  addf (Host.divf (broadcastInDim S8192x1 ![0] bcast_S8192_S8192x1_0 (Host.reduceAdd (mulf y y) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))

/-- The reciprocal roots of the mean squares, one per row, along the row. -/
def hRstd (y : FVec Ideal S8192x1024 .f32) : FVec Ideal S8192x1024 .f32 :=
  broadcastInDim S8192x1024 ![0, 1] bcast_S8192x1_S8192x1024_0_1 (Host.rsqrt (hVar y))

/-- The derivative of the reciprocal root, one per row, along the row. -/
def hRstdGrad (s y : FVec Ideal S8192x1024 .f32) : FVec Ideal S8192x1024 .f32 :=
  broadcastInDim S8192x1024 ![0] bcast_S8192_S8192x1024_0 (Host.reduceAdd (Host.divf (mulf (shapeCast _ (Host.reduceAdd (mulf y s)
    (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (hVar y)) (hVar y))))
    (broadcastInDim S8192x1 ![] bcast_S_S8192x1 (constant S_ .f32 0x44800000#32))) (constant S_ .f32 0x00000000#32) reducesTo_S8192x1_S8192_d1 h_S_)

/-- The gradient of the rows from the cotangent `s` of the scaled rows. -/
def hGrad (s y : FVec Ideal S8192x1024 .f32) : FVec Ideal S8192x1024 .f32 :=
  addf (addf (mulf s (hRstd y)) (mulf y (hRstdGrad s y))) (mulf (hRstdGrad s y) y)

theorem hVar_apply (y : FVec Ideal S8192x1024 .f32) (i : Fin 8192) : hVar y (ix2 i 0) = meanSq (row y i) := by
  pointwise [hVar, meanSq]

theorem hRstd_apply (y : FVec Ideal S8192x1024 .f32) (i : Fin 8192) (j : Fin 1024) : hRstd y (ix2 i j) = rstd (row y i) := by
  pointwise [hRstd, rstd, hVar_apply]

theorem hRstdGrad_apply (s y : FVec Ideal S8192x1024 .f32) (i : Fin 8192) (j : Fin 1024) :
    hRstdGrad s y (ix2 i j) = rstdGrad (row s i) (row y i) := by
  pointwise [hRstdGrad, rstdGrad, rstd]
  refine (Fin.sum_univ_one _).trans ?_
  rw [hVar_apply]

theorem hGrad_apply (s y : FVec Ideal S8192x1024 .f32) (i : Fin 8192) (j : Fin 1024) :
    hGrad s y (ix2 i j) = normGrad (row s i) (row y i) j := by
  rw [normGrad_eq]
  pointwise [hGrad, hRstd_apply, hRstdGrad_apply]

/-- A row of norm weights along every row of the array. -/
def hRow (b : FVec Ideal S1x1024 .f32) : FVec Ideal S8192x1024 .f32 :=
  broadcastInDim S8192x1024 ![0, 1] bcast_S1x1024_S8192x1024_0_1 (broadcastInDim S1x1024 ![1] bcast_S1024_S1x1024_1
    (shapeCast _ b shapeCasts_S1x1024_S1024))

/-- The sum of the rows of an array, over its one device again. -/
def hColSum (x : FVec Ideal S8192x1024 .f32) : FVec Ideal S1x1024 .f32 :=
  shapeCast _ (Host.reduceAdd (shapeCast _ (Host.reduceAdd x (constant S_ .f32 0x00000000#32) reducesTo_S8192x1024_S1024_d0 h_S_)
    shapeCasts_S1024_S1x1024) (constant S_ .f32 0x00000000#32) reducesTo_S1x1024_S1024_d0 h_S_) shapeCasts_S1024_S1x1024

/-- A product with square weights. -/
def hMul (og : FVec Ideal S8192x1024 .bf16) (w : FVec Ideal S1x1024x1024 .f32) : FVec Ideal S8192x1024 .f32 :=
  Host.dotGeneral dot_S8192x1024_S1024x1024_S8192x1024_1_0_0_1_n_n none (extf .f32 og bitsLt_bf16_f32)
    (shapeCast _ w shapeCasts_S1x1024x1024_S1024x1024)

/-- The gradient of the product in its left factor. -/
def hMulLeft (s : FVec Ideal S8192x1024 .f32) (w : FVec Ideal S1x1024x1024 .f32) : FVec Ideal S8192x1024 .f32 :=
  Host.dotGeneral dot_S8192x1024_S1024x1024_S8192x1024_1_1_0_0_n_n none s (shapeCast _ w shapeCasts_S1x1024x1024_S1024x1024)

/-- The gradient of the product in its weights. -/
def hMulRight (s : FVec Ideal S8192x1024 .f32) (og : FVec Ideal S8192x1024 .bf16) : FVec Ideal S1024x1024 .f32 :=
  transpose S1024x1024 [1, 0] (Host.dotGeneral dot_S8192x1024_S8192x1024_S1024x1024_0_0_1_1_n_n none s (extf .f32 og bitsLt_bf16_f32))
    transposes_S1024x1024_S1024x1024_1_0

theorem hRow_apply (b : FVec Ideal S1x1024 .f32) (i : Fin 8192) (j : Fin 1024) : hRow b (ix2 i j) = b (ix2 0 j) := by
  pointwise [hRow]

theorem hColSum_apply (x : FVec Ideal S8192x1024 .f32) (j : Fin 1024) : hColSum x (ix2 0 j) = ∑ k : Fin 8192, x (ix2 k j) := by
  pointwise [hColSum]
  exact Fin.sum_univ_one _

theorem hMul_apply (og : FVec Ideal S8192x1024 .bf16) (w : FVec Ideal S1x1024x1024 .f32) (i : Fin 8192) (j : Fin 1024) :
    hMul og w (ix2 i j) = ∑ k : Fin 1024, og (ix2 i k) * w (ix3 0 k j) := by
  pointwise [hMul]

theorem hMulLeft_apply (s : FVec Ideal S8192x1024 .f32) (w : FVec Ideal S1x1024x1024 .f32) (i : Fin 8192) (j : Fin 1024) :
    hMulLeft s w (ix2 i j) = ∑ k : Fin 1024, s (ix2 i k) * w (ix3 0 j k) := by
  pointwise [hMulLeft]

theorem hMulRight_apply (s : FVec Ideal S8192x1024 .f32) (og : FVec Ideal S8192x1024 .bf16) (i j : Fin 1024) :
    hMulRight s og (ix2 i j) = ∑ k : Fin 8192, s (ix2 k j) * og (ix2 k i) := by
  pointwise [hMulRight]

end Cert.Proof
end
-- ==== Proof.Out1.lean ====
/- The gradient of the attention layer's output projection and post-norm: what the kernel's arrays hold after the run. -/
module

public import proofs.«01_k».proof.Proof.Gen.KernelIdeal.Value
public import proofs.«01_k».proof.Proof.Norm
public import proofs.«01_k».proof.Proof.HostNorm
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

namespace Cert.Proof.Out1
open Cert.KernelIdeal Cert.KernelIdeal.Gen

/-! ## What the body computes, at an index -/

theorem grad_apply (g : FVec Ideal S1024x1024 .f32) (y : FVec Ideal S1024x1024 .bf16) (wp : FVec Ideal S1x1024 .f32) (i j : Fin 1024) :
    k0_pay12 (F := Ideal) g y wp (ix2 i j) = normGrad (fun k => g (ix2 i k) * wp (ix2 0 k)) (row y i) j := by
  pointwise [k0_pay12, k0_pay11, k0_pay10, k0_pay9, normGrad, rstd, meanSq]

theorem dog_apply (dy : FVec Ideal S1024x1024 .f32) (w : FVec Ideal S1024x1024 .bf16) (i j : Fin 1024) :
    k0_pay3 (F := Ideal) dy w (ix2 i j) = ∑ k : Fin 1024, dy (ix2 i k) * w (ix2 j k) := by
  pointwise [k0_pay3, k0_pay2]

theorem dw_apply (dy acc : FVec Ideal S1024x1024 .f32) (og : FVec Ideal S1024x1024 .bf16) (i j : Fin 1024) :
    k0_pay4 (F := Ideal) dy acc og (ix2 i j) = acc (ix2 i j) + ∑ k : Fin 1024, og (ix2 k i) * dy (ix2 k j) := by
  pointwise [k0_pay4, k0_pay2]

theorem db_apply (dy : FVec Ideal S1024x1024 .f32) (acc : FVec Ideal S1x1024 .f32) (j : Fin 1024) :
    k0_pay1 (F := Ideal) dy acc (ix2 0 j) = acc (ix2 0 j) + ∑ k : Fin 1024, dy (ix2 k j) := by
  pointwise [k0_pay1]

theorem dwp_apply (g : FVec Ideal S1024x1024 .f32) (y : FVec Ideal S1024x1024 .bf16) (acc : FVec Ideal S1x1024 .f32) (j : Fin 1024) :
    k0_pay13 (F := Ideal) g y acc (ix2 0 j) = acc (ix2 0 j) + ∑ k : Fin 1024, g (ix2 k j) * (y (ix2 k j) * rstd (row y k)) := by
  pointwise [k0_pay13, k0_pay11, k0_pay10, k0_pay9, rstd, meanSq]

/-! ## The reference's arrays -/

/-- The output of the projection, before its norm. -/
def rY (og : FVec Ideal S8192x1024 .bf16) (w : FVec Ideal S1x1024x1024 .f32) (b : FVec Ideal S1x1024 .f32) : FVec Ideal S8192x1024 .f32 :=
  addf (hMul og w) (hRow b)

/-- Its gradient. -/
def rGrad (g : FVec Ideal S8192x1024 .f32) (og : FVec Ideal S8192x1024 .bf16) (w : FVec Ideal S1x1024x1024 .f32)
    (b : FVec Ideal S1x1024 .f32) (wp : FVec Ideal S2x1024 .f32) : FVec Ideal S8192x1024 .f32 :=
  hGrad (mulf g (hRow (extractStridedSlice S1x1024 ![0, 0] wp Cert.ReferenceIdeal.Gen.slices_S2x1024_S1x1024_0_0))) (rY og w b)

theorem rGrad_apply (g : FVec Ideal S8192x1024 .f32) (og : FVec Ideal S8192x1024 .bf16) (w : FVec Ideal S1x1024x1024 .f32)
    (b : FVec Ideal S1x1024 .f32) (wp : FVec Ideal S2x1024 .f32) (i : Fin 8192) (j : Fin 1024) :
    rGrad g og w b wp (ix2 i j) = normGrad (fun k => g (ix2 i k) * wp (ix2 0 k)) (row (rY og w b) i) j := by
  rw [rGrad, hGrad_apply]
  congr 1
  funext k
  pointwise [hRow_apply]

/-! ## The kernel's blocks are the arrays' rows -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

abbrev aG : FVec Ideal S8192x1024 .f32 := m ((c.tc : Thread nD τ).loc main_arg0)
abbrev aOg : FVec Ideal S8192x1024 .bf16 := m ((c.tc : Thread nD τ).loc main_arg1)
abbrev aW : FVec Ideal S1x1024x1024 .f32 := m ((c.tc : Thread nD τ).loc main_arg2)
abbrev aB : FVec Ideal S1x1024 .f32 := m ((c.tc : Thread nD τ).loc main_arg3)
abbrev aWp : FVec Ideal S2x1024 .f32 := m ((c.tc : Thread nD τ).loc main_arg4)
def aY : FVec Ideal S8192x1024 .f32 := rY (aOg m c) (aW m c) (aB m c)
def aGrad : FVec Ideal S8192x1024 .f32 := rGrad (aG m c) (aOg m c) (aW m c) (aB m c) (aWp m c)

theorem V_y (i : Fin 8192) (j : Fin 1024) : (V m c main_v5 : FVec Ideal S8192x1024 .bf16) (ix2 i j) = aY m c (ix2 i j) := by
  entry_read
  pointwise [aY, rY, hMul_apply, hRow_apply]

theorem V_w (i j : Fin 1024) : (V m c main_v1 : FVec Ideal S1024x1024 .bf16) (ix2 i j) = aW m c (ix3 0 i j) := by
  entry_read
  pointwise

theorem V_wp (j : Fin 1024) : (V m c main_v6 : FVec Ideal S1x1024 .f32) (ix2 0 j) = aWp m c (ix2 0 j) := by
  entry_read
  pointwise

theorem lt8 (t : Fin cfg0.N) : t.val < 8 := N_0 ▸ t.isLt

/-- Row `r` of the block of rows that point `t` holds. -/
def at' (t : Fin cfg0.N) (r : Fin 1024) : Fin 8192 := ⟨t.val * 1024 + r.val, by have := lt8 t; omega⟩

theorem at'_val (t : Fin cfg0.N) (r : Fin 1024) : (at' t r).val = t.val * 1024 + r.val := rfl

theorem blk_g (t : Fin cfg0.N) (r k : Fin 1024) : (iblk m c 0 t : FVec Ideal S1024x1024 .f32) (ix2 r k) = aG m c (ix2 (at' t r) k) := by
  blk_point [iblk, V, idx t, at'_val]

theorem blk_y (t : Fin cfg0.N) (r k : Fin 1024) : (iblk m c 1 t : FVec Ideal S1024x1024 .bf16) (ix2 r k) = aY m c (ix2 (at' t r) k) := by
  rw [← V_y]
  blk_point [iblk, V, idx t, at'_val]

theorem blk_og (t : Fin cfg0.N) (r k : Fin 1024) : (iblk m c 2 t : FVec Ideal S1024x1024 .bf16) (ix2 r k) = aOg m c (ix2 (at' t r) k) := by
  blk_point [iblk, V, idx t, at'_val]

theorem blk_w (t : Fin cfg0.N) (r k : Fin 1024) : (iblk m c 3 t : FVec Ideal S1024x1024 .bf16) (ix2 r k) = aW m c (ix3 0 r k) := by
  rw [← V_w]
  blk_point [iblk, V, idx t, at'_val]

theorem blk_wp (t : Fin cfg0.N) (k : Fin 1024) : (iblk m c 4 t : FVec Ideal S1x1024 .f32) (ix2 0 k) = aWp m c (ix2 0 k) := by
  rw [← V_wp]
  blk_point [iblk, V, idx t, at'_val]

/-- The rows' gradient at point `t`, from the blocks it reads. -/
def grad (t : Fin cfg0.N) : FVec Ideal S1024x1024 .f32 := k0_pay12 (iblk m c 0 t) (iblk m c 1 t) (iblk m c 4 t)

theorem grad_eq (t : Fin cfg0.N) (r j : Fin 1024) : grad m c t (ix2 r j) = aGrad m c (ix2 (at' t r) j) :=
  (grad_apply _ _ _ r j).trans ((normGrad_congr (fun k => by rw [blk_g, blk_wp]) (fun k => blk_y m c t r k) j).trans
    (rGrad_apply _ _ _ _ _ _ _).symm)

/-! ## The result arrays after the run -/

theorem outs_dog (t : Fin cfg0.N) (r j : Fin 1024) :
    (outsAt0 m c t.val t.isLt).1 (ix2 r j) = ∑ k : Fin 1024, aGrad m c (ix2 (at' t r) k) * aW m c (ix3 0 j k) := by
  have h : (outsAt0 m c t.val t.isLt).1 = k0_pay3 (grad m c t) (iblk m c 3 t) := by
    by_cases h0 : t.val % 8 = 0
    · rw [outsAt0_A m c t h0 (by omega)]; frame_out; rfl
    · by_cases h1 : t.val % 8 = 7
      · rw [outsAt0_C m c t h0 h1]; frame_out; rfl
      · rw [outsAt0_B m c t h0 h1]; frame_out; rfl
  rw [h, dog_apply]
  exact Fin.sum_fin_congr fun k => Ideal.mul_congr (grad_eq m c t r k) (blk_w m c t j k)

theorem final_dog : (dats m 0 c).arrAt 5 (cfgs 0).N = truncf .bf16 (hMulLeft (aGrad m c) (aW m c)) bitsLt_bf16_f32 := by
  refine (dats m 0 c).arrAt_eq_of_covers 5 _ (by decide +kernel) fun t hf y => ?_
  idx_vars y
  blk_simp
  rw [after0_5, outs_dog, ← hMulLeft_apply]
  blk_point [idx t, at'_val]

theorem outs_dw (j : S1024x1024.Idx) : (outsAt0 m c t0_7.val t0_7.isLt).2.1 j = hMulRight (aGrad m c) (aOg m c) j := by
  have hp (t : Fin cfg0.N) (acc : FVec Ideal S1024x1024 .f32) (j : S1024x1024.Idx) :
      k0_pay4 (F := Ideal) (grad m c t) acc (iblk m c 2 t) j
        = acc j + ∑ k : Fin 1024, aOg m c (ix2 (at' t k) (j 0)) * aGrad m c (ix2 (at' t k) (j 1)) := by
    idx_vars j
    rw [dw_apply]
    exact Ideal.add_congr rfl (Fin.sum_fin_congr fun k => Ideal.mul_congr (blk_og m c t k _) (grad_eq m c t k _))
  rw [Pipeline.eq_sum_fin_of_reset_step_apply_last (fun n h => (outsAt0 m c n h).2.1) 8 (fun _ => 0)
    (fun t j => ∑ k : Fin 1024, aOg m c (ix2 (at' t k) (j 0)) * aGrad m c (ix2 (at' t k) (j 1)))
    (fun t h j => by
      rw [outsAt0_A m c t h (by omega)]; frame_out
      exact (hp t _ j).trans (Ideal.add_congr (by pointwise [k0_pay6]) rfl))
    (fun t h j => by
      by_cases h1 : t.val % 8 = 7
      · rw [outsAt0_C m c t h h1]; frame_out; exact hp t _ j
      · rw [outsAt0_B m c t h h1]; frame_out; exact hp t _ j)
    (le_of_eq N_0) t0_7 rfl, zero_add]
  idx_vars j
  rw [hMulRight_apply]
  exact Fin.sum_mul_add_congr fun s k hl => EReal.mul_comm _ _

theorem final_dw : (dats m 0 c).arrAt 6 (cfgs 0).N = hMulRight (aGrad m c) (aOg m c) := by
  refine (dats m 0 c).arrAt_eq_of_after_last 6 t0_7 (by decide +kernel) _ fun j => ?_
  blk_simp
  rw [after0_6]
  exact outs_dw m c j

theorem final_db : (dats m 0 c).arrAt 7 (cfgs 0).N = hColSum (aGrad m c) := by
  refine (dats m 0 c).arrAt_eq_of_after_last 7 t0_7 (by decide +kernel) _ fun j => ?_
  have hp (t : Fin cfg0.N) (acc : FVec Ideal S1x1024 .f32) (j : S1x1024.Idx) :
      k0_pay1 (F := Ideal) (grad m c t) acc j = acc j + ∑ k : Fin 1024, aGrad m c (ix2 (at' t k) (j 1)) := by
    idx_vars j
    obtain rfl : j0 = 0 := Subsingleton.elim _ _
    rw [db_apply]
    exact Ideal.add_congr rfl (Fin.sum_fin_congr fun k => grad_eq m c t k _)
  blk_simp
  rw [after0_7, Pipeline.eq_sum_fin_of_reset_step_apply_last (fun n h => (outsAt0 m c n h).2.2.1) 8 (fun _ => 0)
    (fun t j => ∑ k : Fin 1024, aGrad m c (ix2 (at' t k) (j 1)))
    (fun t h j => by
      rw [outsAt0_A m c t h (by omega)]; frame_out
      exact (hp t _ j).trans (Ideal.add_congr (by pointwise [k0_pay7]) rfl))
    (fun t h j => by
      by_cases h1 : t.val % 8 = 7
      · rw [outsAt0_C m c t h h1]; frame_out; exact hp t _ j
      · rw [outsAt0_B m c t h h1]; frame_out; exact hp t _ j)
    (le_of_eq N_0) t0_7 rfl, zero_add]
  idx_vars j
  obtain rfl : j0 = 0 := Subsingleton.elim _ _
  rw [hColSum_apply]
  exact Fin.sum_mul_add_congr fun s k hl => rfl

/-- The terms of the norm weights' gradient. -/
def aWpTerms : FVec Ideal S8192x1024 .f32 := mulf (mulf (aY m c) (hRstd (aY m c))) (aG m c)

theorem final_dwp : (dats m 0 c).arrAt 8 (cfgs 0).N = hColSum (aWpTerms m c) := by
  refine (dats m 0 c).arrAt_eq_of_after_last 8 t0_7 (by decide +kernel) _ fun j => ?_
  have hp (t : Fin cfg0.N) (acc : FVec Ideal S1x1024 .f32) (j : S1x1024.Idx) :
      k0_pay13 (F := Ideal) (iblk m c 0 t) (iblk m c 1 t) acc j = acc j + ∑ k : Fin 1024, aWpTerms m c (ix2 (at' t k) (j 1)) := by
    idx_vars j
    obtain rfl : j0 = 0 := Subsingleton.elim _ _
    rw [dwp_apply]
    refine Ideal.add_congr rfl (Fin.sum_fin_congr fun k => ?_)
    have hr : row (φ := .bf16) (iblk m c 1 t) k = row (aY m c) (at' t k) := funext fun x => blk_y m c t k x
    rw [hr, blk_g, blk_y]
    pointwise [aWpTerms, hRstd_apply]
    exact EReal.mul_comm _ _
  blk_simp
  rw [after0_8, Pipeline.eq_sum_fin_of_reset_step_apply_last (fun n h => (outsAt0 m c n h).2.2.2.1) 8 (fun _ => 0)
    (fun t j => ∑ k : Fin 1024, aWpTerms m c (ix2 (at' t k) (j 1)))
    (fun t h j => by
      rw [outsAt0_A m c t h (by omega)]; frame_out
      exact (hp t _ j).trans (Ideal.add_congr (by pointwise [k0_pay8]) rfl))
    (fun t h j => by
      by_cases h1 : t.val % 8 = 7
      · rw [outsAt0_C m c t h h1]; frame_out; exact hp t _ j
      · rw [outsAt0_B m c t h h1]; frame_out; exact hp t _ j)
    (le_of_eq N_0) t0_7 rfl, zero_add]
  idx_vars j
  obtain rfl : j0 = 0 := Subsingleton.elim _ _
  rw [hColSum_apply]
  exact Fin.sum_mul_add_congr fun s k hl => rfl

/-- The narrow copy of the weights' gradient, stored once at the last point. -/
theorem final_dwb : (dats m 0 c).arrAt 9 (cfgs 0).N = truncf .bf16 (hMulRight (aGrad m c) (aOg m c)) bitsLt_bf16_f32 := by
  refine (dats m 0 c).arrAt_eq_of_after_last 9 t0_7 (by decide +kernel) _ fun j => ?_
  have h : (outsAt0 m c t0_7.val t0_7.isLt).2.2.2.2 j = (outsAt0 m c t0_7.val t0_7.isLt).2.1 j := by
    rw [outsAt0_C m c t0_7 (by decide) (by decide)]
    frame_out
    idx_vars j
    pointwise [k0_pay5]
  blk_simp
  rw [after0_9]
  exact h.trans (outs_dw m c j)

end Cert.Proof.Out1
end
-- ==== Proof.Pair1.lean ====
/- The first pair: both programs run and end in the same arrays. -/
module

public import proofs.«01_k».proof.Defs
public import proofs.«01_k».proof.Proof.Out1
public import proofs.«01_k».proof.Proof.Gen.ReferenceIdeal.Run
public import Idealize.ShloMosaic.Lib.Claim

@[expose] public section

set_option maxRecDepth 16384

noncomputable section
open Idealize.ShloMosaic Idealize.ShloMosaic.TcCoe Idealize.SL.Sem

namespace Cert.Proof.Out1

section Reference
open Cert.ReferenceIdeal Cert.ReferenceIdeal.Gen

variable (m : (ℓ : Loc nD τ sig) → Buf (Elt Ideal) ℓ)

/-- The gradient of the projection's output in the reference. -/
abbrev refGrad (c : Dev nD) : FVec Ideal S8192x1024 .f32 :=
  rGrad (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The projection's output in the reference. -/
abbrev refY (c : Dev nD) : FVec Ideal S8192x1024 .f32 :=
  rY (m ((c.tc : Thread nD τ).loc main_arg1)) (m ((c.tc : Thread nD τ).loc main_arg2)) (m ((c.tc : Thread nD τ).loc main_arg3))

theorem ref_dog (c : Dev nD) : Cert.ReferenceIdeal.Value.res_main_v51 m c
    = truncf .bf16 (hMulLeft (refGrad m c) (m ((c.tc : Thread nD τ).loc main_arg2))) bitsLt_bf16_f32 := rfl

theorem ref_dw (c : Dev nD) : Cert.ReferenceIdeal.Value.res_main_v49 m c
    = hMulRight (refGrad m c) (m ((c.tc : Thread nD τ).loc main_arg1)) := rfl

theorem ref_db (c : Dev nD) : Cert.ReferenceIdeal.Value.res_main_v52 m c = hColSum (refGrad m c) := rfl

theorem ref_dwb (c : Dev nD) : Cert.ReferenceIdeal.Value.res_main_v54 m c
    = truncf .bf16 (hMulRight (refGrad m c) (m ((c.tc : Thread nD τ).loc main_arg1))) bitsLt_bf16_f32 := rfl

theorem ref_run (ρ : Dev nD → PrngReg) :
    θ_run defs (onTc (τ := τ) (main (F := Ideal))) ⟨m, fun _ => 0, ρ⟩ fun r => ∀ c : Dev nD,
      r.2.mem ((c.tc : Thread nD τ).loc main_v51) = truncf .bf16 (hMulLeft (refGrad m c) (m ((c.tc : Thread nD τ).loc main_arg2))) bitsLt_bf16_f32
      ∧ r.2.mem ((c.tc : Thread nD τ).loc main_v49) = hMulRight (refGrad m c) (m ((c.tc : Thread nD τ).loc main_arg1))
      ∧ r.2.mem ((c.tc : Thread nD τ).loc main_v52) = hColSum (refGrad m c)
      ∧ r.2.mem ((c.tc : Thread nD τ).loc main_v53) = hColSum (mulf (mulf (refY m c) (hRstd (refY m c))) (m ((c.tc : Thread nD τ).loc main_arg0)))
      ∧ r.2.mem ((c.tc : Thread nD τ).loc main_v54) = truncf .bf16 (hMulRight (refGrad m c) (m ((c.tc : Thread nD τ).loc main_arg1))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4, ha⟩ := h c
    exact ⟨h0.trans (ref_dog m c), h1.trans (ref_dw m c), h2.trans (ref_db m c), h3, h4.trans (ref_dwb m c), ha⟩)
    (Cert.ReferenceIdeal.Value.run m ρ)

end Reference

theorem algebraic : Cert.algebraic_KernelIdeal_ReferenceIdeal := by
  pair_intro
  · run_from Cert.KernelIdeal.Gen.run_main m g
  · run_from ref_run m' g'
    all_goals obtain ⟨h0, h1, h2, h3, h4⟩ := hagree c
    all_goals simp only [refGrad, refY, h0, h1, h2, h3, h4]
    · exact (final_dog m c).symm
    · exact (final_dw m c).symm
    · exact (final_db m c).symm
    · exact (final_dwp m c).symm
    · exact (final_dwb m c).symm

end Cert.Proof.Out1
end
-- ==== Proof.Ref2.lean ====
/- The second reference's arrays, with names, and what they hold at an index. -/
module

public import proofs.«01_k».proof.Proof.Norm
public import proofs.«01_k».proof.Proof.HostNorm
public import proofs.«01_k».proof.Proof.Gen.Reference2Ideal

@[expose] public section

set_option maxRecDepth 16384

noncomputable section
open Idealize.ShloMosaic Idealize.ShloMosaic.TcCoe Idealize.SL.Sem

namespace Cert.Proof.Out2
open Cert.Reference2Ideal Cert.Reference2Ideal.Gen

variable (og : FVec Ideal S8192x1024 .bf16) (w : FVec Ideal S1x1024x1024 .f32) (x : FVec Ideal S8192x1024 .f32)
  (wp : FVec Ideal S2x1024 .f32) (tg : FVec Ideal S4x2048x1024 .f32)

/-- The norm's weights along every row. -/
def rW : FVec Ideal S8192x1024 .f32 := hRow (extractStridedSlice S1x1024 ![1, 0] wp slices_S2x1024_S1x1024_1_0)

/-- The output's distance from the target. -/
def rErr : FVec Ideal S8192x1024 .f32 :=
  subf (addf x (mulf (mulf (hMul og w) (hRstd (hMul og w))) (rW wp))) (shapeCast _ tg shapeCasts_S4x2048x1024_S8192x1024)

/-- The loss's gradient in the layer's output. -/
def rDx : FVec Ideal S8192x1024 .f32 :=
  mulf (broadcastInDim S8192x1024 ![0] bcast_S8192_S8192x1024_0 (Host.divf (broadcastInDim S8192 ![] bcast_S_S8192
    (mulf (constant S_ .f32 0x3F000000#32) (constant S_ .f32 0x3F800000#32))) (broadcastInDim S8192 ![] bcast_S_S8192
    (constant S_ .f32 0x44800000#32)))) (mulf (broadcastInDim S8192x1024 ![] bcast_S_S8192x1024 (constant S_ .f32 0x40000000#32))
    (rErr og w x wp tg))

/-- The gradient of the projection's output. -/
def rGrad : FVec Ideal S8192x1024 .f32 := hGrad (mulf (rDx og w x wp tg) (rW wp)) (hMul og w)

/-- The terms of the norm weights' gradient. -/
def rWpTerms : FVec Ideal S8192x1024 .f32 := mulf (mulf (hMul og w) (hRstd (hMul og w))) (rDx og w x wp tg)

/-- The sums of the squared distances. -/
def rSums : FVec Ideal S1x1024 .f32 := broadcastInDim S1x1024 ![1] bcast_S1024_S1x1024_1 (Host.reduceAdd (mulf (rErr og w x wp tg)
  (rErr og w x wp tg)) (constant S_ .f32 0x00000000#32) reducesTo_S8192x1024_S1024_d0 h_S_)

theorem scale_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  have h1 : Ideal.ofBits .f32 0x3F000000#32 = ((1 / 2 : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A800000#32 = ((1 / 1024 : ℝ) : EReal) := by simp [Ideal.ofBits, Ideal.ieee, -EReal.coe_mul]; norm_num
  have h5 : Ideal.ofBits .f32 0x44800000#32 = ((1024 : ℝ) : EReal) := cLen_eq
  rw [h1, h2, h3, h4, h5, Ideal.div_coe (by norm_num), ← mul_assoc, ← EReal.coe_mul, ← EReal.coe_mul, ← EReal.coe_mul, mul_comm]
  norm_num

theorem rW_apply (i : Fin 8192) (j : Fin 1024) : rW wp (ix2 i j) = wp (ix2 1 j) := by
  pointwise [rW, hRow_apply]

theorem rDx_apply (i : Fin 8192) (j : Fin 1024) : rDx og w x wp tg (ix2 i j) = rErr og w x wp tg (ix2 i j) * Ideal.ofBits .f32 0x3A800000#32 := by
  rw [← scale_eq]
  pointwise [rDx]

theorem rErr_apply (i : Fin 8192) (j : Fin 1024) : rErr og w x wp tg (ix2 i j) = x (ix2 i j) + hMul og w (ix2 i j)
      * rstd (row (hMul og w) i) * wp (ix2 1 j) - (shapeCast S8192x1024 tg shapeCasts_S4x2048x1024_S8192x1024 : FVec Ideal S8192x1024 .f32) (ix2 i j) := by
  pointwise [rErr, hRstd_apply, rW_apply]

theorem rGrad_apply (i : Fin 8192) (j : Fin 1024) :
    rGrad og w x wp tg (ix2 i j) = normGrad (fun k => rDx og w x wp tg (ix2 i k) * wp (ix2 1 k)) (row (hMul og w) i) j := by
  rw [rGrad, hGrad_apply]
  exact normGrad_congr (fun k => by pointwise [rW_apply]) (fun k => rfl) j

theorem rSums_apply (j : Fin 1024) : rSums og w x wp tg (ix2 0 j) = ∑ k : Fin 8192, rErr og w x wp tg (ix2 k j) * rErr og w x wp tg (ix2 k j) := by
  pointwise [rSums]

end Cert.Proof.Out2
end
-- ==== Proof.Out2.lean ====
/- The gradient of the recurrent layer's output projection, its post-norm and the loss: what the kernel's arrays hold after the run. -/
module

public import proofs.«01_k».proof.Proof.Gen.Kernel2Ideal.Value
public import proofs.«01_k».proof.Proof.Norm
public import proofs.«01_k».proof.Proof.HostNorm
public import proofs.«01_k».proof.Proof.Ref2
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

namespace Cert.Proof.Out2
open Cert.Kernel2Ideal Cert.Kernel2Ideal.Gen

/-! ## What the body computes, at an index -/

theorem y_apply (og w : FVec Ideal S1024x1024 .bf16) (i j : Fin 1024) :
    k0_pay6 (F := Ideal) og w (ix2 i j) = ∑ k : Fin 1024, og (ix2 i k) * w (ix2 k j) := by
  pointwise [k0_pay6]

theorem err_apply (og w : FVec Ideal S1024x1024 .bf16) (x : FVec Ideal S1024x1024 .f32) (wp : FVec Ideal S1x1024 .f32)
    (tg : FVec Ideal S1024x1024 .f32) (i j : Fin 1024) :
    k0_pay7 (F := Ideal) og w x wp tg (ix2 i j) = x (ix2 i j) + k0_pay6 (F := Ideal) og w (ix2 i j)
      * rstd (row (φ := .f32) (k0_pay6 (F := Ideal) og w) i) * wp (ix2 0 j) - tg (ix2 i j) := by
  pointwise [k0_pay7, rstd, meanSq]

theorem dx_apply (og w : FVec Ideal S1024x1024 .bf16) (x : FVec Ideal S1024x1024 .f32) (wp : FVec Ideal S1x1024 .f32)
    (tg : FVec Ideal S1024x1024 .f32) (i j : Fin 1024) :
    k0_pay8 (F := Ideal) og w x wp tg (ix2 i j) = k0_pay7 (F := Ideal) og w x wp tg (ix2 i j) * Ideal.ofBits .f32 0x3A800000#32 := by
  pointwise [k0_pay8]

theorem sums_apply (og w : FVec Ideal S1024x1024 .bf16) (x : FVec Ideal S1024x1024 .f32) (wp : FVec Ideal S1x1024 .f32)
    (tg : FVec Ideal S1024x1024 .f32) (acc : FVec Ideal S1x1024 .f32) (j : Fin 1024) :
    k0_pay9 (F := Ideal) og w x wp tg acc (ix2 0 j) = acc (ix2 0 j) + ∑ k : Fin 1024,
      k0_pay7 (F := Ideal) og w x wp tg (ix2 k j) * k0_pay7 (F := Ideal) og w x wp tg (ix2 k j) := by
  pointwise [k0_pay9]

theorem grad_apply (y g : FVec Ideal S1024x1024 .f32) (wp : FVec Ideal S1x1024 .f32) (i j : Fin 1024) :
    k0_pay13 (F := Ideal) y g wp (ix2 i j) = normGrad (fun k => g (ix2 i k) * wp (ix2 0 k)) (row y i) j := by
  pointwise [k0_pay13, k0_pay11, k0_pay10, normGrad, rstd, meanSq]

theorem dog_apply (y g : FVec Ideal S1024x1024 .f32) (wp : FVec Ideal S1x1024 .f32) (w : FVec Ideal S1024x1024 .bf16) (i j : Fin 1024) :
    k0_pay14 (F := Ideal) y g wp w (ix2 i j) = ∑ k : Fin 1024, k0_pay13 (F := Ideal) y g wp (ix2 i k) * w (ix2 j k) := by
  pointwise [k0_pay14]

theorem dw_apply (og dy : FVec Ideal S1024x1024 .bf16) (acc : FVec Ideal S1024x1024 .f32) (i j : Fin 1024) :
    k0_pay1 (F := Ideal) og dy acc (ix2 i j) = acc (ix2 i j) + ∑ k : Fin 1024, og (ix2 k i) * dy (ix2 k j) := by
  pointwise [k0_pay1]

theorem dwp_apply (y g : FVec Ideal S1024x1024 .f32) (acc : FVec Ideal S1x1024 .f32) (j : Fin 1024) :
    k0_pay12 (F := Ideal) y g acc (ix2 0 j) = acc (ix2 0 j) + ∑ k : Fin 1024, g (ix2 k j) * (y (ix2 k j) * rstd (row y k)) := by
  pointwise [k0_pay12, k0_pay11, k0_pay10, rstd, meanSq]

/-! ## The kernel's blocks are the arrays' rows -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_7.index t = ![t.val, 0] :=
  (by decide +kernel : ∀ t : Fin grid0.N, _)

abbrev aOg : FVec Ideal S8192x1024 .bf16 := m ((c.tc : Thread nD τ).loc main_arg0)
abbrev aW : FVec Ideal S1x1024x1024 .f32 := m ((c.tc : Thread nD τ).loc main_arg1)
abbrev aX : FVec Ideal S8192x1024 .f32 := m ((c.tc : Thread nD τ).loc main_arg2)
abbrev aWp : FVec Ideal S2x1024 .f32 := m ((c.tc : Thread nD τ).loc main_arg3)
abbrev aTg : FVec Ideal S4x2048x1024 .f32 := m ((c.tc : Thread nD τ).loc main_arg4)
def aY : FVec Ideal S8192x1024 .f32 := hMul (aOg m c) (aW m c)
def aErr : FVec Ideal S8192x1024 .f32 := rErr (aOg m c) (aW m c) (aX m c) (aWp m c) (aTg m c)
def aDx : FVec Ideal S8192x1024 .f32 := rDx (aOg m c) (aW m c) (aX m c) (aWp m c) (aTg m c)
def aGrad : FVec Ideal S8192x1024 .f32 := rGrad (aOg m c) (aW m c) (aX m c) (aWp m c) (aTg m c)
def aWpTerms : FVec Ideal S8192x1024 .f32 := rWpTerms (aOg m c) (aW m c) (aX m c) (aWp m c) (aTg m c)

theorem V_w (i j : Fin 1024) : (V m c main_v1 : FVec Ideal S1024x1024 .bf16) (ix2 i j) = aW m c (ix3 0 i j) := by
  entry_read
  pointwise

theorem V_wp (j : Fin 1024) : (V m c main_v2 : FVec Ideal S1x1024 .f32) (ix2 0 j) = aWp m c (ix2 1 j) := by
  entry_read
  pointwise

theorem V_tg (i : Fin 8192) (j : Fin 1024) : (V m c main_v3 : FVec Ideal S8192x1024 .f32) (ix2 i j)
    = (shapeCast S8192x1024 (aTg m c) Cert.Reference2Ideal.Gen.shapeCasts_S4x2048x1024_S8192x1024 : FVec Ideal S8192x1024 .f32) (ix2 i j) := by
  entry_read
  rfl

theorem lt8 (t : Fin cfg0.N) : t.val < 8 := N_0 ▸ t.isLt

/-- Row `r` of the block of rows that point `t` holds. -/
def at' (t : Fin cfg0.N) (r : Fin 1024) : Fin 8192 := ⟨t.val * 1024 + r.val, by have := lt8 t; omega⟩

theorem at'_val (t : Fin cfg0.N) (r : Fin 1024) : (at' t r).val = t.val * 1024 + r.val := rfl

theorem blk_og (t : Fin cfg0.N) (r k : Fin 1024) : (iblk m c 0 t : FVec Ideal S1024x1024 .bf16) (ix2 r k) = aOg m c (ix2 (at' t r) k) := by
  blk_point [iblk, V, idx t, at'_val]

theorem blk_w (t : Fin cfg0.N) (r k : Fin 1024) : (iblk m c 1 t : FVec Ideal S1024x1024 .bf16) (ix2 r k) = aW m c (ix3 0 r k) := by
  rw [← V_w]
  blk_point [iblk, V, idx t, at'_val]

theorem blk_x (t : Fin cfg0.N) (r k : Fin 1024) : (iblk m c 2 t : FVec Ideal S1024x1024 .f32) (ix2 r k) = aX m c (ix2 (at' t r) k) := by
  blk_point [iblk, V, idx t, at'_val]

theorem blk_wp (t : Fin cfg0.N) (k : Fin 1024) : (iblk m c 3 t : FVec Ideal S1x1024 .f32) (ix2 0 k) = aWp m c (ix2 1 k) := by
  rw [← V_wp]
  blk_point [iblk, V, idx t, at'_val]

theorem blk_tg (t : Fin cfg0.N) (r k : Fin 1024) : (iblk m c 4 t : FVec Ideal S1024x1024 .f32) (ix2 r k)
    = (shapeCast S8192x1024 (aTg m c) Cert.Reference2Ideal.Gen.shapeCasts_S4x2048x1024_S8192x1024 : FVec Ideal S8192x1024 .f32) (ix2 (at' t r) k) := by
  rw [← V_tg]
  blk_point [iblk, V, idx t, at'_val]

/-- The projection's rows at point `t`, from the blocks it reads; then the distances, the loss's gradient and the rows' gradient. -/
def y (t : Fin cfg0.N) : FVec Ideal S1024x1024 .f32 := k0_pay6 (iblk m c 0 t) (iblk m c 1 t)
def err (t : Fin cfg0.N) : FVec Ideal S1024x1024 .f32 := k0_pay7 (iblk m c 0 t) (iblk m c 1 t) (iblk m c 2 t) (iblk m c 3 t) (iblk m c 4 t)
def dx (t : Fin cfg0.N) : FVec Ideal S1024x1024 .f32 := k0_pay8 (iblk m c 0 t) (iblk m c 1 t) (iblk m c 2 t) (iblk m c 3 t) (iblk m c 4 t)
def grad (t : Fin cfg0.N) : FVec Ideal S1024x1024 .bf16 := k0_pay13 (y m c t) (dx m c t) (iblk m c 3 t)

theorem y_eq (t : Fin cfg0.N) (r j : Fin 1024) : y m c t (ix2 r j) = aY m c (ix2 (at' t r) j) :=
  (y_apply _ _ r j).trans ((Fin.sum_fin_congr fun k => Ideal.mul_congr (blk_og m c t r k) (blk_w m c t k j)).trans (hMul_apply _ _ _ _).symm)

theorem row_y (t : Fin cfg0.N) (r : Fin 1024) : row (y m c t) r = row (aY m c) (at' t r) := funext fun k => y_eq m c t r k

theorem err_eq (t : Fin cfg0.N) (r j : Fin 1024) : err m c t (ix2 r j) = aErr m c (ix2 (at' t r) j) := by
  refine (err_apply _ _ _ _ _ r j).trans (Eq.trans ?_ (rErr_apply _ _ _ _ _ _ _).symm)
  rw [← blk_tg, ← blk_wp m c t, ← blk_x]
  change _ + y m c t (ix2 r j) * rstd (row (y m c t) r) * _ - _ = _
  rw [y_eq, row_y]
  rfl

theorem dx_eq (t : Fin cfg0.N) (r j : Fin 1024) : dx m c t (ix2 r j) = aDx m c (ix2 (at' t r) j) :=
  (dx_apply _ _ _ _ _ r j).trans ((Ideal.mul_congr (err_eq m c t r j) rfl).trans (rDx_apply _ _ _ _ _ _ _).symm)

theorem grad_eq (t : Fin cfg0.N) (r j : Fin 1024) : grad m c t (ix2 r j) = aGrad m c (ix2 (at' t r) j) :=
  (grad_apply _ _ _ r j).trans ((normGrad_congr (fun k => by rw [dx_eq, blk_wp]; rfl) (fun k => y_eq m c t r k) j).trans
    (rGrad_apply _ _ _ _ _ _ _).symm)

/-! ## The result arrays after the run -/

theorem outs_dx (t : Fin cfg0.N) : (outsAt0 m c t.val t.isLt).1 = dx m c t := by
  by_cases h0 : t.val % 8 = 0
  · rw [outsAt0_A m c t h0 (by omega)]; frame_out; rfl
  · by_cases h1 : t.val % 8 = 7
    · rw [outsAt0_C m c t h0 h1]; frame_out; rfl
    · rw [outsAt0_B m c t h0 h1]; frame_out; rfl

theorem final_dx : (dats m 0 c).arrAt 5 (cfgs 0).N = aDx m c := by
  refine (dats m 0 c).arrAt_eq_of_covers 5 _ (by decide +kernel) fun t hf y => ?_
  idx_vars y
  blk_simp
  rw [after0_5, outs_dx, dx_eq]
  blk_point [idx t, at'_val]

theorem outs_dog (t : Fin cfg0.N) : (outsAt0 m c t.val t.isLt).2.2.1 = k0_pay14 (y m c t) (dx m c t) (iblk m c 3 t) (iblk m c 1 t) := by
  by_cases h0 : t.val % 8 = 0
  · rw [outsAt0_A m c t h0 (by omega)]; frame_out; rfl
  · by_cases h1 : t.val % 8 = 7
    · rw [outsAt0_C m c t h0 h1]; frame_out; rfl
    · rw [outsAt0_B m c t h0 h1]; frame_out; rfl

theorem final_dog : (dats m 0 c).arrAt 7 (cfgs 0).N = truncf .bf16 (hMulLeft (aGrad m c) (aW m c)) bitsLt_bf16_f32 := by
  refine (dats m 0 c).arrAt_eq_of_covers 7 _ (by decide +kernel) fun t hf y => ?_
  idx_vars y
  blk_simp
  have h : k0_pay14 (F := Ideal) (Out2.y m c t) (dx m c t) (iblk m c 3 t) (iblk m c 1 t) (ix2 y0 y1) = hMulLeft (aGrad m c) (aW m c) (ix2 (at' t y0) y1) := by
    rw [dog_apply, hMulLeft_apply]
    exact Fin.sum_fin_congr fun k => Ideal.mul_congr (grad_eq m c t y0 k) (blk_w m c t y1 k)
  rw [after0_7, outs_dog, h]
  blk_point [idx t, at'_val]

theorem outs_sums (j : S1x1024.Idx) : (outsAt0 m c t0_7.val t0_7.isLt).2.1 j = rSums (aOg m c) (aW m c) (aX m c) (aWp m c) (aTg m c) j := by
  have hp (t : Fin cfg0.N) (acc : FVec Ideal S1x1024 .f32) (j : S1x1024.Idx) : k0_pay9 (F := Ideal) (iblk m c 0 t) (iblk m c 1 t) (iblk m c 2 t) (iblk m c 3 t) (iblk m c 4 t) acc j = acc j + ∑ k : Fin 1024, aErr m c (ix2 (at' t k) (j 1)) * aErr m c (ix2 (at' t k) (j 1)) := by
    idx_vars j
    obtain rfl : j0 = 0 := Subsingleton.elim _ _
    rw [sums_apply]
    exact Ideal.add_congr rfl (Fin.sum_fin_congr fun k => Ideal.mul_congr (err_eq m c t k _) (err_eq m c t k _))
  rw [Pipeline.eq_sum_fin_of_reset_step_apply_last (fun n h => (outsAt0 m c n h).2.1) 8 (fun _ => 0)
    (fun t j => ∑ k : Fin 1024, aErr m c (ix2 (at' t k) (j 1)) * aErr m c (ix2 (at' t k) (j 1)))
    (fun t h j => by
      rw [outsAt0_A m c t h (by omega)]; frame_out
      exact (hp t _ j).trans (Ideal.add_congr (by pointwise [k0_pay3]) rfl))
    (fun t h j => by
      by_cases h1 : t.val % 8 = 7
      · rw [outsAt0_C m c t h h1]; frame_out; exact hp t _ j
      · rw [outsAt0_B m c t h h1]; frame_out; exact hp t _ j)
    (le_of_eq N_0) t0_7 rfl, zero_add]
  idx_vars j
  obtain rfl : j0 = 0 := Subsingleton.elim _ _
  rw [rSums_apply]
  exact Fin.sum_mul_add_congr fun s k hl => rfl

theorem final_sums : (dats m 0 c).arrAt 6 (cfgs 0).N = rSums (aOg m c) (aW m c) (aX m c) (aWp m c) (aTg m c) := by
  refine (dats m 0 c).arrAt_eq_of_after_last 6 t0_7 (by decide +kernel) _ fun j => ?_
  blk_simp
  rw [after0_6]
  exact outs_sums m c j

theorem outs_dw (j : S1024x1024.Idx) : (outsAt0 m c t0_7.val t0_7.isLt).2.2.2.1 j = hMulRight (aGrad m c) (aOg m c) j := by
  have hp (t : Fin cfg0.N) (acc : FVec Ideal S1024x1024 .f32) (j : S1024x1024.Idx) : k0_pay1 (F := Ideal) (iblk m c 0 t) (grad m c t) acc j = acc j + ∑ k : Fin 1024, aOg m c (ix2 (at' t k) (j 0)) * aGrad m c (ix2 (at' t k) (j 1)) := by
    idx_vars j
    rw [dw_apply]
    exact Ideal.add_congr rfl (Fin.sum_fin_congr fun k => Ideal.mul_congr (blk_og m c t k _) (grad_eq m c t k _))
  rw [Pipeline.eq_sum_fin_of_reset_step_apply_last (fun n h => (outsAt0 m c n h).2.2.2.1) 8 (fun _ => 0)
    (fun t j => ∑ k : Fin 1024, aOg m c (ix2 (at' t k) (j 0)) * aGrad m c (ix2 (at' t k) (j 1)))
    (fun t h j => by
      rw [outsAt0_A m c t h (by omega)]; frame_out
      exact (hp t _ j).trans (Ideal.add_congr (by pointwise [k0_pay4]) rfl))
    (fun t h j => by
      by_cases h1 : t.val % 8 = 7
      · rw [outsAt0_C m c t h h1]; frame_out; exact hp t _ j
      · rw [outsAt0_B m c t h h1]; frame_out; exact hp t _ j)
    (le_of_eq N_0) t0_7 rfl, zero_add]
  idx_vars j
  rw [hMulRight_apply]
  exact Fin.sum_mul_add_congr fun s k hl => EReal.mul_comm _ _

theorem final_dw : (dats m 0 c).arrAt 8 (cfgs 0).N = hMulRight (aGrad m c) (aOg m c) := by
  refine (dats m 0 c).arrAt_eq_of_after_last 8 t0_7 (by decide +kernel) _ fun j => ?_
  blk_simp
  rw [after0_8]
  exact outs_dw m c j

theorem outs_dwp (j : S1x1024.Idx) : (outsAt0 m c t0_7.val t0_7.isLt).2.2.2.2.1 j = hColSum (aWpTerms m c) j := by
  have hp (t : Fin cfg0.N) (acc : FVec Ideal S1x1024 .f32) (j : S1x1024.Idx) : k0_pay12 (F := Ideal) (y m c t) (dx m c t) acc j = acc j + ∑ k : Fin 1024, aWpTerms m c (ix2 (at' t k) (j 1)) := by
    idx_vars j
    obtain rfl : j0 = 0 := Subsingleton.elim _ _
    rw [dwp_apply]
    refine Ideal.add_congr rfl (Fin.sum_fin_congr fun k => ?_)
    rw [row_y, y_eq, dx_eq]
    refine (EReal.mul_comm _ _).trans ?_
    pointwise [aWpTerms, rWpTerms, hRstd_apply]
    rfl
  rw [Pipeline.eq_sum_fin_of_reset_step_apply_last (fun n h => (outsAt0 m c n h).2.2.2.2.1) 8 (fun _ => 0)
    (fun t j => ∑ k : Fin 1024, aWpTerms m c (ix2 (at' t k) (j 1)))
    (fun t h j => by
      rw [outsAt0_A m c t h (by omega)]; frame_out
      exact (hp t _ j).trans (Ideal.add_congr (by pointwise [k0_pay5]) rfl))
    (fun t h j => by
      by_cases h1 : t.val % 8 = 7
      · rw [outsAt0_C m c t h h1]; frame_out; exact hp t _ j
      · rw [outsAt0_B m c t h h1]; frame_out; exact hp t _ j)
    (le_of_eq N_0) t0_7 rfl, zero_add]
  idx_vars j
  obtain rfl : j0 = 0 := Subsingleton.elim _ _
  rw [hColSum_apply]
  exact Fin.sum_mul_add_congr fun s k hl => rfl

theorem final_dwp : (dats m 0 c).arrAt 9 (cfgs 0).N = hColSum (aWpTerms m c) := by
  refine (dats m 0 c).arrAt_eq_of_after_last 9 t0_7 (by decide +kernel) _ fun j => ?_
  blk_simp
  rw [after0_9]
  exact outs_dwp m c j

/-- The narrow copy of the weights' gradient, stored once at the last point. -/
theorem final_dwb : (dats m 0 c).arrAt 10 (cfgs 0).N = truncf .bf16 (hMulRight (aGrad m c) (aOg m c)) bitsLt_bf16_f32 := by
  refine (dats m 0 c).arrAt_eq_of_after_last 10 t0_7 (by decide +kernel) _ fun j => ?_
  have h : (outsAt0 m c t0_7.val t0_7.isLt).2.2.2.2.2 j = (outsAt0 m c t0_7.val t0_7.isLt).2.2.2.1 j := by
    rw [outsAt0_C m c t0_7 (by decide) (by decide)]
    frame_out
    idx_vars j
    pointwise [k0_pay2]
  blk_simp
  rw [after0_10]
  exact h.trans (outs_dw m c j)

end Cert.Proof.Out2
end
-- ==== Proof.Pair2.lean ====
/- The second pair: both programs run and end in the same arrays. -/
module

public import proofs.«01_k».proof.Defs
public import proofs.«01_k».proof.Proof.Out2
public import proofs.«01_k».proof.Proof.Gen.Reference2Ideal.Run
public import Idealize.ShloMosaic.Lib.Claim

@[expose] public section

set_option maxRecDepth 16384

noncomputable section
open Idealize.ShloMosaic Idealize.ShloMosaic.TcCoe Idealize.SL.Sem

namespace Cert.Proof.Out2

section Reference
open Cert.Reference2Ideal Cert.Reference2Ideal.Gen

variable (m : (ℓ : Loc nD τ sig) → Buf (Elt Ideal) ℓ)

abbrev og (c : Dev nD) : FVec Ideal S8192x1024 .bf16 := m ((c.tc : Thread nD τ).loc main_arg0)
abbrev w (c : Dev nD) : FVec Ideal S1x1024x1024 .f32 := m ((c.tc : Thread nD τ).loc main_arg1)
abbrev x (c : Dev nD) : FVec Ideal S8192x1024 .f32 := m ((c.tc : Thread nD τ).loc main_arg2)
abbrev wp (c : Dev nD) : FVec Ideal S2x1024 .f32 := m ((c.tc : Thread nD τ).loc main_arg3)
abbrev tg (c : Dev nD) : FVec Ideal S4x2048x1024 .f32 := m ((c.tc : Thread nD τ).loc main_arg4)

theorem ref_dog (c : Dev nD) : Cert.Reference2Ideal.Value.res_main_v63 m c = truncf .bf16 (hMulLeft (rGrad (og m c) (w m c) (x m c) (wp m c) (tg m c)) (w m c)) bitsLt_bf16_f32 := rfl
theorem ref_dw (c : Dev nD) : Cert.Reference2Ideal.Value.res_main_v61 m c = hMulRight (rGrad (og m c) (w m c) (x m c) (wp m c) (tg m c)) (og m c) := rfl
theorem ref_dwb (c : Dev nD) : Cert.Reference2Ideal.Value.res_main_v65 m c = truncf .bf16 (hMulRight (rGrad (og m c) (w m c) (x m c) (wp m c) (tg m c)) (og m c)) bitsLt_bf16_f32 := rfl

theorem ref_run (ρ : Dev nD → PrngReg) :
    θ_run defs (onTc (τ := τ) (main (F := Ideal))) ⟨m, fun _ => 0, ρ⟩ fun r => ∀ c : Dev nD,
      r.2.mem ((c.tc : Thread nD τ).loc main_v39) = rDx (og m c) (w m c) (x m c) (wp m c) (tg m c)
      ∧ r.2.mem ((c.tc : Thread nD τ).loc main_v33) = rSums (og m c) (w m c) (x m c) (wp m c) (tg m c)
      ∧ r.2.mem ((c.tc : Thread nD τ).loc main_v63) = truncf .bf16 (hMulLeft (rGrad (og m c) (w m c) (x m c) (wp m c) (tg m c)) (w m c)) bitsLt_bf16_f32
      ∧ r.2.mem ((c.tc : Thread nD τ).loc main_v61) = hMulRight (rGrad (og m c) (w m c) (x m c) (wp m c) (tg m c)) (og m c)
      ∧ r.2.mem ((c.tc : Thread nD τ).loc main_v64) = hColSum (rWpTerms (og m c) (w m c) (x m c) (wp m c) (tg m c))
      ∧ r.2.mem ((c.tc : Thread nD τ).loc main_v65) = truncf .bf16 (hMulRight (rGrad (og m c) (w m c) (x m c) (wp m c) (tg m c)) (og m c)) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4, h5, ha⟩ := h c
    exact ⟨h0, h1, h2.trans (ref_dog m c), h3.trans (ref_dw m c), h4, h5.trans (ref_dwb m c), ha⟩)
    (Cert.Reference2Ideal.Value.run m ρ)

end Reference

theorem algebraic : Cert.algebraic_Kernel2Ideal_Reference2Ideal := by
  pair_intro
  · run_from Cert.Kernel2Ideal.Gen.run_main m g
  · refine (θ_run _ _ _).mono (fun r h c => ?_) (ref_run m' g')
    obtain ⟨e0, e1, e2, e3, e4, e5, ea⟩ := h c
    obtain ⟨h0, h1, h2, h3, h4⟩ := hagree c
    rw [show og m' c = aOg m c from h0, show w m' c = aW m c from h1, show x m' c = aX m c from h2, show wp m' c = aWp m c from h3,
      show tg m' c = aTg m c from h4] at e0 e1 e2 e3 e4 e5
    exact ⟨e0.trans (final_dx m c).symm, e1.trans (final_sums m c).symm, e2.trans (final_dog m c).symm,
      e3.trans (final_dw m c).symm, e4.trans (final_dwp m c).symm, e5.trans (final_dwb m c).symm, ea⟩

end Cert.Proof.Out2
end
-- ==== Proof.Ref3.lean ====
/- The third reference's arrays, with names, and what they hold at an index. -/
module

public import proofs.«01_k».proof.Proof.Gen.Reference3Ideal
public import proofs.«01_k».proof.Proof.Norm
public import proofs.«01_k».proof.Proof.HostNorm

@[expose] public section

set_option maxRecDepth 16384

noncomputable section
open Idealize.ShloMosaic Idealize.ShloMosaic.TcCoe Idealize.SL.Sem

namespace Cert.Proof.Out3
open Cert.Reference3Ideal Cert.Reference3Ideal.Gen

variable (dp : FVec Ideal S8192x4096 .bf16) (w : FVec Ideal S1x1024x4096 .f32) (x : FVec Ideal S8192x1024 .f32)
  (wp : FVec Ideal S2x1024 .f32) (dxo : FVec Ideal S8192x1024 .f32)

/-- The norm's weights along every row. -/
def rW : FVec Ideal S8192x1024 .f32 := hRow (extractStridedSlice S1x1024 ![1, 0] wp slices_S2x1024_S1x1024_1_0)

/-- The gradient of the scaled rows: the product with the transposed input weights. -/
def rDh : FVec Ideal S8192x1024 .f32 := Host.dotGeneral dot_S8192x4096_S1024x4096_S8192x1024_1_1_0_0_n_n none (extf .f32 dp bitsLt_bf16_f32)
  (shapeCast _ w shapeCasts_S1x1024x4096_S1024x4096)

/-- The gradient of the layer's input, with the one the residual carries. -/
def rDx : FVec Ideal S8192x1024 .f32 := addf (addf (addf dxo (mulf (mulf (rDh dp w) (rW wp)) (hRstd x)))
  (mulf x (hRstdGrad (mulf (rDh dp w) (rW wp)) x))) (mulf (hRstdGrad (mulf (rDh dp w) (rW wp)) x) x)

/-- The terms of the norm weights' gradient. -/
def rWpTerms : FVec Ideal S8192x1024 .f32 := mulf (mulf x (hRstd x)) (rDh dp w)

theorem rW_apply (i : Fin 8192) (j : Fin 1024) : rW wp (ix2 i j) = wp (ix2 1 j) := by
  pointwise [rW, hRow_apply]

theorem rDh_apply (i : Fin 8192) (j : Fin 1024) : rDh dp w (ix2 i j) = ∑ k : Fin 4096, dp (ix2 i k) * w (ix3 0 j k) := by
  pointwise [rDh]

theorem add_last (d a b e : EReal) : d + a + b + e = a + b + e + d := by ac_rfl

theorem rDx_apply (i : Fin 8192) (j : Fin 1024) : rDx dp w x wp dxo (ix2 i j)
    = normGrad (fun k => rDh dp w (ix2 i k) * wp (ix2 1 k)) (row x i) j + dxo (ix2 i j) := by
  have h : row (mulf (rDh dp w) (rW wp)) i = fun k => rDh dp w (ix2 i k) * wp (ix2 1 k) := by
    funext k
    pointwise [rW_apply]
  rw [← h, normGrad_eq]
  pointwise [rDx, hRstd_apply, hRstdGrad_apply]
  exact add_last _ _ _ _

end Cert.Proof.Out3
end
-- ==== Proof.Out3.lean ====
/- The gradient of the recurrent layer's input projection and pre-norm: what the kernel's arrays hold after the run. -/
module

public import proofs.«01_k».proof.Proof.Gen.Kernel3Ideal.Value
public import proofs.«01_k».proof.Proof.Norm
public import proofs.«01_k».proof.Proof.HostNorm
public import proofs.«01_k».proof.Proof.Ref3
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

namespace Cert.Proof.Out3
open Cert.Kernel3Ideal Cert.Kernel3Ideal.Gen

/-! ## What the body computes, at an index -/

theorem grad_apply (dh x dxo : FVec Ideal S1024x1024 .f32) (wp : FVec Ideal S1x1024 .f32) (i j : Fin 1024) :
    k0_pay4 (F := Ideal) dh x (k0_pay7 (F := Ideal) x) wp dxo (ix2 i j)
      = normGrad (fun k => dh (ix2 i k) * wp (ix2 0 k)) (row x i) j + dxo (ix2 i j) := by
  pointwise [k0_pay4, k0_pay2, k0_pay1, k0_pay7, normGrad, rstd, meanSq]

theorem dwp_apply (dh x : FVec Ideal S1024x1024 .f32) (acc : FVec Ideal S1x1024 .f32) (j : Fin 1024) :
    k0_pay3 (F := Ideal) dh x (k0_pay7 (F := Ideal) x) acc (ix2 0 j)
      = acc (ix2 0 j) + ∑ k : Fin 1024, dh (ix2 k j) * (x (ix2 k j) * rstd (row x k)) := by
  pointwise [k0_pay3, k0_pay2, k0_pay1, k0_pay7, rstd, meanSq]

theorem dh_apply (d0 d1 d2 d3 : FVec Ideal S1024x1024 .bf16) (w0 w1 w2 w3 : FVec Ideal S1x1024x1024 .bf16) (i j : Fin 1024) :
    k0_pay6 (F := Ideal) d0 w0 d1 w1 d2 w2 d3 w3 (ix2 i j) = ∑ k : Fin 1024, d0 (ix2 i k) * w0 (ix3 0 j k)
      + ∑ k : Fin 1024, d1 (ix2 i k) * w1 (ix3 0 j k) + ∑ k : Fin 1024, d2 (ix2 i k) * w2 (ix3 0 j k)
      + ∑ k : Fin 1024, d3 (ix2 i k) * w3 (ix3 0 j k) := by
  pointwise [k0_pay6]

/-! ## The kernel's blocks are the arrays' rows -/

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

abbrev aDp : FVec Ideal S8192x4096 .bf16 := m ((c.tc : Thread nD τ).loc main_arg0)
abbrev aW : FVec Ideal S1x1024x4096 .f32 := m ((c.tc : Thread nD τ).loc main_arg1)
abbrev aX : FVec Ideal S8192x1024 .f32 := m ((c.tc : Thread nD τ).loc main_arg2)
abbrev aWp : FVec Ideal S2x1024 .f32 := m ((c.tc : Thread nD τ).loc main_arg3)
abbrev aDxo : FVec Ideal S8192x1024 .f32 := m ((c.tc : Thread nD τ).loc main_arg4)
def aDh : FVec Ideal S8192x1024 .f32 := rDh (aDp m c) (aW m c)
def aDx : FVec Ideal S8192x1024 .f32 := rDx (aDp m c) (aW m c) (aX m c) (aWp m c) (aDxo m c)
def aWpTerms : FVec Ideal S8192x1024 .f32 := rWpTerms (aDp m c) (aW m c) (aX m c)

theorem V_w (s : Fin 4) (i j : Fin 1024) : (V m c main_v3 : FVec Ideal S4x1024x1024 .bf16) (ix3 s i j)
    = aW m c (ix3 0 i ⟨s.val * 1024 + j.val, by omega⟩) := by
  entry_read
  pointwise

theorem V_wp (j : Fin 1024) : (V m c main_v4 : FVec Ideal S1x1024 .f32) (ix2 0 j) = aWp m c (ix2 1 j) := by
  entry_read
  pointwise

theorem lt8 (t : Fin cfg0.N) : t.val < 8 := N_0 ▸ t.isLt

/-- Row `r` of the block of rows that point `t` holds. -/
def at' (t : Fin cfg0.N) (r : Fin 1024) : Fin 8192 := ⟨t.val * 1024 + r.val, by have := lt8 t; omega⟩

theorem at'_val (t : Fin cfg0.N) (r : Fin 1024) : (at' t r).val = t.val * 1024 + r.val := rfl

theorem blk_dp (t : Fin cfg0.N) (r : Fin 1024) (k : Fin 4096) : (iblk m c 0 t : FVec Ideal S1024x4096 .bf16) (ix2 r k) = aDp m c (ix2 (at' t r) k) := by
  blk_point [iblk, V, idx t, at'_val]

theorem blk_w (t : Fin cfg0.N) (s : Fin 4) (i j : Fin 1024) : (iblk m c 1 t : FVec Ideal S4x1024x1024 .bf16) (ix3 s i j) = aW m c (ix3 0 i ⟨s.val * 1024 + j.val, by omega⟩) := by
  rw [← V_w]
  blk_point [iblk, V, idx t, at'_val]

theorem blk_x (t : Fin cfg0.N) (r k : Fin 1024) : (iblk m c 2 t : FVec Ideal S1024x1024 .f32) (ix2 r k) = aX m c (ix2 (at' t r) k) := by
  blk_point [iblk, V, idx t, at'_val]

theorem blk_wp (t : Fin cfg0.N) (k : Fin 1024) : (iblk m c 3 t : FVec Ideal S1x1024 .f32) (ix2 0 k) = aWp m c (ix2 1 k) := by
  rw [← V_wp]
  blk_point [iblk, V, idx t, at'_val]

theorem blk_dxo (t : Fin cfg0.N) (r k : Fin 1024) : (iblk m c 4 t : FVec Ideal S1024x1024 .f32) (ix2 r k) = aDxo m c (ix2 (at' t r) k) := by
  blk_point [iblk, V, idx t, at'_val]

/-- The product with the transposed weights, from the block of rows and the blocks of columns. -/
def dhOf (D : Vec Ideal S1024x4096 .bf16) (W : Vec Ideal S4x1024x1024 .bf16) : FVec Ideal S1024x1024 .f32 :=
  k0_pay6 (View.ld (Val := Elt Ideal) (e' := .bf16) D (Rect.unit (s := S1024x4096) ![0, 0] S1024x1024.size inb_S1024x4096_S1024x1024_0_0))
    (View.ld (Val := Elt Ideal) (e' := .bf16) W (Rect.unit (s := S4x1024x1024) ![0, 0, 0] S1x1024x1024.size inb_S4x1024x1024_S1x1024x1024_0_0_0))
    (View.ld (Val := Elt Ideal) (e' := .bf16) D (Rect.unit (s := S1024x4096) ![0, 1024] S1024x1024.size inb_S1024x4096_S1024x1024_0_1024))
    (View.ld (Val := Elt Ideal) (e' := .bf16) W (Rect.unit (s := S4x1024x1024) ![1, 0, 0] S1x1024x1024.size inb_S4x1024x1024_S1x1024x1024_1_0_0))
    (View.ld (Val := Elt Ideal) (e' := .bf16) D (Rect.unit (s := S1024x4096) ![0, 2048] S1024x1024.size inb_S1024x4096_S1024x1024_0_2048))
    (View.ld (Val := Elt Ideal) (e' := .bf16) W (Rect.unit (s := S4x1024x1024) ![2, 0, 0] S1x1024x1024.size inb_S4x1024x1024_S1x1024x1024_2_0_0))
    (View.ld (Val := Elt Ideal) (e' := .bf16) D (Rect.unit (s := S1024x4096) ![0, 3072] S1024x1024.size inb_S1024x4096_S1024x1024_0_3072))
    (View.ld (Val := Elt Ideal) (e' := .bf16) W (Rect.unit (s := S4x1024x1024) ![3, 0, 0] S1x1024x1024.size inb_S4x1024x1024_S1x1024x1024_3_0_0))

theorem ld_rows (D : Vec Ideal S1024x4096 .bf16) (o : ℕ) (h) (i k : Fin 1024) (hk : o + k.val < 4096) :
    View.ld (Val := Elt Ideal) (e' := .bf16) D (Rect.unit (s := S1024x4096) ![0, o] S1024x1024.size h) (ix2 i k) = D (ix2 i ⟨o + k.val, hk⟩) := by
  refine congrArg D (funext fun a => Fin.ext ?_)
  fin_cases a <;> simp [Rect.unit]

theorem ld_cols (W : Vec Ideal S4x1024x1024 .bf16) (o : ℕ) (h) (j k : Fin 1024) (ho : o < 4) :
    View.ld (Val := Elt Ideal) (e' := .bf16) W (Rect.unit (s := S4x1024x1024) ![o, 0, 0] S1x1024x1024.size h) (ix3 0 j k) = W (ix3 ⟨o, ho⟩ j k) := by
  refine congrArg W (funext fun a => Fin.ext ?_)
  fin_cases a <;> simp [Rect.unit]

theorem dhOf_apply (D : FVec Ideal S1024x4096 .bf16) (W : FVec Ideal S4x1024x1024 .bf16) (i j : Fin 1024) :
    dhOf D W (ix2 i j) = ∑ s : Fin 4, ∑ k : Fin 1024, D (ix2 i ⟨s.val * 1024 + k.val, by omega⟩) * W (ix3 s j k) := by
  rw [dhOf, dh_apply, Fin.sum_univ_four]
  refine Ideal.add_congr (Ideal.add_congr (Ideal.add_congr ?_ ?_) ?_) ?_ <;>
    exact Fin.sum_fin_congr fun k => Ideal.mul_congr (ld_rows D _ _ i k _) (ld_cols W _ _ j k _)

/-- The gradient of the scaled rows at point `t`, from the blocks it reads. -/
def dh (t : Fin cfg0.N) : FVec Ideal S1024x1024 .f32 := dhOf (iblk m c 0 t) (iblk m c 1 t)

theorem dh_eq (t : Fin cfg0.N) (r j : Fin 1024) : dh m c t (ix2 r j) = aDh m c (ix2 (at' t r) j) := by
  refine (dhOf_apply _ _ r j).trans (Eq.trans ?_ (rDh_apply _ _ _ _).symm)
  exact Fin.sum_mul_add_congr fun s k hl => Ideal.mul_congr (blk_dp m c t r _) (blk_w m c t s j k)

/-! ## The result arrays after the run -/

theorem outs_dx (t : Fin cfg0.N) : (outsAt0 m c t.val t.isLt).1
    = k0_pay4 (dh m c t) (iblk m c 2 t) (k0_pay7 (iblk m c 2 t)) (iblk m c 3 t) (iblk m c 4 t) := by
  by_cases h0 : t.val % 8 = 0
  · rw [outsAt0_A m c t h0]; frame_out; rfl
  · rw [outsAt0_B m c t h0]; frame_out; rfl

theorem dx_eq (t : Fin cfg0.N) (r j : Fin 1024) :
    k0_pay4 (F := Ideal) (dh m c t) (iblk m c 2 t) (k0_pay7 (iblk m c 2 t)) (iblk m c 3 t) (iblk m c 4 t) (ix2 r j) = aDx m c (ix2 (at' t r) j) := by
  refine (grad_apply _ _ _ _ r j).trans (Eq.trans ?_ (rDx_apply _ _ _ _ _ _ _).symm)
  exact Ideal.add_congr (normGrad_congr (fun k => Ideal.mul_congr (dh_eq m c t r k) (blk_wp m c t k)) (fun k => blk_x m c t r k) j) (blk_dxo m c t r j)

theorem final_dx : (dats m 0 c).arrAt 5 (cfgs 0).N = aDx m c := by
  refine (dats m 0 c).arrAt_eq_of_covers 5 _ (by decide +kernel) fun t hf y => ?_
  idx_vars y
  blk_simp
  rw [after0_5, outs_dx, dx_eq]
  blk_point [idx t, at'_val]

theorem final_dwp : (dats m 0 c).arrAt 6 (cfgs 0).N = hColSum (aWpTerms m c) := by
  refine (dats m 0 c).arrAt_eq_of_after_last 6 t0_7 (by decide +kernel) _ fun j => ?_
  have hp (t : Fin cfg0.N) (acc : FVec Ideal S1x1024 .f32) (j : S1x1024.Idx) :
      k0_pay3 (F := Ideal) (dh m c t) (iblk m c 2 t) (k0_pay7 (iblk m c 2 t)) acc j
        = acc j + ∑ k : Fin 1024, aWpTerms m c (ix2 (at' t k) (j 1)) := by
    idx_vars j
    obtain rfl : j0 = 0 := Subsingleton.elim _ _
    rw [dwp_apply]
    refine Ideal.add_congr rfl (Fin.sum_fin_congr fun k => ?_)
    have hr : row (φ := .f32) (iblk m c 2 t) k = row (aX m c) (at' t k) := funext fun x => blk_x m c t k x
    rw [hr, blk_x, dh_eq]
    pointwise [aWpTerms, rWpTerms, hRstd_apply]
    exact EReal.mul_comm _ _
  blk_simp
  rw [after0_6, Pipeline.eq_sum_fin_of_reset_step_apply_last (fun n h => (outsAt0 m c n h).2) 8 (fun _ => 0)
    (fun t j => ∑ k : Fin 1024, aWpTerms m c (ix2 (at' t k) (j 1)))
    (fun t h j => by
      rw [outsAt0_A m c t h]; frame_out
      exact (hp t _ j).trans (Ideal.add_congr (by pointwise [k0_pay5]) rfl))
    (fun t h j => by
      rw [outsAt0_B m c t h]; frame_out; exact hp t _ j)
    (le_of_eq N_0) t0_7 rfl, zero_add]
  idx_vars j
  obtain rfl : j0 = 0 := Subsingleton.elim _ _
  rw [hColSum_apply]
  exact Fin.sum_mul_add_congr fun s k hl => rfl

end Cert.Proof.Out3
end
-- ==== Proof.Pair3.lean ====
/- The third pair: both programs run and end in the same arrays. -/
module

public import proofs.«01_k».proof.Defs
public import proofs.«01_k».proof.Proof.Out3
public import proofs.«01_k».proof.Proof.Gen.Reference3Ideal.Run
public import Idealize.ShloMosaic.Lib.Claim

@[expose] public section

set_option maxRecDepth 16384

noncomputable section
open Idealize.ShloMosaic Idealize.ShloMosaic.TcCoe Idealize.SL.Sem

namespace Cert.Proof.Out3

section Reference
open Cert.Reference3Ideal Cert.Reference3Ideal.Gen

variable (m : (ℓ : Loc nD τ sig) → Buf (Elt Ideal) ℓ)

abbrev dp (c : Dev nD) : FVec Ideal S8192x4096 .bf16 := m ((c.tc : Thread nD τ).loc main_arg0)
abbrev w (c : Dev nD) : FVec Ideal S1x1024x4096 .f32 := m ((c.tc : Thread nD τ).loc main_arg1)
abbrev x (c : Dev nD) : FVec Ideal S8192x1024 .f32 := m ((c.tc : Thread nD τ).loc main_arg2)
abbrev wp (c : Dev nD) : FVec Ideal S2x1024 .f32 := m ((c.tc : Thread nD τ).loc main_arg3)
abbrev dxo (c : Dev nD) : FVec Ideal S8192x1024 .f32 := m ((c.tc : Thread nD τ).loc main_arg4)

theorem ref_dx (c : Dev nD) : Cert.Reference3Ideal.Value.res_main_v42 m c = rDx (dp m c) (w m c) (x m c) (wp m c) (dxo m c) := rfl

theorem ref_run (ρ : Dev nD → PrngReg) :
    θ_run defs (onTc (τ := τ) (main (F := Ideal))) ⟨m, fun _ => 0, ρ⟩ fun r => ∀ c : Dev nD,
      r.2.mem ((c.tc : Thread nD τ).loc main_v42) = rDx (dp m c) (w m c) (x m c) (wp m c) (dxo m c)
      ∧ r.2.mem ((c.tc : Thread nD τ).loc main_v43) = hColSum (rWpTerms (dp m c) (w m c) (x m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, ha⟩ := h c
    exact ⟨h0.trans (ref_dx m c), h1, ha⟩)
    (Cert.Reference3Ideal.Value.run m ρ)

end Reference

theorem algebraic : Cert.algebraic_Kernel3Ideal_Reference3Ideal := by
  pair_intro
  · run_from Cert.Kernel3Ideal.Gen.run_main m g
  · refine (θ_run _ _ _).mono (fun r h c => ?_) (ref_run m' g')
    obtain ⟨e0, e1, ea⟩ := h c
    obtain ⟨h0, h1, h2, h3, h4⟩ := hagree c
    rw [show dp m' c = aDp m c from h0, show w m' c = aW m c from h1, show x m' c = aX m c from h2] at e0 e1
    rw [show wp m' c = aWp m c from h3, show dxo m' c = aDxo m c from h4] at e0
    exact ⟨e0.trans (final_dx m c).symm, e1.trans (final_dwp m c).symm, ea⟩

end Cert.Proof.Out3
end
-- ==== Proof.Rope.lean ====
/- The rotary embedding's table of signs, and the gradient through the rotation of one row of two heads. -/
module

public import Idealize.ShloMosaic.Lib.Pipeline.ValueKit
public import Idealize.ShloMosaic.Lib.Pointwise

@[expose] public section

noncomputable section
open Idealize.ShloMosaic Idealize.SL.Sem

namespace Cert.Proof.Rope

/-! ## The table of signs: 48 rows, three pieces of eight cosines and eight sines; three tables of lanes -/

/-- The entry of table `b` at the row of digit `a` and at the head's lane `d`. -/
def signOf (a b d : ℕ) : EReal :=
  if b = 0 ∧ d < 16 ∧ a = d % 8 then 1
  else if b = 1 ∧ 8 ≤ d ∧ d < 16 ∧ a = 8 + d % 8 then 1
  else if b = 2 ∧ d < 8 ∧ a = 8 + d % 8 then -1 else 0

/-- The bit that says that an entry is one. -/
abbrev oneBit (b d a e : BitVec 32) : BitVec 1 :=
  IntOp.ori
    (IntOp.andi (IntOp.andi (IntOp.cmpi CmpIPredicate.eq b 0#32) (IntOp.cmpi CmpIPredicate.slt d 16#32))
      (IntOp.cmpi CmpIPredicate.eq a e))
    (IntOp.andi (IntOp.andi (IntOp.andi (IntOp.cmpi CmpIPredicate.eq b 1#32) (IntOp.cmpi CmpIPredicate.sge d 8#32))
        (IntOp.cmpi CmpIPredicate.slt d 16#32))
      (IntOp.cmpi CmpIPredicate.eq a (IntOp.addi 8#32 e)))

/-- The bit that says that an entry is minus one. -/
abbrev negBit (b d a e : BitVec 32) : BitVec 1 :=
  IntOp.andi (IntOp.andi (IntOp.cmpi CmpIPredicate.eq b 2#32) (IntOp.cmpi CmpIPredicate.slt d 8#32))
    (IntOp.cmpi CmpIPredicate.eq a (IntOp.addi 8#32 e))

theorem bits_eq : ∀ (b : Fin 3) (d : Fin 64) (a : Fin 16),
    oneBit (BitVec.ofNat 32 b.val) (BitVec.ofNat 32 d.val) (BitVec.ofNat 32 a.val) (BitVec.ofNat 32 (d.val % 8))
      = (if (b.val = 0 ∧ d.val < 16 ∧ a.val = d.val % 8) ∨ (b.val = 1 ∧ 8 ≤ d.val ∧ d.val < 16 ∧ a.val = 8 + d.val % 8) then 1#1 else 0#1)
    ∧ negBit (BitVec.ofNat 32 b.val) (BitVec.ofNat 32 d.val) (BitVec.ofNat 32 a.val) (BitVec.ofNat 32 (d.val % 8))
      = (if b.val = 2 ∧ d.val < 8 ∧ a.val = 8 + d.val % 8 then 1#1 else 0#1) := by
  decide +kernel

theorem ofBits_neg_one : Ideal.ofBits .f32 0xBF800000#32 = -1 := by
  simp [Ideal.ofBits, Ideal.ieee, -EReal.coe_mul]
  norm_num

theorem select_sign (l : ℕ) (hl : l < 384) (k : ℕ) :
    Scalar.select (oneBit (BitVec.ofNat 32 (l / 128)) (BitVec.ofNat 32 (l % 64)) (BitVec.ofNat 32 (k % 16)) (BitVec.ofNat 32 (l % 8))) (1 : EReal)
      (Scalar.select (negBit (BitVec.ofNat 32 (l / 128)) (BitVec.ofNat 32 (l % 64)) (BitVec.ofNat 32 (k % 16)) (BitVec.ofNat 32 (l % 8)))
        (Ideal.ofBits .f32 0xBF800000#32) 0)
      = signOf (k % 16) (l / 128) (l % 64) := by
  obtain ⟨h1, h2⟩ := bits_eq ⟨l / 128, by omega⟩ ⟨l % 64, by omega⟩ ⟨k % 16, by omega⟩
  have h8 : l % 64 % 8 = l % 8 := by omega
  simp only [h8] at h1 h2
  rw [h1, h2, ofBits_neg_one, signOf, h8]
  split_ifs <;> first | rfl | omega | (simp_all [Scalar.select])

/-- One row of the angles' pieces, of which only the first sixteen are not zero, times a column of the table. -/
theorem pick_sum (p : Fin 48 → EReal) (hp : ∀ k, 16 ≤ k.val → p k = 0) (b d : ℕ) :
    ∑ k : Fin 48, p k * signOf (k.val % 16) b d
      = if b = 0 ∧ d < 16 then p ⟨d % 8, by omega⟩
        else if b = 1 ∧ 8 ≤ d ∧ d < 16 then p ⟨8 + d % 8, by omega⟩
        else if b = 2 ∧ d < 8 then -p ⟨8 + d % 8, by omega⟩ else 0 := by
  have hz (k : Fin 48) (a : ℕ) (hs : k.val < 16 → k.val ≠ a → signOf k.val b d = 0) (hne : k.val ≠ a) : p k * signOf (k.val % 16) b d = 0 := by
    by_cases hk : k.val < 16
    · rw [Nat.mod_eq_of_lt hk, hs hk hne, mul_zero]
    · rw [hp k (by omega), zero_mul]
  split_ifs with h0 h1 h2
  · rw [Finset.sum_eq_single ⟨d % 8, by omega⟩ (fun k _ hne => hz k (d % 8) (fun _ hn => by simp [signOf, h0, hn]) fun h => hne (Fin.ext h)) (by simp)]
    have : d % 8 % 16 = d % 8 := by omega
    simp [signOf, h0, this]
  · rw [Finset.sum_eq_single ⟨8 + d % 8, by omega⟩ (fun k _ hne => hz k (8 + d % 8) (fun _ hn => by simp [signOf, h1, hn]) fun h => hne (Fin.ext h)) (by simp)]
    have : (8 + d % 8) % 16 = 8 + d % 8 := by omega
    simp [signOf, h1, this]
  · rw [Finset.sum_eq_single ⟨8 + d % 8, by omega⟩ (fun k _ hne => hz k (8 + d % 8) (fun _ hn => by simp [signOf, h2, hn]) fun h => hne (Fin.ext h)) (by simp)]
    have : (8 + d % 8) % 16 = 8 + d % 8 := by omega
    simp [signOf, h2, this]
  · refine Finset.sum_eq_zero fun k _ => ?_
    have : signOf (k.val % 16) b d = 0 := by
      simp only [signOf]
      split_ifs <;> first | rfl | omega
    rw [this, mul_zero]

/-! ## The rotation's transpose -/

/-- The gradient with respect to a row of two heads before the rotation, from the one after it: lanes `0 … 7` and `8 … 15` of a
    head turn back by the angles whose cosines and sines are `p`'s first and second eight, and the others stay. -/
def turnBack (g : Fin 128 → EReal) (p : Fin 48 → EReal) (l : Fin 128) : EReal :=
  if h : l.val % 64 < 8 then g l * p ⟨l.val % 8, by omega⟩ + g ⟨l.val + 8, by omega⟩ * p ⟨8 + l.val % 8, by omega⟩
  else if h' : l.val % 64 < 16 then g l * p ⟨l.val % 8, by omega⟩ + g ⟨l.val - 8, by omega⟩ * -p ⟨8 + l.val % 8, by omega⟩
  else g l

/-- Two rolled products with the tables of sines, beside the product with the table of cosines, are the rotation's transpose. -/
theorem turnBack_of_rolls (g : Fin 128 → EReal) (p : Fin 48 → EReal) (hp : ∀ k, 16 ≤ k.val → p k = 0) (l : Fin 128) :
    g l * (∑ k : Fin 48, p k * signOf (k.val % 16) 0 (l.val % 64) + if l.val % 64 < 16 then 0 else 1)
      + g ⟨(l.val + 8) % 128, by omega⟩ * ∑ k : Fin 48, p k * signOf (k.val % 16) 1 ((l.val + 8) % 64)
      + g ⟨(l.val + 120) % 128, by omega⟩ * ∑ k : Fin 48, p k * signOf (k.val % 16) 2 ((l.val + 120) % 64)
      = turnBack g p l := by
  have hl := l.isLt
  simp only [pick_sum p hp, turnBack]
  have e1 : l.val % 64 % 8 = l.val % 8 := by omega
  have e2 : (l.val + 8) % 64 % 8 = l.val % 8 := by omega
  have e3 : (l.val + 120) % 64 % 8 = l.val % 8 := by omega
  simp only [e1, e2, e3]
  by_cases h : l.val % 64 < 8
  · have a1 : l.val % 64 < 16 := by omega
    have a2 : 8 ≤ (l.val + 8) % 64 ∧ (l.val + 8) % 64 < 16 := by omega
    have a3 : ¬ (l.val + 120) % 64 < 8 := by omega
    have a4 : (l.val + 8) % 128 = l.val + 8 := by omega
    simp [h, a1, a2, a3, a4]
  · by_cases h' : l.val % 64 < 16
    · have a2 : ¬ (8 ≤ (l.val + 8) % 64 ∧ (l.val + 8) % 64 < 16) := by omega
      have a3 : (l.val + 120) % 64 < 8 := by omega
      have a4 : (l.val + 120) % 128 = l.val - 8 := by omega
      simp [h, h', a2, a3, a4]
    · have a2 : ¬ (8 ≤ (l.val + 8) % 64 ∧ (l.val + 8) % 64 < 16) := by omega
      have a3 : ¬ (l.val + 120) % 64 < 8 := by omega
      simp [h, h', a2, a3]

/-! ## The angles -/

/-- The angle by which pair `a` of a head turns at position `p`. -/
def turn (p : BitVec 32) (a : Fin 8) : EReal :=
  FloatOps.sitofp (F := Ideal) .f32 p * Ideal.pow (Ideal.ofBits .f32 0x48F42400#32)
    (-Ideal.div (FloatOps.sitofp (F := Ideal) .f32 (BitVec.ofNat 32 a.val) * Ideal.ofBits .f32 0x40000000#32) (Ideal.ofBits .f32 0x41800000#32))

theorem turn_real (p : BitVec 32) (a : Fin 8) : ∃ x : ℝ, turn p a = x := by
  have h5 : ∃ x : ℝ, Ideal.ofBits .f32 0x48F42400#32 = x := ⟨_, by simp [Ideal.ofBits, Ideal.ieee, -EReal.coe_mul]; rfl⟩
  have h2 : ∃ x : ℝ, Ideal.ofBits .f32 0x40000000#32 = x := ⟨_, by simp [Ideal.ofBits, Ideal.ieee, -EReal.coe_mul]; rfl⟩
  have h16 : Ideal.ofBits .f32 0x41800000#32 = ((16 : ℝ) : EReal) := by simp [Ideal.ofBits, Ideal.ieee, -EReal.coe_mul]; norm_num
  obtain ⟨x5, h5⟩ := h5
  obtain ⟨x2, h2⟩ := h2
  rw [turn, h5, h2, h16]
  refine ⟨(p.toInt : ℝ) * Real.rpow x5 (-(((BitVec.ofNat 32 a.val).toInt : ℝ) * x2 * (1 / 16))), ?_⟩
  rw [EReal.coe_mul]
  refine congrArg₂ (· * ·) rfl ?_
  rw [show FloatOps.sitofp (F := Ideal) .f32 (BitVec.ofNat 32 a.val) = (((BitVec.ofNat 32 a.val).toInt : ℝ) : EReal) from rfl, ← EReal.coe_mul,
    Ideal.div_coe (by norm_num), ← EReal.coe_mul, ← EReal.coe_neg]
  rfl

/-- The row of pieces at position `p`: eight cosines and eight sines, and nothing left over for the two lower pieces. -/
def pieces (p : BitVec 32) (k : Fin 48) : EReal :=
  if h : k.val < 8 then Ideal.cos (turn p ⟨k.val, h⟩)
  else if h : k.val < 16 then Ideal.sin (turn p ⟨k.val - 8, by omega⟩) else 0

theorem pieces_zero (p : BitVec 32) (k : Fin 48) (h : 16 ≤ k.val) : pieces p k = 0 := by
  rw [pieces, dif_neg (by omega), dif_neg (by omega)]

theorem cos_sub_self (p : BitVec 32) (a : Fin 8) : Ideal.cos (turn p a) - Ideal.cos (turn p a) = 0 := by
  obtain ⟨x, h⟩ := turn_real p a
  rw [h]
  exact EReal.sub_self (EReal.coe_ne_top _) (EReal.coe_ne_bot _)

theorem sin_sub_self (p : BitVec 32) (a : Fin 8) : Ideal.sin (turn p a) - Ideal.sin (turn p a) = 0 := by
  obtain ⟨x, h⟩ := turn_real p a
  rw [h]
  exact EReal.sub_self (EReal.coe_ne_top _) (EReal.coe_ne_bot _)

end Cert.Proof.Rope
end
-- ==== Proof.Tab4.lean ====
/- The gradient of the attention layers' input projection: the tables of the rotary embedding that the kernel makes. -/
module

public import proofs.«01_k».proof.Proof.Gen.Kernel4Ideal.Value
public import proofs.«01_k».proof.Proof.Rope
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)

namespace Cert.Proof.Out4
open Cert.Kernel4Ideal Cert.Kernel4Ideal.Gen
abbrev dig := k0_pay14 16#32 k0_pay12 k0_pay13 0#32
abbrev lane64 := k0_pay20 64#32 k0_pay16 k0_pay17 k0_pay18 k0_pay19
abbrev lane8 := k0_pay21 64#32 k0_pay16 k0_pay17 k0_pay18 k0_pay19
abbrev ones := k0_pay22 dig k0_pay15 64#32 k0_pay16 k0_pay17 k0_pay18 k0_pay19
abbrev lows := k0_pay23 k0_pay15 64#32 k0_pay16 k0_pay17 k0_pay18 k0_pay19

theorem dig_apply (k : Fin 48) (l : Fin 384) : dig (ix2 k l) = BitVec.ofNat 32 (k.val % 16) :=
  (show dig (ix2 k l) = dig (ix2 k 0) by pointwise [k0_pay14, k0_pay12, k0_pay13]).trans
    ((by decide +kernel : ∀ k : Fin 48, dig (ix2 k 0) = BitVec.ofNat 32 (k.val % 16)) k)

theorem tab_apply (k : Fin 48) (l : Fin 384) : k0_pay15 (ix2 k l) = BitVec.ofNat 32 (l.val / 128) :=
  (show k0_pay15 (ix2 k l) = k0_pay15 (ix2 0 l) by pointwise [k0_pay15]).trans
    ((by decide +kernel : ∀ l : Fin 384, k0_pay15 (ix2 0 l) = BitVec.ofNat 32 (l.val / 128)) l)

theorem lane64_apply (k : Fin 48) (l : Fin 384) : lane64 (ix2 k l) = BitVec.ofNat 32 (l.val % 64) :=
  (show lane64 (ix2 k l) = lane64 (ix2 0 l) by pointwise [k0_pay20, k0_pay16, k0_pay17, k0_pay18, k0_pay19]).trans
    ((by decide +kernel : ∀ l : Fin 384, lane64 (ix2 0 l) = BitVec.ofNat 32 (l.val % 64)) l)

theorem lane8_apply (k : Fin 48) (l : Fin 384) : lane8 (ix2 k l) = BitVec.ofNat 32 (l.val % 8) :=
  (show lane8 (ix2 k l) = lane8 (ix2 0 l) by pointwise [k0_pay21, k0_pay20, k0_pay16, k0_pay17, k0_pay18, k0_pay19]).trans
    ((by decide +kernel : ∀ l : Fin 384, lane8 (ix2 0 l) = BitVec.ofNat 32 (l.val % 8)) l)

theorem pick_apply (cs : FVec Ideal S1024x48 .bf16) (r : Fin 1024) (l : Fin 384) :
    k0_pay24 (F := Ideal) cs dig lane8 ones lows (ix2 r l) = ∑ k : Fin 48, cs (ix2 r k) * Rope.signOf (k.val % 16) (l.val / 128) (l.val % 64) := by
  pointwise [k0_pay24, k0_pay22, k0_pay23]
  simp only [dig_apply, tab_apply, lane64_apply, lane8_apply]
  refine Fin.sum_fin_congr fun k => Ideal.mul_congr rfl ?_
  exact Rope.select_sign l.val l.isLt k.val

/-- The bit that says that a lane is one of its head's turned lanes. -/
theorem low_bit : ∀ l : Fin 128, IntOp.cmpi CmpIPredicate.slt
    (Scalar.select
      (IntOp.andi
        (IntOp.xori
          (IntOp.cmpi CmpIPredicate.slt (IntOp.remsi ArithUnit.vector (BitVec.ofNat 32 l.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 l.val) (Scalar.select (Scalar.cmpi CmpIPredicate.eq 64#32 0#32) 1#32 64#32)) 0#32))
      (IntOp.addi (IntOp.remsi ArithUnit.vector (BitVec.ofNat 32 l.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l.val) (Scalar.select (Scalar.cmpi CmpIPredicate.eq 64#32 0#32) 1#32 64#32)))
    16#32 = if l.val % 64 < 16 then 1#1 else 0#1 := by
  decide +kernel

/-- The gradient with respect to the two heads of k before the rotation. -/
theorem made_apply (g : FVec Ideal S1024x128 .f32) (cs : FVec Ideal S1024x48 .bf16) (r : Fin 1024)
    (hp : ∀ k : Fin 48, 16 ≤ k.val → cs (ix2 r k) = 0) (l : Fin 128) :
    k0_pay25 (F := Ideal) g cs dig lane8 ones lows (ix2 r l) + k0_pay26 (F := Ideal) g cs dig lane8 ones lows (ix2 r l)
      = Rope.turnBack (fun l => g (ix2 r l)) (fun k => cs (ix2 r k)) l := by
  rw [← Rope.turnBack_of_rolls _ _ hp]
  have hl := l.isLt
  refine Ideal.add_congr ?_ ?_
  · pointwise [k0_pay25]
    rw [low_bit, pick_apply, pick_apply]
    refine Ideal.add_congr (Ideal.mul_congr rfl (Ideal.add_congr ?_ ?_)) (Ideal.mul_congr ?_ ?_)
    · exact Fin.sum_fin_congr fun k => Ideal.mul_congr rfl (congrArg₂ _ (by dsimp only; omega) (by dsimp only))
    · split_ifs <;> rfl
    · exact congrArg (fun i => g (ix2 r i)) (Fin.ext (by dsimp only; omega))
    · exact Fin.sum_fin_congr fun k => Ideal.mul_congr rfl (congrArg₂ _ (by dsimp only; omega) (by dsimp only; omega))
  · pointwise [k0_pay26]
    rw [pick_apply]
    refine Ideal.mul_congr ?_ ?_
    · exact congrArg (fun i => g (ix2 r i)) (Fin.ext (by dsimp only; omega))
    · exact Fin.sum_fin_congr fun k => Ideal.mul_congr rfl (congrArg₂ _ (by dsimp only; omega) (by dsimp only; omega))

variable (m : (ℓ : Loc nD τ sig) → Buf (Elt Ideal) ℓ) (c : Dev nD)
/-- The angles of the rows. -/
def hAng (pos : IVec S4x2048 32) : FVec Ideal S8192x8 .f32 :=
  mulf (broadcastInDim S8192x8 ![0, 1] bcast_S8192x1_S8192x8_0_1 (shapeCast _ (sitofp .f32 pos) shapeCasts_S4x2048_S8192x1))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

/-- Their cosines and sines. -/
def hTrig (pos : IVec S4x2048 32) : FVec Ideal S8192x16 .f32 :=
  concatenate S8192x16 1 [⟨S8192x8, Host.cos (hAng pos)⟩, ⟨S8192x8, Host.sin (hAng pos)⟩] concatenates_S8192x8_S8192x8_S8192x16_d1

/-- What the first piece leaves. -/
def hRest (pos : IVec S4x2048 32) : FVec Ideal S8192x16 .f32 := subf (hTrig pos) (extf .f32 (truncf .bf16 (hTrig pos) bitsLt_bf16_f32) bitsLt_bf16_f32)

def hPieces (pos : IVec S4x2048 32) : FVec Ideal S8192x48 .bf16 :=
  concatenate S8192x48 1 [⟨S8192x16, (truncf .bf16 (hTrig pos) bitsLt_bf16_f32 : FVec Ideal S8192x16 .bf16)⟩, ⟨S8192x16, (truncf .bf16 (hRest pos) bitsLt_bf16_f32 : FVec Ideal S8192x16 .bf16)⟩,
    ⟨S8192x16, (truncf .bf16 (subf (hRest pos) (extf .f32 (truncf .bf16 (hRest pos) bitsLt_bf16_f32) bitsLt_bf16_f32)) bitsLt_bf16_f32 : FVec Ideal S8192x16 .bf16)⟩] concatenates_S8192x16_S8192x16_S8192x16_S8192x48_d1

abbrev aPos : IVec S4x2048 32 := m ((c.tc : Thread nD τ).loc main_arg4)

theorem V_16 : (V m c main_v16 : FVec Ideal S8192x16 .f32) = hTrig (aPos m c) := by
  entry_read
  rfl
theorem V_19 : (V m c main_v19 : FVec Ideal S8192x16 .f32) = hRest (aPos m c) := by
  rw [hRest, ← V_16]
  rfl
theorem V_24 : (V m c main_v24 : FVec Ideal S8192x48 .bf16) = hPieces (aPos m c) := by
  rw [hPieces, ← V_19, ← V_16]
  rfl
theorem hAng_apply (pos : IVec S4x2048 32) (r : Fin 8192) (a : Fin 8) :
    hAng pos (ix2 r a) = Rope.turn (pos (ix2 ⟨r.val / 2048, by omega⟩ ⟨r.val % 2048, by omega⟩)) a := by
  pointwise [hAng, Rope.turn]

theorem hTrig_cos (pos : IVec S4x2048 32) (r : Fin 8192) (a : Fin 8) : hTrig pos (ix2 r ⟨a.val, by omega⟩) = Ideal.cos (hAng pos (ix2 r a)) := by
  pointwise [hTrig]

theorem hTrig_sin (pos : IVec S4x2048 32) (r : Fin 8192) (a : Fin 8) : hTrig pos (ix2 r ⟨8 + a.val, by omega⟩) = Ideal.sin (hAng pos (ix2 r a)) := by
  pointwise [hTrig]

theorem hTrig_apply (pos : IVec S4x2048 32) (r : Fin 8192) (a : Fin 16) :
    hTrig pos (ix2 r a) = Rope.pieces (pos (ix2 ⟨r.val / 2048, by omega⟩ ⟨r.val % 2048, by omega⟩)) ⟨a.val, by omega⟩ := by
  by_cases h : a.val < 8
  · rw [Rope.pieces, dif_pos h, ← hAng_apply, ← hTrig_cos]
  · rw [Rope.pieces, dif_neg h, dif_pos a.isLt, ← hAng_apply, ← hTrig_sin]
    exact congrArg (fun k => hTrig pos (ix2 r k)) (Fin.ext (by dsimp only; omega))

theorem hRest_apply (pos : IVec S4x2048 32) (r : Fin 8192) (a : Fin 16) : hRest pos (ix2 r a) = 0 := by
  have e : hRest pos (ix2 r a) = hTrig pos (ix2 r a) - hTrig pos (ix2 r a) := by pointwise [hRest]
  rw [e, hTrig_apply, Rope.pieces]
  split_ifs
  · exact Rope.cos_sub_self _ _
  · exact Rope.sin_sub_self _ _
  · exact sub_zero 0

theorem hPieces_apply (pos : IVec S4x2048 32) (r : Fin 8192) (k : Fin 48) :
    hPieces pos (ix2 r k) = Rope.pieces (pos (ix2 ⟨r.val / 2048, by omega⟩ ⟨r.val % 2048, by omega⟩)) k := by
  have hk := k.isLt
  by_cases h : k.val < 16
  · refine Eq.trans ?_ (hTrig_apply pos r ⟨k.val, h⟩)
    pointwise [hPieces]
    rw [dif_pos h]
  · rw [Rope.pieces_zero _ _ (by omega)]
    by_cases h' : k.val < 32
    · refine Eq.trans ?_ (hRest_apply pos r ⟨k.val - 16, by omega⟩)
      pointwise [hPieces]
      rw [dif_neg h, dif_pos (by omega)]
    · refine Eq.trans ?_ (sub_zero (0 : EReal))
      rw [← hRest_apply pos r ⟨k.val - 16 - 16, by omega⟩]
      pointwise [hPieces]
      rw [dif_neg h, dif_neg (by omega)]

end Cert.Proof.Out4
end
-- ==== Proof.Out4.lean ====
/- The gradient of the attention layers' input projection: what the kernel's arrays hold after the run. -/
module

public import proofs.«01_k».proof.Proof.Gen.Kernel4Ideal.Value
public import proofs.«01_k».proof.Proof.Tab4
public import Idealize.ShloMosaic.Lib.Pipeline.ValueKit
public import Idealize.ShloMosaic.Lib.Pipeline.ReadBack

@[expose] public section

set_option maxRecDepth 16384

noncomputable section
open Idealize.ShloMosaic Idealize.ShloMosaic.TcCoe Idealize.SL.Sem
open Idealize.ShloMosaic.Pipeline (Dat)

namespace Cert.Proof.Out4
open Cert.Kernel4Ideal Cert.Kernel4Ideal.Gen

variable (m : (ℓ : Loc nD τ sig) → Buf (Elt Ideal) ℓ) (c : Dev nD)

/-! ## The kernel's blocks are the arrays' rows -/

theorem idx : ∀ t : Fin cfg0.N, win0_0.index t = ![t.val, 0] ∧ win0_1.index t = ![t.val, 0] ∧ win0_2.index t = ![0, t.val]
    ∧ win0_3.index t = ![0, t.val] ∧ win0_4.index t = ![t.val, 0] ∧ win0_5.index t = ![0, t.val, 0] ∧ win0_6.index t = ![0, t.val, 0]
    ∧ win0_7.index t = ![0, t.val, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

abbrev aH : FVec Ideal S8192x1024 .bf16 := m ((c.tc : Thread nD τ).loc main_arg0)
abbrev aDp : FVec Ideal S8192x2304 .bf16 := m ((c.tc : Thread nD τ).loc main_arg1)
abbrev aDk : FVec Ideal S128x8192 .f32 := m ((c.tc : Thread nD τ).loc main_arg2)
abbrev aDv : FVec Ideal S128x8192 .f32 := m ((c.tc : Thread nD τ).loc main_arg3)
abbrev aS0 : FVec Ideal S4x1024x1024 .bf16 := m ((c.tc : Thread nD τ).loc main_arg5)
abbrev aS1 : FVec Ideal S4x256x1024 .bf16 := m ((c.tc : Thread nD τ).loc main_arg6)
abbrev aS2 : FVec Ideal S4x256x1024 .bf16 := m ((c.tc : Thread nD τ).loc main_arg7)

theorem lt8 (t : Fin cfg0.N) : t.val < 8 := N_0 ▸ t.isLt

/-- Row `r` of the block of rows that point `t` holds. -/
def at' (t : Fin cfg0.N) (r : Fin 1024) : Fin 8192 := ⟨t.val * 1024 + r.val, by have := lt8 t; omega⟩

theorem at'_val (t : Fin cfg0.N) (r : Fin 1024) : (at' t r).val = t.val * 1024 + r.val := rfl

theorem blk_h (t : Fin cfg0.N) (r k : Fin 1024) : (iblk m c 0 t : FVec Ideal S1024x1024 .bf16) (ix2 r k) = aH m c (ix2 (at' t r) k) := by
  blk_point [iblk, V, idx t, at'_val]

theorem blk_dp (t : Fin cfg0.N) (r : Fin 1024) (k : Fin 2304) : (iblk m c 1 t : FVec Ideal S1024x2304 .bf16) (ix2 r k) = aDp m c (ix2 (at' t r) k) := by
  blk_point [iblk, V, idx t, at'_val]

theorem blk_dk (t : Fin cfg0.N) (r : Fin 1024) (l : Fin 128) : (iblk m c 2 t : FVec Ideal S128x1024 .f32) (ix2 l r) = aDk m c (ix2 l (at' t r)) := by
  blk_point [iblk, V, idx t, at'_val]

theorem blk_dv (t : Fin cfg0.N) (r : Fin 1024) (l : Fin 128) : (iblk m c 3 t : FVec Ideal S128x1024 .f32) (ix2 l r) = aDv m c (ix2 l (at' t r)) := by
  blk_point [iblk, V, idx t, at'_val]

theorem blk_cs (t : Fin cfg0.N) (r : Fin 1024) (k : Fin 48) : (iblk m c 4 t : FVec Ideal S1024x48 .bf16) (ix2 r k) = hPieces (aPos m c) (ix2 (at' t r) k) := by
  rw [← V_24]
  blk_point [iblk, V, idx t, at'_val]

theorem blk_s0 (t : Fin cfg0.N) (s : Fin 4) (r : Fin 128) (k : Fin 1024) : (iblk m c 5 t : FVec Ideal S4x128x1024 .bf16) (ix3 s r k)
    = aS0 m c (ix3 s ⟨t.val * 128 + r.val, by have := lt8 t; omega⟩ k) := by
  blk_point [iblk, V, idx t]

theorem blk_s1 (t : Fin cfg0.N) (s : Fin 4) (r : Fin 32) (k : Fin 1024) : (iblk m c 6 t : FVec Ideal S4x32x1024 .bf16) (ix3 s r k)
    = aS1 m c (ix3 s ⟨t.val * 32 + r.val, by have := lt8 t; omega⟩ k) := by
  blk_point [iblk, V, idx t]

theorem blk_s2 (t : Fin cfg0.N) (s : Fin 4) (r : Fin 32) (k : Fin 1024) : (iblk m c 7 t : FVec Ideal S4x32x1024 .bf16) (ix3 s r k)
    = aS2 m c (ix3 s ⟨t.val * 32 + r.val, by have := lt8 t; omega⟩ k) := by
  blk_point [iblk, V, idx t]

/-! ## The columns of k and v -/

/-- The columns of the projection's gradient for k, turned back, and for v. -/
def kvOf (dk dv : FVec Ideal S128x8192 .f32) (pos : IVec S4x2048 32) : FVec Ideal S8192x256 .bf16 := fun x =>
  if h : (x 1).val < 128 then
    Rope.turnBack (fun l => dk (ix2 l (x 0))) (Rope.pieces (pos (ix2 ⟨(x 0).val / 2048, by have := (x 0).isLt; simp at this; omega⟩ ⟨(x 0).val % 2048, by omega⟩))) ⟨(x 1).val, h⟩
  else dv (ix2 ⟨(x 1).val - 128, by have := (x 1).isLt; simp at this; omega⟩ (x 0))

def aKv : FVec Ideal S8192x256 .bf16 := kvOf (aDk m c) (aDv m c) (aPos m c)

/-- The block of those columns that point `t` writes. -/
def kv (t : Fin cfg0.N) : FVec Ideal S1024x256 .bf16 :=
  k0_pay27 (F := Ideal) (k0_pay25 (k0_pay10 (iblk m c 2 t)) (k0_pay11 (iblk m c 4 t)) dig lane8 ones lows)
    (k0_pay26 (k0_pay10 (iblk m c 2 t)) (k0_pay11 (iblk m c 4 t)) dig lane8 ones lows) (iblk m c 3 t)

theorem kv_eq (t : Fin cfg0.N) (r : Fin 1024) (j : Fin 256) : kv m c t (ix2 r j) = aKv m c (ix2 (at' t r) j) := by
  have hk (l : Fin 128) : k0_pay10 (F := Ideal) (iblk m c 2 t) (ix2 r l) = aDk m c (ix2 l (at' t r)) := by
    rw [← blk_dk]
    pointwise [k0_pay10]
  have hc (k : Fin 48) : k0_pay11 (F := Ideal) (iblk m c 4 t) (ix2 r k) = Rope.pieces (aPos m c (ix2 ⟨(at' t r).val / 2048, by omega⟩ ⟨(at' t r).val % 2048, by omega⟩)) k := by
    rw [← hPieces_apply, ← blk_cs]
    pointwise [k0_pay11]
  have hm := made_apply (k0_pay10 (F := Ideal) (iblk m c 2 t)) (k0_pay11 (F := Ideal) (iblk m c 4 t)) r
    (fun k h => (hc k).trans (Rope.pieces_zero _ k h))
  simp only [hk, hc] at hm
  pointwise [kv, k0_pay27, aKv, kvOf]
  split_ifs <;> first | exact hm ⟨j.val, by assumption⟩ | exact blk_dv m c t r _

theorem outs_kv (t : Fin cfg0.N) : (outsAt0 m c t.val t.isLt).2.1 = kv m c t := by
  by_cases h0 : t.val % 8 = 0
  · rw [outsAt0_A m c t h0 (by omega)]; frame_out; rfl
  · by_cases h7 : t.val % 8 = 7
    · rw [outsAt0_C m c t h0 h7]; frame_out; rfl
    · rw [outsAt0_B m c t h0 h7]; frame_out; rfl

theorem final_kv : (dats m 0 c).arrAt 9 (cfgs 0).N = aKv m c := by
  refine (dats m 0 c).arrAt_eq_of_covers 9 _ (by decide +kernel) fun t hf y => ?_
  idx_vars y
  blk_simp
  rw [after0_9, outs_kv, kv_eq]
  generalize aKv m c = X
  blk_point [idx t, at'_val]

/-! ## The sums of the arrived blocks -/

/-- The sum of the four blocks. -/
def sumOf {n : ℕ} (s : FVec Ideal ⟨3, ![4, n, 1024]⟩ .bf16) : FVec Ideal ⟨2, ![n, 1024]⟩ .f32 := fun x => ∑ a : Fin 4, s (ix3 a (x 0) (x 1))

/-! ## The gradient of the projection, and its products and sums -/

/-- The gradient of the projection with the columns of k and v put in. -/
def projOf (dp : FVec Ideal S8192x2304 .bf16) (kv : FVec Ideal S8192x256 .bf16) : FVec Ideal S8192x2304 .bf16 := fun x =>
  if h : 1024 ≤ (x 1).val ∧ (x 1).val < 1280 then kv (ix2 (x 0) ⟨(x 1).val - 1024, by omega⟩) else dp x

def aProj : FVec Ideal S8192x2304 .bf16 := projOf (aDp m c) (aKv m c)

/-- What point `t` adds to the sums over rows, and to the product with the normed rows. -/
def tDb (t : Fin cfg0.N) (y : S1x2304.Idx) : EReal := ∑ k : Fin 1024, aProj m c (ix2 (at' t k) (y 1))
def tDw (t : Fin cfg0.N) (y : S1024x2304.Idx) : EReal := ∑ k : Fin 1024, aH m c (ix2 (at' t k) (y 0)) * aProj m c (ix2 (at' t k) (y 1))

theorem emb_cols {n p q : ℕ} (o : ℕ) (h) (i : Fin n) (j : Fin q) (hj : o + j.val < p) :
    (Rect.unit (s := (⟨2, ![n, p]⟩ : Shape)) ![0, o] ![n, q] h).emb (ix2 i j) = ix2 i ⟨o + j.val, hj⟩ := by
  refine funext fun a => Fin.ext ?_
  fin_cases a <;> simp [Rect.unit, Rect.emb]

theorem db_piece (t : Fin cfg0.N) (O : Vec Ideal S1x2304 .f32) (o : ℕ) (h) (X : FVec Ideal S1024x768 .bf16)
    (hX : ∀ (k : Fin 1024) (j : Fin 768) (hj), X (ix2 k j) = aProj m c (ix2 (at' t k) ⟨o + j.val, hj⟩)) (ho : o + 768 ≤ 2304) (x : S1x768.Idx) :
    k0_pay2 (F := Ideal) X (View.ld (Val := Elt Ideal) (e' := .f32) O (Rect.unit (s := S1x2304) ![0, o] S1x768.size h)) x
      = (O ((Rect.unit (s := S1x2304) ![0, o] S1x768.size h).emb x) : EReal) + tDb m c t ((Rect.unit (s := S1x2304) ![0, o] S1x768.size h).emb x) := by
  idx_vars x
  obtain rfl : x0 = 0 := Subsingleton.elim _ _
  rw [emb_cols (n := 1) (p := 2304) (q := 768) o h 0 x1 (by omega)]
  pointwise [k0_pay2, tDb]
  exact Ideal.add_congr rfl (Fin.sum_fin_congr fun k => hX k x1 _)

theorem dw_piece (t : Fin cfg0.N) (O : Vec Ideal S1024x2304 .f32) (o : ℕ) (h) (X : FVec Ideal S1024x768 .bf16)
    (hX : ∀ (k : Fin 1024) (j : Fin 768) (hj), X (ix2 k j) = aProj m c (ix2 (at' t k) ⟨o + j.val, hj⟩)) (ho : o + 768 ≤ 2304) (x : S1024x768.Idx) :
    k0_pay3 (F := Ideal) (k0_pay28 (iblk m c 0 t)) X (View.ld (Val := Elt Ideal) (e' := .f32) O (Rect.unit (s := S1024x2304) ![0, o] S1024x768.size h)) x
      = (O ((Rect.unit (s := S1024x2304) ![0, o] S1024x768.size h).emb x) : EReal) + tDw m c t ((Rect.unit (s := S1024x2304) ![0, o] S1024x768.size h).emb x) := by
  idx_vars x
  rw [emb_cols (n := 1024) (p := 2304) (q := 768) o h x0 x1 (by omega)]
  pointwise [k0_pay3, k0_pay28, tDw]
  exact Ideal.add_congr rfl (Fin.sum_fin_congr fun k => Ideal.mul_congr (blk_h m c t k x0) (hX k x1 _))

theorem ld_dp {q : ℕ} (t : Fin cfg0.N) (o : ℕ) (h) (k : Fin 1024) (j : Fin q) (hj : o + j.val < 2304) :
    View.ld (Val := Elt Ideal) (e' := .bf16) (iblk m c 1 t : Vec Ideal S1024x2304 .bf16) (Rect.unit (s := S1024x2304) ![0, o] ![1024, q] h) (ix2 k j)
      = aDp m c (ix2 (at' t k) ⟨o + j.val, hj⟩) :=
  (congrArg (iblk m c 1 t) (emb_cols (n := 1024) (p := 2304) (q := q) o h k j hj)).trans (blk_dp m c t k _)

/-- The columns outside those of k and v are the operand's. -/
theorem outer (t : Fin cfg0.N) (o : ℕ) (h) (ho : o + 768 ≤ 1024 ∨ 1280 ≤ o) (k : Fin 1024) (j : Fin 768) (hj : o + j.val < 2304) :
    View.ld (Val := Elt Ideal) (e' := .bf16) (iblk m c 1 t : Vec Ideal S1024x2304 .bf16) (Rect.unit (s := S1024x2304) ![0, o] S1024x768.size h) (ix2 k j)
      = aProj m c (ix2 (at' t k) ⟨o + j.val, hj⟩) := by
  refine (ld_dp m c t o h k j hj).trans ?_
  pointwise [aProj, projOf]
  rw [dif_neg (by omega)]

/-- The middle block of columns: the operand's on both sides of the columns of k and v. -/
def mid (t : Fin cfg0.N) : FVec Ideal S1024x768 .bf16 :=
  k0_pay31 (F := Ideal) (k0_pay25 (k0_pay10 (iblk m c 2 t)) (k0_pay11 (iblk m c 4 t)) dig lane8 ones lows)
    (k0_pay26 (k0_pay10 (iblk m c 2 t)) (k0_pay11 (iblk m c 4 t)) dig lane8 ones lows) (iblk m c 3 t)
    (View.ld (Val := Elt Ideal) (e' := .bf16) (iblk m c 1 t) (Rect.unit (s := S1024x2304) ![0, 768] S1024x256.size inb_S1024x2304_S1024x256_0_768))
    (View.ld (Val := Elt Ideal) (e' := .bf16) (iblk m c 1 t) (Rect.unit (s := S1024x2304) ![0, 1280] S1024x256.size inb_S1024x2304_S1024x256_0_1280))

theorem mid_eq (t : Fin cfg0.N) (k : Fin 1024) (j : Fin 768) (hj) : mid m c t (ix2 k j) = aProj m c (ix2 (at' t k) ⟨768 + j.val, hj⟩) := by
  pointwise [mid, k0_pay31, aProj, projOf]
  by_cases h : j.val < 256
  · rw [dif_pos h, dif_neg (by omega)]
    exact blk_dp m c t k _
  · by_cases h' : j.val - 256 < 256
    · rw [dif_neg h, dif_pos h', dif_pos (by omega)]
      refine (kv_eq m c t k ⟨j.val - 256, h'⟩).trans (congrArg (fun i => aKv m c (ix2 (at' t k) i)) (Fin.ext ?_))
      dsimp only
      omega
    · rw [dif_neg h, dif_neg h', dif_neg (by omega)]
      refine (blk_dp m c t k _).trans (congrArg (fun i => aDp m c (ix2 (at' t k) i)) (Fin.ext ?_))
      dsimp only
      omega

theorem mem_cols {n p q : ℕ} (o : ℕ) (h) (i : Fin n) (j : Fin p) (hj : o ≤ j.val) (hj' : j.val - o < q) :
    ix2 i j ∈ (Rect.unit (s := (⟨2, ![n, p]⟩ : Shape)) ![0, o] ![n, q] h).set := by
  have e := emb_cols o h i (⟨j.val - o, hj'⟩ : Fin q) (by dsimp only; omega)
  have e' : ix2 i j = ix2 i (⟨o + (j.val - o), by omega⟩ : Fin p) := congrArg (ix2 i) (Fin.ext (by dsimp only; omega))
  rw [e', ← e]
  exact LoadRect.idx_mem _ _

/-! ## The accumulators after a point, from what they held before -/

theorem acc_db (t : Fin cfg0.N) (O : Vec Ideal S1x2304 .f32) (L : List (View.Piece (Elt Ideal) S1x2304 .f32)) (y : S1x2304.Idx) :
    View.canon (Val := Elt Ideal) ([⟨Rect.unit (s := S1x2304) ![0, 1536] ![1, 768] inb_S1x2304_S1x768_0_1536, k0_pay4 (F := Ideal) (View.ld (Val := Elt Ideal) (e' := .bf16) (iblk m c 1 t) (Rect.unit (s := S1024x2304) ![0, 1536] S1024x768.size inb_S1024x2304_S1024x768_0_1536))
        (View.ld (Val := Elt Ideal) (e' := .f32) O (Rect.unit (s := S1x2304) ![0, 1536] S1x768.size inb_S1x2304_S1x768_0_1536))⟩,
      ⟨Rect.unit (s := S1x2304) ![0, 768] ![1, 768] inb_S1x2304_S1x768_0_768, k0_pay2 (F := Ideal) (mid m c t)
        (View.ld (Val := Elt Ideal) (e' := .f32) O (Rect.unit (s := S1x2304) ![0, 768] S1x768.size inb_S1x2304_S1x768_0_768))⟩,
      ⟨Rect.unit (s := S1x2304) ![0, 0] ![1, 768] inb_S1x2304_S1x768_0_0, k0_pay30 (F := Ideal) (View.ld (Val := Elt Ideal) (e' := .bf16) (iblk m c 1 t) (Rect.unit (s := S1024x2304) ![0, 0] S1024x768.size inb_S1024x2304_S1024x768_0_0))
        (View.ld (Val := Elt Ideal) (e' := .f32) O (Rect.unit (s := S1x2304) ![0, 0] S1x768.size inb_S1x2304_S1x768_0_0))⟩] ++ L) y
      = (O y : EReal) + tDb m c t y := by
  refine View.canon_append_of_piecesOf (fun y => (O y : EReal) + tDb m c t y) L [_, _, _] ⟨fun x => ?_, fun x => ?_, fun x => ?_, trivial⟩ y ?_
  · exact db_piece m c t O 1536 _ _ (outer m c t 1536 _ (by omega)) (by omega) x
  · exact db_piece m c t O 768 _ _ (mid_eq m c t) (by omega) x
  · exact db_piece m c t O 0 _ _ (outer m c t 0 _ (by omega)) (by omega) x
  · idx_vars y
    by_cases h : 1536 ≤ y1.val
    · exact ⟨_, .head _, mem_cols (n := 1) (p := 2304) (q := 768) 1536 inb_S1x2304_S1x768_0_1536 y0 y1 h (by omega)⟩
    · by_cases h' : 768 ≤ y1.val
      · exact ⟨_, .tail _ (.head _), mem_cols (n := 1) (p := 2304) (q := 768) 768 inb_S1x2304_S1x768_0_768 y0 y1 h' (by omega)⟩
      · exact ⟨_, .tail _ (.tail _ (.head _)), mem_cols (n := 1) (p := 2304) (q := 768) 0 inb_S1x2304_S1x768_0_0 y0 y1 (by omega) (by omega)⟩

theorem acc_dw (t : Fin cfg0.N) (O : Vec Ideal S1024x2304 .f32) (L : List (View.Piece (Elt Ideal) S1024x2304 .f32)) (y : S1024x2304.Idx) :
    View.canon (Val := Elt Ideal) ([⟨Rect.unit (s := S1024x2304) ![0, 1536] ![1024, 768] inb_S1024x2304_S1024x768_0_1536, k0_pay3 (F := Ideal) (k0_pay28 (iblk m c 0 t)) (View.ld (Val := Elt Ideal) (e' := .bf16) (iblk m c 1 t) (Rect.unit (s := S1024x2304) ![0, 1536] S1024x768.size inb_S1024x2304_S1024x768_0_1536))
        (View.ld (Val := Elt Ideal) (e' := .f32) O (Rect.unit (s := S1024x2304) ![0, 1536] S1024x768.size inb_S1024x2304_S1024x768_0_1536))⟩,
      ⟨Rect.unit (s := S1024x2304) ![0, 768] ![1024, 768] inb_S1024x2304_S1024x768_0_768, k0_pay1 (F := Ideal) (k0_pay32 (k0_pay25 (k0_pay10 (iblk m c 2 t)) (k0_pay11 (iblk m c 4 t)) dig lane8 ones lows)
        (k0_pay26 (k0_pay10 (iblk m c 2 t)) (k0_pay11 (iblk m c 4 t)) dig lane8 ones lows) (iblk m c 3 t) (iblk m c 0 t)
        (View.ld (Val := Elt Ideal) (e' := .bf16) (iblk m c 1 t) (Rect.unit (s := S1024x2304) ![0, 768] S1024x256.size inb_S1024x2304_S1024x256_0_768))
        (View.ld (Val := Elt Ideal) (e' := .bf16) (iblk m c 1 t) (Rect.unit (s := S1024x2304) ![0, 1280] S1024x256.size inb_S1024x2304_S1024x256_0_1280))
        (View.ld (Val := Elt Ideal) (e' := .f32) O (Rect.unit (s := S1024x2304) ![0, 768] S1024x768.size inb_S1024x2304_S1024x768_0_768)))⟩,
      ⟨Rect.unit (s := S1024x2304) ![0, 0] ![1024, 768] inb_S1024x2304_S1024x768_0_0, k0_pay29 (F := Ideal) (iblk m c 0 t) (View.ld (Val := Elt Ideal) (e' := .bf16) (iblk m c 1 t) (Rect.unit (s := S1024x2304) ![0, 0] S1024x768.size inb_S1024x2304_S1024x768_0_0))
        (View.ld (Val := Elt Ideal) (e' := .f32) O (Rect.unit (s := S1024x2304) ![0, 0] S1024x768.size inb_S1024x2304_S1024x768_0_0))⟩] ++ L) y
      = (O y : EReal) + tDw m c t y := by
  refine View.canon_append_of_piecesOf (fun y => (O y : EReal) + tDw m c t y) L [_, _, _] ⟨fun x => ?_, fun x => ?_, fun x => ?_, trivial⟩ y ?_
  · exact dw_piece m c t O 1536 _ _ (outer m c t 1536 _ (by omega)) (by omega) x
  · exact dw_piece m c t O 768 _ _ (mid_eq m c t) (by omega) x
  · exact dw_piece m c t O 0 _ _ (outer m c t 0 _ (by omega)) (by omega) x
  · idx_vars y
    by_cases h : 1536 ≤ y1.val
    · exact ⟨_, .head _, mem_cols (n := 1024) (p := 2304) (q := 768) 1536 inb_S1024x2304_S1024x768_0_1536 y0 y1 h (by omega)⟩
    · by_cases h' : 768 ≤ y1.val
      · exact ⟨_, .tail _ (.head _), mem_cols (n := 1024) (p := 2304) (q := 768) 768 inb_S1024x2304_S1024x768_0_768 y0 y1 h' (by omega)⟩
      · exact ⟨_, .tail _ (.tail _ (.head _)), mem_cols (n := 1024) (p := 2304) (q := 768) 0 inb_S1024x2304_S1024x768_0_0 y0 y1 (by omega) (by omega)⟩

theorem zero_db (y : S1x2304.Idx) : k0_pay9 (F := Ideal) y = (0 : EReal) := by
  idx_vars y
  pointwise [k0_pay9]

theorem zero_dw (y : S1024x2304.Idx) : k0_pay8 (F := Ideal) y = (0 : EReal) := by
  idx_vars y
  pointwise [k0_pay8]

set_option maxHeartbeats 1000000 in
theorem reset (t : Fin cfg0.N) (h0 : t.val % 8 = 0) :
    (∀ y, (outsAt0 m c t.val t.isLt).1 y = (0 : EReal) + tDb m c t y)
      ∧ ∀ y, (outsAt0 m c t.val t.isLt).2.2.2.2.2.1 y = (0 : EReal) + tDw m c t y := by
  rw [outsAt0_A m c t h0 (by omega)]
  frame_open
  simp (disch := decide) only [↓ View.readCov_skip, ↓ View.readCov_cons_toLoadRect, ↓ View.readCov_fill]
  frame_out
  refine ⟨fun y => ?_, fun y => ?_⟩
  · refine (acc_db m c t (k0_pay9 (F := Ideal)) [_] y).trans ?_
    rw [zero_db]
  · refine (acc_dw m c t (k0_pay8 (F := Ideal)) [_] y).trans ?_
    rw [zero_dw]

set_option maxHeartbeats 1000000 in
theorem step (t : Fin cfg0.N) (h0 : ¬ t.val % 8 = 0) :
    (∀ y, (outsAt0 m c t.val t.isLt).1 y = ((outsAt0 m c (t.val - 1) (Nat.lt_of_le_of_lt (Nat.sub_le _ _) t.isLt)).1 y : EReal) + tDb m c t y)
      ∧ ∀ y, (outsAt0 m c t.val t.isLt).2.2.2.2.2.1 y
        = ((outsAt0 m c (t.val - 1) (Nat.lt_of_le_of_lt (Nat.sub_le _ _) t.isLt)).2.2.2.2.2.1 y : EReal) + tDw m c t y := by
  by_cases h7 : t.val % 8 = 7
  · rw [outsAt0_C m c t h0 h7]
    frame_out
    simp only [read_unread_whole]
    exact ⟨acc_db m c t _ [], acc_dw m c t _ []⟩
  · rw [outsAt0_B m c t h0 h7]
    frame_out
    simp only [read_unread_whole]
    exact ⟨acc_db m c t _ [], acc_dw m c t _ []⟩

theorem outs_s0 (t : Fin cfg0.N) : (outsAt0 m c t.val t.isLt).2.2.1 = k0_pay5 (F := Ideal)
      (View.ld (Val := Elt Ideal) (e' := .bf16) (iblk m c 5 t) (Rect.unit (s := S4x128x1024) ![0, 0, 0] S1x128x1024.size inb_S4x128x1024_S1x128x1024_0_0_0))
      (View.ld (Val := Elt Ideal) (e' := .bf16) (iblk m c 5 t) (Rect.unit (s := S4x128x1024) ![1, 0, 0] S1x128x1024.size inb_S4x128x1024_S1x128x1024_1_0_0))
      (View.ld (Val := Elt Ideal) (e' := .bf16) (iblk m c 5 t) (Rect.unit (s := S4x128x1024) ![2, 0, 0] S1x128x1024.size inb_S4x128x1024_S1x128x1024_2_0_0))
      (View.ld (Val := Elt Ideal) (e' := .bf16) (iblk m c 5 t) (Rect.unit (s := S4x128x1024) ![3, 0, 0] S1x128x1024.size inb_S4x128x1024_S1x128x1024_3_0_0)) := by
  by_cases h0 : t.val % 8 = 0
  · rw [outsAt0_A m c t h0 (by omega)]; frame_out; try rfl
  · by_cases h7 : t.val % 8 = 7
    · rw [outsAt0_C m c t h0 h7]; frame_out; try rfl
    · rw [outsAt0_B m c t h0 h7]; frame_out; try rfl

theorem final_s0 : (dats m 0 c).arrAt 10 (cfgs 0).N = sumOf (aS0 m c) := by
  refine (dats m 0 c).arrAt_eq_of_covers 10 _ (by decide +kernel) fun t hf y => ?_
  idx_vars y
  blk_simp
  rw [after0_10, outs_s0]
  have e (a : Fin 4) := blk_s0 m c t a y0 y1
  refine Eq.trans (b := sumOf (aS0 m c) (ix2 ⟨t.val * 128 + y0.val, by have := lt8 t; omega⟩ y1)) ?_ ?_
  · pointwise [k0_pay5, sumOf]
    rw [Fin.sum_univ_four, ← e, ← e, ← e, ← e]
  · generalize sumOf (aS0 m c) = X
    blk_point [idx t]

theorem outs_s1 (t : Fin cfg0.N) : (outsAt0 m c t.val t.isLt).2.2.2.1 = k0_pay6 (F := Ideal)
      (View.ld (Val := Elt Ideal) (e' := .bf16) (iblk m c 6 t) (Rect.unit (s := S4x32x1024) ![0, 0, 0] S1x32x1024.size inb_S4x32x1024_S1x32x1024_0_0_0))
      (View.ld (Val := Elt Ideal) (e' := .bf16) (iblk m c 6 t) (Rect.unit (s := S4x32x1024) ![1, 0, 0] S1x32x1024.size inb_S4x32x1024_S1x32x1024_1_0_0))
      (View.ld (Val := Elt Ideal) (e' := .bf16) (iblk m c 6 t) (Rect.unit (s := S4x32x1024) ![2, 0, 0] S1x32x1024.size inb_S4x32x1024_S1x32x1024_2_0_0))
      (View.ld (Val := Elt Ideal) (e' := .bf16) (iblk m c 6 t) (Rect.unit (s := S4x32x1024) ![3, 0, 0] S1x32x1024.size inb_S4x32x1024_S1x32x1024_3_0_0)) := by
  by_cases h0 : t.val % 8 = 0
  · rw [outsAt0_A m c t h0 (by omega)]; frame_out; try rfl
  · by_cases h7 : t.val % 8 = 7
    · rw [outsAt0_C m c t h0 h7]; frame_out; try rfl
    · rw [outsAt0_B m c t h0 h7]; frame_out; try rfl

theorem final_s1 : (dats m 0 c).arrAt 11 (cfgs 0).N = sumOf (aS1 m c) := by
  refine (dats m 0 c).arrAt_eq_of_covers 11 _ (by decide +kernel) fun t hf y => ?_
  idx_vars y
  blk_simp
  rw [after0_11, outs_s1]
  have e (a : Fin 4) := blk_s1 m c t a y0 y1
  refine Eq.trans (b := sumOf (aS1 m c) (ix2 ⟨t.val * 32 + y0.val, by have := lt8 t; omega⟩ y1)) ?_ ?_
  · pointwise [k0_pay6, sumOf]
    rw [Fin.sum_univ_four, ← e, ← e, ← e, ← e]
  · generalize sumOf (aS1 m c) = X
    blk_point [idx t]

theorem outs_s2 (t : Fin cfg0.N) : (outsAt0 m c t.val t.isLt).2.2.2.2.1 = k0_pay7 (F := Ideal)
      (View.ld (Val := Elt Ideal) (e' := .bf16) (iblk m c 7 t) (Rect.unit (s := S4x32x1024) ![0, 0, 0] S1x32x1024.size inb_S4x32x1024_S1x32x1024_0_0_0))
      (View.ld (Val := Elt Ideal) (e' := .bf16) (iblk m c 7 t) (Rect.unit (s := S4x32x1024) ![1, 0, 0] S1x32x1024.size inb_S4x32x1024_S1x32x1024_1_0_0))
      (View.ld (Val := Elt Ideal) (e' := .bf16) (iblk m c 7 t) (Rect.unit (s := S4x32x1024) ![2, 0, 0] S1x32x1024.size inb_S4x32x1024_S1x32x1024_2_0_0))
      (View.ld (Val := Elt Ideal) (e' := .bf16) (iblk m c 7 t) (Rect.unit (s := S4x32x1024) ![3, 0, 0] S1x32x1024.size inb_S4x32x1024_S1x32x1024_3_0_0)) := by
  by_cases h0 : t.val % 8 = 0
  · rw [outsAt0_A m c t h0 (by omega)]; frame_out; try rfl
  · by_cases h7 : t.val % 8 = 7
    · rw [outsAt0_C m c t h0 h7]; frame_out; try rfl
    · rw [outsAt0_B m c t h0 h7]; frame_out; try rfl

theorem final_s2 : (dats m 0 c).arrAt 12 (cfgs 0).N = sumOf (aS2 m c) := by
  refine (dats m 0 c).arrAt_eq_of_covers 12 _ (by decide +kernel) fun t hf y => ?_
  idx_vars y
  blk_simp
  rw [after0_12, outs_s2]
  have e (a : Fin 4) := blk_s2 m c t a y0 y1
  refine Eq.trans (b := sumOf (aS2 m c) (ix2 ⟨t.val * 32 + y0.val, by have := lt8 t; omega⟩ y1)) ?_ ?_
  · pointwise [k0_pay7, sumOf]
    rw [Fin.sum_univ_four, ← e, ← e, ← e, ← e]
  · generalize sumOf (aS2 m c) = X
    blk_point [idx t]

/-! ## The accumulated results -/

theorem copied (t : Fin cfg0.N) (h7 : t.val % 8 = 7) : (outsAt0 m c t.val t.isLt).2.2.2.2.2.2 = (outsAt0 m c t.val t.isLt).2.2.2.2.2.1 := by
  rw [outsAt0_C m c t (by omega) h7]
  dsimp only
  unfold hbw0_C_0
  frame_out
  refine (View.write_whole_univ _ _ _).trans (View.read_writes_eq_canon _ _ _ fun y => ?_)
  idx_vars y
  by_cases h : 1536 ≤ y1.val
  · exact ⟨_, .head _, mem_cols (n := 1024) (p := 2304) (q := 768) 1536 inb_S1024x2304_S1024x768_0_1536 y0 y1 h (by omega)⟩
  · by_cases h' : 768 ≤ y1.val
    · exact ⟨_, .tail _ (.head _), mem_cols (n := 1024) (p := 2304) (q := 768) 768 inb_S1024x2304_S1024x768_0_768 y0 y1 h' (by omega)⟩
    · exact ⟨_, .tail _ (.tail _ (.head _)), mem_cols (n := 1024) (p := 2304) (q := 768) 0 inb_S1024x2304_S1024x768_0_0 y0 y1 (by omega) (by omega)⟩

/-- The sums over all rows, and the product over all rows. -/
def aDb : FVec Ideal S1x2304 .f32 := fun y => ∑ R : Fin 8192, aProj m c (ix2 R (y 1))
def aDw : FVec Ideal S1024x2304 .f32 := fun y => ∑ R : Fin 8192, aH m c (ix2 R (y 0)) * aProj m c (ix2 R (y 1))

theorem final_db : (dats m 0 c).arrAt 8 (cfgs 0).N = aDb m c := by
  refine (dats m 0 c).arrAt_eq_of_after_last 8 t0_7 (by decide +kernel) _ fun j => ?_
  blk_simp
  rw [after0_8, Pipeline.eq_sum_fin_of_reset_step_apply_last (fun n h => (outsAt0 m c n h).1) 8 (fun _ => 0) (tDb m c)
    (fun t h => (reset m c t h).1) (fun t h => (step m c t h).1) (le_of_eq N_0) t0_7 rfl, zero_add]
  idx_vars j
  obtain rfl : j0 = 0 := Subsingleton.elim _ _
  exact Fin.sum_mul_add_congr fun s k hl => rfl

theorem final_dw : (outsAt0 m c t0_7.val t0_7.isLt).2.2.2.2.2.2 = aDw m c := by
  rw [copied m c t0_7 (by decide +kernel)]
  funext j
  rw [Pipeline.eq_sum_fin_of_reset_step_apply_last (fun n h => (outsAt0 m c n h).2.2.2.2.2.1) 8 (fun _ => 0) (tDw m c)
    (fun t h => (reset m c t h).2) (fun t h => (step m c t h).2) (le_of_eq N_0) t0_7 rfl, zero_add]
  exact Fin.sum_mul_add_congr fun s k hl => rfl

end Cert.Proof.Out4
end
-- ==== Proof.Ref4.lean ====
/- The fourth reference's arrays, with names, and what they hold at an index. -/
module

public import proofs.«01_k».proof.Proof.Gen.Reference4Ideal
public import proofs.«01_k».proof.Proof.Rope
public import proofs.«01_k».proof.Proof.HostNorm

@[expose] public section

set_option maxRecDepth 16384

noncomputable section
open Idealize.ShloMosaic Idealize.ShloMosaic.TcCoe Idealize.SL.Sem

namespace Cert.Proof.Ref4
open Cert.Reference4Ideal Cert.Reference4Ideal.Gen

variable (h : FVec Ideal S8192x1024 .bf16) (dp : FVec Ideal S8192x2304 .bf16) (dk dv : FVec Ideal S128x8192 .f32) (pos : IVec S4x2048 32)

/-- The angles of the rotary embedding. -/
def rAng : FVec Ideal S4x2048x8 .f32 :=
  mulf (broadcastInDim S4x2048x8 ![0, 1, 2] bcast_S4x2048x1_S4x2048x8_0_1_2
      (broadcastInDim S4x2048x1 ![0, 1] bcast_S4x2048_S4x2048x1_0_1 (sitofp .f32 pos)))
    (broadcastInDim S4x2048x8 ![0, 1, 2] bcast_S1x1x8_S4x2048x8_0_1_2 (broadcastInDim S1x1x8 ![2] bcast_S8_S1x1x8_2
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

/-- A table of those angles along both heads. -/
def rHeads (f : FVec Ideal S4x2048x8 .f32) : FVec Ideal S4x2048x2x8 .f32 :=
  broadcastInDim S4x2048x2x8 ![0, 1, 2, 3] bcast_S4x2048x1x8_S4x2048x2x8_0_1_2_3
    (broadcastInDim S4x2048x1x8 ![0, 1, 3] bcast_S4x2048x8_S4x2048x1x8_0_1_3 f)

/-- The gradient of the turned keys, by row, head and lane, and its two turned parts. -/
def rKey : FVec Ideal S4x2048x2x64 .f32 :=
  shapeCast S4x2048x2x64 (transpose S8192x128 [1, 0] dk transposes_S128x8192_S8192x128_1_0) shapeCasts_S8192x128_S4x2048x2x64
def rKey0 : FVec Ideal S4x2048x2x8 .f32 := extractStridedSlice S4x2048x2x8 ![0, 0, 0, 0] (rKey dk) slices_S4x2048x2x64_S4x2048x2x8_0_0_0_0
def rKey1 : FVec Ideal S4x2048x2x8 .f32 := extractStridedSlice S4x2048x2x8 ![0, 0, 0, 8] (rKey dk) slices_S4x2048x2x64_S4x2048x2x8_0_0_0_8

/-- The same turned back. -/
def rBack : FVec Ideal S4x2048x2x64 .f32 :=
  addf (addf
      (pad S4x2048x2x64 ![0, 0, 0, 16] ![0, 0, 0, 0] ![0, 0, 0, 0]
        (extractStridedSlice S4x2048x2x48 ![0, 0, 0, 16] (rKey dk) slices_S4x2048x2x64_S4x2048x2x48_0_0_0_16)
        (constant S_ .f32 0x00000000#32) pads_S4x2048x2x48_S4x2048x2x64_000_000_000_1600 h_S_)
      (pad S4x2048x2x64 ![0, 0, 0, 8] ![0, 0, 0, 48] ![0, 0, 0, 0]
        (addf (mulf (rKey1 dk) (rHeads (Host.cos (rAng pos)))) (mulf (Host.negf (rKey0 dk)) (rHeads (Host.sin (rAng pos)))))
        (constant S_ .f32 0x00000000#32) pads_S4x2048x2x8_S4x2048x2x64_000_000_000_8480 h_S_))
    (pad S4x2048x2x64 ![0, 0, 0, 0] ![0, 0, 0, 56] ![0, 0, 0, 0]
      (addf (mulf (rKey1 dk) (rHeads (Host.sin (rAng pos)))) (mulf (rKey0 dk) (rHeads (Host.cos (rAng pos)))))
      (constant S_ .f32 0x00000000#32) pads_S4x2048x2x8_S4x2048x2x64_000_000_000_0560 h_S_)

/-- The whole gradient of the projection. -/
def rProj : FVec Ideal S8192x2304 .f32 :=
  concatenate S8192x2304 1
    [⟨S8192x1024, extractStridedSlice S8192x1024 ![0, 0] (extf .f32 dp bitsLt_bf16_f32) slices_S8192x2304_S8192x1024_0_0⟩,
      ⟨S8192x128, shapeCast S8192x128 (rBack dk pos) shapeCasts_S4x2048x2x64_S8192x128⟩,
      ⟨S8192x128, transpose S8192x128 [1, 0] dv transposes_S128x8192_S8192x128_1_0⟩,
      ⟨S8192x1024, extractStridedSlice S8192x1024 ![0, 1280] (extf .f32 dp bitsLt_bf16_f32) slices_S8192x2304_S8192x1024_0_1280⟩]
    concatenates_S8192x1024_S8192x128_S8192x128_S8192x1024_S8192x2304_d1

/-- The gradient of the weights, the sums over rows and the columns of k and v. -/
def rDw : FVec Ideal S1024x2304 .f32 := transpose S1024x2304 [1, 0]
  (Host.dotGeneral dot_S8192x2304_S8192x1024_S2304x1024_0_0_1_1_n_n none (rProj dp dk dv pos) (extf .f32 h bitsLt_bf16_f32))
  transposes_S2304x1024_S1024x2304_1_0
def rDb : FVec Ideal S1x2304 .f32 := shapeCast S1x2304 (Host.reduceAdd (shapeCast S1x2304
    (Host.reduceAdd (rProj dp dk dv pos) (constant S_ .f32 0x00000000#32) reducesTo_S8192x2304_S2304_d0 h_S_) shapeCasts_S2304_S1x2304)
  (constant S_ .f32 0x00000000#32) reducesTo_S1x2304_S2304_d0 h_S_) shapeCasts_S2304_S1x2304
def rKv : FVec Ideal S8192x256 .bf16 := truncf .bf16 (extractStridedSlice S8192x256 ![0, 1024] (rProj dp dk dv pos) slices_S8192x2304_S8192x256_0_1024)
  bitsLt_bf16_f32

theorem rAng_apply (b : Fin 4) (s : Fin 2048) (a : Fin 8) : rAng pos (ix3 b s a) = Rope.turn (pos (ix2 b s)) a := by
  pointwise [rAng, Rope.turn]

theorem rKey_apply (b : Fin 4) (s : Fin 2048) (n : Fin 2) (d : Fin 64) :
    rKey dk (ix4 b s n d) = dk (ix2 ⟨n.val * 64 + d.val, by omega⟩ ⟨b.val * 2048 + s.val, by omega⟩) := by
  pointwise [rKey]

set_option maxHeartbeats 1000000 in
theorem rBack_apply (b : Fin 4) (s : Fin 2048) (n : Fin 2) (d : Fin 64) : rBack dk pos (ix4 b s n d)
    = Rope.turnBack (fun l => dk (ix2 l ⟨b.val * 2048 + s.val, by omega⟩)) (Rope.pieces (pos (ix2 b s))) ⟨n.val * 64 + d.val, by omega⟩ := by
  pointwise [rBack, rKey0, rKey1, rHeads, rKey_apply, rAng_apply]
  have hd := d.isLt
  have e (k k' : Fin 128) (hk : k.val = k'.val) : dk (ix2 k ⟨b.val * 2048 + s.val, by omega⟩) = dk (ix2 k' ⟨b.val * 2048 + s.val, by omega⟩) := by rw [Fin.ext hk]
  have f (a a' : Fin 8) (ha : a.val = a'.val) : Rope.turn (pos (ix2 b s)) a = Rope.turn (pos (ix2 b s)) a' := by rw [Fin.ext ha]
  have c8 : (n.val * 64 + d.val) % 8 < 8 := by omega
  have s8 : ¬ 8 + (n.val * 64 + d.val) % 8 < 8 := by omega
  have s16 : 8 + (n.val * 64 + d.val) % 8 < 16 := by omega
  unfold Rope.turnBack Rope.pieces
  dsimp only
  by_cases h8 : d.val < 8
  · have g1 : ¬ (16 ≤ d.val ∧ d.val - 16 < 48) := by omega
    have g2 : ¬ (8 ≤ d.val ∧ d.val - 8 < 8) := by omega
    have g3 : (n.val * 64 + d.val) % 64 < 8 := by omega
    rw [dif_neg g1, dif_neg g2, dif_pos h8, zero_add, zero_add, dif_pos g3, dif_pos c8, dif_neg s8, dif_pos s16, add_comm]
    exact Ideal.add_congr (Ideal.mul_congr rfl (congrArg _ (f _ _ (by dsimp only; omega))))
      (Ideal.mul_congr (e _ _ (by dsimp only; omega)) (congrArg _ (f _ _ (by dsimp only; omega))))
  · by_cases h16 : d.val < 16
    · have g1 : ¬ (16 ≤ d.val ∧ d.val - 16 < 48) := by omega
      have g2 : 8 ≤ d.val ∧ d.val - 8 < 8 := by omega
      have g3 : ¬ (n.val * 64 + d.val) % 64 < 8 := by omega
      have g4 : (n.val * 64 + d.val) % 64 < 16 := by omega
      rw [dif_neg g1, dif_pos g2, dif_neg h8, zero_add, add_zero, dif_neg g3, dif_pos g4, dif_pos c8, dif_neg s8, dif_pos s16, EReal.neg_mul, mul_neg]
      exact Ideal.add_congr (Ideal.mul_congr (e _ _ (by dsimp only; omega)) (congrArg _ (f _ _ (by dsimp only; omega))))
        (congrArg _ (Ideal.mul_congr (e _ _ (by dsimp only; omega)) (congrArg _ (f _ _ (by dsimp only; omega)))))
    · have g1 : 16 ≤ d.val ∧ d.val - 16 < 48 := by omega
      have g2 : ¬ (8 ≤ d.val ∧ d.val - 8 < 8) := by omega
      have g3 : ¬ (n.val * 64 + d.val) % 64 < 8 := by omega
      have g4 : ¬ (n.val * 64 + d.val) % 64 < 16 := by omega
      rw [dif_pos g1, dif_neg g2, dif_neg h8, dif_neg g3, dif_neg g4]
      refine (add_zero _).trans ((add_zero _).trans ?_)
      exact e _ _ (by dsimp only; omega)

theorem rProj_apply (r : Fin 8192) (j : Fin 2304) : rProj dp dk dv pos (ix2 r j) = if h : 1024 ≤ j.val ∧ j.val < 1280 then
    rKv dp dk dv pos (ix2 r ⟨j.val - 1024, by omega⟩) else dp (ix2 r j) := by
  by_cases h : 1024 ≤ j.val ∧ j.val < 1280
  · rw [dif_pos h]
    pointwise [rKv]
    have e (j' : Fin 2304) (hj : j'.val = j.val) : rProj dp dk dv pos (ix2 r j) = rProj dp dk dv pos (ix2 r j') := by rw [Fin.ext hj]
    exact e _ (by dsimp only; omega)
  · rw [dif_neg h]
    pointwise [rProj]
    by_cases h1 : j.val < 1024
    · rw [dif_pos h1]
    · have h2 : ¬ j.val - 1024 < 128 := by omega
      have h3 : ¬ j.val - 1024 - 128 < 128 := by omega
      rw [dif_neg h1, dif_neg h2, dif_neg h3]
      exact congrArg (fun i => dp (ix2 r i)) (Fin.ext (by dsimp only; omega))

theorem rKv_apply (r : Fin 8192) (j : Fin 256) : rKv dp dk dv pos (ix2 r j) = if h : j.val < 128 then
      Rope.turnBack (fun l => dk (ix2 l r)) (Rope.pieces (pos (ix2 ⟨r.val / 2048, by omega⟩ ⟨r.val % 2048, by omega⟩))) ⟨j.val, h⟩
    else dv (ix2 ⟨j.val - 128, by omega⟩ r) := by
  pointwise [rKv, rProj, rBack_apply]
  by_cases h : j.val < 128
  · rw [dif_pos h, dif_pos h]
    have e (r' : Fin 8192) (l : Fin 128) (hr : r'.val = r.val) (hl : l.val = j.val) (p : Fin 48 → EReal) :
        Rope.turnBack (fun l => dk (ix2 l r')) p l = Rope.turnBack (fun l => dk (ix2 l r)) p ⟨j.val, h⟩ := by
      rw [Fin.ext hr, show l = ⟨j.val, h⟩ from Fin.ext hl]
    exact e _ _ (by dsimp only; omega) (by dsimp only; omega) _
  · have h1 : j.val - 128 < 128 := by omega
    rw [dif_neg h, dif_neg h, dif_pos h1]

theorem rDw_apply (i : Fin 1024) (j : Fin 2304) : rDw h dp dk dv pos (ix2 i j) = ∑ k : Fin 8192, rProj dp dk dv pos (ix2 k j) * h (ix2 k i) := by
  pointwise [rDw]

theorem rDb_apply (j : Fin 2304) : rDb dp dk dv pos (ix2 0 j) = ∑ k : Fin 8192, rProj dp dk dv pos (ix2 k j) := by
  pointwise [rDb]
  exact Fin.sum_univ_one _

end Cert.Proof.Ref4
end
-- ==== Proof.Pair4.lean ====
/- The fourth pair: both programs run and end in the same arrays. -/
module

public import proofs.«01_k».proof.Defs
public import proofs.«01_k».proof.Proof.Out4
public import proofs.«01_k».proof.Proof.Ref4
public import proofs.«01_k».proof.Proof.Gen.Reference4Ideal.Run
public import Idealize.ShloMosaic.Lib.Claim

@[expose] public section

set_option maxRecDepth 16384

noncomputable section
open Idealize.ShloMosaic Idealize.ShloMosaic.TcCoe Idealize.SL.Sem

namespace Cert.Proof.Ref4
open Cert.Reference4Ideal Cert.Reference4Ideal.Gen

variable (m : (ℓ : Loc nD τ sig) → Buf (Elt Ideal) ℓ)

abbrev xH (c : Dev nD) : FVec Ideal S8192x1024 .bf16 := m ((c.tc : Thread nD τ).loc main_arg0)
abbrev xDp (c : Dev nD) : FVec Ideal S8192x2304 .bf16 := m ((c.tc : Thread nD τ).loc main_arg1)
abbrev xDk (c : Dev nD) : FVec Ideal S128x8192 .f32 := m ((c.tc : Thread nD τ).loc main_arg2)
abbrev xDv (c : Dev nD) : FVec Ideal S128x8192 .f32 := m ((c.tc : Thread nD τ).loc main_arg3)
abbrev xPos (c : Dev nD) : IVec S4x2048 32 := m ((c.tc : Thread nD τ).loc main_arg4)
abbrev xS0 (c : Dev nD) : FVec Ideal S4x1024x1024 .bf16 := m ((c.tc : Thread nD τ).loc main_arg5)
abbrev xS1 (c : Dev nD) : FVec Ideal S4x256x1024 .bf16 := m ((c.tc : Thread nD τ).loc main_arg6)
abbrev xS2 (c : Dev nD) : FVec Ideal S4x256x1024 .bf16 := m ((c.tc : Thread nD τ).loc main_arg7)

theorem ref_dw (c : Dev nD) : Value.res_main_v78 m c = rDw (xH m c) (xDp m c) (xDk m c) (xDv m c) (xPos m c) := rfl
theorem ref_db (c : Dev nD) : Value.res_main_v85 m c = rDb (xDp m c) (xDk m c) (xDv m c) (xPos m c) := rfl
theorem ref_kv (c : Dev nD) : Value.res_main_v87 m c = rKv (xDp m c) (xDk m c) (xDv m c) (xPos m c) := rfl

theorem kv_is (dp : FVec Ideal S8192x2304 .bf16) (dk dv : FVec Ideal S128x8192 .f32) (pos : IVec S4x2048 32) :
    rKv dp dk dv pos = Out4.kvOf dk dv pos := by
  funext x
  idx_vars x
  exact rKv_apply dp dk dv pos x0 x1

theorem proj_is (dp : FVec Ideal S8192x2304 .bf16) (dk dv : FVec Ideal S128x8192 .f32) (pos : IVec S4x2048 32) (r : Fin 8192) (j : Fin 2304) :
    rProj dp dk dv pos (ix2 r j) = Out4.projOf dp (Out4.kvOf dk dv pos) (ix2 r j) := by
  rw [rProj_apply, kv_is]
  rfl

theorem sums_is (s : FVec Ideal S4x1024x1024 .bf16) :
    Host.reduceAdd (extf .f32 s bitsLt_bf16_f32) (constant S_ .f32 0x00000000#32) reducesTo_S4x1024x1024_S1024x1024_d0 h_S_ = Out4.sumOf s := by
  funext x
  idx_vars x
  pointwise [Out4.sumOf]

theorem sums_is' (s : FVec Ideal S4x256x1024 .bf16) :
    Host.reduceAdd (extf .f32 s bitsLt_bf16_f32) (constant S_ .f32 0x00000000#32) reducesTo_S4x256x1024_S256x1024_d0 h_S_ = Out4.sumOf s := by
  funext x
  idx_vars x
  pointwise [Out4.sumOf]

theorem db_is (dp : FVec Ideal S8192x2304 .bf16) (dk dv : FVec Ideal S128x8192 .f32) (pos : IVec S4x2048 32) :
    rDb dp dk dv pos = fun y => ∑ r : Fin 8192, Out4.projOf dp (Out4.kvOf dk dv pos) (ix2 r (y 1)) := by
  funext x
  idx_vars x
  obtain rfl : x0 = 0 := Subsingleton.elim _ _
  exact (rDb_apply dp dk dv pos x1).trans (Fin.sum_fin_congr fun r => proj_is dp dk dv pos r x1)

theorem dw_is (h : FVec Ideal S8192x1024 .bf16) (dp : FVec Ideal S8192x2304 .bf16) (dk dv : FVec Ideal S128x8192 .f32) (pos : IVec S4x2048 32) :
    rDw h dp dk dv pos = fun y => ∑ r : Fin 8192, h (ix2 r (y 0)) * Out4.projOf dp (Out4.kvOf dk dv pos) (ix2 r (y 1)) := by
  funext x
  idx_vars x
  exact (rDw_apply h dp dk dv pos x0 x1).trans (Fin.sum_fin_congr fun r => by rw [proj_is dp dk dv pos r x1, mul_comm])

end Cert.Proof.Ref4

namespace Cert.Proof.Out4
open Ref4

theorem algebraic : Cert.algebraic_Kernel4Ideal_Reference4Ideal := by
  pair_intro
  · run_from Cert.Kernel4Ideal.Value.run_blocks m g
  · refine (θ_run _ _ _).mono (fun r h c => ?_) (Cert.Reference4Ideal.Value.run m' g')
    obtain ⟨e0, e1, e2, e3, e4, e5, ea⟩ := h c
    obtain ⟨h0, h1, h2, h3, h4, h5, h6, h7⟩ := hagree c
    rw [ref_dw, dw_is, show xH m' c = aH m c from h0, show xDp m' c = aDp m c from h1, show xDk m' c = aDk m c from h2,
      show xDv m' c = aDv m c from h3, show xPos m' c = aPos m c from h4] at e0
    rw [ref_db, db_is, show xDp m' c = aDp m c from h1, show xDk m' c = aDk m c from h2,
      show xDv m' c = aDv m c from h3, show xPos m' c = aPos m c from h4] at e1
    rw [ref_kv, kv_is, show xDk m' c = aDk m c from h2, show xDv m' c = aDv m c from h3, show xPos m' c = aPos m c from h4] at e2
    rw [sums_is (xS0 m' c), show xS0 m' c = aS0 m c from h5] at e3
    rw [sums_is' (xS1 m' c), show xS1 m' c = aS1 m c from h6] at e4
    rw [sums_is' (xS2 m' c), show xS2 m' c = aS2 m c from h7] at e5
    exact ⟨e0.trans (final_dw m c).symm, e1.trans (final_db m c).symm, e2.trans (final_kv m c).symm,
      e3.trans (final_s0 m c).symm, e4.trans (final_s1 m c).symm, e5.trans (final_s2 m c).symm, ea⟩

end Cert.Proof.Out4
end
-- ==== Proof.Soft.lean ====
/-
  One row of an attention with a sink, over the reals: the weights of its keys, and the gradient of its scores. A masked key's score is −∞, its weight 0.
  The sums and the quotients of the ideal arithmetic are these real numbers, so both ways of writing the row's gradient are compared here.
-/
module

public import proofs.«01_k».proof.Proof.Norm

@[expose] public section

noncomputable section
open Idealize.ShloMosaic

namespace Cert.Proof.Soft

/-- A sum of real numbers, taken among the extended ones. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of real products. -/
theorem coe_dot {ι : Type} (s : Finset ι) (f g : ι → ℝ) : ∑ i ∈ s, (f i : EReal) * (g i : EReal) = ((∑ i ∈ s, f i * g i : ℝ) : EReal) := by
  rw [← coe_sum]; exact Finset.sum_congr rfl fun i _ => (EReal.coe_mul _ _).symm

variable (σ : Fin 256 → ℝ) (valid : Fin 256 → Prop) [DecidablePred valid] (sk : ℝ)

/-- The scores, masked. -/
def score (c : Fin 256) : EReal := if valid c then (σ c : EReal) else ⊥

/-- The greatest of them and of the sink. -/
def top : EReal := max (Finset.univ.fold max ⊥ (score σ valid)) (sk : EReal)
def mu : ℝ := (top σ valid sk).toReal

theorem top_eq : top σ valid sk = (mu σ valid sk : EReal) := by
  refine (EReal.coe_toReal (ne_of_lt ?_) (ne_of_gt ?_)).symm
  · refine max_lt ((Finset.sup_lt_iff (f := score σ valid) bot_lt_top).mpr fun c _ => ?_) (EReal.coe_lt_top _)
    unfold score; split
    · exact EReal.coe_lt_top _
    · exact bot_lt_top
  · exact lt_of_lt_of_le (EReal.bot_lt_coe sk) (le_max_right _ _)

/-- A key's exponential, the sink's, and their sum. -/
def p (c : Fin 256) : ℝ := if valid c then Real.exp (σ c - mu σ valid sk) else 0
def e : ℝ := Real.exp (sk - mu σ valid sk)
def den : ℝ := ∑ c, p σ valid sk c + e σ valid sk

theorem p_masked {c : Fin 256} (h : ¬ valid c) : p σ valid sk c = 0 := if_neg h

theorem den_pos : 0 < den σ valid sk :=
  add_pos_of_nonneg_of_pos (Finset.sum_nonneg fun c _ => by unfold p; split; exacts [(Real.exp_pos _).le, le_rfl]) (Real.exp_pos _)

theorem den_ne : den σ valid sk ≠ 0 := (den_pos σ valid sk).ne'

theorem exp_score (c : Fin 256) : Ideal.exp (score σ valid c - top σ valid sk) = (p σ valid sk c : EReal) := by
  rw [top_eq]; unfold score p
  split
  · rw [← EReal.coe_sub, Ideal.exp_coe]
  · rw [EReal.bot_sub, EReal.coe_zero]; rfl

theorem exp_sink : Ideal.exp ((sk : EReal) - top σ valid sk) = (e σ valid sk : EReal) := by
  rw [top_eq, ← EReal.coe_sub, Ideal.exp_coe]; rfl

/-- The weight of a key. -/
def w (c : Fin 256) : ℝ := p σ valid sk c * (den σ valid sk)⁻¹

variable (t : Fin 256 → ℝ)

/-- The gradients of the sum and of the scores, from those of the weights. -/
def dden : ℝ := -((∑ c, p σ valid sk c * t c) * (den σ valid sk * den σ valid sk)⁻¹)
def ds (c : Fin 256) : ℝ := (t c * (den σ valid sk)⁻¹ + dden σ valid sk t) * p σ valid sk c

theorem ds_congr (t' : Fin 256 → ℝ) (h : ∀ c, valid c → t c = t' c) : ds σ valid sk t = ds σ valid sk t' := by
  have hd : dden σ valid sk t = dden σ valid sk t' := by
    unfold dden
    rw [Finset.sum_congr rfl fun c _ => show p σ valid sk c * t c = p σ valid sk c * t' c from ?_]
    by_cases hc : valid c
    · rw [h c hc]
    · rw [p_masked σ valid sk hc, zero_mul, zero_mul]
  funext c
  unfold ds
  by_cases hc : valid c
  · rw [h c hc, hd]
  · rw [p_masked σ valid sk hc, mul_zero, mul_zero]

theorem dden_congr (t' : Fin 256 → ℝ) (h : ∀ c, valid c → t c = t' c) : dden σ valid sk t = dden σ valid sk t' := by
  unfold dden
  rw [Finset.sum_congr rfl fun c _ => show p σ valid sk c * t c = p σ valid sk c * t' c from ?_]
  by_cases hc : valid c
  · rw [h c hc]
  · rw [p_masked σ valid sk hc, zero_mul, zero_mul]

theorem ds_masked {c : Fin 256} (h : ¬ valid c) : ds σ valid sk t c = 0 := by unfold ds; rw [p_masked σ valid sk h, mul_zero]

/-- The greatest score's own gradient is none: what the keys' terms and the sink's give it cancels. -/
theorem dtop : -(dden σ valid sk t * e σ valid sk) + ∑ c, -ds σ valid sk t c = 0 := by
  have hD := den_ne σ valid sk
  have h1 : ∑ c, ds σ valid sk t c = (∑ c, p σ valid sk c * t c) * (den σ valid sk)⁻¹ + dden σ valid sk t * ∑ c, p σ valid sk c := by
    rw [Finset.sum_mul, Finset.mul_sum, ← Finset.sum_add_distrib]
    exact Finset.sum_congr rfl fun c _ => by unfold ds; ring
  have h2 : ∑ c, p σ valid sk c = den σ valid sk - e σ valid sk := by unfold den; ring
  rw [Finset.sum_neg_distrib, h1, h2]
  unfold dden
  field_simp
  ring

/-- The greatest of the masked scores is one of them, so their count is no zero. -/
theorem count_ne (f : Fin 256 → EReal) (ι : Fin 256 → EReal) (h1 : ∀ c, f c = Finset.univ.fold max ⊥ f → ι c = 1) (h0 : ∀ c, 0 ≤ ι c) :
    ∑ c, ι c ≠ 0 := by
  have hs : Finset.univ.fold max ⊥ f = Finset.univ.sup f := rfl
  obtain ⟨c, hc, he⟩ := Finset.exists_mem_eq_sup Finset.univ ⟨0, Finset.mem_univ _⟩ f
  have hc1 : ι c = 1 := h1 c (by rw [hs, he])
  have : ι c ≤ ∑ c, ι c := Finset.single_le_sum (fun c _ => h0 c) (Finset.mem_univ c)
  rw [hc1] at this
  exact ne_of_gt (lt_of_lt_of_le zero_lt_one this)

/-! ## One head's row: scores by products of queries and keys, weighted sums of values, and the gradient with respect to the row's query -/

section
variable (q g : Fin 64 → ℝ) (k v : Fin 64 → Fin 256 → ℝ)
def hs (c : Fin 256) : ℝ := ∑ d, q d * k d c
def ho (d : Fin 64) : ℝ := ∑ c, w (hs q k) valid sk c * v d c
def hdq (d : Fin 64) : ℝ := ∑ c, ds (hs q k) valid sk (hs g v) c * k d c

theorem score_congr (σ' : Fin 256 → ℝ) (h : ∀ c, valid c → σ c = σ' c) : score σ valid = score σ' valid := by
  funext c; unfold score
  split
  · next hc => rw [h c hc]
  · rfl

theorem p_congr (σ' : Fin 256 → ℝ) (h : ∀ c, valid c → σ c = σ' c) : p σ valid sk = p σ' valid sk := by
  funext c
  have hm : mu σ valid sk = mu σ' valid sk := by unfold mu top; rw [score_congr σ valid σ' h]
  unfold p
  split
  · next hc => rw [h c hc, hm]
  · rfl

theorem e_congr (σ' : Fin 256 → ℝ) (h : ∀ c, valid c → σ c = σ' c) : e σ valid sk = e σ' valid sk := by
  unfold e mu top; rw [score_congr σ valid σ' h]

theorem den_congr (σ' : Fin 256 → ℝ) (h : ∀ c, valid c → σ c = σ' c) : den σ valid sk = den σ' valid sk := by
  unfold den; rw [p_congr σ valid sk σ' h, e_congr σ valid sk σ' h]

theorem w_congr (σ' : Fin 256 → ℝ) (h : ∀ c, valid c → σ c = σ' c) : w σ valid sk = w σ' valid sk := by
  funext c; unfold w; rw [p_congr σ valid sk σ' h, den_congr σ valid sk σ' h]

theorem ds_congr_score (σ' : Fin 256 → ℝ) (h : ∀ c, valid c → σ c = σ' c) : ds σ valid sk t = ds σ' valid sk t := by
  funext c; unfold ds dden; rw [p_congr σ valid sk σ' h, den_congr σ valid sk σ' h]

theorem w_masked {c : Fin 256} (h : ¬ valid c) : w σ valid sk c = 0 := by unfold w; rw [p_masked σ valid sk h, zero_mul]

/-- A masked key, and its value, count nothing. -/
theorem ho_congr (k' v' : Fin 64 → Fin 256 → ℝ) (hk : ∀ d c, valid c → k d c = k' d c) (hv : ∀ d c, valid c → v d c = v' d c) (d : Fin 64) :
    ho valid sk q k v d = ho valid sk q k' v' d := by
  unfold ho
  rw [w_congr (hs q k) valid sk (hs q k') fun c hc => Finset.sum_congr rfl fun d _ => by rw [hk d c hc]]
  refine Finset.sum_congr rfl fun c _ => ?_
  by_cases hc : valid c
  · rw [hv d c hc]
  · rw [w_masked _ _ _ hc, zero_mul, zero_mul]

theorem hdq_congr (k' v' : Fin 64 → Fin 256 → ℝ) (hk : ∀ d c, valid c → k d c = k' d c) (hv : ∀ d c, valid c → v d c = v' d c) (d : Fin 64) :
    hdq valid sk q g k v d = hdq valid sk q g k' v' d := by
  unfold hdq
  rw [ds_congr_score (hs q k) valid sk (hs g v) (hs q k') fun c hc => Finset.sum_congr rfl fun d _ => by rw [hk d c hc],
    ds_congr (hs q k') valid sk (hs g v) (hs g v') fun c hc => Finset.sum_congr rfl fun d _ => by rw [hv d c hc]]
  refine Finset.sum_congr rfl fun c _ => ?_
  by_cases hc : valid c
  · rw [hk d c hc]
  · rw [ds_masked _ _ _ _ hc, zero_mul, zero_mul]
end

/-- A gate's sigmoid. -/
def sg (z : ℝ) : ℝ := (1 + Real.exp (-z))⁻¹

theorem sg_ne (z : ℝ) : 1 + Real.exp (-z) ≠ 0 := (add_pos zero_lt_one (Real.exp_pos _)).ne'

/-- Whether a row of a block sees a key of the previous block (0 … 127) or its own (128 … 255). -/
def sees (n r c : ℕ) : Prop := c ≤ r + 128 ∧ r < c ∧ (0 < n ∨ 128 ≤ c)
instance (n r c : ℕ) : Decidable (sees n r c) := inferInstanceAs (Decidable (_ ∧ _))

end Cert.Proof.Soft
end
-- ==== Proof.Ref5.lean ====
/-
  The attention's gradients as the reference computes them, row by row: the scores, their exponentials and sums, the gradients of the scores.
-/
module

public import proofs.«01_k».proof.Proof.Soft
public import proofs.«01_k».proof.Proof.Rope
public import proofs.«01_k».proof.Proof.Gen.Reference5Ideal.Run
public import Idealize.ShloMosaic.Lib.Pointwise
public import Idealize.ShloMosaic.Lib.WordCmp

@[expose] public section

set_option maxRecDepth 16384

noncomputable section
open Idealize.ShloMosaic Idealize.ShloMosaic.StableHlo
open Cert.Proof.Soft (sees)
open Cert.Reference5Ideal Cert.Reference5Ideal.Gen Cert.Reference5Ideal.Value

namespace Cert.Proof.Att5

/-- The indices that a reduction along the last of six axes gathers. -/
theorem fiber_last {K : ℕ} (w : (⟨6, ![4, 16, 2, 8, 128, K]⟩ : Shape).ReducesTo [5] S4x16x2x8x128) (b : Fin 4) (n : Fin 16) (h : Fin 2) (g : Fin 8) (r : Fin 128)
    (i : (⟨6, ![4, 16, 2, 8, 128, K]⟩ : Shape).Idx) : w.drop i = ix5 b n h g r ↔ ∃ k : Fin K, ix6 b n h g r k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem sum_last {K : ℕ} (w : (⟨6, ![4, 16, 2, 8, 128, K]⟩ : Shape).ReducesTo [5] S4x16x2x8x128) (b : Fin 4) (n : Fin 16) (h : Fin 2) (g : Fin 8) (r : Fin 128)
    (x : (⟨6, ![4, 16, 2, 8, 128, K]⟩ : Shape).Idx → EReal) :
    ∑ i ∈ Finset.univ.filter (fun i => w.drop i = ix5 b n h g r), x i = ∑ k : Fin K, x (ix6 b n h g r k) :=
  Finset.sum_filter_eq_sum_of_fiber _ (fun k : Fin K => ix6 b n h g r k) (fun _ _ e => congrFun e 5) (fiber_last w b n h g r) x

theorem max_last (w : (⟨6, ![4, 16, 2, 8, 128, 256]⟩ : Shape).ReducesTo [5] S4x16x2x8x128) (b : Fin 4) (n : Fin 16) (h : Fin 2) (g : Fin 8) (r : Fin 128)
    (x : (⟨6, ![4, 16, 2, 8, 128, 256]⟩ : Shape).Idx → EReal) :
    (Finset.univ.filter (fun i => w.drop i = ix5 b n h g r)).fold max ⊥ x = (Finset.univ : Finset (Fin 256)).fold max ⊥ fun k => x (ix6 b n h g r k) :=
  Finset.fold_filter_eq_fold_of_fiber max _ (fun k : Fin 256 => ix6 b n h g r k) (fun _ _ e => congrFun e 5) (fiber_last w b n h g r) ⊥ x

theorem bits_bot : Ideal.ofBits .f32 0xFF800000#32 = ⊥ := by simp [Ideal.ofBits, Ideal.ieee, -EReal.coe_mul]
theorem bits_eighth : Ideal.ofBits .f32 0x3E000000#32 = ((1 / 8 : ℝ) : EReal) := by
  simp [Ideal.ofBits, Ideal.ieee, -EReal.coe_mul]; norm_num

variable (V0 : Valuation τ sig (Elt Ideal))
variable {b : Fin 4} {n : Fin 16} {h : Fin 2} {g : Fin 8} {r : Fin 128}
variable {q : Fin 64 → ℝ} {k v : Fin 64 → Fin 256 → ℝ} {go : Fin 64 → ℝ} {sk : ℝ}

/-- A row's score before the mask. -/
def dot (q : Fin 64 → ℝ) (k : Fin 64 → Fin 256 → ℝ) (c : Fin 256) : ℝ := ∑ d, k d c * q d

theorem band_bit (r : Fin 128) (c : Fin 256) :
    IntOp.andi (IntOp.cmpi CmpIPredicate.sle (BitVec.ofNat 32 c.val) (IntOp.addi (BitVec.ofNat 32 r.val) 128#32))
        (IntOp.cmpi CmpIPredicate.slt (IntOp.subi (IntOp.addi (BitVec.ofNat 32 r.val) 128#32) (BitVec.ofNat 32 c.val)) 128#32)
      = if c.val ≤ r.val + 128 ∧ r.val < c.val then 1#1 else 0#1 := by
  have e : IntOp.addi (BitVec.ofNat 32 r.val) 128#32 = BitVec.ofNat 32 (r.val + 128) := (BitVec.ofNat_add _ _).symm
  rw [e, WordCmp.cmpi_sle_ofNat (by omega) (by omega)]
  by_cases hc : c.val ≤ r.val + 128
  · have e2 : IntOp.subi (BitVec.ofNat 32 (r.val + 128)) (BitVec.ofNat 32 c.val) = BitVec.ofNat 32 (r.val + 128 - c.val) := by
      apply BitVec.eq_of_toNat_eq
      simp only [IntOp.subi, BitVec.toNat_sub, BitVec.toNat_ofNat]
      omega
    rw [e2, WordCmp.cmpi_slt_ofNat (b := 128) (by omega) (by omega), decide_eq_true hc]
    by_cases h : r.val < c.val
    · rw [decide_eq_true (by omega), if_pos ⟨hc, h⟩]; rfl
    · rw [decide_eq_false (by omega), if_neg fun h' => h h'.2]; rfl
  · rw [decide_eq_false hc, if_neg fun h' => hc h'.1]
    exact BitVec.zero_and

theorem edge_bit : ∀ (n : Fin 16) (c : Fin 256),
    IntOp.ori (IntOp.cmpi CmpIPredicate.sgt (BitVec.ofNat 32 n.val) 0#32) (IntOp.cmpi CmpIPredicate.sge (BitVec.ofNat 32 c.val) 128#32)
      = if 0 < n.val ∨ 128 ≤ c.val then 1#1 else 0#1 := by decide +kernel

theorem sees_bit (n : Fin 16) (r : Fin 128) (c : Fin 256) (x y : EReal) :
    Scalar.select (IntOp.andi (if c.val ≤ r.val + 128 ∧ r.val < c.val then 1#1 else 0#1) (if 0 < n.val ∨ 128 ≤ c.val then 1#1 else 0#1)) x y
      = if sees n.val r.val c.val then x else y := by
  by_cases h1 : c.val ≤ r.val + 128 ∧ r.val < c.val <;> by_cases h2 : 0 < n.val ∨ 128 ≤ c.val
  · rw [if_pos h1, if_pos h2, if_pos ⟨h1.1, h1.2, h2⟩]; rfl
  · rw [if_pos h1, if_neg h2, if_neg fun h => h2 h.2.2]; rfl
  · rw [if_neg h1, if_pos h2, if_neg fun h => h1 ⟨h.1, h.2.1⟩]; rfl
  · rw [if_neg h1, if_neg h2, if_neg fun h => h1 ⟨h.1, h.2.1⟩]; rfl

set_option maxHeartbeats 1000000 in
theorem ref_score (hQ : ∀ d, res_main_v37 V0 (ix6 b n r h g d) = (q d : EReal)) (hK : ∀ d c, res_main_v44 V0 (ix5 b n c h d) = (k d c : EReal)) (c : Fin 256) :
    res_main_v91 V0 (ix6 b n h g r c) = Soft.score (fun c => dot q k c * (1 / 8)) (fun c => sees n.val r.val c.val) c := by
  pointwise [res_main_v91, res_main_v55, res_main_v57]
  simp only [hQ, hK]
  rw [id_eq, Soft.coe_dot, bits_eighth]
  pointwise
  rw [bits_bot, band_bit, edge_bit, sees_bit, Soft.score, ← EReal.coe_mul]
  split_ifs
  · rw [add_zero]; rfl
  · rw [EReal.add_bot]

set_option maxHeartbeats 1000000 in
theorem ref_most (hQ : ∀ d, res_main_v37 V0 (ix6 b n r h g d) = (q d : EReal)) (hK : ∀ d c, res_main_v44 V0 (ix5 b n c h d) = (k d c : EReal)) :
    res_main_v92 V0 (ix5 b n h g r) = Finset.univ.fold max ⊥ (Soft.score (fun c => dot q k c * (1 / 8)) (fun c => sees n.val r.val c.val)) := by
  pointwise [res_main_v92]
  rw [bits_bot]
  refine (max_last _ b n h g r _).trans ?_
  simp only [ref_score V0 hQ hK]

theorem sink_at (B : FVec Ideal S1x1x2x8x1 .f32) :
    broadcastInDim S4x16x2x8x128 ![0, 1, 2, 3, 4] bcast_S1x1x2x8x1_S4x16x2x8x128_0_1_2_3_4 B (ix5 b n h g r) = B (ix5 0 0 h g 0) :=
  congrArg B (funext fun a => Fin.ext (by fin_cases a <;> rfl))
theorem keys_at (B : FVec Ideal S4x16x2x8x128x1 .f32) (c : Fin 256) :
    broadcastInDim S4x16x2x8x128x256 ![0, 1, 2, 3, 4, 5] bcast_S4x16x2x8x128x1_S4x16x2x8x128x256_0_1_2_3_4_5 B (ix6 b n h g r c) = B (ix6 b n h g r 0) :=
  congrArg B (funext fun a => Fin.ext (by fin_cases a <;> rfl))
theorem one_at (B : FVec Ideal S4x16x2x8x128 .f32) :
    broadcastInDim S4x16x2x8x128x1 ![0, 1, 2, 3, 4] bcast_S4x16x2x8x128_S4x16x2x8x128x1_0_1_2_3_4 B (ix6 b n h g r 0) = B (ix5 b n h g r) :=
  congrArg B (funext fun a => Fin.ext (by fin_cases a <;> rfl))
theorem all_at (B : FVec Ideal S4x16x2x8x128 .f32) (c : Fin 256) :
    broadcastInDim S4x16x2x8x128x256 ![0, 1, 2, 3, 4] bcast_S4x16x2x8x128_S4x16x2x8x128x256_0_1_2_3_4 B (ix6 b n h g r c) = B (ix5 b n h g r) :=
  congrArg B (funext fun a => Fin.ext (by fin_cases a <;> rfl))
theorem cast_at (B : FVec Ideal S4x16x2x8x128 .f32) :
    shapeCast S4x16x2x8x128x1 B shapeCasts_S4x16x2x8x128_S4x16x2x8x128x1 (ix6 b n h g r 0) = B (ix5 b n h g r) := by
  pointwise
theorem add_keys (X : FVec Ideal S4x16x2x8x128x256 .f32) :
    Host.reduceAdd X (constant S_ .f32 0x00000000#32) reducesTo_S4x16x2x8x128x256_S4x16x2x8x128_d5 h_S_ (ix5 b n h g r) = ∑ c : Fin 256, X (ix6 b n h g r c) := by
  refine Eq.trans ?_ (sum_last reducesTo_S4x16x2x8x128x256_S4x16x2x8x128_d5 b n h g r X)
  pointwise
  exact zero_add _
theorem add_one (X : FVec Ideal S4x16x2x8x128x1 .f32) :
    Host.reduceAdd X (constant S_ .f32 0x00000000#32) reducesTo_S4x16x2x8x128x1_S4x16x2x8x128_d5 h_S_ (ix5 b n h g r) = X (ix6 b n h g r 0) := by
  refine Eq.trans ?_ ((sum_last reducesTo_S4x16x2x8x128x1_S4x16x2x8x128_d5 b n h g r X).trans (Fin.sum_univ_one _))
  pointwise
  exact zero_add _

theorem max_at {s : Shape} (A B : FVec Ideal s .f32) (i) : maximumf A B i = max (A i) (B i) := rfl
theorem exp_at {s : Shape} (A B : FVec Ideal s .f32) (i) : Host.exp (subf A B) i = Ideal.exp (A i - B i) := rfl
theorem add_at {s : Shape} (A B : FVec Ideal s .f32) (i) : addf A B i = A i + B i := rfl
theorem mul_at {s : Shape} (A B : FVec Ideal s .f32) (i) : mulf A B i = A i * B i := rfl
theorem neg_at {s : Shape} (A : FVec Ideal s .f32) (i) : Host.negf A i = -A i := rfl
theorem div_at {s : Shape} (A B : FVec Ideal s .f32) (i) : Host.divf A B i = Ideal.div (A i) (B i) := rfl

theorem ones_at (i) : broadcastInDim S4x16x2x8x128x1 ![] bcast_S_S4x16x2x8x128x1 (constant (F := Ideal) S_ .f32 0x3F800000#32) i = 1 := by
  pointwise
theorem eighths_at (i) : broadcastInDim S4x16x2x8x128x256 ![] bcast_S_S4x16x2x8x128x256 (constant (F := Ideal) S_ .f32 0x3E000000#32) i = ((1 / 8 : ℝ) : EReal) := by
  pointwise
  exact bits_eighth
theorem mark_at (A B : FVec Ideal S4x16x2x8x128x256 .f32) (i) : (uitofp .f32 (cmpf .oeq A B) : FVec Ideal S4x16x2x8x128x256 .f32) i = if A i = B i then 1 else 0 := by
  pointwise
  by_cases h : A i = B i
  · rw [if_pos h, decide_eq_true h]
    exact Nat.cast_one
  · rw [if_neg h, decide_eq_false h]
    exact Nat.cast_zero
theorem back_at (X : FVec Ideal S4x16x2x8x128x256 .f32) (c : Fin 256) :
    transpose S4x16x2x256x128x8 [0, 1, 2, 5, 4, 3] X transposes_S4x16x2x8x128x256_S4x16x2x256x128x8_0_1_2_5_4_3 (ix6 b n h c r g) = X (ix6 b n h g r c) :=
  congrArg X (funext fun a => Fin.ext (by fin_cases a <;> rfl))

theorem ref_top (hQ : ∀ d, res_main_v37 V0 (ix6 b n r h g d) = (q d : EReal)) (hK : ∀ d c, res_main_v44 V0 (ix5 b n c h d) = (k d c : EReal)) (hS : res_main_v82 V0 (ix5 0 0 h g 0) = (sk : EReal)) :
    res_main_v99 V0 (ix5 b n h g r) = Soft.top (fun c => dot q k c * (1 / 8)) (fun c => sees n.val r.val c.val) sk := by
  unfold res_main_v99
  rw [max_at, sink_at, hS, ref_most V0 hQ hK, Soft.top]

theorem ref_p (hQ : ∀ d, res_main_v37 V0 (ix6 b n r h g d) = (q d : EReal)) (hK : ∀ d c, res_main_v44 V0 (ix5 b n c h d) = (k d c : EReal)) (hS : res_main_v82 V0 (ix5 0 0 h g 0) = (sk : EReal)) (c : Fin 256) :
    res_main_v121 V0 (ix6 b n h g r c) = (Soft.p (fun c => dot q k c * (1 / 8)) (fun c => sees n.val r.val c.val) sk c : EReal) := by
  unfold res_main_v121
  rw [exp_at, keys_at, one_at, ref_score V0 hQ hK c, ref_top V0 hQ hK hS]
  exact Soft.exp_score _ _ _ c

theorem ref_e (hQ : ∀ d, res_main_v37 V0 (ix6 b n r h g d) = (q d : EReal)) (hK : ∀ d c, res_main_v44 V0 (ix5 b n c h d) = (k d c : EReal)) (hS : res_main_v82 V0 (ix5 0 0 h g 0) = (sk : EReal)) :
    res_main_v125 V0 (ix5 b n h g r) = (Soft.e (fun c => dot q k c * (1 / 8)) (fun c => sees n.val r.val c.val) sk : EReal) := by
  unfold res_main_v125
  rw [exp_at, sink_at, hS, ref_top V0 hQ hK hS]
  exact Soft.exp_sink _ _ _

theorem ref_den (hQ : ∀ d, res_main_v37 V0 (ix6 b n r h g d) = (q d : EReal)) (hK : ∀ d c, res_main_v44 V0 (ix5 b n c h d) = (k d c : EReal)) (hS : res_main_v82 V0 (ix5 0 0 h g 0) = (sk : EReal)) :
    res_main_v127 V0 (ix6 b n h g r 0) = (Soft.den (fun c => dot q k c * (1 / 8)) (fun c => sees n.val r.val c.val) sk : EReal) := by
  unfold res_main_v127
  rw [one_at, add_at, add_keys, ref_e V0 hQ hK hS]
  simp only [ref_p V0 hQ hK hS, Soft.coe_sum]
  exact (EReal.coe_add _ _).symm

theorem ref_w (hQ : ∀ d, res_main_v37 V0 (ix6 b n r h g d) = (q d : EReal)) (hK : ∀ d c, res_main_v44 V0 (ix5 b n c h d) = (k d c : EReal)) (hS : res_main_v82 V0 (ix5 0 0 h g 0) = (sk : EReal)) (c : Fin 256) :
    res_main_v129 V0 (ix6 b n h g r c) = (Soft.w (fun c => dot q k c * (1 / 8)) (fun c => sees n.val r.val c.val) sk c : EReal) := by
  unfold res_main_v129
  rw [div_at, keys_at, ref_p V0 hQ hK hS c, ref_den V0 hQ hK hS, Ideal.div_coe (Soft.den_ne _ _ _), one_div (Soft.den _ _ _), ← EReal.coe_mul, Soft.w]

theorem ref_t (hV : ∀ d c, res_main_v51 V0 (ix5 b n c h d) = (v d c : EReal)) (hG : ∀ d, res_main_v145 V0 (ix6 b n h d g r) = (go d : EReal)) (c : Fin 256) :
    res_main_v146 V0 (ix6 b n h g r c) = ((∑ d, go d * v d c : ℝ) : EReal) := by
  pointwise [res_main_v146]
  simp only [hG, hV]
  exact Soft.coe_dot _ _ _

theorem ref_dden (hQ : ∀ d, res_main_v37 V0 (ix6 b n r h g d) = (q d : EReal)) (hK : ∀ d c, res_main_v44 V0 (ix5 b n c h d) = (k d c : EReal)) (hS : res_main_v82 V0 (ix5 0 0 h g 0) = (sk : EReal)) (hV : ∀ d c, res_main_v51 V0 (ix5 b n c h d) = (v d c : EReal)) (hG : ∀ d, res_main_v145 V0 (ix6 b n h d g r) = (go d : EReal)) :
    res_main_v157 V0 (ix5 b n h g r) = (Soft.dden (fun c => dot q k c * (1 / 8)) (fun c => sees n.val r.val c.val) sk (fun c => ∑ d, go d * v d c) : EReal) := by
  unfold res_main_v157
  rw [add_one, neg_at, cast_at, add_keys]
  refine (congrArg (fun x : EReal => -x) (Finset.sum_congr (g := fun c => (((∑ d, go d * v d c) * (Soft.den (fun c => dot q k c * (1 / 8)) (fun c => sees n.val r.val c.val) sk * Soft.den (fun c => dot q k c * (1 / 8)) (fun c => sees n.val r.val c.val) sk)⁻¹ * Soft.p (fun c => dot q k c * (1 / 8)) (fun c => sees n.val r.val c.val) sk c : ℝ) : EReal)) rfl fun c _ => ?_)).trans ?_
  · rw [mul_at, mul_at, keys_at, div_at, ones_at, mul_at, ref_p V0 hQ hK hS, ref_den V0 hQ hK hS, ref_t V0 hV hG, ← EReal.coe_mul, Ideal.div_coe (mul_ne_zero (Soft.den_ne _ _ _) (Soft.den_ne _ _ _)),
      one_mul, one_div (_ * _), ← EReal.coe_mul, ← EReal.coe_mul]
  simp only [Soft.coe_sum, ← EReal.coe_neg]
  rw [Soft.dden, Finset.sum_mul]
  exact congrArg _ (congrArg _ (Finset.sum_congr rfl fun c _ => by ring))

theorem ref_ds (hQ : ∀ d, res_main_v37 V0 (ix6 b n r h g d) = (q d : EReal)) (hK : ∀ d c, res_main_v44 V0 (ix5 b n c h d) = (k d c : EReal)) (hS : res_main_v82 V0 (ix5 0 0 h g 0) = (sk : EReal)) (hV : ∀ d c, res_main_v51 V0 (ix5 b n c h d) = (v d c : EReal)) (hG : ∀ d, res_main_v145 V0 (ix6 b n h d g r) = (go d : EReal)) (c : Fin 256) :
    res_main_v164 V0 (ix6 b n h g r c) = (Soft.ds (fun c => dot q k c * (1 / 8)) (fun c => sees n.val r.val c.val) sk (fun c => ∑ d, go d * v d c) c : EReal) := by
  unfold res_main_v164
  rw [mul_at, add_at, div_at, keys_at, all_at, ref_p V0 hQ hK hS, ref_den V0 hQ hK hS, ref_t V0 hV hG, ref_dden V0 hQ hK hS hV hG, Ideal.div_coe (Soft.den_ne _ _ _),
    one_div (Soft.den _ _ _), ← EReal.coe_mul, ← EReal.coe_add, ← EReal.coe_mul, Soft.ds]

theorem ref_dtop (hQ : ∀ d, res_main_v37 V0 (ix6 b n r h g d) = (q d : EReal)) (hK : ∀ d c, res_main_v44 V0 (ix5 b n c h d) = (k d c : EReal)) (hS : res_main_v82 V0 (ix5 0 0 h g 0) = (sk : EReal)) (hV : ∀ d c, res_main_v51 V0 (ix5 b n c h d) = (v d c : EReal)) (hG : ∀ d, res_main_v145 V0 (ix6 b n h d g r) = (go d : EReal)) :
    res_main_v169 V0 (ix5 b n h g r) = (0 : EReal) := by
  unfold res_main_v169 res_main_v158
  rw [add_at, neg_at, mul_at, add_one, cast_at, add_keys]
  simp only [neg_at, ref_ds V0 hQ hK hS hV hG, ref_dden V0 hQ hK hS hV hG, ref_e V0 hQ hK hS]
  simp only [← EReal.coe_mul, ← EReal.coe_neg, Soft.coe_sum, ← EReal.coe_add, Soft.dtop, EReal.coe_zero]

theorem ref_count (hQ : ∀ d, res_main_v37 V0 (ix6 b n r h g d) = (q d : EReal)) (hK : ∀ d c, res_main_v44 V0 (ix5 b n c h d) = (k d c : EReal)) : @Finset.sum (Fin 256) EReal _ Finset.univ (fun c => res_main_v96 V0 (ix6 b n h g r c)) ≠ 0 := by
  refine Soft.count_ne (Soft.score (fun c => dot q k c * (1 / 8)) (fun c => sees n.val r.val c.val)) _ (fun c hc => ?_) (fun c => ?_)
  · unfold res_main_v96
    rw [mark_at, keys_at, cast_at, ref_score V0 hQ hK, ref_most V0 hQ hK, if_pos hc]
  · unfold res_main_v96
    rw [mark_at]
    split
    · exact zero_le_one
    · exact le_rfl

/-- The score's gradient: the share of the greatest score's is none. -/
theorem ref_dscore (hQ : ∀ d, res_main_v37 V0 (ix6 b n r h g d) = (q d : EReal)) (hK : ∀ d c, res_main_v44 V0 (ix5 b n c h d) = (k d c : EReal)) (hS : res_main_v82 V0 (ix5 0 0 h g 0) = (sk : EReal)) (hV : ∀ d c, res_main_v51 V0 (ix5 b n c h d) = (v d c : EReal)) (hG : ∀ d, res_main_v145 V0 (ix6 b n h d g r) = (go d : EReal)) (c : Fin 256) :
    res_main_v181 V0 (ix6 b n h c r g) = ((Soft.ds (fun c => dot q k c * (1 / 8)) (fun c => sees n.val r.val c.val) sk (fun c => ∑ d, go d * v d c) c * (1 / 8) : ℝ) : EReal) := by
  unfold res_main_v181
  rw [back_at, mul_at, add_at, mul_at, all_at, div_at, mul_at, ref_dtop V0 hQ hK hS hV hG, zero_mul, add_keys, Ideal.zero_div (ref_count V0 hQ hK), zero_mul, add_zero,
    ref_ds V0 hQ hK hS hV hG, eighths_at, ← EReal.coe_mul]

end Cert.Proof.Att5
end
-- ==== Proof.Turn.lean ====
/- The rotary embedding of a head's row, and its values in real numbers. -/
module

public import proofs.«01_k».proof.Proof.Rope

@[expose] public section

noncomputable section
open Idealize.ShloMosaic Idealize.SL.Sem

namespace Cert.Proof.Rope

/-- Lanes `0 … 7` and `8 … 15` of a head turn by the angles whose cosines and sines are `p`'s first and second eight, and the others stay. -/
def forth (x : Fin 64 → EReal) (p : Fin 48 → EReal) (d : Fin 64) : EReal :=
  if h : d.val < 8 then x d * p ⟨d.val, by omega⟩ - x ⟨d.val + 8, by omega⟩ * p ⟨8 + d.val, by omega⟩
  else if h' : d.val < 16 then x d * p ⟨d.val - 8, by omega⟩ + x ⟨d.val - 8, by omega⟩ * p ⟨d.val, by omega⟩
  else x d

def forthR (x : Fin 64 → ℝ) (p : Fin 48 → ℝ) (d : Fin 64) : ℝ :=
  if h : d.val < 8 then x d * p ⟨d.val, by omega⟩ - x ⟨d.val + 8, by omega⟩ * p ⟨8 + d.val, by omega⟩
  else if h' : d.val < 16 then x d * p ⟨d.val - 8, by omega⟩ + x ⟨d.val - 8, by omega⟩ * p ⟨d.val, by omega⟩
  else x d

theorem forthR_scale (x : Fin 64 → ℝ) (p : Fin 48 → ℝ) (a : ℝ) (d : Fin 64) : forthR (fun d => x d * a) p d = forthR x p d * a := by
  unfold forthR
  split_ifs <;> ring

/-- The pieces as real numbers. -/
def piecesR (p : BitVec 32) (k : Fin 48) : ℝ := (pieces p k).toReal

theorem pieces_real (p : BitVec 32) (k : Fin 48) : pieces p k = (piecesR p k : EReal) := by
  obtain ⟨x, hx⟩ : ∃ x : ℝ, pieces p k = x := by
    unfold pieces
    split_ifs with h h'
    · obtain ⟨y, hy⟩ := turn_real p ⟨k.val, h⟩
      exact ⟨_, by rw [hy]; rfl⟩
    · obtain ⟨y, hy⟩ := turn_real p ⟨k.val - 8, by omega⟩
      exact ⟨_, by rw [hy]; rfl⟩
    · exact ⟨0, rfl⟩
  rw [piecesR, hx, EReal.toReal_coe]

theorem forth_real {X : Fin 64 → EReal} {x : Fin 64 → ℝ} (hX : ∀ d, X d = (x d : EReal)) (p : BitVec 32) (d : Fin 64) :
    forth X (pieces p) d = (forthR x (piecesR p) d : EReal) := by
  unfold forth forthR
  simp only [hX, pieces_real]
  split_ifs
  · rw [← EReal.coe_mul, ← EReal.coe_mul, ← EReal.coe_sub]
  · rw [← EReal.coe_mul, ← EReal.coe_mul, ← EReal.coe_add]
  · rfl

end Cert.Proof.Rope
end
-- ==== Proof.Tok5.lean ====
/-
  The attention's gradients as the reference computes them, by row of the batch, head and lane.
-/
module

public import proofs.«01_k».proof.Proof.Ref5
public import proofs.«01_k».proof.Proof.Turn

@[expose] public section

set_option maxRecDepth 16384

noncomputable section
open Idealize.ShloMosaic Idealize.ShloMosaic.StableHlo
open Cert.Proof.Soft (sees)
open Cert.Reference5Ideal Cert.Reference5Ideal.Gen Cert.Reference5Ideal.Value

namespace Cert.Proof.Att5

variable (V0 : Valuation τ sig (Elt Ideal))

def rQ : FVec Ideal S8192x1024 .f32 := V0 (Proc.devRef .tc main_arg0)
def rK : FVec Ideal S8192x128 .bf16 := V0 (Proc.devRef .tc main_arg1)
def rV : FVec Ideal S8192x128 .bf16 := V0 (Proc.devRef .tc main_arg2)
def rZ : FVec Ideal S8192x1024 .f32 := V0 (Proc.devRef .tc main_arg3)
def rS : FVec Ideal S1x16 .f32 := V0 (Proc.devRef .tc main_arg4)
def rG : FVec Ideal S8192x1024 .bf16 := V0 (Proc.devRef .tc main_arg5)
def rPos : IVec S4x2048 32 := V0 (Proc.devRef .tc main_arg6)

/-! ## Queries -/

theorem v2_apply (b : Fin 4) (s : Fin 2048) (H : Fin 16) (d : Fin 64) :
    res_main_v2 V0 (ix4 b s H d) = rQ V0 (ix2 ⟨b.val * 2048 + s.val, by omega⟩ ⟨H.val * 64 + d.val, by omega⟩) := by
  unfold res_main_v2
  rw [show V0 (Proc.devRef .tc main_arg0) = rQ V0 from rfl]
  pointwise

theorem v16_apply (b : Fin 4) (s : Fin 2048) (a : Fin 8) : res_main_v16 V0 (ix3 b s a) = Rope.turn (rPos V0 (ix2 b s)) a := by
  unfold res_main_v16
  rw [show V0 (Proc.devRef .tc main_arg6) = rPos V0 from rfl]
  pointwise [Rope.turn]

theorem v18_apply (b : Fin 4) (s : Fin 2048) (a : Fin 8) : res_main_v18 V0 (ix4 b s 0 a) = Ideal.cos (Rope.turn (rPos V0 (ix2 b s)) a) := by
  pointwise [res_main_v18, v16_apply]
theorem v20_apply (b : Fin 4) (s : Fin 2048) (a : Fin 8) : res_main_v20 V0 (ix4 b s 0 a) = Ideal.sin (Rope.turn (rPos V0 (ix2 b s)) a) := by
  pointwise [res_main_v20, v16_apply]

theorem forth_parts (x : Fin 64 → EReal) (p : BitVec 32) (d : Fin 64) :
    (if h8 : d.val < 8 then x d * Ideal.cos (Rope.turn p ⟨d.val, h8⟩) - x ⟨8 + d.val, by omega⟩ * Ideal.sin (Rope.turn p ⟨d.val, h8⟩)
      else if h16 : d.val - 8 < 8 then x ⟨8 + (d.val - 8), by omega⟩ * Ideal.cos (Rope.turn p ⟨d.val - 8, h16⟩) + x ⟨d.val - 8, by omega⟩ * Ideal.sin (Rope.turn p ⟨d.val - 8, h16⟩)
      else x ⟨16 + (d.val - 8 - 8), by omega⟩) = Rope.forth x (Rope.pieces p) d := by
  have hd := d.isLt
  have e (k k' : Fin 64) (hk : k.val = k'.val) : x k = x k' := by rw [Fin.ext hk]
  have f (a a' : Fin 8) (ha : a.val = a'.val) : Rope.turn p a = Rope.turn p a' := by rw [Fin.ext ha]
  have s8 : ¬ 8 + d.val < 8 := by omega
  unfold Rope.forth Rope.pieces
  dsimp only
  by_cases h8 : d.val < 8
  · have s16 : 8 + d.val < 16 := by omega
    rw [dif_pos h8, dif_pos h8, dif_pos h8, dif_neg s8, dif_pos s16]
    exact congrArg₂ (fun a b : EReal => a - b) rfl (Ideal.mul_congr (e _ _ (by dsimp only; omega)) (congrArg _ (f _ _ (by dsimp only; omega))))
  · by_cases h16 : d.val < 16
    · have g1 : d.val - 8 < 8 := by omega
      rw [dif_neg h8, dif_neg h8, dif_pos h16, dif_pos g1, dif_pos g1, dif_neg h8, dif_pos h16]
      exact Ideal.add_congr (Ideal.mul_congr (e _ _ (by dsimp only; omega)) rfl) rfl
    · have g1 : ¬ d.val - 8 < 8 := by omega
      rw [dif_neg h8, dif_neg h8, dif_neg h16, dif_neg g1]
      exact e _ _ (by dsimp only; omega)

theorem v37_apply (b : Fin 4) (n : Fin 16) (r : Fin 128) (h : Fin 2) (g : Fin 8) (d : Fin 64) : res_main_v37 V0 (ix6 b n r h g d)
    = Rope.forth (fun d => res_main_v2 V0 (ix4 b ⟨n.val * 128 + r.val, by omega⟩ ⟨h.val * 8 + g.val, by omega⟩ d)) (Rope.pieces (rPos V0 (ix2 b ⟨n.val * 128 + r.val, by omega⟩))) d := by
  refine Eq.trans ?_ (forth_parts (fun d => res_main_v2 V0 (ix4 b ⟨n.val * 128 + r.val, by omega⟩ ⟨h.val * 8 + g.val, by omega⟩ d)) (rPos V0 (ix2 b ⟨n.val * 128 + r.val, by omega⟩)) d)
  pointwise [res_main_v37, res_main_v21, res_main_v22, v18_apply, v20_apply]

/-! ## Keys and values -/

theorem v38_apply (b : Fin 4) (n : Fin 16) (r : Fin 128) (h : Fin 2) (d : Fin 64) :
    res_main_v38 V0 (ix5 b n r h d) = rK V0 (ix2 ⟨b.val * 2048 + n.val * 128 + r.val, by omega⟩ ⟨h.val * 64 + d.val, by omega⟩) := by
  unfold res_main_v38
  rw [show V0 (Proc.devRef .tc main_arg1) = rK V0 from rfl]
  pointwise

theorem v45_apply (b : Fin 4) (n : Fin 16) (r : Fin 128) (h : Fin 2) (d : Fin 64) :
    res_main_v45 V0 (ix5 b n r h d) = rV V0 (ix2 ⟨b.val * 2048 + n.val * 128 + r.val, by omega⟩ ⟨h.val * 64 + d.val, by omega⟩) := by
  unfold res_main_v45
  rw [show V0 (Proc.devRef .tc main_arg2) = rV V0 from rfl]
  pointwise

theorem span_apply (X : FVec Ideal S4x16x128x2x64 .f32) (b : Fin 4) (n : Fin 16) (c : Fin 256) (h : Fin 2) (d : Fin 64) :
    concatenate S4x16x256x2x64 2 [⟨S4x16x128x2x64, (concatenate S4x16x128x2x64 1 [⟨S4x1x128x2x64, (broadcastInDim S4x1x128x2x64 ![] bcast_S_S4x1x128x2x64 (constant (F := Ideal) S_ .f32 0x00000000#32))⟩, ⟨S4x15x128x2x64, (extractStridedSlice S4x15x128x2x64 ![0, 0, 0, 0, 0] X slices_S4x16x128x2x64_S4x15x128x2x64_0_0_0_0_0)⟩] concatenates_S4x1x128x2x64_S4x15x128x2x64_S4x16x128x2x64_d1)⟩, ⟨S4x16x128x2x64, X⟩] concatenates_S4x16x128x2x64_S4x16x128x2x64_S4x16x256x2x64_d2 (ix5 b n c h d)
      = if hc : c.val < 128 then (if n.val = 0 then (0 : EReal) else X (ix5 b ⟨n.val - 1, by omega⟩ ⟨c.val, hc⟩ h d)) else X (ix5 b n ⟨c.val - 128, by omega⟩ h d) := by
  pointwise
  simp only [Nat.lt_one_iff, dite_eq_ite]
  split_ifs <;> rfl

/-! ## Sinks and gates -/

theorem v82_apply (h : Fin 2) (g : Fin 8) : res_main_v82 V0 (ix5 0 0 h g 0) = rS V0 (ix2 0 ⟨h.val * 8 + g.val, by omega⟩) := by
  unfold res_main_v82
  refine (congrArg (shapeCast S2x8 (rS V0) shapeCasts_S1x16_S2x8) (?_ : _ = ix2 h g)).trans ?_
  · exact funext fun a => Fin.ext (by fin_cases a <;> rfl)
  · pointwise

theorem v137_2_apply (T : Fin 8192) (j : Fin 1024) {z : ℝ} (hz : rZ V0 (ix2 T j) = (z : EReal)) : res_main_v137_2 V0 (ix2 T j) = (Soft.sg z : EReal) := by
  unfold res_main_v137_2
  rw [show V0 (Proc.devRef .tc main_arg3) = rZ V0 from rfl]
  pointwise
  rw [hz, ← EReal.coe_neg, Ideal.exp_coe, ← EReal.coe_one, ← EReal.coe_add, Ideal.div_coe (Soft.sg_ne _), ← EReal.coe_mul, Soft.sg, one_mul, one_div]

theorem v145_apply (b : Fin 4) (n : Fin 16) (r : Fin 128) (h : Fin 2) (g : Fin 8) (d : Fin 64) : res_main_v145 V0 (ix6 b n h d g r)
    = @HMul.hMul EReal EReal EReal _ (rG V0 (ix2 ⟨b.val * 2048 + n.val * 128 + r.val, by omega⟩ ⟨(h.val * 8 + g.val) * 64 + d.val, by omega⟩))
      (res_main_v137_0 V0 (ix2 ⟨b.val * 2048 + n.val * 128 + r.val, by omega⟩ ⟨(h.val * 8 + g.val) * 64 + d.val, by omega⟩)) := by
  unfold res_main_v145 res_main_v139
  rw [show V0 (Proc.devRef .tc main_arg5) = rG V0 from rfl]
  pointwise
  have e : (⟨h.val * 512 + g.val * 64 + d.val, by omega⟩ : Fin 1024) = ⟨(h.val * 8 + g.val) * 64 + d.val, by omega⟩ := Fin.ext (by dsimp only; omega)
  exact congrArg (fun j => @HMul.hMul EReal EReal EReal _ (rG V0 (ix2 ⟨b.val * 2048 + n.val * 128 + r.val, by omega⟩ j)) (res_main_v137_0 V0 (ix2 ⟨b.val * 2048 + n.val * 128 + r.val, by omega⟩ j))) e

/-! ## Outputs -/

theorem v136_apply (b : Fin 4) (n : Fin 16) (r : Fin 128) (h : Fin 2) (g : Fin 8) (d : Fin 64) :
    res_main_v136 V0 (ix2 ⟨b.val * 2048 + n.val * 128 + r.val, by omega⟩ ⟨(h.val * 8 + g.val) * 64 + d.val, by omega⟩)
      = @Finset.sum (Fin 256) EReal _ Finset.univ (fun c => @HMul.hMul EReal EReal EReal _ (res_main_v51 V0 (ix5 b n c h d)) (res_main_v129 V0 (ix6 b n h g r c))) := by
  pointwise [res_main_v136]

theorem v202_apply (b : Fin 4) (n : Fin 16) (r : Fin 128) (h : Fin 2) (g : Fin 8) (d : Fin 64) :
    res_main_v202 V0 (ix4 b ⟨n.val * 128 + r.val, by omega⟩ ⟨h.val * 8 + g.val, by omega⟩ d)
      = @Finset.sum (Fin 256) EReal _ Finset.univ (fun c => @HMul.hMul EReal EReal EReal _ (res_main_v181 V0 (ix6 b n h c r g)) (res_main_v44 V0 (ix5 b n c h d))) := by
  pointwise [res_main_v202]

/-! ## Over the reals -/

section
variable (q z g : Fin 8192 → Fin 1024 → ℝ) (x : Fin 8192 → Fin 128 → ℝ) (pos : IVec S4x2048 32)

/-- The row that row `r` of block `n` of sequence `b` is. -/
def row (b : Fin 4) (n : Fin 16) (r : Fin 128) : Fin 8192 := ⟨b.val * 2048 + n.val * 128 + r.val, by omega⟩
def lane (h : Fin 2) (γ : Fin 8) (d : Fin 64) : Fin 1024 := ⟨(h.val * 8 + γ.val) * 64 + d.val, by omega⟩

/-- A head's turned and scaled query, its gated gradient, and the keys of its row's block and of the one before, of which the first block has none. -/
def headQ (b : Fin 4) (n : Fin 16) (r : Fin 128) (h : Fin 2) (γ : Fin 8) (d : Fin 64) : ℝ :=
  Rope.forthR (fun d => q (row b n r) (lane h γ d)) (Rope.piecesR (pos (ix2 b ⟨n.val * 128 + r.val, by omega⟩))) d
def headG (b : Fin 4) (n : Fin 16) (r : Fin 128) (h : Fin 2) (γ : Fin 8) (d : Fin 64) : ℝ :=
  g (row b n r) (lane h γ d) * (z (row b n r) (lane h γ d) * Soft.sg (z (row b n r) (lane h γ d)))
def span (b : Fin 4) (n : Fin 16) (h : Fin 2) (d : Fin 64) (c : Fin 256) : ℝ :=
  if c.val < 128 ∧ n.val = 0 then 0 else x ⟨b.val * 2048 + (n.val * 128 + c.val - 128), by omega⟩ ⟨h.val * 64 + d.val, by omega⟩
end

variable {q z g : Fin 8192 → Fin 1024 → ℝ} {k v : Fin 8192 → Fin 128 → ℝ} {sk : Fin 16 → ℝ}

theorem span_real {x : Fin 8192 → Fin 128 → ℝ} (X : FVec Ideal S4x16x128x2x64 .f32)
    (hX : ∀ (b : Fin 4) (n : Fin 16) (r : Fin 128) (h : Fin 2) (d : Fin 64), X (ix5 b n r h d) = (x (row b n r) ⟨h.val * 64 + d.val, by omega⟩ : EReal)) (b : Fin 4) (n : Fin 16) (c : Fin 256) (h : Fin 2) (d : Fin 64) :
    (if hc : c.val < 128 then (if n.val = 0 then (0 : EReal) else X (ix5 b ⟨n.val - 1, by omega⟩ ⟨c.val, hc⟩ h d)) else X (ix5 b n ⟨c.val - 128, by omega⟩ h d))
      = (span x b n h d c : EReal) := by
  unfold span
  simp only [hX]
  by_cases hc : c.val < 128
  · by_cases hn : n.val = 0
    · rw [dif_pos hc, if_pos hn, if_pos ⟨hc, hn⟩, EReal.coe_zero]
    · rw [dif_pos hc, if_neg hn, if_neg fun h' => hn h'.2]
      exact congrArg (fun T => (x T _ : EReal)) (Fin.ext (by unfold row; dsimp only; omega))
  · rw [dif_neg hc, if_neg fun h' => hc h'.1]
    exact congrArg (fun T => (x T _ : EReal)) (Fin.ext (by unfold row; dsimp only; omega))

variable (hq : ∀ T j, rQ V0 (ix2 T j) = (q T j : EReal)) (hk : ∀ T j, rK V0 (ix2 T j) = (k T j : EReal)) (hv : ∀ T j, rV V0 (ix2 T j) = (v T j : EReal))
  (hz : ∀ T j, rZ V0 (ix2 T j) = (z T j : EReal)) (hs : ∀ j, rS V0 (ix2 0 j) = (sk j : EReal)) (hg : ∀ T j, rG V0 (ix2 T j) = (g T j : EReal))
  (b : Fin 4) (n : Fin 16) (r : Fin 128) (h : Fin 2) (γ : Fin 8)

include hq in
theorem at_q (d : Fin 64) : res_main_v37 V0 (ix6 b n r h γ d) = (headQ q (rPos V0) b n r h γ d : EReal) := by
  rw [v37_apply]
  refine Rope.forth_real (fun d => ?_) _ d
  rw [v2_apply]
  refine Eq.trans ?_ (hq _ _)
  exact congrArg (rQ V0) (congrArg₂ ix2 (Fin.ext (by unfold row; dsimp only; omega)) (Fin.ext (by unfold lane; dsimp only)))

include hk in
theorem at_k (d : Fin 64) (c : Fin 256) : res_main_v44 V0 (ix5 b n c h d) = (span k b n h d c : EReal) :=
  (span_apply (res_main_v38 V0) b n c h d).trans (span_real (res_main_v38 V0) (fun b n r h d => (v38_apply V0 b n r h d).trans (hk _ _)) b n c h d)

include hv in
theorem at_v (d : Fin 64) (c : Fin 256) : res_main_v51 V0 (ix5 b n c h d) = (span v b n h d c : EReal) :=
  (span_apply (res_main_v45 V0) b n c h d).trans (span_real (res_main_v45 V0) (fun b n r h d => (v45_apply V0 b n r h d).trans (hv _ _)) b n c h d)

include hz in
theorem at_gate (T : Fin 8192) (j : Fin 1024) : res_main_v137_0 V0 (ix2 T j) = ((z T j * Soft.sg (z T j) : ℝ) : EReal) := by
  unfold res_main_v137_0
  rw [mul_at, v137_2_apply V0 T j (hz T j), EReal.coe_mul]
  exact congrArg (fun a => @HMul.hMul EReal EReal EReal _ a _) (hz T j)

include hz hg in
theorem at_g (d : Fin 64) : res_main_v145 V0 (ix6 b n h d γ r) = (headG z g b n r h γ d : EReal) := by
  rw [v145_apply, at_gate V0 hz, hg, ← EReal.coe_mul]
  rfl

include hs in
theorem at_s : res_main_v82 V0 (ix5 0 0 h γ 0) = (sk ⟨h.val * 8 + γ.val, by omega⟩ : EReal) := (v82_apply V0 h γ).trans (hs _)

theorem dot_hs (q : Fin 64 → ℝ) (k : Fin 64 → Fin 256 → ℝ) : (fun c => dot q k c * (1 / 8)) = Soft.hs (fun d => q d * (1 / 8)) k := by
  funext c
  rw [dot, Soft.hs, Finset.sum_mul]
  exact Finset.sum_congr rfl fun d _ => by ring

include hq hk hv hs in
theorem at_o (d : Fin 64) : res_main_v136 V0 (ix2 (row b n r) (lane h γ d))
    = (Soft.ho (fun c => sees n.val r.val c.val) (sk ⟨h.val * 8 + γ.val, by omega⟩) (fun d => headQ q (rPos V0) b n r h γ d * (1 / 8)) (span k b n h) (span v b n h) d : EReal) := by
  refine (v136_apply V0 b n r h γ d).trans ?_
  simp only [ref_w V0 (at_q V0 hq b n r h γ) (at_k V0 hk b n h) (at_s V0 hs h γ), at_v V0 hv b n h]
  refine (Soft.coe_dot _ _ _).trans (congrArg Real.toEReal ?_)
  rw [dot_hs, Soft.ho]
  exact Finset.sum_congr rfl fun c _ => mul_comm _ _

include hq hk hv hz hs hg in
theorem at_dq (d : Fin 64) : res_main_v202 V0 (ix4 b ⟨n.val * 128 + r.val, by omega⟩ ⟨h.val * 8 + γ.val, by omega⟩ d)
    = (Soft.hdq (fun c => sees n.val r.val c.val) (sk ⟨h.val * 8 + γ.val, by omega⟩) (fun d => headQ q (rPos V0) b n r h γ d * (1 / 8)) (headG z g b n r h γ) (span k b n h) (span v b n h) d * (1 / 8) : EReal) := by
  refine (v202_apply V0 b n r h γ d).trans ?_
  simp only [ref_dscore V0 (at_q V0 hq b n r h γ) (at_k V0 hk b n h) (at_s V0 hs h γ) (at_v V0 hv b n h) (at_g V0 hz hg b n r h γ), at_k V0 hk b n h]
  refine (Soft.coe_dot _ _ _).trans (Eq.trans (congrArg Real.toEReal ?_) (EReal.coe_mul _ _))
  rw [dot_hs, Soft.hdq, Finset.sum_mul]
  exact Finset.sum_congr rfl fun c _ => mul_right_comm _ _ _

end Cert.Proof.Att5
end
-- ==== Proof.Half5.lean ====
/-
  One row of the attention backward's body over one head of keys: what its products, its exponentials and its sums hold, as the real numbers of `Soft`.
-/
module

public import proofs.«01_k».proof.Proof.Gen.Kernel5Ideal.Skeleton
public import proofs.«01_k».proof.Proof.Soft

@[expose] public section

noncomputable section
open Idealize.ShloMosaic Idealize.ShloMosaic.TcCoe

namespace Cert.Proof.Out5
open Cert.Kernel5Ideal Cert.Kernel5Ideal.Gen

theorem bits_bot : Ideal.ofBits .f32 0xFF800000#32 = ⊥ := by simp [Ideal.ofBits, Ideal.ieee]
theorem bits_lane : Ideal.ofBits .f32 0x3C000000#32 = ((1 / 128 : ℝ) : EReal) := by
  simp [Ideal.ofBits, Ideal.ieee, -EReal.coe_mul]; norm_num

theorem fold_const (n : ℕ) (x : EReal) : (Finset.univ : Finset (Fin (n + 1))).fold max ⊥ (fun _ => x) = x := by
  show (Finset.univ : Finset (Fin (n + 1))).sup (fun _ => x) = x
  exact Finset.sup_const ⟨0, Finset.mem_univ _⟩ x

section
variable {B : FVec Ideal S512x256 .f32} {K V : FVec Ideal S128x256 .f32} {Q : FVec Ideal S512x128 .f32} {X : Vec Ideal S1x1x512x128 .f32}
  {G U : FVec Ideal S512x128 .f32} {ρ : Fin 512} {q g : Fin 128 → ℝ} {k v : Fin 128 → Fin 256 → ℝ} {valid : Fin 256 → Prop} [DecidablePred valid] {sk : ℝ}

/-- The scores of a row. -/
abbrev dotOf (q : Fin 128 → ℝ) (k : Fin 128 → Fin 256 → ℝ) (c : Fin 256) : ℝ := ∑ l, q l * k l c

theorem half_s (hQ : ∀ l, Q (ix2 ρ l) = (q l : EReal)) (hK : ∀ l c, K (ix2 l c) = (k l c : EReal)) (hB : ∀ c, B (ix2 ρ c) = if valid c then 0 else ⊥) (c : Fin 256) :
    k0_pay40 (F := Ideal) B K Q (ix2 ρ c) = Soft.score (dotOf q k) valid c := by
  pointwise [k0_pay40]
  simp only [hQ, hK, hB]
  rw [Soft.coe_dot, Soft.score]
  split_ifs
  · simp
  · simp

theorem half_m (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) :
    k0_pay41 (F := Ideal) B K Q X (ix2 ρ 0) = Soft.top (dotOf q k) valid sk := by
  pointwise [k0_pay41, k0_pay38]
  simp only [half_s hQ hK hB, hX, bits_bot, fold_const]
  rfl

theorem half_p (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) (c : Fin 256) :
    k0_pay42 (F := Ideal) B K Q X (ix2 ρ c) = (Soft.p (dotOf q k) valid sk c : EReal) := by
  pointwise [k0_pay42]
  rw [half_m hQ hK hB hX, half_s hQ hK hB, Soft.exp_score]

theorem half_e (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) (l : Fin 128) :
    k0_pay43 (F := Ideal) B K Q X (ix2 ρ l) = (Soft.e (dotOf q k) valid sk : EReal) := by
  pointwise [k0_pay43, k0_pay38]
  rw [half_m hQ hK hB hX, hX, Soft.exp_sink]

theorem half_den (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) :
    k0_pay44 (F := Ideal) B K Q X (ix2 ρ 0) = (Soft.den (dotOf q k) valid sk : EReal) := by
  pointwise [k0_pay44]
  simp only [half_e hQ hK hB hX, half_p hQ hK hB hX, bits_lane, Soft.coe_sum]
  rw [← EReal.coe_mul, ← EReal.coe_add, Soft.den]
  congr 2
  simp
  ring

theorem half_inv (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) :
    k0_pay45 (F := Ideal) B K Q X (ix2 ρ 0) = ((Soft.den (dotOf q k) valid sk)⁻¹ : ℝ) := by
  pointwise [k0_pay45]
  rw [half_den hQ hK hB hX, Ideal.div_coe (Soft.den_ne _ _ _), one_mul, one_div]

theorem half_inv2 (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) :
    k0_pay46 (F := Ideal) B K Q X (ix2 ρ 0) = ((Soft.den (dotOf q k) valid sk * Soft.den (dotOf q k) valid sk)⁻¹ : ℝ) := by
  pointwise [k0_pay46]
  rw [half_den hQ hK hB hX, ← EReal.coe_mul, Ideal.div_coe (mul_ne_zero (Soft.den_ne _ _ _) (Soft.den_ne _ _ _)), one_mul, one_div]

theorem half_w (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) (c : Fin 256) :
    k0_pay47 (F := Ideal) B K Q X (ix2 ρ c) = (Soft.w (dotOf q k) valid sk c : EReal) := by
  pointwise [k0_pay47]
  rw [half_inv hQ hK hB hX, half_p hQ hK hB hX, ← EReal.coe_mul]
  rfl

theorem half_o (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) (hV : ∀ l c, V (ix2 l c) = (v l c : EReal)) (l : Fin 128) :
    k0_pay48 (F := Ideal) B K V Q X (ix2 ρ l) = ((∑ c, Soft.w (dotOf q k) valid sk c * v l c : ℝ) : EReal) := by
  pointwise [k0_pay48]
  simp only [half_w hQ hK hB hX, hV]
  exact Soft.coe_dot _ _ _

theorem half_t (hG : ∀ l, k0_pay62 (F := Ideal) U G (ix2 ρ l) = (g l : EReal)) (hV : ∀ l c, V (ix2 l c) = (v l c : EReal)) (c : Fin 256) :
    k0_pay71 (F := Ideal) V U G (ix2 ρ c) = (dotOf g v c : EReal) := by
  pointwise [k0_pay71]
  simp only [hG, hV]
  exact Soft.coe_dot _ _ _

/-- The gradient of the sum of a row. -/
theorem half_dd (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) (hG : ∀ l, k0_pay62 (F := Ideal) U G (ix2 ρ l) = (g l : EReal)) (hV : ∀ l c, V (ix2 l c) = (v l c : EReal)) :
    k0_pay74 (F := Ideal) (k0_pay42 B K Q X) (k0_pay46 B K Q X) (k0_pay71 V U G) (ix2 ρ 0)
      = (Soft.dden (dotOf q k) valid sk (dotOf g v) : EReal) := by
  pointwise [k0_pay74]
  simp only [half_p hQ hK hB hX, half_t hG hV, half_inv2 hQ hK hB hX, ← EReal.coe_mul, Soft.coe_sum]
  rw [zero_sub, ← EReal.coe_neg, Soft.dden]

/-- The gradient of the scores of a row. -/
theorem half_ds (hQ : ∀ l, Q (ix2 ρ l) = (q l : EReal)) (hK : ∀ l c, K (ix2 l c) = (k l c : EReal)) (hB : ∀ c, B (ix2 ρ c) = if valid c then 0 else ⊥)
    (hX : ∀ l, X (ix4 0 0 ρ l) = (sk : EReal)) (hG : ∀ l, k0_pay62 (F := Ideal) U G (ix2 ρ l) = (g l : EReal)) (hV : ∀ l c, V (ix2 l c) = (v l c : EReal)) (c : Fin 256) :
    k0_pay76 (F := Ideal) (k0_pay42 B K Q X) (k0_pay45 B K Q X) (k0_pay46 B K Q X) (k0_pay71 V U G) (ix2 ρ c)
      = (Soft.ds (dotOf q k) valid sk (dotOf g v) c : EReal) := by
  pointwise [k0_pay76]
  have h1 (f : Fin 1 → EReal) : ∑ i, f i = f 0 := Fin.sum_univ_one f
  simp only [h1]
  rw [half_dd hQ hK hB hX hG hV, half_p hQ hK hB hX, half_t hG hV, half_inv hQ hK hB hX, ← EReal.coe_mul, ← EReal.coe_add, ← EReal.coe_mul]
  rfl

end
end Cert.Proof.Out5
end
-- ==== Proof.Body5I.lean ====
/-
  The frame of the attention backward call: its body run in each case of its conditionals, the launch with nothing said of what the body leaves in
  its buffers.
-/
module

public import proofs.«01_k».proof.Proof.Gen.Kernel5Ideal.Frame
public import proofs.«01_k».proof.Proof.Gen.Kernel5Ideal.Skeleton
public import Idealize.ShloMosaic.Lib.Pipeline.Frame
public import Idealize.ShloMosaic.Lib.Tactic

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch that holds the masks. -/
abbrev sc0 : Memref sig .tc .vmem S3x512x256 .f32 := Memref.whole cc0_scratch0

/-- The first conditional: the launch's first point. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The second conditional: the first block of a sequence. -/
abbrev start (i : grid0.Coords) : Prop :=
  Scalar.cmpi .ne (Scalar.extui (Scalar.cmpi .eq (BitVec.ofNat 32 (i 1).val) 0#32) : BitVec 32) 0#32 = 1#1

/-- The column of the block before, in closed form. -/
theorem k0_off4_eq : ∀ i : grid0.Coords, k0_off4 i = ![0, 128 * ((i 1).val - 1)] := by decide +kernel
instance closedOff_k0_off4 (i : grid0.Coords) : ClosedOff (k0_off4 i) := ⟨![0, 128 * ((i 1).val - 1)], k0_off4_eq i⟩
/-- The row of the block before, in closed form. -/
theorem k0_off1_eq : ∀ i : grid0.Coords, k0_off1 i = ![128 * ((i 1).val - 1), 0] := by decide +kernel
instance closedOff_k0_off1 (i : grid0.Coords) : ClosedOff (k0_off1 i) := ⟨![128 * ((i 1).val - 1), 0], k0_off1_eq i⟩

set_option maxHeartbeats 4000000 in
/-- The body runs from its windows and its scratch at anything, and hands them back. -/
theorem run (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole)
    (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) sc0 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) sc0 fullShare d)) -∗ K ⟨⟩))
      ⊢ wp frame (wpE (defs₀ (F := F)) Variants.none c none) Set.univ
          (cc0_attn_bwd i arg2 harg2 arg3 harg3 arg4 harg4 arg5 harg5 arg6 harg6 arg7 harg7 arg8 harg8 arg9 harg9 arg10 harg10 arg11 harg11 arg12 harg12 sc0 (Memref.isWhole_whole _)) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, Hs0⟩, Hk⟩
  by_cases hc0 : first i <;> by_cases hc1 : start i <;>
  ( sl_exec (disch := first | sl_exact hc0 | sl_exact hc1)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact Hs0
    ipureintro; rfl )

/-- No window's contents are named. -/
def forgets : Fin 11 → Bool := fun _ => true

/-- The proof data: the arrays as the launch finds them, nothing named of what the body leaves. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body may use besides its windows: the scratch and the generator register. -/
theorem Φ_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare d)
    ∗ (∃ d, owns (c : Thread nD τ) ((cfg0.win 1).stage (cfg0.slots t 1)) fullShare d)
    ∗ (∃ d, owns (c : Thread nD τ) ((cfg0.win 2).stage (cfg0.slots t 2)) fullShare d)
    ∗ (∃ d, owns (c : Thread nD τ) ((cfg0.win 3).stage (cfg0.slots t 3)) fullShare d)
    ∗ (∃ d, owns (c : Thread nD τ) ((cfg0.win 4).stage (cfg0.slots t 4)) fullShare d)
    ∗ (∃ d, owns (c : Thread nD τ) ((cfg0.win 5).stage (cfg0.slots t 5)) fullShare d)
    ∗ (∃ d, owns (c : Thread nD τ) ((cfg0.win 6).stage (cfg0.slots t 6)) fullShare d)
    ∗ (∃ d, owns (c : Thread nD τ) ((cfg0.win 7).stage (cfg0.slots t 7)) fullShare d)
    ∗ (∃ d, owns (c : Thread nD τ) ((cfg0.win 8).stage (cfg0.slots t 8)) fullShare d)
    ∗ (∃ d, owns (c : Thread nD τ) ((cfg0.win 9).stage (cfg0.slots t 9)) fullShare d)
    ∗ (∃ d, owns (c : Thread nD τ) ((cfg0.win 10).stage (cfg0.slots t 10)) fullShare d))

/-- What it returns. -/
def bodyPost (c : Dev nD) (t : Fin cfg0.N) : sProp 𝕄 :=
  iprop((dats m 0 c).Φ t.succ ∗ (dats m 0 c).owesAt () t.succ
    ∗ (∃ d, owns (c : Thread nD τ) ((cfg0.win 0).stage (cfg0.slots t 0)) fullShare d)
    ∗ (∃ d, owns (c : Thread nD τ) ((cfg0.win 1).stage (cfg0.slots t 1)) fullShare d)
    ∗ (∃ d, owns (c : Thread nD τ) ((cfg0.win 2).stage (cfg0.slots t 2)) fullShare d)
    ∗ (∃ d, owns (c : Thread nD τ) ((cfg0.win 3).stage (cfg0.slots t 3)) fullShare d)
    ∗ (∃ d, owns (c : Thread nD τ) ((cfg0.win 4).stage (cfg0.slots t 4)) fullShare d)
    ∗ (∃ d, owns (c : Thread nD τ) ((cfg0.win 5).stage (cfg0.slots t 5)) fullShare d)
    ∗ (∃ d, owns (c : Thread nD τ) ((cfg0.win 6).stage (cfg0.slots t 6)) fullShare d)
    ∗ (∃ d, owns (c : Thread nD τ) ((cfg0.win 7).stage (cfg0.slots t 7)) fullShare d)
    ∗ (∃ d, owns (c : Thread nD τ) ((cfg0.win 8).stage (cfg0.slots t 8)) fullShare d)
    ∗ (∃ d, owns (c : Thread nD τ) ((cfg0.win 9).stage (cfg0.slots t 9)) fullShare d)
    ∗ (∃ d, owns (c : Thread nD τ) ((cfg0.win 10).stage (cfg0.slots t 10)) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Φ_eq]
  iintro ⟨⟨⟨S0⟩, G⟩, O, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩
  iapply (run c (grid0.coords t) _ _ _ _ _ _ _ _ _ _ _ _ _ _ _ _ _ _ _ _ _ _ _)
  isplitl [W0]; · iexists _; iexact W0
  isplitl [W1]; · iexists _; iexact W1
  isplitl [W2]; · iexists _; iexact W2
  isplitl [W3]; · iexists _; iexact W3
  isplitl [W4]; · iexists _; iexact W4
  isplitl [W5]; · iexists _; iexact W5
  isplitl [W6]; · iexists _; iexact W6
  isplitl [W7]; · iexists _; iexact W7
  isplitl [W8]; · iexists _; iexact W8
  isplitl [W9]; · iexists _; iexact W9
  isplitl [W10]; · iexists _; iexact W10
  isplitl [S0]; · iexact S0
  iintro ⟨W0, W1, W2, W3, W4, W5, W6, W7, W8, W9, W10, S0⟩
  isplitl [S0 G]
  · isplitl [S0]
    · skip
      iexact S0
    iexact G
  isplitl [O]; · iexact O
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  iexact W10

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

-- unification may unfold plain definitions in a metavariable's type
set_option backward.isDefEq.respectTransparency.types false in
/-- The launch: it terminates, every input array is as found, every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 2000000 in
/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r ⟨h, hs⟩ => ⟨fun c => ⟨((h c).2 main_arg0 (Pipeline.mem_restRefs_of main_arg0 (by decide) (by decide))).trans (V_main_arg0 m c),
      ((congrFun (Pipeline.RDat.ArrAt_in ((dats m 0 c).toRForget forgets) 1 rfl _) _).mp ((h c).1 1)).trans (V_main_arg1 m c),
      ((congrFun (Pipeline.RDat.ArrAt_in ((dats m 0 c).toRForget forgets) 2 rfl _) _).mp ((h c).1 2)).trans (V_main_arg2 m c),
      ((congrFun (Pipeline.RDat.ArrAt_in ((dats m 0 c).toRForget forgets) 3 rfl _) _).mp ((h c).1 3)).trans (V_main_arg3 m c),
      ((h c).2 main_arg4 (Pipeline.mem_restRefs_of main_arg4 (by decide) (by decide))).trans (V_main_arg4 m c),
      ((congrFun (Pipeline.RDat.ArrAt_in ((dats m 0 c).toRForget forgets) 5 rfl _) _).mp ((h c).1 5)).trans (V_main_arg5 m c),
      ((h c).2 main_arg6 (Pipeline.mem_restRefs_of main_arg6 (by decide) (by decide))).trans (V_main_arg6 m c)⟩, hs⟩) (run_main m ρ)

end Cert.Kernel5Ideal.Hand

end
-- ==== Proof.Run5.lean ====
/-
  The attention backward call's body run from given contents, in each of the three cases its conditionals meet: the stores it leaves in every output
  and in the scratch of masks.
-/
module

public import proofs.«01_k».proof.Proof.Body5I
public import Idealize.ShloMosaic.Lib.Pipeline.Frame
public import Idealize.ShloMosaic.Lib.Tactic

@[expose] public section

set_option maxRecDepth 16384

noncomputable section

namespace Cert.Kernel5Ideal.Exact

open Cert.Kernel5Ideal Cert.Kernel5Ideal.Gen
open Cert.Kernel5Ideal.Hand (first start sc0)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The launch's first point: the masks filled, every accumulator cleared. -/
noncomputable def runA (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : first i) (hc1 : start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) :
    Σ' (L9 : List (View.Piece (Elt F) S128x2304 .bf16)), Σ' (L10 : List (View.Piece (Elt F) S128x2048 .f32)), Σ' (L11 : List (View.Piece (Elt F) S128x2048 .f32)), Σ' (L12 : List (View.Piece (Elt F) S2x2x4x128 .f32)), { Ls : List (View.Piece (Elt F) S3x512x256 .f32) //
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) sc0 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, sc0.view.loc (c : Thread nD τ) ↦[sc0.view.set]{fullShare} sc0.view.writes (Elt F) f Ls)) -∗ K ⟨⟩))
          ⊢ wp frame (wpE (defs₀ (F := F)) Variants.none c none) Set.univ
            (cc0_attn_bwd i arg2 harg2 arg3 harg3 arg4 harg4 arg5 harg5 arg6 harg6 arg7 harg7 arg8 harg8 arg9 harg9 arg10 harg10 arg11 harg11 arg12 harg12 sc0 (Memref.isWhole_whole _)) K } := by
  refine ⟨?_, ?_, ?_, ?_, ?_, fun K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds, %fs, -, Hs⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    iexists _; iexact Hs

set_option maxHeartbeats 4000000 in
/-- The first block of a later sequence: the two accumulators of the keys and the values cleared. -/
noncomputable def runB (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : ¬first i) (hc1 : start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) (x12 : Vec F S2x2x4x128 .f32) (xs : Vec F S3x512x256 .f32) :
    Σ' (L9 : List (View.Piece (Elt F) S128x2304 .bf16)), Σ' (L10 : List (View.Piece (Elt F) S128x2048 .f32)), Σ' (L11 : List (View.Piece (Elt F) S128x2048 .f32)), { L12 : List (View.Piece (Elt F) S2x2x4x128 .f32) //
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) sc0 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ owns (c : Thread nD τ) sc0 fullShare xs) -∗ K ⟨⟩))
          ⊢ wp frame (wpE (defs₀ (F := F)) Variants.none c none) Set.univ
            (cc0_attn_bwd i arg2 harg2 arg3 harg3 arg4 harg4 arg5 harg5 arg6 harg6 arg7 harg7 arg8 harg8 arg9 harg9 arg10 harg10 arg11 harg11 arg12 harg12 sc0 (Memref.isWhole_whole _)) K } := by
  refine ⟨?_, ?_, ?_, ?_, fun K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%fs, %hfs, Hs⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := (Memref.isWhole_whole _).eq_unread hfs
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    iexists _; isplitr; · ipureintro; exact (Memref.isWhole_whole _).read_unread _
    iexact Hs

set_option maxHeartbeats 4000000 in
/-- A later block of a sequence. -/
noncomputable def runC (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : ¬first i) (hc1 : ¬start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) (x10 : Vec F S128x2048 .f32) (x11 : Vec F S128x2048 .f32) (x12 : Vec F S2x2x4x128 .f32) (xs : Vec F S3x512x256 .f32) :
    Σ' (L9 : List (View.Piece (Elt F) S128x2304 .bf16)), Σ' (L10 : List (View.Piece (Elt F) S128x2048 .f32)), Σ' (L11 : List (View.Piece (Elt F) S128x2048 .f32)), { L12 : List (View.Piece (Elt F) S2x2x4x128 .f32) //
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12 ∗ owns (c : Thread nD τ) sc0 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (∃ f, arg12.view.loc (c : Thread nD τ) ↦[arg12.view.set]{fullShare} arg12.view.writes (Elt F) f L12) ∗ owns (c : Thread nD τ) sc0 fullShare xs) -∗ K ⟨⟩))
          ⊢ wp frame (wpE (defs₀ (F := F)) Variants.none c none) Set.univ
            (cc0_attn_bwd i arg2 harg2 arg3 harg3 arg4 harg4 arg5 harg5 arg6 harg6 arg7 harg7 arg8 harg8 arg9 harg9 arg10 harg10 arg11 harg11 arg12 harg12 sc0 (Memref.isWhole_whole _)) K } := by
  refine ⟨?_, ?_, ?_, ?_, fun K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%fs, %hfs, Hs⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := (Memref.isWhole_whole _).eq_unread hfs
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexact H10
    isplitl [H11]; · iexact H11
    isplitl [H12]; · iexists _; iexact H12
    iexists _; isplitr; · ipureintro; exact (Memref.isWhole_whole _).read_unread _
    iexact Hs

end Cert.Kernel5Ideal.Exact

end
-- ==== Proof.Block5.lean ====
/-
  What the attention backward's body stores in its block of the projection's gradient, from the blocks it reads: a list of seventeen stores, the same
  in every case of the body, of four products' rows.
-/
module

public import proofs.«01_k».proof.Proof.Run5
public import Idealize.ShloMosaic.Lib.WholeRead

@[expose] public section

set_option maxRecDepth 16384

noncomputable section
open Idealize.ShloMosaic Idealize.ShloMosaic.TcCoe

namespace Cert.Proof.Out5
open Cert.Kernel5Ideal Cert.Kernel5Ideal.Gen

variable {F : FTy → Type} [FloatOps F] [Named F]

/-- What a load of a part of a block reads, for each part. -/
abbrev Reads (F : FTy → Type) [FloatOps F] (s : Shape) (e : EltTy) := (B : LoadRect s) → B.shape.Idx → Elt F e

abbrev part {s : Shape} {e : EltTy} (x : Reads F s e) (off size : Fin s.rank → ℕ) (inb : ∀ a, off a + size a ≤ s.size a) :
    Vec F (Rect.unit (s := s) off size inb).toLoadRect.shape e := x (Rect.unit (s := s) off size inb).toLoadRect

section
variable (B : FVec F S512x256 .f32) (ka kb va vb : FVec F S128x256 .f32) (Q Z G : FVec F S512x128 .f32) (xa xb : Vec F S1x1x512x128 .f32)

/-- The attention's outputs of a group of heads, two halves added. -/
def gOut : FVec F S512x128 .f32 := addf (k0_pay48 B ka va Q xa) (k0_pay48 B kb vb Q xb)

/-- The gradient of the gates. -/
def gDz : FVec F S512x128 .f32 := k0_pay63 Z (k0_pay58 Z) (mulf (gOut B ka kb va vb Q xa xb) G)

/-- The gradient of the queries. -/
def gDq : FVec F S512x128 .f32 :=
  k0_pay77 ka (k0_pay42 B ka Q xa) (k0_pay45 B ka Q xa) (k0_pay46 B ka Q xa)
    (k0_pay69 kb vb (k0_pay42 B kb Q xb) (k0_pay45 B kb Q xb) (k0_pay46 B kb Q xb) (k0_pay59 Z) G) (k0_pay71 va (k0_pay59 Z) G)

variable (g0 g1 g2 g3 : Vec F S128x128 .bf16)

theorem dz_first : k0_pay63 Z (k0_pay58 Z) (k0_pay61 vb (k0_pay39 xb) (k0_pay48 B ka va Q xa) (k0_pay49 B kb Q) (k0_pay50 B kb Q) g0 g1 g2 g3)
    = gDz B ka kb va vb Q Z (k0_pay60 g0 g1 g2 g3) xa xb := rfl

theorem dq_first : k0_pay77 ka (k0_pay42 B ka Q xa) (k0_pay45 B ka Q xa) (k0_pay46 B ka Q xa)
      (k0_pay69 kb vb (k0_pay52 (k0_pay39 xb) (k0_pay49 B kb Q) (k0_pay50 B kb Q)) (k0_pay55 (k0_pay39 xb) (k0_pay49 B kb Q) (k0_pay50 B kb Q))
        (k0_pay56 (k0_pay39 xb) (k0_pay49 B kb Q) (k0_pay50 B kb Q)) (k0_pay59 Z) (k0_pay60 g0 g1 g2 g3)) (k0_pay71 va (k0_pay59 Z) (k0_pay60 g0 g1 g2 g3))
    = gDq B ka kb va vb Q Z (k0_pay60 g0 g1 g2 g3) xa xb := rfl

theorem dz_second : k0_pay125 Z (k0_pay120 B kb vb (k0_pay101 xb) (k0_pay110 B ka va Q xa) (k0_pay111 Q)) (k0_pay121 Z) g0 g1 g2 g3
    = gDz B ka kb va vb Q Z (k0_pay60 g0 g1 g2 g3) xa xb := rfl

theorem dq_second : k0_pay138 ka va (k0_pay104 B ka Q xa) (k0_pay107 B ka Q xa) (k0_pay108 B ka Q xa) (k0_pay124 (k0_pay122 Z) g0 g1 g2 g3)
      (k0_pay131 kb vb (k0_pay114 B kb (k0_pay101 xb) (k0_pay111 Q)) (k0_pay117 B kb (k0_pay101 xb) (k0_pay111 Q))
        (k0_pay118 B kb (k0_pay101 xb) (k0_pay111 Q)) (k0_pay122 Z) g0 g1 g2 g3)
    = gDq B ka kb va vb Q Z (k0_pay60 g0 g1 g2 g3) xa xb := rfl
end

section
variable (i : grid0.Coords) (x2 : Reads F S128x1024 .bf16) (x3 : Reads F S2048x128 .bf16) (x4 : Reads F S2048x128 .bf16) (x5 : Reads F S128x1024 .f32)
  (x6 : Reads F S2x2x512x128 .f32) (x7 : Reads F S128x1024 .bf16) (x8 : Reads F S128x48 .bf16) (xs : Reads F S3x512x256 .f32)

/-- The mask of the point, the window of keys and the window of values, transposed. -/
def bias : FVec F S512x256 .f32 := k0_pay12 (part xs (k0_off3 i) S1x512x256.size (k0_off3_inb i))
def keys : FVec F S128x256 .f32 := k0_pay10 (part x3 (k0_off1 i) S128x128.size (k0_off1_inb i)) (part x3 (k0_off2 i) S128x128.size (k0_off2_inb i))
def vals : FVec F S128x256 .f32 := k0_pay11 (part x4 (k0_off1 i) S128x128.size (k0_off1_inb i)) (part x4 (k0_off2 i) S128x128.size (k0_off2_inb i))

/-- Four blocks of columns, one under the other. -/
def q0 : FVec F S512x128 .f32 := k0_pay36 (part x2 ![0, 0] S128x128.size inb_S128x1024_S128x128_0_0) (part x2 ![0, 128] S128x128.size inb_S128x1024_S128x128_0_128)
  (part x2 ![0, 256] S128x128.size inb_S128x1024_S128x128_0_256) (part x2 ![0, 384] S128x128.size inb_S128x1024_S128x128_0_384)
def q1 : FVec F S512x128 .f32 := k0_pay36 (part x2 ![0, 512] S128x128.size inb_S128x1024_S128x128_0_512) (part x2 ![0, 640] S128x128.size inb_S128x1024_S128x128_0_640)
  (part x2 ![0, 768] S128x128.size inb_S128x1024_S128x128_0_768) (part x2 ![0, 896] S128x128.size inb_S128x1024_S128x128_0_896)
def d0 : FVec F S512x128 .f32 := k0_pay60 (part x7 ![0, 0] S128x128.size inb_S128x1024_S128x128_0_0) (part x7 ![0, 128] S128x128.size inb_S128x1024_S128x128_0_128)
  (part x7 ![0, 256] S128x128.size inb_S128x1024_S128x128_0_256) (part x7 ![0, 384] S128x128.size inb_S128x1024_S128x128_0_384)
def d1 : FVec F S512x128 .f32 := k0_pay60 (part x7 ![0, 512] S128x128.size inb_S128x1024_S128x128_0_512) (part x7 ![0, 640] S128x128.size inb_S128x1024_S128x128_0_640)
  (part x7 ![0, 768] S128x128.size inb_S128x1024_S128x128_0_768) (part x7 ![0, 896] S128x128.size inb_S128x1024_S128x128_0_896)
def z0 : FVec F S512x128 .f32 := k0_pay37 (part x5 ![0, 0] S128x128.size inb_S128x1024_S128x128_0_0) (part x5 ![0, 128] S128x128.size inb_S128x1024_S128x128_0_128)
  (part x5 ![0, 256] S128x128.size inb_S128x1024_S128x128_0_256) (part x5 ![0, 384] S128x128.size inb_S128x1024_S128x128_0_384)
def z1 : FVec F S512x128 .f32 := k0_pay37 (part x5 ![0, 512] S128x128.size inb_S128x1024_S128x128_0_512) (part x5 ![0, 640] S128x128.size inb_S128x1024_S128x128_0_640)
  (part x5 ![0, 768] S128x128.size inb_S128x1024_S128x128_0_768) (part x5 ![0, 896] S128x128.size inb_S128x1024_S128x128_0_896)

/-- The sinks of a group's half. -/
def sinkAt (a b : ℕ) (h : ∀ k, (![a, b, 0, 0] : Fin 4 → ℕ) k + S1x1x512x128.size k ≤ S2x2x512x128.size k) : Vec F S1x1x512x128 .f32 :=
  part x6 ![a, b, 0, 0] S1x1x512x128.size h

def dz0 : FVec F S512x128 .f32 := gDz (bias i xs) (k0_pay31 (keys i x3)) (k0_pay32 (keys i x3)) (k0_pay34 (vals i x4)) (k0_pay35 (vals i x4)) (q0 x2) (z0 x5) (d0 x7)
  (sinkAt x6 0 0 inb_S2x2x512x128_S1x1x512x128_0_0_0_0) (sinkAt x6 0 1 inb_S2x2x512x128_S1x1x512x128_0_1_0_0)
def dq0 : FVec F S512x128 .f32 := gDq (bias i xs) (k0_pay31 (keys i x3)) (k0_pay32 (keys i x3)) (k0_pay34 (vals i x4)) (k0_pay35 (vals i x4)) (q0 x2) (z0 x5) (d0 x7)
  (sinkAt x6 0 0 inb_S2x2x512x128_S1x1x512x128_0_0_0_0) (sinkAt x6 0 1 inb_S2x2x512x128_S1x1x512x128_0_1_0_0)
def dz1 : FVec F S512x128 .f32 := gDz (bias i xs) (k0_pay93 (keys i x3)) (k0_pay94 (keys i x3)) (k0_pay96 (vals i x4)) (k0_pay97 (vals i x4)) (q1 x2) (z1 x5) (d1 x7)
  (sinkAt x6 1 0 inb_S2x2x512x128_S1x1x512x128_1_0_0_0) (sinkAt x6 1 1 inb_S2x2x512x128_S1x1x512x128_1_1_0_0)
def dq1 : FVec F S512x128 .f32 := gDq (bias i xs) (k0_pay93 (keys i x3)) (k0_pay94 (keys i x3)) (k0_pay96 (vals i x4)) (k0_pay97 (vals i x4)) (q1 x2) (z1 x5) (d1 x7)
  (sinkAt x6 1 0 inb_S2x2x512x128_S1x1x512x128_1_0_0_0) (sinkAt x6 1 1 inb_S2x2x512x128_S1x1x512x128_1_1_0_0)

end

/-! ## The rotary embedding's tables -/

abbrev dig : IVec S48x384 32 := k0_pay14 (iota .tc S48x384 32 [0] iota_S48x384_d0_w32) 16#32 0#1
def tCos (cs : FVec F S128x48 .bf16) : FVec F S128x128 .f32 := k0_pay25 cs dig k0_pay15 (k0_pay19 64#32 k0_pay16 k0_pay17) (k0_pay20 64#32 k0_pay16 k0_pay17)
  (k0_pay21 dig k0_pay15 64#32 k0_pay16 k0_pay17) (k0_pay22 k0_pay15 64#32 k0_pay16 k0_pay17) k0_pay23
def tLow (cs : FVec F S128x48 .bf16) : FVec F S128x128 .f32 := k0_pay26 cs dig k0_pay15 (k0_pay19 64#32 k0_pay16 k0_pay17) (k0_pay20 64#32 k0_pay16 k0_pay17)
  (k0_pay21 dig k0_pay15 64#32 k0_pay16 k0_pay17) (k0_pay22 k0_pay15 64#32 k0_pay16 k0_pay17) k0_pay23
def tHigh (cs : FVec F S128x48 .bf16) : FVec F S128x128 .f32 := k0_pay27 cs dig k0_pay15 (k0_pay19 64#32 k0_pay16 k0_pay17) (k0_pay20 64#32 k0_pay16 k0_pay17)
  (k0_pay21 dig k0_pay15 64#32 k0_pay16 k0_pay17) (k0_pay22 k0_pay15 64#32 k0_pay16 k0_pay17) k0_pay23

/-- Rows of a product, turned back; rows of a product. -/
def turned (cs : FVec F S128x48 .bf16) (x : FVec F S128x128 .f32) : Vec F S128x128 .bf16 := k0_pay85 (tCos cs) (tLow cs) (tHigh cs) x
def plain (x : FVec F S128x128 .f32) : Vec F S128x128 .bf16 := truncf .bf16 x bitsLt_bf16_f32

/-- The stores of the block of the projection's gradient, the last first. -/
def stores (cs : FVec F S128x48 .bf16) (dq0 dq1 dz0 dz1 : FVec F S512x128 .f32) : List (View.Piece (Elt F) S128x2304 .bf16) :=
  [⟨Rect.unit ![0, 1024] S128x256.size inb_S128x2304_S128x256_0_1024, k0_pay155⟩,
    ⟨Rect.unit ![0, 2176] S128x128.size inb_S128x2304_S128x128_0_2176, plain (extractStridedSlice S128x128 ![384, 0] dz1 slices_S512x128_o384_0_S128x128)⟩,
    ⟨Rect.unit ![0, 896] S128x128.size inb_S128x2304_S128x128_0_896, turned cs (extractStridedSlice S128x128 ![384, 0] dq1 slices_S512x128_o384_0_S128x128)⟩,
    ⟨Rect.unit ![0, 2048] S128x128.size inb_S128x2304_S128x128_0_2048, plain (extractStridedSlice S128x128 ![256, 0] dz1 slices_S512x128_o256_0_S128x128)⟩,
    ⟨Rect.unit ![0, 768] S128x128.size inb_S128x2304_S128x128_0_768, turned cs (extractStridedSlice S128x128 ![256, 0] dq1 slices_S512x128_o256_0_S128x128)⟩,
    ⟨Rect.unit ![0, 1920] S128x128.size inb_S128x2304_S128x128_0_1920, plain (extractStridedSlice S128x128 ![128, 0] dz1 slices_S512x128_o128_0_S128x128)⟩,
    ⟨Rect.unit ![0, 640] S128x128.size inb_S128x2304_S128x128_0_640, turned cs (extractStridedSlice S128x128 ![128, 0] dq1 slices_S512x128_o128_0_S128x128)⟩,
    ⟨Rect.unit ![0, 1792] S128x128.size inb_S128x2304_S128x128_0_1792, plain (extractStridedSlice S128x128 ![0, 0] dz1 slices_S512x128_o0_0_S128x128)⟩,
    ⟨Rect.unit ![0, 512] S128x128.size inb_S128x2304_S128x128_0_512, turned cs (extractStridedSlice S128x128 ![0, 0] dq1 slices_S512x128_o0_0_S128x128)⟩,
    ⟨Rect.unit ![0, 1664] S128x128.size inb_S128x2304_S128x128_0_1664, plain (extractStridedSlice S128x128 ![384, 0] dz0 slices_S512x128_o384_0_S128x128)⟩,
    ⟨Rect.unit ![0, 384] S128x128.size inb_S128x2304_S128x128_0_384, turned cs (extractStridedSlice S128x128 ![384, 0] dq0 slices_S512x128_o384_0_S128x128)⟩,
    ⟨Rect.unit ![0, 1536] S128x128.size inb_S128x2304_S128x128_0_1536, plain (extractStridedSlice S128x128 ![256, 0] dz0 slices_S512x128_o256_0_S128x128)⟩,
    ⟨Rect.unit ![0, 256] S128x128.size inb_S128x2304_S128x128_0_256, turned cs (extractStridedSlice S128x128 ![256, 0] dq0 slices_S512x128_o256_0_S128x128)⟩,
    ⟨Rect.unit ![0, 1408] S128x128.size inb_S128x2304_S128x128_0_1408, plain (extractStridedSlice S128x128 ![128, 0] dz0 slices_S512x128_o128_0_S128x128)⟩,
    ⟨Rect.unit ![0, 128] S128x128.size inb_S128x2304_S128x128_0_128, turned cs (extractStridedSlice S128x128 ![128, 0] dq0 slices_S512x128_o128_0_S128x128)⟩,
    ⟨Rect.unit ![0, 1280] S128x128.size inb_S128x2304_S128x128_0_1280, plain (extractStridedSlice S128x128 ![0, 0] dz0 slices_S512x128_o0_0_S128x128)⟩,
    ⟨Rect.unit ![0, 0] S128x128.size inb_S128x2304_S128x128_0_0, turned cs (extractStridedSlice S128x128 ![0, 0] dq0 slices_S512x128_o0_0_S128x128)⟩]

section
variable (c : Dev nD) (i : grid0.Coords) (x2 : Reads F S128x1024 .bf16) (x3 : Reads F S2048x128 .bf16) (x4 : Reads F S2048x128 .bf16) (x5 : Reads F S128x1024 .f32)
  (x6 : Reads F S2x2x512x128 .f32) (x7 : Reads F S128x1024 .bf16) (x8 : Reads F S128x48 .bf16) (xs : Reads F S3x512x256 .f32)

def pieces : List (View.Piece (Elt F) S128x2304 .bf16) :=
  stores (k0_pay13 (part x8 ![0, 0] S128x48.size inb_S128x48_S128x48_0_0)) (dq0 i x2 x3 x4 x5 x6 x7 xs) (dq1 i x2 x3 x4 x5 x6 x7 xs) (dz0 i x2 x3 x4 x5 x6 x7 xs) (dz1 i x2 x3 x4 x5 x6 x7 xs)
end

/-- The masks: whether a key of the same block, of the same or the previous block, may be seen; and where a row's own lane is. -/
def masks : List (View.Piece (Elt F) S3x512x256 .f32) := Exact.runA.sl.Hs_3

set_option maxHeartbeats 8000000 in
/-- A later block of a sequence. -/
theorem storesC (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : ¬Hand.first i) (hc1 : ¬Hand.start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) (x10 x11 : Vec F S128x2048 .f32) (x12 : Vec F S2x2x4x128 .f32) (xs : Vec F S3x512x256 .f32) :
    (Exact.runC c i arg2 harg2 arg3 harg3 arg4 harg4 arg5 harg5 arg6 harg6 arg7 harg7 arg8 harg8 arg9 harg9 arg10 harg10 arg11 harg11 arg12 harg12 hc0 hc1 x2 x3 x4 x5 x6 x7 x8 x10 x11 x12 xs).1
      = pieces i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => arg8.view.readAt (Elt F) B (harg8.unread x8)) (fun B => Hand.sc0.view.readAt (Elt F) B ((Memref.isWhole_whole _).unread xs)) := by
  have h77 : Exact.runC.sl.r_77 c i arg2 harg2 arg3 harg3 arg4 harg4 arg5 harg5 arg6 harg6 arg7 harg7 x2 x3 x4 x5 x6 x7 xs = dz1 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B ((Memref.isWhole_whole _).unread xs)) := by
    unfold Exact.runC.sl.r_77 Exact.runC.sl.r_71 Exact.runC.sl.r_72 Exact.runC.sl.r_64 Exact.runC.sl.r_65 Exact.runC.sl.r_58
    rw [dz_second]
    rfl
  have h84 : Exact.runC.sl.r_84 c i arg2 harg2 arg3 harg3 arg4 harg4 arg5 harg5 arg6 harg6 arg7 harg7 x2 x3 x4 x5 x6 x7 xs = dq1 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B ((Memref.isWhole_whole _).unread xs)) := by
    unfold Exact.runC.sl.r_84 Exact.runC.sl.r_76 Exact.runC.sl.r_80 Exact.runC.sl.r_59 Exact.runC.sl.r_61 Exact.runC.sl.r_62 Exact.runC.sl.r_66 Exact.runC.sl.r_68 Exact.runC.sl.r_69 Exact.runC.sl.r_73 Exact.runC.sl.r_65 Exact.runC.sl.r_58
    rw [dq_second]
    rfl
  have h36 : Exact.runC.sl.r_36 c i arg2 harg2 arg3 harg3 arg4 harg4 arg5 harg5 arg6 harg6 arg7 harg7 x2 x3 x4 x5 x6 x7 xs = dz0 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B ((Memref.isWhole_whole _).unread xs)) := by
    unfold Exact.runC.sl.r_36 Exact.runC.sl.r_32 Exact.runC.sl.r_35 Exact.runC.sl.r_18 Exact.runC.sl.r_24 Exact.runC.sl.r_25 Exact.runC.sl.r_26
    rw [dz_first]
    rfl
  have h45 : Exact.runC.sl.r_45 c i arg2 harg2 arg3 harg3 arg4 harg4 arg5 harg5 arg6 harg6 arg7 harg7 x2 x3 x4 x5 x6 x7 xs = dq0 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B ((Memref.isWhole_whole _).unread xs)) := by
    unfold Exact.runC.sl.r_45 Exact.runC.sl.r_19 Exact.runC.sl.r_21 Exact.runC.sl.r_22 Exact.runC.sl.r_39 Exact.runC.sl.r_41 Exact.runC.sl.r_27 Exact.runC.sl.r_29 Exact.runC.sl.r_30 Exact.runC.sl.r_33 Exact.runC.sl.r_34 Exact.runC.sl.r_18 Exact.runC.sl.r_25 Exact.runC.sl.r_26
    rw [dq_first]
    rfl
  unfold Exact.runC pieces
  dsimp only
  rw [← h77, ← h84, ← h36, ← h45]
  rfl

set_option maxHeartbeats 8000000 in
/-- The first block of a later sequence. -/
theorem storesB (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : ¬Hand.first i) (hc1 : Hand.start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) (x12 : Vec F S2x2x4x128 .f32) (xs : Vec F S3x512x256 .f32) :
    (Exact.runB c i arg2 harg2 arg3 harg3 arg4 harg4 arg5 harg5 arg6 harg6 arg7 harg7 arg8 harg8 arg9 harg9 arg10 harg10 arg11 harg11 arg12 harg12 hc0 hc1 x2 x3 x4 x5 x6 x7 x8 x12 xs).1
      = pieces i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => arg8.view.readAt (Elt F) B (harg8.unread x8)) (fun B => Hand.sc0.view.readAt (Elt F) B ((Memref.isWhole_whole _).unread xs)) := by
  have h77 : Exact.runB.sl.r_77 c i arg2 harg2 arg3 harg3 arg4 harg4 arg5 harg5 arg6 harg6 arg7 harg7 x2 x3 x4 x5 x6 x7 xs = dz1 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B ((Memref.isWhole_whole _).unread xs)) := by
    unfold Exact.runB.sl.r_77 Exact.runB.sl.r_71 Exact.runB.sl.r_72 Exact.runB.sl.r_64 Exact.runB.sl.r_65 Exact.runB.sl.r_58
    rw [dz_second]
    rfl
  have h84 : Exact.runB.sl.r_84 c i arg2 harg2 arg3 harg3 arg4 harg4 arg5 harg5 arg6 harg6 arg7 harg7 x2 x3 x4 x5 x6 x7 xs = dq1 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B ((Memref.isWhole_whole _).unread xs)) := by
    unfold Exact.runB.sl.r_84 Exact.runB.sl.r_76 Exact.runB.sl.r_80 Exact.runB.sl.r_59 Exact.runB.sl.r_61 Exact.runB.sl.r_62 Exact.runB.sl.r_66 Exact.runB.sl.r_68 Exact.runB.sl.r_69 Exact.runB.sl.r_73 Exact.runB.sl.r_65 Exact.runB.sl.r_58
    rw [dq_second]
    rfl
  have h36 : Exact.runB.sl.r_36 c i arg2 harg2 arg3 harg3 arg4 harg4 arg5 harg5 arg6 harg6 arg7 harg7 x2 x3 x4 x5 x6 x7 xs = dz0 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B ((Memref.isWhole_whole _).unread xs)) := by
    unfold Exact.runB.sl.r_36 Exact.runB.sl.r_32 Exact.runB.sl.r_35 Exact.runB.sl.r_18 Exact.runB.sl.r_24 Exact.runB.sl.r_25 Exact.runB.sl.r_26
    rw [dz_first]
    rfl
  have h45 : Exact.runB.sl.r_45 c i arg2 harg2 arg3 harg3 arg4 harg4 arg5 harg5 arg6 harg6 arg7 harg7 x2 x3 x4 x5 x6 x7 xs = dq0 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B ((Memref.isWhole_whole _).unread xs)) := by
    unfold Exact.runB.sl.r_45 Exact.runB.sl.r_19 Exact.runB.sl.r_21 Exact.runB.sl.r_22 Exact.runB.sl.r_39 Exact.runB.sl.r_41 Exact.runB.sl.r_27 Exact.runB.sl.r_29 Exact.runB.sl.r_30 Exact.runB.sl.r_33 Exact.runB.sl.r_34 Exact.runB.sl.r_18 Exact.runB.sl.r_25 Exact.runB.sl.r_26
    rw [dq_first]
    rfl
  unfold Exact.runB pieces
  dsimp only
  rw [← h77, ← h84, ← h36, ← h45]
  rfl

set_option maxHeartbeats 8000000 in
/-- The launch's first point. -/
theorem storesA (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : Hand.first i) (hc1 : Hand.start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) :
    (Exact.runA c i arg2 harg2 arg3 harg3 arg4 harg4 arg5 harg5 arg6 harg6 arg7 harg7 arg8 harg8 arg9 harg9 arg10 harg10 arg11 harg11 arg12 harg12 hc0 hc1 x2 x3 x4 x5 x6 x7 x8).1
      = pieces i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => arg8.view.readAt (Elt F) B (harg8.unread x8)) (fun B => Hand.sc0.view.readAt (Elt F) B (Hand.sc0.view.writes (Elt F) Hand.sc0.view.junk masks)) := by
  have h77 : Exact.runA.sl.r_77 c i arg2 harg2 arg3 harg3 arg4 harg4 arg5 harg5 arg6 harg6 arg7 harg7 x2 x3 x4 x5 x6 x7 = dz1 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B (Hand.sc0.view.writes (Elt F) Hand.sc0.view.junk masks)) := by
    unfold Exact.runA.sl.r_77 Exact.runA.sl.r_71 Exact.runA.sl.r_72 Exact.runA.sl.r_64 Exact.runA.sl.r_65 Exact.runA.sl.r_58
    rw [dz_second]
    rfl
  have h84 : Exact.runA.sl.r_84 c i arg2 harg2 arg3 harg3 arg4 harg4 arg5 harg5 arg6 harg6 arg7 harg7 x2 x3 x4 x5 x6 x7 = dq1 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B (Hand.sc0.view.writes (Elt F) Hand.sc0.view.junk masks)) := by
    unfold Exact.runA.sl.r_84 Exact.runA.sl.r_76 Exact.runA.sl.r_80 Exact.runA.sl.r_59 Exact.runA.sl.r_61 Exact.runA.sl.r_62 Exact.runA.sl.r_66 Exact.runA.sl.r_68 Exact.runA.sl.r_69 Exact.runA.sl.r_73 Exact.runA.sl.r_65 Exact.runA.sl.r_58
    rw [dq_second]
    rfl
  have h36 : Exact.runA.sl.r_36 c i arg2 harg2 arg3 harg3 arg4 harg4 arg5 harg5 arg6 harg6 arg7 harg7 x2 x3 x4 x5 x6 x7 = dz0 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B (Hand.sc0.view.writes (Elt F) Hand.sc0.view.junk masks)) := by
    unfold Exact.runA.sl.r_36 Exact.runA.sl.r_32 Exact.runA.sl.r_35 Exact.runA.sl.r_18 Exact.runA.sl.r_24 Exact.runA.sl.r_25 Exact.runA.sl.r_26
    rw [dz_first]
    rfl
  have h45 : Exact.runA.sl.r_45 c i arg2 harg2 arg3 harg3 arg4 harg4 arg5 harg5 arg6 harg6 arg7 harg7 x2 x3 x4 x5 x6 x7 = dq0 i (fun B => arg2.view.readAt (Elt F) B (harg2.unread x2)) (fun B => arg3.view.readAt (Elt F) B (harg3.unread x3)) (fun B => arg4.view.readAt (Elt F) B (harg4.unread x4)) (fun B => arg5.view.readAt (Elt F) B (harg5.unread x5)) (fun B => arg6.view.readAt (Elt F) B (harg6.unread x6)) (fun B => arg7.view.readAt (Elt F) B (harg7.unread x7)) (fun B => Hand.sc0.view.readAt (Elt F) B (Hand.sc0.view.writes (Elt F) Hand.sc0.view.junk masks)) := by
    unfold Exact.runA.sl.r_45 Exact.runA.sl.r_19 Exact.runA.sl.r_21 Exact.runA.sl.r_22 Exact.runA.sl.r_39 Exact.runA.sl.r_41 Exact.runA.sl.r_27 Exact.runA.sl.r_29 Exact.runA.sl.r_30 Exact.runA.sl.r_33 Exact.runA.sl.r_34 Exact.runA.sl.r_18 Exact.runA.sl.r_25 Exact.runA.sl.r_26
    rw [dq_first]
    rfl
  unfold Exact.runA pieces
  dsimp only
  rw [← h77, ← h84, ← h36, ← h45]
  rfl

end Cert.Proof.Out5
end
-- ==== Proof.Group5.lean ====
/-
  One row of the attention backward's body over a group's two heads: its two halves of lanes are two heads' rows, because each half of the keys and of the values
  is zero on the other's lanes.
-/
module

public import proofs.«01_k».proof.Proof.Half5
public import proofs.«01_k».proof.Proof.Block5

@[expose] public section

noncomputable section
open Idealize.ShloMosaic Idealize.ShloMosaic.TcCoe

namespace Cert.Proof.Out5
open Cert.Kernel5Ideal Cert.Kernel5Ideal.Gen

/-- The halves of a row of lanes; a head's keys on one half of the lanes. -/
def low (f : Fin 128 → ℝ) (d : Fin 64) : ℝ := f ⟨d.val, by omega⟩
def high (f : Fin 128 → ℝ) (d : Fin 64) : ℝ := f ⟨64 + d.val, by omega⟩
def padLow (k : Fin 64 → Fin 256 → ℝ) (l : Fin 128) (c : Fin 256) : ℝ := if h : l.val < 64 then k ⟨l.val, h⟩ c else 0
def padHigh (k : Fin 64 → Fin 256 → ℝ) (l : Fin 128) (c : Fin 256) : ℝ := if h : l.val < 64 then 0 else k ⟨l.val - 64, by omega⟩ c

theorem sum_halves (f : Fin 128 → ℝ) : ∑ l, f l = ∑ d : Fin 64, f ⟨d.val, by omega⟩ + ∑ d : Fin 64, f ⟨64 + d.val, by omega⟩ :=
  Fin.sum_univ_add (a := 64) (b := 64) f

theorem dot_low (q : Fin 128 → ℝ) (k : Fin 64 → Fin 256 → ℝ) : dotOf q (padLow k) = Soft.hs (low q) k := by
  funext c
  show ∑ l, q l * padLow k l c = _
  rw [sum_halves, Finset.sum_eq_zero (f := fun d : Fin 64 => q ⟨64 + d.val, by omega⟩ * padLow k ⟨64 + d.val, by omega⟩ c) fun d _ => by
    rw [padLow, dif_neg (by dsimp only; omega), mul_zero], add_zero]
  exact Finset.sum_congr rfl fun d _ => by rw [padLow, dif_pos (by dsimp only; omega), low]

theorem dot_high (q : Fin 128 → ℝ) (k : Fin 64 → Fin 256 → ℝ) : dotOf q (padHigh k) = Soft.hs (high q) k := by
  funext c
  show ∑ l, q l * padHigh k l c = _
  rw [sum_halves, Finset.sum_eq_zero (f := fun d : Fin 64 => q ⟨d.val, by omega⟩ * padHigh k ⟨d.val, by omega⟩ c) fun d _ => by
    rw [padHigh, dif_pos (by dsimp only; omega), mul_zero], zero_add]
  exact Finset.sum_congr rfl fun d _ => by
    rw [padHigh, dif_neg (by dsimp only; omega), high]
    exact congrArg (fun i => _ * k i c) (Fin.ext (by dsimp only; omega))

section
variable {B : FVec Ideal S512x256 .f32} {ka kb va vb : FVec Ideal S128x256 .f32} {Q Z G : FVec Ideal S512x128 .f32} {xa xb : Vec Ideal S1x1x512x128 .f32}
  {ρ : Fin 512} {q g z : Fin 128 → ℝ} {k v : Fin 64 → Fin 256 → ℝ} {valid : Fin 256 → Prop} [DecidablePred valid] {sa sb : ℝ}

/-- The output of a lane, the gradient that reaches it, the gradient of its gate and that of its query. -/
def laneO (q : Fin 128 → ℝ) (k v : Fin 64 → Fin 256 → ℝ) (valid : Fin 256 → Prop) [DecidablePred valid] (sa sb : ℝ) (l : Fin 128) : ℝ :=
  if h : l.val < 64 then Soft.ho valid sa (low q) k v ⟨l.val, h⟩ else Soft.ho valid sb (high q) k v ⟨l.val - 64, by omega⟩
def gated (g z : Fin 128 → ℝ) (l : Fin 128) : ℝ := g l * (z l * Soft.sg (z l))
def laneDz (q g z : Fin 128 → ℝ) (k v : Fin 64 → Fin 256 → ℝ) (valid : Fin 256 → Prop) [DecidablePred valid] (sa sb : ℝ) (l : Fin 128) : ℝ :=
  laneO q k v valid sa sb l * g l * (Soft.sg (z l) * (1 + z l * (1 - Soft.sg (z l))))
def laneDq (q g z : Fin 128 → ℝ) (k v : Fin 64 → Fin 256 → ℝ) (valid : Fin 256 → Prop) [DecidablePred valid] (sa sb : ℝ) (l : Fin 128) : ℝ :=
  if h : l.val < 64 then Soft.hdq valid sa (low q) (low (gated g z)) k v ⟨l.val, h⟩ else Soft.hdq valid sb (high q) (high (gated g z)) k v ⟨l.val - 64, by omega⟩

theorem gate_apply (hZ : ∀ l, Z (ix2 ρ l) = (z l : EReal)) (l : Fin 128) : k0_pay58 (F := Ideal) Z (ix2 ρ l) = (Soft.sg (z l) : EReal) := by
  pointwise [k0_pay58]
  rw [hZ, zero_sub, ← EReal.coe_neg, Ideal.exp_coe, ← EReal.coe_one, ← EReal.coe_add, Ideal.div_coe (Soft.sg_ne _), ← EReal.coe_mul, Soft.sg, one_mul, one_div]

theorem gated_apply (hZ : ∀ l, Z (ix2 ρ l) = (z l : EReal)) (hG : ∀ l, G (ix2 ρ l) = (g l : EReal)) (l : Fin 128) :
    k0_pay62 (F := Ideal) (k0_pay59 Z) G (ix2 ρ l) = (gated g z l : EReal) := by
  pointwise [k0_pay62, k0_pay59]
  rw [gate_apply hZ, hZ, hG, ← EReal.coe_mul, ← EReal.coe_mul, gated]

theorem group_o (hQ : ∀ l, Q (ix2 ρ l) = (q l : EReal)) (hka : ∀ l c, ka (ix2 l c) = (padLow k l c : EReal)) (hkb : ∀ l c, kb (ix2 l c) = (padHigh k l c : EReal))
    (hva : ∀ l c, va (ix2 l c) = (padLow v l c : EReal)) (hvb : ∀ l c, vb (ix2 l c) = (padHigh v l c : EReal)) (hB : ∀ c, B (ix2 ρ c) = if valid c then 0 else ⊥)
    (ha : ∀ l, xa (ix4 0 0 ρ l) = (sa : EReal)) (hb : ∀ l, xb (ix4 0 0 ρ l) = (sb : EReal)) (l : Fin 128) :
    gOut (F := Ideal) B ka kb va vb Q xa xb (ix2 ρ l) = (laneO q k v valid sa sb l : EReal) := by
  show k0_pay48 (F := Ideal) B ka va Q xa (ix2 ρ l) + k0_pay48 (F := Ideal) B kb vb Q xb (ix2 ρ l) = _
  rw [half_o hQ hka hB ha hva, half_o hQ hkb hB hb hvb, ← EReal.coe_add, dot_low, dot_high, laneO]
  by_cases h : l.val < 64
  · simp only [padLow, padHigh, dif_pos h, mul_zero, Finset.sum_const_zero, add_zero]; rfl
  · simp only [padLow, padHigh, dif_neg h, mul_zero, Finset.sum_const_zero, zero_add]; rfl

theorem group_dz (hQ : ∀ l, Q (ix2 ρ l) = (q l : EReal)) (hka : ∀ l c, ka (ix2 l c) = (padLow k l c : EReal)) (hkb : ∀ l c, kb (ix2 l c) = (padHigh k l c : EReal))
    (hva : ∀ l c, va (ix2 l c) = (padLow v l c : EReal)) (hvb : ∀ l c, vb (ix2 l c) = (padHigh v l c : EReal)) (hB : ∀ c, B (ix2 ρ c) = if valid c then 0 else ⊥)
    (ha : ∀ l, xa (ix4 0 0 ρ l) = (sa : EReal)) (hb : ∀ l, xb (ix4 0 0 ρ l) = (sb : EReal))
    (hZ : ∀ l, Z (ix2 ρ l) = (z l : EReal)) (hG : ∀ l, G (ix2 ρ l) = (g l : EReal)) (l : Fin 128) :
    gDz (F := Ideal) B ka kb va vb Q Z G xa xb (ix2 ρ l) = (laneDz q g z k v valid sa sb l : EReal) := by
  have ho := group_o hQ hka hkb hva hvb hB ha hb l
  unfold gDz
  generalize gOut B ka kb va vb Q xa xb = O at ho
  pointwise [k0_pay63]
  rw [ho, gate_apply hZ, hZ, hG, ← EReal.coe_one, ← EReal.coe_sub, ← EReal.coe_mul, ← EReal.coe_mul, ← EReal.coe_add, ← EReal.coe_mul, ← EReal.coe_mul, laneDz]

theorem group_dq (hQ : ∀ l, Q (ix2 ρ l) = (q l : EReal)) (hka : ∀ l c, ka (ix2 l c) = (padLow k l c : EReal)) (hkb : ∀ l c, kb (ix2 l c) = (padHigh k l c : EReal))
    (hva : ∀ l c, va (ix2 l c) = (padLow v l c : EReal)) (hvb : ∀ l c, vb (ix2 l c) = (padHigh v l c : EReal)) (hB : ∀ c, B (ix2 ρ c) = if valid c then 0 else ⊥)
    (ha : ∀ l, xa (ix4 0 0 ρ l) = (sa : EReal)) (hb : ∀ l, xb (ix4 0 0 ρ l) = (sb : EReal))
    (hZ : ∀ l, Z (ix2 ρ l) = (z l : EReal)) (hG : ∀ l, G (ix2 ρ l) = (g l : EReal)) (l : Fin 128) :
    gDq (F := Ideal) B ka kb va vb Q Z G xa xb (ix2 ρ l) = (laneDq q g z k v valid sa sb l : EReal) := by
  have da := half_ds hQ hka hB ha (gated_apply hZ hG) hva
  have db := half_ds hQ hkb hB hb (gated_apply hZ hG) hvb
  rw [dot_low, dot_low] at da
  rw [dot_high, dot_high] at db
  have e (p : FVec Ideal S512x256 .f32) (y1 y2 : FVec Ideal S512x1 .f32) : k0_pay68 (F := Ideal) vb p y1 y2 (k0_pay59 Z) G = k0_pay76 p y1 y2 (k0_pay71 vb (k0_pay59 Z) G) := rfl
  unfold gDq k0_pay69
  rw [e]
  unfold k0_pay77
  generalize k0_pay76 (F := Ideal) (k0_pay42 B ka Q xa) (k0_pay45 B ka Q xa) (k0_pay46 B ka Q xa) (k0_pay71 va (k0_pay59 Z) G) = A at da ⊢
  generalize k0_pay76 (F := Ideal) (k0_pay42 B kb Q xb) (k0_pay45 B kb Q xb) (k0_pay46 B kb Q xb) (k0_pay71 vb (k0_pay59 Z) G) = C at db ⊢
  pointwise
  simp only [da, db, hka, hkb, Soft.coe_dot]
  rw [← EReal.coe_add, laneDq]
  by_cases h : l.val < 64
  · simp only [padLow, padHigh, dif_pos h, mul_zero, Finset.sum_const_zero, zero_add]; rfl
  · simp only [padLow, padHigh, dif_neg h, mul_zero, Finset.sum_const_zero, add_zero]; rfl
end

end Cert.Proof.Out5
end
-- ==== Proof.Launch5.lean ====
/-
  The attention backward's launch with the block of the projection's gradient named: the body leaves in it what its stores say, computed from the
  blocks of the launch's arguments and the masks that the launch's first point writes.
-/
module

public import proofs.«01_k».proof.Proof.Block5

@[expose] public section

set_option maxRecDepth 16384

noncomputable section

namespace Cert.Proof.Out5

open Cert.Kernel5Ideal Cert.Kernel5Ideal.Gen
open Cert.Kernel5Ideal.Hand (first start sc0)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The masks as the scratch holds them. -/
def mask : Vec F S3x512x256 .f32 := View.canon masks

theorem mask_covers (y : S3x512x256.Idx) : ∃ p ∈ (masks : List (View.Piece (Elt F) S3x512x256 .f32)), y ∈ p.1.set :=
  View.cover_of_tiledL _ ![1, 512, 256] rfl y

theorem mask_read (f : (sc0 : Memref sig .tc .vmem S3x512x256 .f32).view.ty.Contents (Elt F)) :
    sc0.view.read (Elt F) (sc0.view.writes (Elt F) f masks) = mask :=
  View.read_writes_eq_canon _ _ _ mask_covers

theorem covers (cs dq0 dq1 dz0 dz1) (y : S128x2304.Idx) : ∃ p ∈ stores (F := F) cs dq0 dq1 dz0 dz1, y ∈ p.1.set := by
  have h0 := (y 0).isLt
  have h1 := (y 1).isLt
  simp only [stores, List.mem_cons, List.not_mem_nil, or_false, exists_eq_or_imp, exists_eq_left, Rect.mem_set_unit, Fin.forall_fin_two,
    Matrix.cons_val_zero, Matrix.cons_val_one]
  simp at h0 h1 ⊢
  omega

/-- The block that the body leaves at a point. -/
def left (c : Dev nD) (t : Fin cfg0.N) : List (View.Piece (Elt F) S128x2304 .bf16) :=
  pieces (grid0.coords t) (fun B y => iblk m c 0 t (B.idx y)) (fun B y => iblk m c 1 t (B.idx y)) (fun B y => iblk m c 2 t (B.idx y)) (fun B y => iblk m c 3 t (B.idx y)) (fun B y => iblk m c 4 t (B.idx y)) (fun B y => iblk m c 5 t (B.idx y)) (fun B y => iblk m c 6 t (B.idx y)) (fun B y => mask (B.idx y))

theorem left_covers (c : Dev nD) (t : Fin cfg0.N) (y : S128x2304.Idx) : ∃ p ∈ left m c t, y ∈ p.1.set := covers _ _ _ _ _ y

/-- The outputs that carry the other gradients are not followed here. -/
def others : Fin 11 → Bool := fun w => decide (8 ≤ w.val)

/-- The proof data: each input's block as it is, the gradient's block at what the stores say, the scratch at the masks from the second point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => View.canon (left m c t)
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ t := if t.val = 0 then Pipeline.ΦA spec0 c else iprop(owns (c : Thread nD τ) sc0 fullShare mask ∗ (∃ r, prngReg c r))
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = View.canon (left m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem whole_reads {κ : Kind} {sp : Space} {s : Shape} {e : EltTy} {mr : Memref sig κ sp s e} (h : mr.IsWhole) (x : Vec F s e) :
    (fun B : LoadRect s => mr.view.readAt (Elt F) B (h.unread x)) = fun B y => x (B.idx y) :=
  funext fun B => funext fun y => h.readAt_unread x B y

theorem scratch_reads (xs : Vec F S3x512x256 .f32) :
    (fun B : LoadRect S3x512x256 => sc0.view.readAt (Elt F) B ((Memref.isWhole_whole _).unread xs)) = fun B y => xs (B.idx y) :=
  funext fun B => funext fun y => (Memref.isWhole_whole cc0_scratch0).readAt_unread xs B y

theorem mask_reads (f : (sc0 : Memref sig .tc .vmem S3x512x256 .f32).view.ty.Contents (Elt F)) :
    (fun B : LoadRect S3x512x256 => sc0.view.readAt (Elt F) B (sc0.view.writes (Elt F) f masks)) = fun B y => (mask : Vec F S3x512x256 .f32) (B.idx y) :=
  funext fun B => funext fun y => congrFun (mask_read f) (B.idx y)

theorem leftC (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : ¬Hand.first i) (hc1 : ¬Hand.start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) (x10 x11 : Vec F S128x2048 .f32) (x12 : Vec F S2x2x4x128 .f32) (xs : Vec F S3x512x256 .f32) :
    (Exact.runC c i arg2 harg2 arg3 harg3 arg4 harg4 arg5 harg5 arg6 harg6 arg7 harg7 arg8 harg8 arg9 harg9 arg10 harg10 arg11 harg11 arg12 harg12 hc0 hc1 x2 x3 x4 x5 x6 x7 x8 x10 x11 x12 xs).1
      = pieces i (fun B y => x2 (B.idx y)) (fun B y => x3 (B.idx y)) (fun B y => x4 (B.idx y)) (fun B y => x5 (B.idx y)) (fun B y => x6 (B.idx y)) (fun B y => x7 (B.idx y)) (fun B y => x8 (B.idx y)) (fun B y => xs (B.idx y)) := by
  rw [storesC]
  simp only [whole_reads]
  exact congrArg _ (scratch_reads xs)

theorem leftB (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : ¬Hand.first i) (hc1 : Hand.start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) (x12 : Vec F S2x2x4x128 .f32) (xs : Vec F S3x512x256 .f32) :
    (Exact.runB c i arg2 harg2 arg3 harg3 arg4 harg4 arg5 harg5 arg6 harg6 arg7 harg7 arg8 harg8 arg9 harg9 arg10 harg10 arg11 harg11 arg12 harg12 hc0 hc1 x2 x3 x4 x5 x6 x7 x8 x12 xs).1
      = pieces i (fun B y => x2 (B.idx y)) (fun B y => x3 (B.idx y)) (fun B y => x4 (B.idx y)) (fun B y => x5 (B.idx y)) (fun B y => x6 (B.idx y)) (fun B y => x7 (B.idx y)) (fun B y => x8 (B.idx y)) (fun B y => xs (B.idx y)) := by
  rw [storesB]
  simp only [whole_reads]
  exact congrArg _ (scratch_reads xs)

theorem leftA (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (hc0 : Hand.first i) (hc1 : Hand.start i)
    (x2 : Vec F S128x1024 .bf16) (x3 : Vec F S2048x128 .bf16) (x4 : Vec F S2048x128 .bf16) (x5 : Vec F S128x1024 .f32) (x6 : Vec F S2x2x512x128 .f32) (x7 : Vec F S128x1024 .bf16) (x8 : Vec F S128x48 .bf16) :
    (Exact.runA c i arg2 harg2 arg3 harg3 arg4 harg4 arg5 harg5 arg6 harg6 arg7 harg7 arg8 harg8 arg9 harg9 arg10 harg10 arg11 harg11 arg12 harg12 hc0 hc1 x2 x3 x4 x5 x6 x7 x8).1
      = pieces i (fun B y => x2 (B.idx y)) (fun B y => x3 (B.idx y)) (fun B y => x4 (B.idx y)) (fun B y => x5 (B.idx y)) (fun B y => x6 (B.idx y)) (fun B y => x7 (B.idx y)) (fun B y => x8 (B.idx y)) (fun B y => mask (B.idx y)) := by
  rw [storesA]
  simp only [whole_reads]
  exact congrArg _ (mask_reads _)

theorem Φ_first (c : Dev nD) (t : Fin cfg0.N) (h : t.val = 0) : (dats m 0 c).Φ t.castSucc = Pipeline.ΦA spec0 c := if_pos h
theorem Φ_later (c : Dev nD) (t : Fin cfg0.N) (h : t.val ≠ 0) :
    (dats m 0 c).Φ t.castSucc = iprop(owns (c : Thread nD τ) sc0 fullShare mask ∗ (∃ r, prngReg c r)) := if_neg h
theorem Φ_succ (c : Dev nD) (t : Fin cfg0.N) :
    (dats m 0 c).Φ t.succ = iprop(owns (c : Thread nD τ) sc0 fullShare mask ∗ (∃ r, prngReg c r)) := by
  dsimp only [dats]; exact if_neg (by rw [Fin.val_succ]; exact Nat.succ_ne_zero _)

theorem first_iff : ∀ t : Fin cfg0.N, first (grid0.coords t) ↔ t.val = 0 := by decide +kernel
theorem start_of_first : ∀ t : Fin cfg0.N, first (grid0.coords t) → start (grid0.coords t) := by decide +kernel

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare d)
    ∗ (∃ d, owns (c : Thread nD τ) ((cfg0.win 9).stage (cfg0.slots t 9)) fullShare d)
    ∗ (∃ d, owns (c : Thread nD τ) ((cfg0.win 10).stage (cfg0.slots t 10)) fullShare d))

/-- What it returns. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ (∃ d, owns (c : Thread nD τ) ((cfg0.win 8).stage (cfg0.slots t 8)) fullShare d)
    ∗ (∃ d, owns (c : Thread nD τ) ((cfg0.win 9).stage (cfg0.slots t 9)) fullShare d)
    ∗ (∃ d, owns (c : Thread nD τ) ((cfg0.win 10).stage (cfg0.slots t 10)) fullShare d))

set_option maxHeartbeats 4000000 in
/-- The body at a point, by its cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Φ_succ, show (dats m 0 c).owesAt () t.succ = (dats m 0 c).owesAt () t.castSucc from rfl,
    after0_0, after0_1, after0_2, after0_3, after0_4, after0_5, after0_6, after0_7]
  by_cases h0 : first (grid0.coords t)
  · rw [Φ_first m c t ((first_iff t).mp h0), Hand.Φ_eq]
    iintro ⟨⟨S, G⟩, O, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩
    iapply ((Exact.runA c (grid0.coords t) _ _ _ _ _ _ _ _ _ _ _ _ _ _ _ _ _ _ _ _ _ _ h0 (start_of_first t h0) (iblk m c 0 t) (iblk m c 1 t) (iblk m c 2 t) (iblk m c 3 t) (iblk m c 4 t) (iblk m c 5 t) (iblk m c 6 t)).2.2.2.2.2 _)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexists _; iexact W7
    isplitl [W8]; · iexists _; iexact W8
    isplitl [W9]; · iexists _; iexact W9
    isplitl [W10]; · iexists _; iexact W10
    isplitl [S]; · iexact S
    iintro ⟨W0, W1, W2, W3, W4, W5, W6, ⟨%f7, W7⟩, ⟨%f8, W8⟩, ⟨%f9, W9⟩, ⟨%f10, W10⟩, ⟨%fs, S⟩⟩
    isplitl [S G]
    · isplitl [S]
      · unfold owns; iexists _; isplitr
        swap; · iexact S
        ipureintro; exact mask_read _
      iexact G
    isplitl [O]; · iexact O
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]
    · unfold owns; iexists _; isplitr
      swap; · iexact W7
      ipureintro
      rw [leftA]
      exact View.read_writes_eq_canon _ _ _ (left_covers m c t)
    isplitl [W8]
    · unfold owns; iexists _; iexists _; isplitr; swap; · iexact W8
      ipureintro; rfl
    isplitl [W9]
    · unfold owns; iexists _; iexists _; isplitr; swap; · iexact W9
      ipureintro; rfl
    unfold owns; iexists _; iexists _; isplitr; swap; · iexact W10
    ipureintro; rfl
  rw [Φ_later m c t (fun h => h0 ((first_iff t).mpr h))]
  by_cases h1 : start (grid0.coords t)
  · iintro ⟨⟨S, G⟩, O, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩
    iapply ((Exact.runB c (grid0.coords t) _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) _ mask).2.2.2.2 _)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexists _; iexact W7
    isplitl [W8]; · iexists _; iexact W8
    isplitl [W9]; · iexists _; iexact W9
    isplitl [W10]; · iexact W10
    isplitl [S]; · iexact S
    iintro ⟨W0, W1, W2, W3, W4, W5, W6, ⟨%f7, W7⟩, ⟨%f8, W8⟩, ⟨%f9, W9⟩, ⟨%f10, W10⟩, S⟩
    isplitl [S G]
    · isplitl [S]
      · iexact S
      iexact G
    isplitl [O]; · iexact O
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]
    · unfold owns; iexists _; isplitr
      swap; · iexact W7
      ipureintro
      rw [leftB]
      exact View.read_writes_eq_canon _ _ _ (left_covers m c t)
    isplitl [W8]
    · unfold owns; iexists _; iexists _; isplitr; swap; · iexact W8
      ipureintro; rfl
    isplitl [W9]
    · unfold owns; iexists _; iexists _; isplitr; swap; · iexact W9
      ipureintro; rfl
    unfold owns; iexists _; iexists _; isplitr; swap; · iexact W10
    ipureintro; rfl
  · iintro ⟨⟨S, G⟩, O, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩
    iapply ((Exact.runC c (grid0.coords t) _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) _ _ _ mask).2.2.2.2 _)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexists _; iexact W7
    isplitl [W8]; · iexact W8
    isplitl [W9]; · iexact W9
    isplitl [W10]; · iexact W10
    isplitl [S]; · iexact S
    iintro ⟨W0, W1, W2, W3, W4, W5, W6, ⟨%f7, W7⟩, W8, W9, ⟨%f10, W10⟩, S⟩
    isplitl [S G]
    · isplitl [S]
      · iexact S
      iexact G
    isplitl [O]; · iexact O
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]
    · unfold owns; iexists _; isplitr
      swap; · iexact W7
      ipureintro
      rw [leftC]
      exact View.read_writes_eq_canon _ _ _ (left_covers m c t)
    isplitl [W8]
    · unfold owns; iexists _; iexists _; isplitr; swap; · iexact W8
      ipureintro; rfl
    isplitl [W9]
    · unfold owns; iexists _; iexists _; isplitr; swap; · iexact W9
      ipureintro; rfl
    unfold owns; iexists _; iexists _; isplitr; swap; · iexact W10
    ipureintro; rfl

theorem body_obligation (c : Dev nD) :
    BodyObligation (dats (F := F) m 0 c) (defs₀ (F := F)) Variants.none () Set.univ others := fun t => by
  rw [bigSep_W0, bigSep_W0, Hand.defs₀_row]
  exact triple_restated (sound_body m c t) rfl .rfl fun _ => .rfl

theorem Φ_in (c : Dev nD) : (Pipeline.ΦA spec0 c : sProp 𝕄) ⊢ (dats m 0 c).Φ 0 := .rfl
theorem Φ_out (c : Dev nD) : (dats m 0 c).Φ (Fin.last cfg0.N) ⊢ (Pipeline.ΦA spec0 c : sProp 𝕄) := by
  rw [show (dats m 0 c).Φ (Fin.last cfg0.N) = iprop(owns (c : Thread nD τ) sc0 fullShare mask ∗ (∃ r, prngReg c r)) from rfl, Hand.Φ_eq]
  iintro ⟨S, G⟩
  isplitl [S]; · iexists _; iexact S
  iexact G

-- unification may unfold plain definitions in a metavariable's type
set_option backward.isDefEq.respectTransparency.types false in
/-- The launch. -/
theorem run_main :
    θ_run defs (onTc (τ := τ) (main (F := F))) (s₀ m ρ)
      (fun r => Pipeline.RDat.FramePost (cfgs 0) (fun c => (dats m 0 c).toRForget others) (V m) r) :=
  Pipeline.θ_run_frame_track_forget (Q' := _) cfgs (dats m) (0 : Fin 1) launch0 defs₀ Variants.none others m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

end Cert.Proof.Out5

end
-- ==== Proof.Rows5.lean ====
/-
  The attention backward's block of rows: what the body's windows of keys and of values, its masks and its stacked columns hold of the blocks that it reads, and from
  those the rows of the gradients of the queries and of the gates.
-/
module

public import proofs.«01_k».proof.Proof.Group5
public import proofs.«01_k».proof.Proof.Launch5
public import Idealize.ShloMosaic.Lib.WordCmp

@[expose] public section

set_option maxRecDepth 16384

noncomputable section
open Idealize.ShloMosaic Idealize.ShloMosaic.TcCoe

namespace Cert.Proof.Out5
open Cert.Kernel5Ideal Cert.Kernel5Ideal.Gen
open Cert.Proof.Soft (sees)

/-! ## Parts of blocks -/

theorem part_cols {e : EltTy} (X : Vec Ideal S128x1024 e) (o : ℕ) (h : ∀ a, (![0, o] : Fin 2 → ℕ) a + S128x128.size a ≤ S128x1024.size a) (ho : o ≤ 896) (i j : Fin 128) :
    part (fun B y => X (B.idx y)) ![0, o] S128x128.size h (ix2 i j) = X (ix2 i ⟨o + j.val, by omega⟩) :=
  congrArg X (funext fun a => Fin.ext (by fin_cases a <;> simp [LoadRect.idx]))

theorem part_rows {e : EltTy} (X : Vec Ideal S2048x128 e) (off : Fin 2 → ℕ) (o : ℕ) (h : ∀ a, off a + S128x128.size a ≤ S2048x128.size a) (hoff : off = ![o, 0])
    (ho : o ≤ 1920) (i j : Fin 128) :
    part (fun B y => X (B.idx y)) off S128x128.size h (ix2 i j) = X (ix2 ⟨o + i.val, by omega⟩ j) := by
  subst hoff
  exact congrArg X (funext fun a => Fin.ext (by fin_cases a <;> simp [LoadRect.idx]))

theorem part_sink (X : Vec Ideal S2x2x512x128 .f32) (a b : Fin 2) (h : ∀ k, (![a.val, b.val, 0, 0] : Fin 4 → ℕ) k + S1x1x512x128.size k ≤ S2x2x512x128.size k) (ρ : Fin 512) (l : Fin 128) :
    sinkAt (fun B y => X (B.idx y)) a.val b.val h (ix4 0 0 ρ l) = X (ix4 a b ρ l) :=
  congrArg X (funext fun k => Fin.ext (by fin_cases k <;> simp [LoadRect.idx]))

/-- The row of a window's key. -/
def win (n : Fin 16) (c : Fin 256) : Fin 2048 := if h : c.val < 128 then ⟨128 * (n.val - 1) + c.val, by omega⟩ else ⟨128 * n.val + (c.val - 128), by omega⟩

theorem off1_eq : ∀ i : grid0.Coords, k0_off1 i = ![128 * ((i 1).val - 1), 0] := by decide +kernel

section
variable (i : grid0.Coords) (n : Fin 16) (hn : (i 1).val = n.val)
include hn

theorem keys_apply (X : Vec Ideal S2048x128 .bf16) (l : Fin 128) (c : Fin 256) : keys (F := Ideal) i (fun B y => X (B.idx y)) (ix2 l c) = X (ix2 (win n c) l) := by
  have hn' := n.isLt
  by_cases h : c.val < 128
  · refine Eq.trans ?_ ((part_rows X (k0_off1 i) _ (k0_off1_inb i) (off1_eq i) (by omega) ⟨c.val, h⟩ l).trans (congrArg (fun s => X (ix2 s l)) ?_))
    · pointwise [keys, k0_pay10]
      rw [dif_pos h]
    · rw [win, dif_pos h]; exact Fin.ext (by dsimp only; omega)
  · refine Eq.trans ?_ ((part_rows X (k0_off2 i) _ (k0_off2_inb i) (k0_off2_eq i) (by omega) ⟨c.val - 128, by omega⟩ l).trans (congrArg (fun s => X (ix2 s l)) ?_))
    · pointwise [keys, k0_pay10]
      rw [dif_neg h]
    · rw [win, dif_neg h]; exact Fin.ext (by dsimp only; omega)

theorem vals_apply (X : Vec Ideal S2048x128 .bf16) (l : Fin 128) (c : Fin 256) : vals (F := Ideal) i (fun B y => X (B.idx y)) (ix2 l c) = X (ix2 (win n c) l) :=
  keys_apply i n hn X l c
end

/-! ## The masks -/

theorem named_mask : (Named.named (F := Ideal) κ "mask" (φ := .f32) 0xF149F2CA#32 : EReal) = ⊥ := rfl

theorem row_eq (ρ : Fin 512) (c : Fin 256) : k0_pay1 (ix2 ρ c) = BitVec.ofNat 32 (ρ.val % 128) :=
  (show k0_pay1 (ix2 ρ c) = k0_pay1 (ix2 ρ 0) by pointwise [k0_pay1]).trans
    ((by decide +kernel : ∀ ρ : Fin 512, k0_pay1 (ix2 ρ 0) = BitVec.ofNat 32 (ρ.val % 128)) ρ)

theorem band_eq (ρ : Fin 512) (c : Fin 256) : k0_pay2 (ix2 ρ c) = if 128 ≤ c.val ∧ c.val ≤ ρ.val % 128 + 128 then 1#1 else 0#1 := by
  pointwise [k0_pay2]
  rw [row_eq]
  have hge : IntOp.cmpi .sge (BitVec.ofNat 32 c.val) 128#32 = if 128 ≤ c.val then 1#1 else 0#1 :=
    (by decide +kernel : ∀ c : Fin 256, IntOp.cmpi .sge (BitVec.ofNat 32 c.val) 128#32 = if 128 ≤ c.val then 1#1 else 0#1) c
  rw [hge]
  by_cases hc : 128 ≤ c.val
  · have e2 : IntOp.subi (BitVec.ofNat 32 c.val) 128#32 = BitVec.ofNat 32 (c.val - 128) := by
      apply BitVec.eq_of_toNat_eq
      simp only [IntOp.subi, BitVec.toNat_sub, BitVec.toNat_ofNat]
      omega
    rw [e2, WordCmp.cmpi_sle_ofNat (by omega) (by omega), if_pos hc]
    by_cases h : c.val ≤ ρ.val % 128 + 128
    · rw [decide_eq_true (by omega), if_pos ⟨hc, h⟩]; rfl
    · rw [decide_eq_false (by omega), if_neg fun h' => h h'.2]; rfl
  · rw [if_neg hc, if_neg fun h' => hc h'.1]
    exact BitVec.zero_and

theorem edge_eq (ρ : Fin 512) (c : Fin 256) :
    IntOp.andi (IntOp.cmpi .slt (BitVec.ofNat 32 c.val) 128#32) (IntOp.cmpi .sgt (BitVec.ofNat 32 c.val) (k0_pay1 (ix2 ρ c)))
      = if c.val < 128 ∧ ρ.val % 128 < c.val then 1#1 else 0#1 := by
  rw [row_eq, WordCmp.cmpi_slt_ofNat (b := 128) (by omega) (by omega), WordCmp.cmpi_sgt_ofNat (by omega) (by omega)]
  by_cases h1 : c.val < 128 <;> by_cases h2 : ρ.val % 128 < c.val <;> simp [h1, h2] <;> rfl

theorem slab_emb (s : Fin 3) (o : ℕ) (ho : s.val = o) (h : ∀ a, (![o, 0, 0] : Fin 3 → ℕ) a + S1x512x256.size a ≤ S3x512x256.size a) (ρ : Fin 512) (c : Fin 256) :
    (Rect.unit (s := S3x512x256) ![o, 0, 0] S1x512x256.size h).emb (ix3 0 ρ c) = ix3 s ρ c := by
  subst ho
  refine funext fun a => Fin.ext ?_
  fin_cases a <;> simp [Rect.unit, Rect.emb]

theorem slab_not_mem (s : Fin 3) (o : ℕ) (hs : s.val < o) (h : ∀ a, (![o, 0, 0] : Fin 3 → ℕ) a + S1x512x256.size a ≤ S3x512x256.size a) (ρ : Fin 512) (c : Fin 256) :
    ix3 s ρ c ∉ (Rect.unit (s := S3x512x256) ![o, 0, 0] S1x512x256.size h).set := by
  rw [Rect.mem_set_unit]
  intro hm
  exact absurd (hm 0).1 (not_le.mpr hs)

theorem canon_skip {V : EltTy → Type} [∀ e, Inhabited (V e)] {S : Shape} {e : EltTy} (r : Rect S) (w : r.shape.Idx → V e) (L : List (View.Piece V S e)) (x : S.Idx) (h : x ∉ r.set) :
    View.canon (⟨r, w⟩ :: L) x = View.canon L x :=
  View.canon_cons_of_not_mem ⟨r, w⟩ L h

section
variable (x2 x1 x0 : FVec Ideal S1x512x256 .f32) (ρ : Fin 512) (c : Fin 256)
abbrev slabs : List (View.Piece (Elt Ideal) S3x512x256 .f32) := [⟨Rect.unit ![2, 0, 0] S1x512x256.size inb_S3x512x256_S1x512x256_2_0_0, x2⟩,
  ⟨Rect.unit ![1, 0, 0] S1x512x256.size inb_S3x512x256_S1x512x256_1_0_0, x1⟩, ⟨Rect.unit ![0, 0, 0] S1x512x256.size inb_S3x512x256_S1x512x256_0_0_0, x0⟩]

theorem slabs_first : View.canon (slabs x2 x1 x0) (ix3 0 ρ c) = x0 (ix3 0 ρ c) := by
  unfold slabs
  rw [canon_skip _ _ _ _ (slab_not_mem 0 2 (by decide) _ ρ c), canon_skip _ _ _ _ (slab_not_mem 0 1 (by decide) _ ρ c),
    ← slab_emb 0 0 rfl inb_S3x512x256_S1x512x256_0_0_0 ρ c, View.canon_cons_emb]

theorem slabs_later : View.canon (slabs x2 x1 x0) (ix3 1 ρ c) = x1 (ix3 0 ρ c) := by
  unfold slabs
  rw [canon_skip _ _ _ _ (slab_not_mem 1 2 (by decide) _ ρ c), ← slab_emb 1 1 rfl inb_S3x512x256_S1x512x256_1_0_0 ρ c, View.canon_cons_emb]
end

theorem masks_eq : ∃ x, masks (F := Ideal) = slabs x (k0_pay5 k0_pay4) k0_pay3 := ⟨_, rfl⟩

theorem mask_first (ρ : Fin 512) (c : Fin 256) : mask (F := Ideal) (ix3 0 ρ c) = if 128 ≤ c.val ∧ c.val ≤ ρ.val % 128 + 128 then (0 : EReal) else ⊥ := by
  obtain ⟨x, e⟩ := masks_eq
  refine (congrFun (congrArg View.canon e) _).trans ((slabs_first _ _ _ ρ c).trans ?_)
  clear e
  pointwise [k0_pay3]
  rw [band_eq]
  split_ifs <;> rfl

theorem mask_later (ρ : Fin 512) (c : Fin 256) : mask (F := Ideal) (ix3 1 ρ c) = if ρ.val % 128 < c.val ∧ c.val ≤ ρ.val % 128 + 128 then (0 : EReal) else ⊥ := by
  obtain ⟨x, e⟩ := masks_eq
  refine (congrFun (congrArg View.canon e) _).trans ((slabs_later _ _ _ ρ c).trans ?_)
  clear e
  pointwise [k0_pay5, k0_pay4]
  rw [band_eq, edge_eq]
  by_cases h1 : 128 ≤ c.val ∧ c.val ≤ ρ.val % 128 + 128 <;> by_cases h2 : c.val < 128 ∧ ρ.val % 128 < c.val
  · omega
  · rw [if_pos h1, if_neg h2, if_pos (by omega)]; rfl
  · rw [if_neg h1, if_pos h2, if_pos (by omega)]; rfl
  · rw [if_neg h1, if_neg h2, if_neg (by omega)]; rfl

theorem bias_apply (i : grid0.Coords) (n : Fin 16) (hn : (i 1).val = n.val) (ρ : Fin 512) (c : Fin 256) :
    bias (F := Ideal) i (fun B y => mask (B.idx y)) (ix2 ρ c) = if sees n.val (ρ.val % 128) c.val then (0 : EReal) else ⊥ := by
  have e (s : Fin 3) (hs : s.val = min n.val 1) : bias (F := Ideal) i (fun B y => mask (B.idx y)) (ix2 ρ c) = mask (F := Ideal) (ix3 s ρ c) := by
    refine Eq.trans (?_ : _ = (part (fun B y => mask (F := Ideal) (B.idx y)) (k0_off3 i) S1x512x256.size (k0_off3_inb i)) (ix3 0 ρ c)) (congrArg (mask (F := Ideal)) (funext fun a => Fin.ext ?_))
    · pointwise [bias, k0_pay12]
    · have h3 := k0_off3_eq i
      fin_cases a <;> simp [LoadRect.idx, h3, hn, hs]
  have hc := c.isLt
  by_cases h0 : n.val = 0
  · rw [e 0 (by simp [h0]), mask_first]
    exact if_congr (by unfold sees; omega) rfl rfl
  · rw [e 1 (by simp; omega), mask_later]
    exact if_congr (by unfold sees; omega) rfl rfl

/-! ## Keys on one half of the lanes -/

theorem low_lane : ∀ l : Fin 128, IntOp.cmpi .slt (BitVec.ofNat 32 l.val) 64#32 = if l.val < 64 then 1#1 else 0#1 := by decide +kernel

section
variable (K : FVec Ideal S128x256 .f32) (k : Fin 128 → Fin 256 → ℝ) (hK : ∀ l c, K (ix2 l c) = (k l c : EReal))
include hK

theorem pad31 (l : Fin 128) (c : Fin 256) : k0_pay31 (F := Ideal) K (ix2 l c) = (padLow (fun d c => k ⟨d.val, by omega⟩ c) l c : EReal) := by
  pointwise [k0_pay31, k0_pay30]
  rw [low_lane, hK, padLow]
  by_cases h : l.val < 64
  · rw [if_pos h, dif_pos h]; rfl
  · rw [if_neg h, dif_neg h]; rfl

theorem pad32 (l : Fin 128) (c : Fin 256) : k0_pay32 (F := Ideal) K (ix2 l c) = (padHigh (fun d c => k ⟨d.val, by omega⟩ c) l c : EReal) := by
  pointwise [k0_pay32, k0_pay30]
  rw [low_lane, padHigh]
  by_cases h : l.val < 64
  · rw [if_pos h, dif_pos h]; rfl
  · rw [if_neg h, dif_neg h]
    refine Eq.trans ?_ (hK ⟨l.val - 64, by omega⟩ c)
    exact congrArg (fun l => K (ix2 l c)) (Fin.ext (by dsimp only; omega))

theorem pad93 (l : Fin 128) (c : Fin 256) : k0_pay93 (F := Ideal) K (ix2 l c) = (padLow (fun d c => k ⟨64 + d.val, by omega⟩ c) l c : EReal) := by
  pointwise [k0_pay93, k0_pay92]
  rw [low_lane, padLow]
  by_cases h : l.val < 64
  · rw [if_pos h, dif_pos h]
    refine Eq.trans ?_ (hK ⟨64 + l.val, by omega⟩ c)
    exact congrArg (fun l => K (ix2 l c)) (Fin.ext (by dsimp only; omega))
  · rw [if_neg h, dif_neg h]; rfl

theorem pad94 (l : Fin 128) (c : Fin 256) : k0_pay94 (F := Ideal) K (ix2 l c) = (padHigh (fun d c => k ⟨64 + d.val, by omega⟩ c) l c : EReal) := by
  pointwise [k0_pay94, k0_pay92]
  rw [low_lane, padHigh]
  by_cases h : l.val < 64
  · rw [if_pos h, dif_pos h]; rfl
  · rw [if_neg h, dif_neg h]
    refine Eq.trans ?_ (hK ⟨64 + (l.val - 64), by omega⟩ c)
    exact congrArg (fun l => K (ix2 l c)) (Fin.ext (by dsimp only; omega))
end

end Cert.Proof.Out5
end
-- ==== Proof.Tab5.lean ====
/- The attention backward: the tables of the rotary embedding that the kernel makes, and the rows it turns back with them. -/
module

public import proofs.«01_k».proof.Proof.Block5
public import proofs.«01_k».proof.Proof.Tab4

@[expose] public section

set_option maxRecDepth 16384

noncomputable section
open Idealize.ShloMosaic Idealize.ShloMosaic.TcCoe

namespace Cert.Proof.Out5
open Cert.Kernel5Ideal Cert.Kernel5Ideal.Gen

abbrev lane64 := k0_pay18 64#32 k0_pay16 k0_pay17
abbrev lane8 := k0_pay19 64#32 k0_pay16 k0_pay17
theorem dig_apply (k : Fin 48) (l : Fin 384) : dig (ix2 k l) = BitVec.ofNat 32 (k.val % 16) :=
  (show dig (ix2 k l) = dig (ix2 k 0) by pointwise [k0_pay14]).trans
    ((by decide +kernel : ∀ k : Fin 48, dig (ix2 k 0) = BitVec.ofNat 32 (k.val % 16)) k)

theorem tab_apply (k : Fin 48) (l : Fin 384) : k0_pay15 (ix2 k l) = BitVec.ofNat 32 (l.val / 128) :=
  (show k0_pay15 (ix2 k l) = k0_pay15 (ix2 0 l) by pointwise [k0_pay15]).trans
    ((by decide +kernel : ∀ l : Fin 384, k0_pay15 (ix2 0 l) = BitVec.ofNat 32 (l.val / 128)) l)

theorem lane64_apply (k : Fin 48) (l : Fin 384) : lane64 (ix2 k l) = BitVec.ofNat 32 (l.val % 64) :=
  (show lane64 (ix2 k l) = lane64 (ix2 0 l) by pointwise [k0_pay18, k0_pay16, k0_pay17]).trans
    ((by decide +kernel : ∀ l : Fin 384, lane64 (ix2 0 l) = BitVec.ofNat 32 (l.val % 64)) l)

theorem lane8_apply (k : Fin 48) (l : Fin 384) : lane8 (ix2 k l) = BitVec.ofNat 32 (l.val % 8) :=
  (show lane8 (ix2 k l) = lane8 (ix2 0 l) by pointwise [k0_pay19, k0_pay18, k0_pay16, k0_pay17]).trans
    ((by decide +kernel : ∀ l : Fin 384, lane8 (ix2 0 l) = BitVec.ofNat 32 (l.val % 8)) l)

theorem pick_apply (cs : FVec Ideal S128x48 .bf16) (r : Fin 128) (l : Fin 384) :
    k0_pay24 (F := Ideal) cs dig k0_pay15 (k0_pay19 64#32 k0_pay16 k0_pay17) (k0_pay20 64#32 k0_pay16 k0_pay17)
        (k0_pay21 dig k0_pay15 64#32 k0_pay16 k0_pay17) (k0_pay22 k0_pay15 64#32 k0_pay16 k0_pay17) k0_pay23 (ix2 r l) = ∑ k : Fin 48, cs (ix2 r k) * Rope.signOf (k.val % 16) (l.val / 128) (l.val % 64) := by
  pointwise [k0_pay24, k0_pay20, k0_pay21, k0_pay22, k0_pay23]
  simp only [dig_apply, tab_apply, lane64_apply, lane8_apply]
  refine Fin.sum_fin_congr fun k => Ideal.mul_congr rfl ?_
  exact Rope.select_sign l.val l.isLt k.val

theorem tCos_apply (cs : FVec Ideal S128x48 .bf16) (r : Fin 128) (l : Fin 128) :
    tCos cs (ix2 r l) = (∑ k : Fin 48, cs (ix2 r k) * Rope.signOf (k.val % 16) 0 (l.val % 64)) + if l.val % 64 < 16 then 0 else 1 := by
  have hl := l.isLt
  pointwise [tCos, k0_pay25]
  rw [Out4.low_bit, pick_apply]
  refine Ideal.add_congr ?_ ?_
  · exact Fin.sum_fin_congr fun k => Ideal.mul_congr rfl (congrArg₂ _ (by dsimp only; omega) (by dsimp only))
  · split_ifs <;> rfl

theorem tLow_apply (cs : FVec Ideal S128x48 .bf16) (r : Fin 128) (l : Fin 128) :
    tLow cs (ix2 r l) = ∑ k : Fin 48, cs (ix2 r k) * Rope.signOf (k.val % 16) 1 (l.val % 64) := by
  have hl := l.isLt
  pointwise [tLow, k0_pay26]
  rw [pick_apply]
  exact Fin.sum_fin_congr fun k => Ideal.mul_congr rfl (congrArg₂ _ (by dsimp only; omega) (by dsimp only; omega))

theorem tHigh_apply (cs : FVec Ideal S128x48 .bf16) (r : Fin 128) (l : Fin 128) :
    tHigh cs (ix2 r l) = ∑ k : Fin 48, cs (ix2 r k) * Rope.signOf (k.val % 16) 2 (l.val % 64) := by
  have hl := l.isLt
  pointwise [tHigh, k0_pay27]
  rw [pick_apply]
  exact Fin.sum_fin_congr fun k => Ideal.mul_congr rfl (congrArg₂ _ (by dsimp only; omega) (by dsimp only; omega))

theorem bits_eighth : Ideal.ofBits .f32 0x3E000000#32 = ((1 / 8 : ℝ) : EReal) := by
  simp [Ideal.ofBits, Ideal.ieee, -EReal.coe_mul]; norm_num

/-- A block of rows over two heads, scaled and turned back. -/
theorem turned_apply (cs : FVec Ideal S128x48 .bf16) (x : FVec Ideal S128x128 .f32) (r l : Fin 128) (hp : ∀ k : Fin 48, 16 ≤ k.val → cs (ix2 r k) = 0) :
    turned cs x (ix2 r l) = Rope.turnBack (fun l => x (ix2 r l) * ((1 / 8 : ℝ) : EReal)) (fun k => cs (ix2 r k)) l := by
  rw [← Rope.turnBack_of_rolls _ _ hp]
  have hl := l.isLt
  pointwise [turned, k0_pay85]
  rw [tCos_apply, tLow_apply, tHigh_apply, bits_eighth]
  refine Ideal.add_congr (Ideal.add_congr rfl ?_) ?_
  · refine Ideal.mul_congr ?_ ?_
    · exact congrArg (fun i => x (ix2 r i) * ((1 / 8 : ℝ) : EReal)) (Fin.ext (by dsimp only; omega))
    · exact Fin.sum_fin_congr fun k => Ideal.mul_congr rfl (congrArg₂ _ rfl (by dsimp only; omega))
  · refine Ideal.mul_congr ?_ ?_
    · exact congrArg (fun i => x (ix2 r i) * ((1 / 8 : ℝ) : EReal)) (Fin.ext (by dsimp only; omega))
    · exact Fin.sum_fin_congr fun k => Ideal.mul_congr rfl (congrArg₂ _ rfl (by dsimp only; omega))

end Cert.Proof.Out5
end
-- ==== Proof.Rowdq5.lean ====
/-
  The attention backward's block of rows, in real numbers: the four products' rows that the body stores, of the blocks that it reads.
-/
module

public import proofs.«01_k».proof.Proof.Rows5
public import proofs.«01_k».proof.Proof.Tab5

@[expose] public section

set_option maxRecDepth 16384

noncomputable section
open Idealize.ShloMosaic Idealize.ShloMosaic.TcCoe

namespace Cert.Proof.Out5
open Cert.Kernel5Ideal Cert.Kernel5Ideal.Gen
open Cert.Proof.Soft (sees)

/-! ## Columns, one block under the other -/

theorem stack36 (a b c d : Vec Ideal S128x128 .bf16) (ρ : Fin 512) (l : Fin 128) (y : EReal)
    (ha : ρ.val / 128 = 0 → a (ix2 ⟨ρ.val % 128, by omega⟩ l) = y) (hb : ρ.val / 128 = 1 → b (ix2 ⟨ρ.val % 128, by omega⟩ l) = y)
    (hc : ρ.val / 128 = 2 → c (ix2 ⟨ρ.val % 128, by omega⟩ l) = y) (hd : ρ.val / 128 = 3 → d (ix2 ⟨ρ.val % 128, by omega⟩ l) = y) :
    k0_pay36 (F := Ideal) a b c d (ix2 ρ l) = y := by
  have hρ := ρ.isLt
  pointwise [k0_pay36]
  split_ifs <;> first
    | exact (congrArg (fun r => a (ix2 r l)) (Fin.ext (by dsimp only; omega))).trans (ha (by omega))
    | exact (congrArg (fun r => b (ix2 r l)) (Fin.ext (by dsimp only; omega))).trans (hb (by omega))
    | exact (congrArg (fun r => c (ix2 r l)) (Fin.ext (by dsimp only; omega))).trans (hc (by omega))
    | exact (congrArg (fun r => d (ix2 r l)) (Fin.ext (by dsimp only; omega))).trans (hd (by omega))

theorem stack37 (a b c d : Vec Ideal S128x128 .f32) (ρ : Fin 512) (l : Fin 128) (y : EReal)
    (ha : ρ.val / 128 = 0 → a (ix2 ⟨ρ.val % 128, by omega⟩ l) = y) (hb : ρ.val / 128 = 1 → b (ix2 ⟨ρ.val % 128, by omega⟩ l) = y)
    (hc : ρ.val / 128 = 2 → c (ix2 ⟨ρ.val % 128, by omega⟩ l) = y) (hd : ρ.val / 128 = 3 → d (ix2 ⟨ρ.val % 128, by omega⟩ l) = y) :
    k0_pay37 (F := Ideal) a b c d (ix2 ρ l) = y := by
  have hρ := ρ.isLt
  pointwise [k0_pay37]
  split_ifs <;> first
    | exact (congrArg (fun r => a (ix2 r l)) (Fin.ext (by dsimp only; omega))).trans (ha (by omega))
    | exact (congrArg (fun r => b (ix2 r l)) (Fin.ext (by dsimp only; omega))).trans (hb (by omega))
    | exact (congrArg (fun r => c (ix2 r l)) (Fin.ext (by dsimp only; omega))).trans (hc (by omega))
    | exact (congrArg (fun r => d (ix2 r l)) (Fin.ext (by dsimp only; omega))).trans (hd (by omega))

theorem stack60 (a b c d : Vec Ideal S128x128 .bf16) (ρ : Fin 512) (l : Fin 128) (y : EReal)
    (ha : ρ.val / 128 = 0 → a (ix2 ⟨ρ.val % 128, by omega⟩ l) = y) (hb : ρ.val / 128 = 1 → b (ix2 ⟨ρ.val % 128, by omega⟩ l) = y)
    (hc : ρ.val / 128 = 2 → c (ix2 ⟨ρ.val % 128, by omega⟩ l) = y) (hd : ρ.val / 128 = 3 → d (ix2 ⟨ρ.val % 128, by omega⟩ l) = y) :
    k0_pay60 (F := Ideal) a b c d (ix2 ρ l) = y := by
  have hρ := ρ.isLt
  pointwise [k0_pay60]
  split_ifs <;> first
    | exact (congrArg (fun r => a (ix2 r l)) (Fin.ext (by dsimp only; omega))).trans (ha (by omega))
    | exact (congrArg (fun r => b (ix2 r l)) (Fin.ext (by dsimp only; omega))).trans (hb (by omega))
    | exact (congrArg (fun r => c (ix2 r l)) (Fin.ext (by dsimp only; omega))).trans (hc (by omega))
    | exact (congrArg (fun r => d (ix2 r l)) (Fin.ext (by dsimp only; omega))).trans (hd (by omega))

theorem q0_apply (X : Vec Ideal S128x1024 .bf16) (ρ : Fin 512) (l : Fin 128) :
    q0 (F := Ideal) (fun B y => X (B.idx y)) (ix2 ρ l) = X (ix2 ⟨ρ.val % 128, by omega⟩ ⟨128 * (ρ.val / 128) + l.val, by omega⟩) := by
  have hρ := ρ.isLt
  unfold q0
  refine stack36 _ _ _ _ ρ l _ ?_ ?_ ?_ ?_ <;> intro h <;>
    exact (part_cols X _ _ (by omega) _ l).trans (congrArg X (congrArg₂ ix2 rfl (Fin.ext (by dsimp only; omega))))

theorem q1_apply (X : Vec Ideal S128x1024 .bf16) (ρ : Fin 512) (l : Fin 128) :
    q1 (F := Ideal) (fun B y => X (B.idx y)) (ix2 ρ l) = X (ix2 ⟨ρ.val % 128, by omega⟩ ⟨128 * (4 + ρ.val / 128) + l.val, by omega⟩) := by
  have hρ := ρ.isLt
  unfold q1
  refine stack36 _ _ _ _ ρ l _ ?_ ?_ ?_ ?_ <;> intro h <;>
    exact (part_cols X _ _ (by omega) _ l).trans (congrArg X (congrArg₂ ix2 rfl (Fin.ext (by dsimp only; omega))))

theorem d0_apply (X : Vec Ideal S128x1024 .bf16) (ρ : Fin 512) (l : Fin 128) :
    d0 (F := Ideal) (fun B y => X (B.idx y)) (ix2 ρ l) = X (ix2 ⟨ρ.val % 128, by omega⟩ ⟨128 * (ρ.val / 128) + l.val, by omega⟩) := by
  have hρ := ρ.isLt
  unfold d0
  refine stack60 _ _ _ _ ρ l _ ?_ ?_ ?_ ?_ <;> intro h <;>
    exact (part_cols X _ _ (by omega) _ l).trans (congrArg X (congrArg₂ ix2 rfl (Fin.ext (by dsimp only; omega))))

theorem d1_apply (X : Vec Ideal S128x1024 .bf16) (ρ : Fin 512) (l : Fin 128) :
    d1 (F := Ideal) (fun B y => X (B.idx y)) (ix2 ρ l) = X (ix2 ⟨ρ.val % 128, by omega⟩ ⟨128 * (4 + ρ.val / 128) + l.val, by omega⟩) := by
  have hρ := ρ.isLt
  unfold d1
  refine stack60 _ _ _ _ ρ l _ ?_ ?_ ?_ ?_ <;> intro h <;>
    exact (part_cols X _ _ (by omega) _ l).trans (congrArg X (congrArg₂ ix2 rfl (Fin.ext (by dsimp only; omega))))

theorem z0_apply (X : Vec Ideal S128x1024 .f32) (ρ : Fin 512) (l : Fin 128) :
    z0 (F := Ideal) (fun B y => X (B.idx y)) (ix2 ρ l) = X (ix2 ⟨ρ.val % 128, by omega⟩ ⟨128 * (ρ.val / 128) + l.val, by omega⟩) := by
  have hρ := ρ.isLt
  unfold z0
  refine stack37 _ _ _ _ ρ l _ ?_ ?_ ?_ ?_ <;> intro h <;>
    exact (part_cols X _ _ (by omega) _ l).trans (congrArg X (congrArg₂ ix2 rfl (Fin.ext (by dsimp only; omega))))

theorem z1_apply (X : Vec Ideal S128x1024 .f32) (ρ : Fin 512) (l : Fin 128) :
    z1 (F := Ideal) (fun B y => X (B.idx y)) (ix2 ρ l) = X (ix2 ⟨ρ.val % 128, by omega⟩ ⟨128 * (4 + ρ.val / 128) + l.val, by omega⟩) := by
  have hρ := ρ.isLt
  unfold z1
  refine stack37 _ _ _ _ ρ l _ ?_ ?_ ?_ ?_ <;> intro h <;>
    exact (part_cols X _ _ (by omega) _ l).trans (congrArg X (congrArg₂ ix2 rfl (Fin.ext (by dsimp only; omega))))

/-! ## Rows in real numbers -/

/-- A pair of heads' lanes of a row; a group's keys in a window. -/
def rowOf (x : Fin 1024 → ℝ) (P : Fin 8) (l : Fin 128) : ℝ := x ⟨128 * P.val + l.val, by omega⟩
def keyOf (x : Fin 2048 → Fin 128 → ℝ) (n : Fin 16) (P : Fin 8) (d : Fin 64) (c : Fin 256) : ℝ := x (win n c) ⟨64 * (P.val / 4) + d.val, by omega⟩

section
variable (n : Fin 16) (q z g : Fin 1024 → ℝ) (k v : Fin 2048 → Fin 128 → ℝ) (sk : Fin 16 → ℝ) (r : Fin 128) (P : Fin 8) (l : Fin 128)
def rowDq : ℝ := laneDq (rowOf q P) (rowOf g P) (rowOf z P) (keyOf k n P) (keyOf v n P) (fun c => sees n.val r.val c.val) (sk ⟨2 * P.val, by omega⟩) (sk ⟨2 * P.val + 1, by omega⟩) l
def rowDz : ℝ := laneDz (rowOf q P) (rowOf g P) (rowOf z P) (keyOf k n P) (keyOf v n P) (fun c => sees n.val r.val c.val) (sk ⟨2 * P.val, by omega⟩) (sk ⟨2 * P.val + 1, by omega⟩) l
end

/-- The head of half `e` of group `γ` in row `ρ` of its four stacked columns. -/
def sinkIx (γ e : Fin 2) (ρ : Fin 512) : Fin 16 := ⟨8 * γ.val + 2 * (ρ.val / 128) + e.val, by omega⟩

section
variable {i : grid0.Coords} {n : Fin 16} (hn : (i 1).val = n.val) {X2 X7 : Vec Ideal S128x1024 .bf16} {X3 X4 : Vec Ideal S2048x128 .bf16} {X5 : Vec Ideal S128x1024 .f32}
  {X6 : Vec Ideal S2x2x512x128 .f32} {q z g : Fin 128 → Fin 1024 → ℝ} {k v : Fin 2048 → Fin 128 → ℝ} {sk : Fin 16 → ℝ}
  (h2 : ∀ r j, X2 (ix2 r j) = (q r j : EReal)) (h3 : ∀ s l, X3 (ix2 s l) = (k s l : EReal)) (h4 : ∀ s l, X4 (ix2 s l) = (v s l : EReal))
  (h5 : ∀ r j, X5 (ix2 r j) = (z r j : EReal)) (h6 : ∀ (γ e : Fin 2) (ρ : Fin 512) (l : Fin 128), X6 (ix4 γ e ρ l) = (sk (sinkIx γ e ρ) : EReal))
  (h7 : ∀ r j, X7 (ix2 r j) = (g r j : EReal)) (ρ : Fin 512) (l : Fin 128)
include hn h2 h3 h4 h5 h6 h7

theorem first_rows :
    dq0 (F := Ideal) i (fun B y => X2 (B.idx y)) (fun B y => X3 (B.idx y)) (fun B y => X4 (B.idx y)) (fun B y => X5 (B.idx y)) (fun B y => X6 (B.idx y)) (fun B y => X7 (B.idx y))
        (fun B y => mask (B.idx y)) (ix2 ρ l) = (rowDq n (q ⟨ρ.val % 128, by omega⟩) (z ⟨ρ.val % 128, by omega⟩) (g ⟨ρ.val % 128, by omega⟩) k v sk ⟨ρ.val % 128, by omega⟩ ⟨ρ.val / 128, by omega⟩ l : EReal)
    ∧ dz0 (F := Ideal) i (fun B y => X2 (B.idx y)) (fun B y => X3 (B.idx y)) (fun B y => X4 (B.idx y)) (fun B y => X5 (B.idx y)) (fun B y => X6 (B.idx y)) (fun B y => X7 (B.idx y))
        (fun B y => mask (B.idx y)) (ix2 ρ l) = (rowDz n (q ⟨ρ.val % 128, by omega⟩) (z ⟨ρ.val % 128, by omega⟩) (g ⟨ρ.val % 128, by omega⟩) k v sk ⟨ρ.val % 128, by omega⟩ ⟨ρ.val / 128, by omega⟩ l : EReal) := by
  have hρ := ρ.isLt
  have e (x : Fin 2048 → Fin 128 → ℝ) : (fun (d : Fin 64) (c : Fin 256) => x (win n c) ⟨d.val, by omega⟩) = keyOf x n ⟨ρ.val / 128, by omega⟩ :=
    funext fun d => funext fun c => congrArg (x (win n c)) (Fin.ext (by dsimp only; omega))
  have hk (l c) := (keys_apply i n hn X3 l c).trans (h3 (win n c) l)
  have hv (l c) := (vals_apply i n hn X4 l c).trans (h4 (win n c) l)
  have a31 (l c) := pad31 _ (fun l c => k (win n c) l) hk l c
  have a32 (l c) := pad32 _ (fun l c => k (win n c) l) hk l c
  have a34 (l c) := pad31 _ (fun l c => v (win n c) l) hv l c
  have a35 (l c) := pad32 _ (fun l c => v (win n c) l) hv l c
  rw [e] at a31 a32 a34 a35
  have ha (l : Fin 128) := (part_sink X6 0 0 inb_S2x2x512x128_S1x1x512x128_0_0_0_0 ρ l).trans ((h6 0 0 ρ l).trans (congrArg (fun j => (sk j : EReal))
    (Fin.ext (by simp [sinkIx]) : _ = (⟨2 * (ρ.val / 128), by omega⟩ : Fin 16))))
  have hb (l : Fin 128) := (part_sink X6 0 1 inb_S2x2x512x128_S1x1x512x128_0_1_0_0 ρ l).trans ((h6 0 1 ρ l).trans (congrArg (fun j => (sk j : EReal))
    (Fin.ext (by simp [sinkIx]) : _ = (⟨2 * (ρ.val / 128) + 1, by omega⟩ : Fin 16))))
  exact ⟨group_dq (fun l => (q0_apply X2 ρ l).trans (h2 _ _)) a31 a32 a34 a35 (bias_apply i n hn ρ) ha hb (fun l => (z0_apply X5 ρ l).trans (h5 _ _)) (fun l => (d0_apply X7 ρ l).trans (h7 _ _)) l,
    group_dz (fun l => (q0_apply X2 ρ l).trans (h2 _ _)) a31 a32 a34 a35 (bias_apply i n hn ρ) ha hb (fun l => (z0_apply X5 ρ l).trans (h5 _ _)) (fun l => (d0_apply X7 ρ l).trans (h7 _ _)) l⟩

theorem second_rows :
    dq1 (F := Ideal) i (fun B y => X2 (B.idx y)) (fun B y => X3 (B.idx y)) (fun B y => X4 (B.idx y)) (fun B y => X5 (B.idx y)) (fun B y => X6 (B.idx y)) (fun B y => X7 (B.idx y))
        (fun B y => mask (B.idx y)) (ix2 ρ l) = (rowDq n (q ⟨ρ.val % 128, by omega⟩) (z ⟨ρ.val % 128, by omega⟩) (g ⟨ρ.val % 128, by omega⟩) k v sk ⟨ρ.val % 128, by omega⟩ ⟨4 + ρ.val / 128, by omega⟩ l : EReal)
    ∧ dz1 (F := Ideal) i (fun B y => X2 (B.idx y)) (fun B y => X3 (B.idx y)) (fun B y => X4 (B.idx y)) (fun B y => X5 (B.idx y)) (fun B y => X6 (B.idx y)) (fun B y => X7 (B.idx y))
        (fun B y => mask (B.idx y)) (ix2 ρ l) = (rowDz n (q ⟨ρ.val % 128, by omega⟩) (z ⟨ρ.val % 128, by omega⟩) (g ⟨ρ.val % 128, by omega⟩) k v sk ⟨ρ.val % 128, by omega⟩ ⟨4 + ρ.val / 128, by omega⟩ l : EReal) := by
  have hρ := ρ.isLt
  have e (x : Fin 2048 → Fin 128 → ℝ) : (fun (d : Fin 64) (c : Fin 256) => x (win n c) ⟨64 + d.val, by omega⟩) = keyOf x n ⟨4 + ρ.val / 128, by omega⟩ :=
    funext fun d => funext fun c => congrArg (x (win n c)) (Fin.ext (by dsimp only; omega))
  have hk (l c) := (keys_apply i n hn X3 l c).trans (h3 (win n c) l)
  have hv (l c) := (vals_apply i n hn X4 l c).trans (h4 (win n c) l)
  have a31 (l c) := pad93 _ (fun l c => k (win n c) l) hk l c
  have a32 (l c) := pad94 _ (fun l c => k (win n c) l) hk l c
  have a34 (l c) := pad93 _ (fun l c => v (win n c) l) hv l c
  have a35 (l c) := pad94 _ (fun l c => v (win n c) l) hv l c
  rw [e] at a31 a32 a34 a35
  have ha (l : Fin 128) := (part_sink X6 1 0 inb_S2x2x512x128_S1x1x512x128_1_0_0_0 ρ l).trans ((h6 1 0 ρ l).trans (congrArg (fun j => (sk j : EReal))
    (Fin.ext (by simp [sinkIx]; omega) : _ = (⟨2 * (4 + ρ.val / 128), by omega⟩ : Fin 16))))
  have hb (l : Fin 128) := (part_sink X6 1 1 inb_S2x2x512x128_S1x1x512x128_1_1_0_0 ρ l).trans ((h6 1 1 ρ l).trans (congrArg (fun j => (sk j : EReal))
    (Fin.ext (by simp [sinkIx]; omega) : _ = (⟨2 * (4 + ρ.val / 128) + 1, by omega⟩ : Fin 16))))
  exact ⟨group_dq (fun l => (q1_apply X2 ρ l).trans (h2 _ _)) a31 a32 a34 a35 (bias_apply i n hn ρ) ha hb (fun l => (z1_apply X5 ρ l).trans (h5 _ _)) (fun l => (d1_apply X7 ρ l).trans (h7 _ _)) l,
    group_dz (fun l => (q1_apply X2 ρ l).trans (h2 _ _)) a31 a32 a34 a35 (bias_apply i n hn ρ) ha hb (fun l => (z1_apply X5 ρ l).trans (h5 _ _)) (fun l => (d1_apply X7 ρ l).trans (h7 _ _)) l⟩
end

end Cert.Proof.Out5
end
-- ==== Proof.Cols5.lean ====
/-
  The attention backward's block of the projection's gradient, column by column: the queries' gradients turned back, the columns left for the keys and values, the gates'.
-/
module

public import proofs.«01_k».proof.Proof.Rowdq5
public import Idealize.ShloMosaic.Lib.Pipeline.ReadBack

@[expose] public section

set_option maxRecDepth 16384

noncomputable section
open Idealize.ShloMosaic Idealize.ShloMosaic.TcCoe

namespace Cert.Proof.Out5
open Cert.Kernel5Ideal Cert.Kernel5Ideal.Gen

/-- A row of the projection's gradient, of the row's queries' and gates' gradients and of its angles' cosines and sines. -/
def cellOf (cs : Fin 48 → EReal) (dq dz : Fin 8 → Fin 128 → ℝ) (j : Fin 2304) : EReal :=
  if h : j.val < 1024 then Rope.turnBack (fun l => (dq ⟨j.val / 128, by omega⟩ l : EReal) * ((1 / 8 : ℝ) : EReal)) cs ⟨j.val % 128, by omega⟩
  else if h' : j.val < 1280 then 0 else (dz ⟨(j.val - 1280) / 128, by omega⟩ ⟨(j.val - 1280) % 128, by omega⟩ : EReal)

theorem emb_cols {n p q : ℕ} (o : ℕ) (h : ∀ a, (![0, o] : Fin 2 → ℕ) a + (![n, q] : Fin 2 → ℕ) a ≤ (⟨2, ![n, p]⟩ : Shape).size a) (i : Fin n) (j : Fin q) (hj : o + j.val < p) :
    (Rect.unit (s := (⟨2, ![n, p]⟩ : Shape)) ![0, o] ![n, q] h).emb (ix2 i j) = ix2 i ⟨o + j.val, hj⟩ := by
  refine funext fun a => Fin.ext ?_
  fin_cases a <;> simp [Rect.unit, Rect.emb]

section
variable {cs : FVec Ideal S128x48 .bf16} {dq dz : Fin 128 → Fin 8 → Fin 128 → ℝ} (hp : ∀ (r : Fin 128) (k : Fin 48), 16 ≤ k.val → cs (ix2 r k) = 0)

abbrev cells (cs : FVec Ideal S128x48 .bf16) (dq dz : Fin 128 → Fin 8 → Fin 128 → ℝ) (y : S128x2304.Idx) : EReal :=
  cellOf (fun k => cs (ix2 (n0 := 128) (y 0) k)) (dq (y 0)) (dz (y 0)) (y 1)

include hp in
theorem turned_piece (o : ℕ) (P : Fin 8) (ho : o = 128 * P.val) (h : ∀ a, (![0, o] : Fin 2 → ℕ) a + S128x128.size a ≤ S128x2304.size a) (X : FVec Ideal S128x128 .f32)
    (hX : ∀ r l, X (ix2 r l) = (dq r P l : EReal)) (x : (Rect.unit (s := S128x2304) ![0, o] S128x128.size h).shape.Idx) :
    turned cs X x = cells cs dq dz ((Rect.unit (s := S128x2304) ![0, o] S128x128.size h).emb x) := by
  obtain ⟨r, l, rfl⟩ : ∃ (r l : Fin 128), x = ix2 r l := ⟨x 0, x 1, (ix2_eta x).symm⟩
  have hP := P.isLt
  refine (turned_apply cs X r l (hp r)).trans ?_
  rw [show (Rect.unit (s := S128x2304) ![0, o] S128x128.size h).emb (ix2 r l) = ix2 r ⟨o + l.val, by omega⟩ from emb_cols (n := 128) (p := 2304) (q := 128) o h r l (by omega)]
  show _ = cellOf (fun k => cs (ix2 r k)) (dq r) (dz r) ⟨o + l.val, _⟩
  rw [cellOf, dif_pos (by dsimp only; omega)]
  simp only [hX]
  have e1 : (⟨(o + l.val) / 128, by omega⟩ : Fin 8) = P := Fin.ext (by dsimp only; omega)
  have e2 : (⟨(o + l.val) % 128, by omega⟩ : Fin 128) = l := Fin.ext (by dsimp only; omega)
  rw [e1, e2]

theorem plain_piece (o : ℕ) (P : Fin 8) (ho : o = 1280 + 128 * P.val) (h : ∀ a, (![0, o] : Fin 2 → ℕ) a + S128x128.size a ≤ S128x2304.size a) (X : FVec Ideal S128x128 .f32)
    (hX : ∀ r l, X (ix2 r l) = (dz r P l : EReal)) (x : (Rect.unit (s := S128x2304) ![0, o] S128x128.size h).shape.Idx) :
    plain X x = cells cs dq dz ((Rect.unit (s := S128x2304) ![0, o] S128x128.size h).emb x) := by
  obtain ⟨r, l, rfl⟩ : ∃ (r l : Fin 128), x = ix2 r l := ⟨x 0, x 1, (ix2_eta x).symm⟩
  have hP := P.isLt
  rw [show (Rect.unit (s := S128x2304) ![0, o] S128x128.size h).emb (ix2 r l) = ix2 r ⟨o + l.val, by omega⟩ from emb_cols (n := 128) (p := 2304) (q := 128) o h r l (by omega)]
  show X (ix2 r l) = cellOf (fun k => cs (ix2 r k)) (dq r) (dz r) ⟨o + l.val, _⟩
  rw [cellOf, dif_neg (by dsimp only; omega), dif_neg (by dsimp only; omega), hX]
  have e1 : (⟨(o + l.val - 1280) / 128, by omega⟩ : Fin 8) = P := Fin.ext (by dsimp only; omega)
  have e2 : (⟨(o + l.val - 1280) % 128, by omega⟩ : Fin 128) = l := Fin.ext (by dsimp only; omega)
  rw [e1, e2]

theorem zero_piece (x : (Rect.unit (s := S128x2304) ![0, 1024] S128x256.size inb_S128x2304_S128x256_0_1024).shape.Idx) :
    k0_pay155 (F := Ideal) x = cells cs dq dz ((Rect.unit (s := S128x2304) ![0, 1024] S128x256.size inb_S128x2304_S128x256_0_1024).emb x) := by
  obtain ⟨r, l, rfl⟩ : ∃ (r : Fin 128) (l : Fin 256), x = ix2 r l := ⟨x 0, x 1, (ix2_eta x).symm⟩
  rw [show (Rect.unit (s := S128x2304) ![0, 1024] S128x256.size inb_S128x2304_S128x256_0_1024).emb (ix2 r l) = ix2 r ⟨1024 + l.val, by omega⟩ from
    emb_cols (n := 128) (p := 2304) (q := 256) 1024 inb_S128x2304_S128x256_0_1024 r l (by omega)]
  show _ = cellOf (fun k => cs (ix2 r k)) (dq r) (dz r) ⟨1024 + l.val, _⟩
  rw [cellOf, dif_neg (by dsimp only; omega), dif_pos (by dsimp only; omega)]
  pointwise [k0_pay155]

/-- A part of four columns' rows. -/
theorem slice_rows (X : FVec Ideal S512x128 .f32) (f : Fin 128 → Fin 8 → Fin 128 → ℝ) (s : ℕ) (o : ℕ) (P : Fin 8) (j : Fin 4) (ho : o = 128 * j.val) (hP : P.val = s + j.val) (hs : s ≤ 4)
    (h : S512x128.Slices ![o, 0] S128x128) (hX : ∀ (ρ : Fin 512) l, X (ix2 ρ l) = (f ⟨ρ.val % 128, by omega⟩ ⟨s + ρ.val / 128, by omega⟩ l : EReal)) (r l : Fin 128) :
    extractStridedSlice S128x128 ![o, 0] X h (ix2 r l) = (f r P l : EReal) := by
  have hj := j.isLt
  pointwise
  refine (congrArg X (congrArg₂ ix2 (Fin.ext (by dsimp only) : _ = (⟨o + r.val, by omega⟩ : Fin 512)) rfl)).trans ((hX _ l).trans ?_)
  have e1 : (⟨(o + r.val) % 128, by omega⟩ : Fin 128) = r := Fin.ext (by dsimp only; omega)
  have e2 : (⟨s + (o + r.val) / 128, by omega⟩ : Fin 8) = P := Fin.ext (by dsimp only; omega)
  rw [e1, e2]

include hp in
theorem block_value (Q0 Q1 Z0 Z1 : FVec Ideal S512x128 .f32)
    (hq0 : ∀ (ρ : Fin 512) l, Q0 (ix2 ρ l) = (dq ⟨ρ.val % 128, by omega⟩ ⟨0 + ρ.val / 128, by omega⟩ l : EReal))
    (hq1 : ∀ (ρ : Fin 512) l, Q1 (ix2 ρ l) = (dq ⟨ρ.val % 128, by omega⟩ ⟨4 + ρ.val / 128, by omega⟩ l : EReal))
    (hz0 : ∀ (ρ : Fin 512) l, Z0 (ix2 ρ l) = (dz ⟨ρ.val % 128, by omega⟩ ⟨0 + ρ.val / 128, by omega⟩ l : EReal))
    (hz1 : ∀ (ρ : Fin 512) l, Z1 (ix2 ρ l) = (dz ⟨ρ.val % 128, by omega⟩ ⟨4 + ρ.val / 128, by omega⟩ l : EReal)) (y : S128x2304.Idx) :
    View.canon (stores cs Q0 Q1 Z0 Z1) y = cells cs dq dz y := by
  have h : View.PiecesOf (Val := Elt Ideal) (cells cs dq dz) (stores cs Q0 Q1 Z0 Z1) := by
    unfold stores
    exact ⟨zero_piece,
      plain_piece 2176 7 rfl inb_S128x2304_S128x128_0_2176 _ (slice_rows Z1 dz 4 384 7 3 rfl rfl (by omega) slices_S512x128_o384_0_S128x128 hz1), turned_piece hp 896 7 rfl inb_S128x2304_S128x128_0_896 _ (slice_rows Q1 dq 4 384 7 3 rfl rfl (by omega) slices_S512x128_o384_0_S128x128 hq1),
      plain_piece 2048 6 rfl inb_S128x2304_S128x128_0_2048 _ (slice_rows Z1 dz 4 256 6 2 rfl rfl (by omega) slices_S512x128_o256_0_S128x128 hz1), turned_piece hp 768 6 rfl inb_S128x2304_S128x128_0_768 _ (slice_rows Q1 dq 4 256 6 2 rfl rfl (by omega) slices_S512x128_o256_0_S128x128 hq1),
      plain_piece 1920 5 rfl inb_S128x2304_S128x128_0_1920 _ (slice_rows Z1 dz 4 128 5 1 rfl rfl (by omega) slices_S512x128_o128_0_S128x128 hz1), turned_piece hp 640 5 rfl inb_S128x2304_S128x128_0_640 _ (slice_rows Q1 dq 4 128 5 1 rfl rfl (by omega) slices_S512x128_o128_0_S128x128 hq1),
      plain_piece 1792 4 rfl inb_S128x2304_S128x128_0_1792 _ (slice_rows Z1 dz 4 0 4 0 rfl rfl (by omega) slices_S512x128_o0_0_S128x128 hz1), turned_piece hp 512 4 rfl inb_S128x2304_S128x128_0_512 _ (slice_rows Q1 dq 4 0 4 0 rfl rfl (by omega) slices_S512x128_o0_0_S128x128 hq1),
      plain_piece 1664 3 rfl inb_S128x2304_S128x128_0_1664 _ (slice_rows Z0 dz 0 384 3 3 rfl rfl (by omega) slices_S512x128_o384_0_S128x128 hz0), turned_piece hp 384 3 rfl inb_S128x2304_S128x128_0_384 _ (slice_rows Q0 dq 0 384 3 3 rfl rfl (by omega) slices_S512x128_o384_0_S128x128 hq0),
      plain_piece 1536 2 rfl inb_S128x2304_S128x128_0_1536 _ (slice_rows Z0 dz 0 256 2 2 rfl rfl (by omega) slices_S512x128_o256_0_S128x128 hz0), turned_piece hp 256 2 rfl inb_S128x2304_S128x128_0_256 _ (slice_rows Q0 dq 0 256 2 2 rfl rfl (by omega) slices_S512x128_o256_0_S128x128 hq0),
      plain_piece 1408 1 rfl inb_S128x2304_S128x128_0_1408 _ (slice_rows Z0 dz 0 128 1 1 rfl rfl (by omega) slices_S512x128_o128_0_S128x128 hz0), turned_piece hp 128 1 rfl inb_S128x2304_S128x128_0_128 _ (slice_rows Q0 dq 0 128 1 1 rfl rfl (by omega) slices_S512x128_o128_0_S128x128 hq0),
      plain_piece 1280 0 rfl inb_S128x2304_S128x128_0_1280 _ (slice_rows Z0 dz 0 0 0 0 rfl rfl (by omega) slices_S512x128_o0_0_S128x128 hz0), turned_piece hp 0 0 rfl inb_S128x2304_S128x128_0_0 _ (slice_rows Q0 dq 0 0 0 0 rfl rfl (by omega) slices_S512x128_o0_0_S128x128 hq0), trivial⟩
  have e := View.canon_append_of_piecesOf (cells cs dq dz) [] _ h y (covers cs Q0 Q1 Z0 Z1 y)
  rwa [List.append_nil] at e
end

end Cert.Proof.Out5
end
-- ==== Proof.Host5.lean ====
/-
  The attention backward: what the kernel's host computes before the kernel runs.
-/
module

public import proofs.«01_k».proof.Proof.Gen.Kernel5Ideal.Frame
public import proofs.«01_k».proof.Proof.Tab4

@[expose] public section

set_option maxRecDepth 16384

noncomputable section
open Idealize.ShloMosaic Idealize.ShloMosaic.TcCoe Idealize.SL.Sem
open Idealize.ShloMosaic.Pipeline (Dat)

namespace Cert.Proof.Out5
open Cert.Kernel5Ideal Cert.Kernel5Ideal.Gen

variable (m : (ℓ : Loc nD τ sig) → Buf (Elt Ideal) ℓ) (c : Dev nD)

abbrev aQ : FVec Ideal S8192x1024 .f32 := m ((c.tc : Thread nD τ).loc main_arg0)
abbrev aK : FVec Ideal S8192x128 .bf16 := m ((c.tc : Thread nD τ).loc main_arg1)
abbrev aV : FVec Ideal S8192x128 .bf16 := m ((c.tc : Thread nD τ).loc main_arg2)
abbrev aZ : FVec Ideal S8192x1024 .f32 := m ((c.tc : Thread nD τ).loc main_arg3)
abbrev aS : FVec Ideal S1x16 .f32 := m ((c.tc : Thread nD τ).loc main_arg4)
abbrev aG : FVec Ideal S8192x1024 .bf16 := m ((c.tc : Thread nD τ).loc main_arg5)
abbrev aPos : IVec S4x2048 32 := m ((c.tc : Thread nD τ).loc main_arg6)

/-! ## The host's values -/

def kScaled (q : FVec Ideal S8192x1024 .f32) : FVec Ideal S4x2048x16x64 .f32 :=
  mulf (shapeCast _ q shapeCasts_S8192x1024_S4x2048x16x64) (broadcastInDim S4x2048x16x64 ![] bcast_S_S4x2048x16x64 (constant S_ .f32 0x3E000000#32))

def kAng (pos : IVec S4x2048 32) : FVec Ideal S4x2048x8 .f32 :=
  mulf (broadcastInDim S4x2048x8 ![0, 1, 2] bcast_S4x2048x1_S4x2048x8_0_1_2
      (broadcastInDim S4x2048x1 ![0, 1] bcast_S4x2048_S4x2048x1_0_1 (sitofp .f32 pos)))
    (broadcastInDim S4x2048x8 ![0, 1, 2] bcast_S1x1x8_S4x2048x8_0_1_2 (broadcastInDim S1x1x8 ![2] bcast_S8_S1x1x8_2
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

def kHeads (f : FVec Ideal S4x2048x8 .f32) : FVec Ideal S4x2048x16x8 .f32 :=
  broadcastInDim S4x2048x16x8 ![0, 1, 2, 3] bcast_S4x2048x1x8_S4x2048x16x8_0_1_2_3
    (broadcastInDim S4x2048x1x8 ![0, 1, 3] bcast_S4x2048x8_S4x2048x1x8_0_1_3 f)

def kLow (x : FVec Ideal S4x2048x16x64 .f32) : FVec Ideal S4x2048x16x8 .f32 := extractStridedSlice S4x2048x16x8 ![0, 0, 0, 0] x slices_S4x2048x16x64_S4x2048x16x8_0_0_0_0
def kHigh (x : FVec Ideal S4x2048x16x64 .f32) : FVec Ideal S4x2048x16x8 .f32 := extractStridedSlice S4x2048x16x8 ![0, 0, 0, 8] x slices_S4x2048x16x64_S4x2048x16x8_0_0_0_8

def kTurnedBy (x : FVec Ideal S4x2048x16x64 .f32) (ang : FVec Ideal S4x2048x8 .f32) : FVec Ideal S4x2048x16x64 .f32 :=
  concatenate S4x2048x16x64 3 [⟨S4x2048x16x8, subf (mulf (kLow x) (kHeads (Host.cos ang))) (mulf (kHigh x) (kHeads (Host.sin ang)))⟩,
    ⟨S4x2048x16x8, addf (mulf (kHigh x) (kHeads (Host.cos ang))) (mulf (kLow x) (kHeads (Host.sin ang)))⟩,
    ⟨S4x2048x16x48, extractStridedSlice S4x2048x16x48 ![0, 0, 0, 16] x slices_S4x2048x16x64_S4x2048x16x48_0_0_0_16⟩] concatenates_S4x2048x16x8_S4x2048x16x8_S4x2048x16x48_S4x2048x16x64_d3

def kTurned (x : FVec Ideal S4x2048x16x64 .f32) (pos : IVec S4x2048 32) : FVec Ideal S4x2048x16x64 .f32 := kTurnedBy x (kAng pos)

def kRows (q : FVec Ideal S8192x1024 .f32) (pos : IVec S4x2048 32) : FVec Ideal S8192x1024 .bf16 :=
  truncf .bf16 (shapeCast _ (kTurned (kScaled q) pos) shapeCasts_S4x2048x16x64_S8192x1024) bitsLt_bf16_f32

def kSinks (s : FVec Ideal S1x16 .f32) : FVec Ideal S2x2x512x128 .f32 :=
  shapeCast _ (broadcastInDim S2x2x4x128x128 ![0, 1, 2, 3, 4] bcast_S2x2x4x1x1_S2x2x4x128x128_0_1_2_3_4
    (broadcastInDim S2x2x4x1x1 ![0, 1, 2] bcast_S2x2x4_S2x2x4x1x1_0_1_2 (transpose S2x2x4 [0, 2, 1] (shapeCast _ s shapeCasts_S1x16_S2x4x2) transposes_S2x4x2_S2x2x4_0_2_1)))
    shapeCasts_S2x2x4x128x128_S2x2x512x128

def trigOf (ang : FVec Ideal S8192x8 .f32) : FVec Ideal S8192x16 .f32 :=
  concatenate S8192x16 1 [⟨S8192x8, Host.cos ang⟩, ⟨S8192x8, Host.sin ang⟩] concatenates_S8192x8_S8192x8_S8192x16_d1
def piecesOf (x y : FVec Ideal S8192x16 .f32) : FVec Ideal S8192x48 .bf16 :=
  concatenate S8192x48 1 [⟨S8192x16, (truncf .bf16 x bitsLt_bf16_f32 : FVec Ideal S8192x16 .bf16)⟩, ⟨S8192x16, (truncf .bf16 y bitsLt_bf16_f32 : FVec Ideal S8192x16 .bf16)⟩,
    ⟨S8192x16, (truncf .bf16 (subf y (extf .f32 (truncf .bf16 y bitsLt_bf16_f32) bitsLt_bf16_f32)) bitsLt_bf16_f32 : FVec Ideal S8192x16 .bf16)⟩] concatenates_S8192x16_S8192x16_S8192x16_S8192x48_d1

theorem V_2 : (V m c main_v2 : FVec Ideal S4x2048x16x64 .f32) = kScaled (aQ m c) := by
  entry_read
  rfl
theorem V_16 : (V m c main_v16 : FVec Ideal S4x2048x8 .f32) = kAng (aPos m c) := by
  entry_read
  rfl
set_option maxHeartbeats 4000000 in
theorem V_34 : (V m c main_v34 : FVec Ideal S4x2048x16x64 .f32) = kTurned (kScaled (aQ m c)) (aPos m c) :=
  (show (V m c main_v34 : FVec Ideal S4x2048x16x64 .f32) = kTurnedBy (V m c main_v2) (V m c main_v16) from rfl).trans (congrArg₂ kTurnedBy (V_2 m c) (V_16 m c))
theorem V_36 : (V m c main_v36 : FVec Ideal S8192x1024 .bf16) = kRows (aQ m c) (aPos m c) := by
  rw [kRows, ← V_34]
  rfl
theorem V_41 : (V m c main_v41 : FVec Ideal S2x2x512x128 .f32) = kSinks (aS m c) := by
  entry_read
  rfl
theorem V_55 : (V m c main_v55 : FVec Ideal S8192x8 .f32) = Out4.hAng (aPos m c) := by
  entry_read
  rfl
set_option maxHeartbeats 4000000 in
theorem V_58 : (V m c main_v58 : FVec Ideal S8192x16 .f32) = Out4.hTrig (aPos m c) :=
  (show (V m c main_v58 : FVec Ideal S8192x16 .f32) = trigOf (V m c main_v55) from rfl).trans (congrArg trigOf (V_55 m c))
theorem V_61 : (V m c main_v61 : FVec Ideal S8192x16 .f32) = Out4.hRest (aPos m c) := by
  rw [Out4.hRest, ← V_58]
  rfl
set_option maxHeartbeats 4000000 in
theorem V_66 : (V m c main_v66 : FVec Ideal S8192x48 .bf16) = Out4.hPieces (aPos m c) :=
  (show (V m c main_v66 : FVec Ideal S8192x48 .bf16) = piecesOf (V m c main_v58) (V m c main_v61) from rfl).trans (congrArg₂ piecesOf (V_58 m c) (V_61 m c))

end Cert.Proof.Out5
end
-- ==== Proof.Kern5.lean ====
/-
  The attention backward: the host's values and the kernel's blocks at an index.
-/
module

public import proofs.«01_k».proof.Proof.Cols5
public import proofs.«01_k».proof.Proof.Host5
public import proofs.«01_k».proof.Proof.Turn

@[expose] public section

set_option maxRecDepth 16384

noncomputable section
open Idealize.ShloMosaic Idealize.ShloMosaic.TcCoe Idealize.SL.Sem
open Idealize.ShloMosaic.Pipeline (Dat)

namespace Cert.Proof.Out5
open Cert.Kernel5Ideal Cert.Kernel5Ideal.Gen
open Cert.Proof.Soft (sees)

variable (m : (ℓ : Loc nD τ sig) → Buf (Elt Ideal) ℓ) (c : Dev nD)

/-! ## What they hold at an index -/

theorem kScaled_apply (q : FVec Ideal S8192x1024 .f32) (b : Fin 4) (s : Fin 2048) (h : Fin 16) (d : Fin 64) :
    kScaled q (ix4 b s h d) = q (ix2 ⟨b.val * 2048 + s.val, by omega⟩ ⟨h.val * 64 + d.val, by omega⟩) * ((1 / 8 : ℝ) : EReal) := by
  pointwise [kScaled]
  rw [bits_eighth]

theorem kAng_apply (pos : IVec S4x2048 32) (b : Fin 4) (s : Fin 2048) (a : Fin 8) : kAng pos (ix3 b s a) = Rope.turn (pos (ix2 b s)) a := by
  pointwise [kAng, Rope.turn]

theorem kTurned_apply (x : FVec Ideal S4x2048x16x64 .f32) (pos : IVec S4x2048 32) (b : Fin 4) (s : Fin 2048) (h : Fin 16) (d : Fin 64) :
    kTurned x pos (ix4 b s h d) = Rope.forth (fun d => x (ix4 b s h d)) (Rope.pieces (pos (ix2 b s))) d := by
  pointwise [kTurned, kTurnedBy, kLow, kHigh, kHeads, kAng_apply]
  have hd := d.isLt
  have e (k k' : Fin 64) (hk : k.val = k'.val) : x (ix4 b s h k) = x (ix4 b s h k') := by rw [Fin.ext hk]
  have f (a a' : Fin 8) (ha : a.val = a'.val) : Rope.turn (pos (ix2 b s)) a = Rope.turn (pos (ix2 b s)) a' := by rw [Fin.ext ha]
  have s8 : ¬ 8 + d.val < 8 := by omega
  unfold Rope.forth Rope.pieces
  dsimp only
  by_cases h8 : d.val < 8
  · have s16 : 8 + d.val < 16 := by omega
    rw [dif_pos h8, dif_pos h8, dif_pos h8, dif_neg s8, dif_pos s16]
    exact congrArg₂ (fun a b : EReal => a - b) (Ideal.mul_congr (e _ _ (by dsimp only)) (congrArg _ (f _ _ (by dsimp only))))
      (Ideal.mul_congr (e _ _ (by dsimp only; omega)) (congrArg _ (f _ _ (by dsimp only; omega))))
  · by_cases h16 : d.val < 16
    · have g1 : d.val - 8 < 8 := by omega
      rw [dif_neg h8, dif_neg h8, dif_pos h16, dif_pos g1, dif_pos g1, dif_neg h8, dif_pos h16]
      exact Ideal.add_congr (Ideal.mul_congr (e _ _ (by dsimp only; omega)) (congrArg _ (f _ _ (by dsimp only))))
        (Ideal.mul_congr (e _ _ (by dsimp only)) (congrArg _ (f _ _ (by dsimp only))))
    · have g1 : ¬ d.val - 8 < 8 := by omega
      rw [dif_neg h8, dif_neg h8, dif_neg h16, dif_neg g1]
      exact e _ _ (by dsimp only; omega)

theorem kRows_apply (q : FVec Ideal S8192x1024 .f32) (pos : IVec S4x2048 32) (x : Fin 8192 → Fin 1024 → ℝ) (hx : ∀ T j, q (ix2 T j) = (x T j : EReal)) (T : Fin 8192) (j : Fin 1024) :
    kRows q pos (ix2 T j) = (Rope.forthR (fun d => x T ⟨j.val / 64 * 64 + d.val, by omega⟩ * (1 / 8)) (Rope.piecesR (pos (ix2 ⟨T.val / 2048, by omega⟩ ⟨T.val % 2048, by omega⟩))) ⟨j.val % 64, by omega⟩ : EReal) := by
  rw [← Rope.forth_real (X := fun d => q (ix2 T ⟨j.val / 64 * 64 + d.val, by omega⟩) * ((1 / 8 : ℝ) : EReal)) fun d => by rw [hx, ← EReal.coe_mul]]
  pointwise [kRows, kTurned_apply, kScaled_apply]
  refine congrArg₂ (fun X d => Rope.forth X _ d) (funext fun d => ?_) (Fin.ext (by dsimp only))
  exact congrArg (fun i => q i * ((1 / 8 : ℝ) : EReal)) (congrArg₂ ix2 (Fin.ext (by dsimp only; omega)) (Fin.ext (by dsimp only)))

theorem kSinks_apply (s : FVec Ideal S1x16 .f32) (γ e : Fin 2) (ρ : Fin 512) (l : Fin 128) :
    kSinks s (ix4 γ e ρ l) = s (ix2 0 ⟨8 * γ.val + 2 * (ρ.val / 128) + e.val, by omega⟩) := by
  pointwise [kSinks]
  exact congrArg (fun j => s (ix2 0 j)) (Fin.ext (by dsimp only; omega))

/-! ## Blocks -/

theorem idx : ∀ t : Fin cfg0.N, win0_0.index t = ![t.val, 0] ∧ win0_1.index t = ![t.val / 16, 0] ∧ win0_2.index t = ![t.val / 16, 0]
    ∧ win0_3.index t = ![t.val, 0] ∧ win0_4.index t = ![0, 0, 0, 0] ∧ win0_5.index t = ![t.val, 0] ∧ win0_6.index t = ![t.val, 0]
    ∧ win0_7.index t = ![t.val, 0] :=
  (by decide +kernel : ∀ t : Fin grid0.N, _)

theorem coord : ∀ t : Fin cfg0.N, (grid0.coords t 1).val = t.val % 16 := (by decide +kernel : ∀ t : Fin grid0.N, _)

theorem lt64 (t : Fin cfg0.N) : t.val < 64 := N_0 ▸ t.isLt

/-- Row `r` of the block of rows that point `t` holds, and row `s` of its sequence. -/
def at' (t : Fin cfg0.N) (r : Fin 128) : Fin 8192 := ⟨t.val * 128 + r.val, by have := lt64 t; omega⟩
theorem at'_val (t : Fin cfg0.N) (r : Fin 128) : (at' t r).val = t.val * 128 + r.val := rfl
def seq (t : Fin cfg0.N) (s : Fin 2048) : Fin 8192 := ⟨t.val / 16 * 2048 + s.val, by have := lt64 t; omega⟩
theorem seq_val (t : Fin cfg0.N) (s : Fin 2048) : (seq t s).val = t.val / 16 * 2048 + s.val := rfl

theorem blk_q (t : Fin cfg0.N) (r : Fin 128) (j : Fin 1024) : (iblk m c 0 t : FVec Ideal S128x1024 .bf16) (ix2 r j) = kRows (aQ m c) (aPos m c) (ix2 (at' t r) j) := by
  rw [← V_36]
  blk_point [iblk, V, idx t, at'_val]

theorem blk_k (t : Fin cfg0.N) (s : Fin 2048) (l : Fin 128) : (iblk m c 1 t : FVec Ideal S2048x128 .bf16) (ix2 s l) = aK m c (ix2 (seq t s) l) := by
  blk_point [iblk, V, idx t, seq_val]

theorem blk_v (t : Fin cfg0.N) (s : Fin 2048) (l : Fin 128) : (iblk m c 2 t : FVec Ideal S2048x128 .bf16) (ix2 s l) = aV m c (ix2 (seq t s) l) := by
  blk_point [iblk, V, idx t, seq_val]

theorem blk_z (t : Fin cfg0.N) (r : Fin 128) (j : Fin 1024) : (iblk m c 3 t : FVec Ideal S128x1024 .f32) (ix2 r j) = aZ m c (ix2 (at' t r) j) := by
  blk_point [iblk, V, idx t, at'_val]

theorem blk_s (t : Fin cfg0.N) (γ e : Fin 2) (ρ : Fin 512) (l : Fin 128) : (iblk m c 4 t : FVec Ideal S2x2x512x128 .f32) (ix4 γ e ρ l) = kSinks (aS m c) (ix4 γ e ρ l) := by
  rw [← V_41]
  blk_point [iblk, V, idx t]

theorem blk_g (t : Fin cfg0.N) (r : Fin 128) (j : Fin 1024) : (iblk m c 5 t : FVec Ideal S128x1024 .bf16) (ix2 r j) = aG m c (ix2 (at' t r) j) := by
  blk_point [iblk, V, idx t, at'_val]

theorem blk_cs (t : Fin cfg0.N) (r : Fin 128) (k : Fin 48) : (iblk m c 6 t : FVec Ideal S128x48 .bf16) (ix2 r k) = Out4.hPieces (aPos m c) (ix2 (at' t r) k) := by
  rw [← V_66]
  blk_point [iblk, V, idx t, at'_val]

end Cert.Proof.Out5
end
-- ==== Proof.Grad5.lean ====
/-
  The attention backward: the gradient of the projection that the kernel's array holds after the run, by rows.
-/
module

public import proofs.«01_k».proof.Proof.Kern5

@[expose] public section

set_option maxRecDepth 16384

noncomputable section
open Idealize.ShloMosaic Idealize.ShloMosaic.TcCoe Idealize.SL.Sem
open Idealize.ShloMosaic.Pipeline (Dat)

namespace Cert.Proof.Out5
open Cert.Kernel5Ideal Cert.Kernel5Ideal.Gen
open Cert.Proof.Soft (sees)

section
variable (q z g : Fin 8192 → Fin 1024 → ℝ) (k v : Fin 8192 → Fin 128 → ℝ) (sk : Fin 16 → ℝ) (pos : IVec S4x2048 32) (T : Fin 8192)

abbrev posOf (pos : IVec S4x2048 32) (T : Fin 8192) : BitVec 32 := pos (ix2 ⟨T.val / 2048, by omega⟩ ⟨T.val % 2048, by omega⟩)

/-- A row of scaled queries, turned. -/
def turnedQ (j : Fin 1024) : ℝ := Rope.forthR (fun d => q T ⟨j.val / 64 * 64 + d.val, by omega⟩ * (1 / 8)) (Rope.piecesR (posOf pos T)) ⟨j.val % 64, by omega⟩

/-- The rows of a row's sequence. -/
def seqOf (x : Fin 8192 → Fin 128 → ℝ) (s : Fin 2048) (l : Fin 128) : ℝ := x ⟨T.val / 2048 * 2048 + s.val, by omega⟩ l

/-- The gradients of a row's turned queries, before their scale, and of its gates. -/
def dqT (P : Fin 8) (l : Fin 128) : ℝ :=
  rowDq ⟨T.val / 128 % 16, by omega⟩ (turnedQ q pos T) (z T) (g T) (seqOf T k) (seqOf T v) sk ⟨T.val % 128, by omega⟩ P l
def dzT (P : Fin 8) (l : Fin 128) : ℝ :=
  rowDz ⟨T.val / 128 % 16, by omega⟩ (turnedQ q pos T) (z T) (g T) (seqOf T k) (seqOf T v) sk ⟨T.val % 128, by omega⟩ P l

/-- The gradient of the projection. -/
def projOf (y : (⟨2, ![8192, 2304]⟩ : Shape).Idx) : EReal :=
  cellOf (Rope.pieces (posOf pos (y 0))) (dqT q z g k v sk pos (y 0)) (dzT q z g k v sk pos (y 0)) (y 1)
end

variable (m : (ℓ : Loc nD τ sig) → Buf (Elt Ideal) ℓ) (c : Dev nD) {q z g : Fin 8192 → Fin 1024 → ℝ} {k v : Fin 8192 → Fin 128 → ℝ} {sk : Fin 16 → ℝ}
  (hq : ∀ T j, aQ m c (ix2 T j) = (q T j : EReal)) (hk : ∀ T j, aK m c (ix2 T j) = (k T j : EReal)) (hv : ∀ T j, aV m c (ix2 T j) = (v T j : EReal))
  (hz : ∀ T j, aZ m c (ix2 T j) = (z T j : EReal)) (hs : ∀ j, aS m c (ix2 0 j) = (sk j : EReal)) (hg : ∀ T j, aG m c (ix2 T j) = (g T j : EReal))

theorem angles_apply (A : Vec Ideal S128x48 .bf16) (r : Fin 128) (k : Fin 48) : k0_pay13 (F := Ideal) A (ix2 r k) = A (ix2 r k) := by
  pointwise [k0_pay13]

theorem part_angles (X : Vec Ideal S128x48 .bf16) (r : Fin 128) (k : Fin 48) :
    part (fun B y => X (B.idx y)) ![0, 0] S128x48.size inb_S128x48_S128x48_0_0 (ix2 r k) = X (ix2 r k) :=
  congrArg X (funext fun a => Fin.ext (by fin_cases a <;> simp [LoadRect.idx]))

include hq hk hv hz hs hg

theorem left_eq (t : Fin cfg0.N) (r : Fin 128) (j : Fin 2304) :
    View.canon (left m c t) (ix2 r j) = projOf q z g k v sk (aPos m c) (ix2 (at' t r) j) := by
  have ht := lt64 t
  have hn : (grid0.coords t 1).val = (⟨t.val % 16, by omega⟩ : Fin 16).val := coord t
  have h2 (r j) := (blk_q m c t r j).trans (kRows_apply (aQ m c) (aPos m c) q hq (at' t r) j)
  have h3 (s l) := (blk_k m c t s l).trans (hk (seq t s) l)
  have h4 (s l) := (blk_v m c t s l).trans (hv (seq t s) l)
  have h5 (r j) := (blk_z m c t r j).trans (hz (at' t r) j)
  have h6 (γ e ρ l) := (blk_s m c t γ e ρ l).trans ((kSinks_apply (aS m c) γ e ρ l).trans (hs _))
  have h7 (r j) := (blk_g m c t r j).trans (hg (at' t r) j)
  have h8 (r : Fin 128) (a : Fin 48) := (angles_apply _ r a).trans ((part_angles (iblk m c 6 t) r a).trans ((blk_cs m c t r a).trans (Out4.hPieces_apply (aPos m c) (at' t r) a)))
  have e1 (r : Fin 128) : (⟨(at' t r).val / 128 % 16, by omega⟩ : Fin 16) = ⟨t.val % 16, by omega⟩ := Fin.ext (by dsimp only; rw [at'_val]; omega)
  have e2 (r : Fin 128) : (⟨(at' t r).val % 128, by omega⟩ : Fin 128) = r := Fin.ext (by dsimp only; rw [at'_val]; omega)
  have e3 (r : Fin 128) (x : Fin 8192 → Fin 128 → ℝ) : seqOf (at' t r) x = fun s l => x (seq t s) l :=
    funext fun s => funext fun l => congrArg (fun T => x T l) (Fin.ext (by dsimp only; rw [at'_val, seq_val]; omega))
  have eq (r : Fin 128) (P : Fin 8) (l : Fin 128) : dqT q z g k v sk (aPos m c) (at' t r) P l
      = rowDq ⟨t.val % 16, by omega⟩ (turnedQ q (aPos m c) (at' t r)) (z (at' t r)) (g (at' t r)) (fun s l => k (seq t s) l) (fun s l => v (seq t s) l) sk r P l := by
    rw [dqT, e1, e2, e3, e3]
  have ez (r : Fin 128) (P : Fin 8) (l : Fin 128) : dzT q z g k v sk (aPos m c) (at' t r) P l
      = rowDz ⟨t.val % 16, by omega⟩ (turnedQ q (aPos m c) (at' t r)) (z (at' t r)) (g (at' t r)) (fun s l => k (seq t s) l) (fun s l => v (seq t s) l) sk r P l := by
    rw [dzT, e1, e2, e3, e3]
  have w0 (ρ : Fin 512) (l : Fin 128) := first_rows (q := fun r => turnedQ q (aPos m c) (at' t r)) (z := fun r => z (at' t r)) (g := fun r => g (at' t r)) hn h2 h3 h4 h5 h6 h7 ρ l
  have w1 (ρ : Fin 512) (l : Fin 128) := second_rows (q := fun r => turnedQ q (aPos m c) (at' t r)) (z := fun r => z (at' t r)) (g := fun r => g (at' t r)) hn h2 h3 h4 h5 h6 h7 ρ l
  refine (block_value (dq := fun r => dqT q z g k v sk (aPos m c) (at' t r)) (dz := fun r => dzT q z g k v sk (aPos m c) (at' t r))
    (fun r a ha => (h8 r a).trans (Rope.pieces_zero _ a ha)) _ _ _ _ (fun ρ l => ?_) (fun ρ l => ?_) (fun ρ l => ?_) (fun ρ l => ?_) (ix2 r j)).trans ?_
  · refine (w0 ρ l).1.trans (congrArg Real.toEReal (Eq.trans ?_ (eq _ _ _).symm))
    exact congrArg (fun P => rowDq _ _ _ _ _ _ _ _ P l) (Fin.ext (by dsimp only; omega))
  · exact (w1 ρ l).1.trans (congrArg Real.toEReal (eq _ _ _).symm)
  · refine (w0 ρ l).2.trans (congrArg Real.toEReal (Eq.trans ?_ (ez _ _ _).symm))
    exact congrArg (fun P => rowDz _ _ _ _ _ _ _ _ P l) (Fin.ext (by dsimp only; omega))
  · exact (w1 ρ l).2.trans (congrArg Real.toEReal (ez _ _ _).symm)
  · show cellOf _ (dqT q z g k v sk (aPos m c) (at' t r)) (dzT q z g k v sk (aPos m c) (at' t r)) j = cellOf _ _ _ _
    exact congrArg (fun p => cellOf p _ _ j) (funext fun a => h8 r a)

theorem final : (dats m 0 c).arrAt 7 (cfgs 0).N = projOf q z g k v sk (aPos m c) := by
  refine (dats m 0 c).arrAt_eq_of_covers 7 _ (by decide +kernel) fun t hf y => ?_
  idx_vars y
  blk_simp
  rw [after0_7, left_eq m c hq hk hv hz hs hg]
  generalize projOf q z g k v sk (aPos m c) = X
  blk_point [idx t, at'_val]

end Cert.Proof.Out5
end
-- ==== Proof.Back5.lean ====
/-
  The attention's gradients, whole: the reference's array is the kernel's, as one function of the row and the column.
-/
module

public import proofs.«01_k».proof.Proof.Tok5
public import proofs.«01_k».proof.Proof.Grad5

@[expose] public section

set_option maxRecDepth 16384

noncomputable section
open Idealize.ShloMosaic Idealize.ShloMosaic.StableHlo
open Cert.Proof.Soft (sees)
open Cert.Reference5Ideal Cert.Reference5Ideal.Gen Cert.Reference5Ideal.Value

namespace Cert.Proof.Att5
open Cert.Proof.Out5 (low high gated laneO laneDz laneDq rowOf keyOf rowDq rowDz win seqOf turnedQ posOf dqT dzT projOf cellOf)

variable (V0 : Valuation τ sig (Elt Ideal))

/-- Rows of heads turned back by a table of cosines and one of sines. -/
def back (X : FVec Ideal S4x2048x16x64 .f32) (X0 X1 : FVec Ideal S4x2048x16x8 .f32) (C S : FVec Ideal S4x2048x1x8 .f32) : FVec Ideal S4x2048x16x64 .f32 :=
  addf (addf (pad S4x2048x16x64 ![0, 0, 0, 16] ![0, 0, 0, 0] ![0, 0, 0, 0] (extractStridedSlice S4x2048x16x48 ![0, 0, 0, 16] X slices_S4x2048x16x64_S4x2048x16x48_0_0_0_16) (constant (F := Ideal) S_ .f32 0x00000000#32) pads_S4x2048x16x48_S4x2048x16x64_000_000_000_1600 h_S_) (pad S4x2048x16x64 ![0, 0, 0, 8] ![0, 0, 0, 48] ![0, 0, 0, 0] (addf (mulf X1 (broadcastInDim S4x2048x16x8 ![0, 1, 2, 3] bcast_S4x2048x1x8_S4x2048x16x8_0_1_2_3 C)) (mulf (Host.negf X0) (broadcastInDim S4x2048x16x8 ![0, 1, 2, 3] bcast_S4x2048x1x8_S4x2048x16x8_0_1_2_3 S))) (constant (F := Ideal) S_ .f32 0x00000000#32) pads_S4x2048x16x8_S4x2048x16x64_000_000_000_8480 h_S_)) (pad S4x2048x16x64 ![0, 0, 0, 0] ![0, 0, 0, 56] ![0, 0, 0, 0] (addf (mulf X1 (broadcastInDim S4x2048x16x8 ![0, 1, 2, 3] bcast_S4x2048x1x8_S4x2048x16x8_0_1_2_3 S)) (mulf X0 (broadcastInDim S4x2048x16x8 ![0, 1, 2, 3] bcast_S4x2048x1x8_S4x2048x16x8_0_1_2_3 C))) (constant (F := Ideal) S_ .f32 0x00000000#32) pads_S4x2048x16x8_S4x2048x16x64_000_000_000_0560 h_S_)

/-- The queries' gradient turned back, the gates' gradient, and the projection's. -/
def rBack : FVec Ideal S4x2048x16x64 .f32 :=
  back (res_main_v202 V0) (res_main_v205 V0) (res_main_v206 V0) (res_main_v18 V0) (res_main_v20 V0)
def rDz : FVec Ideal S8192x1024 .f32 :=
  addf (mulf (res_main_v140 V0) (res_main_v137_2 V0)) (mulf (mulf (rZ V0) (res_main_v140 V0)) (mulf (res_main_v137_2 V0) (subf (broadcastInDim S8192x1024 ![] bcast_S_S8192x1024 (constant (F := Ideal) S_ .f32 0x3F800000#32)) (res_main_v137_2 V0))))
def rProj : FVec Ideal S8192x2304 .bf16 := truncf .bf16 (concatenate S8192x2304 1
  [⟨S8192x1024, shapeCast S8192x1024 (rBack V0) shapeCasts_S4x2048x16x64_S8192x1024⟩,
    ⟨S8192x256, broadcastInDim S8192x256 ![] bcast_S_S8192x256 (constant (F := Ideal) S_ .f32 0x00000000#32)⟩,
    ⟨S8192x1024, rDz V0⟩]
  concatenates_S8192x1024_S8192x256_S8192x1024_S8192x2304_d1) bitsLt_bf16_f32

/-! ## Heads in rows of two -/

section
variable {q z g : Fin 8192 → Fin 1024 → ℝ} {k v : Fin 8192 → Fin 128 → ℝ} {sk : Fin 16 → ℝ} (pos : IVec S4x2048 32)
  (b : Fin 4) (n : Fin 16) (r : Fin 128) (h : Fin 2) (γ : Fin 8) (d : Fin 64) {P : Fin 8} {l : Fin 128}

theorem turned_head : turnedQ q pos (row b n r) (lane h γ d) = headQ q pos b n r h γ d * (1 / 8) := by
  unfold turnedQ headQ
  rw [Rope.forthR_scale]
  have e1 : (⟨(row b n r).val / 2048, by omega⟩ : Fin 4) = b := Fin.ext (by unfold row; dsimp only; omega)
  have e2 : (⟨(row b n r).val % 2048, by omega⟩ : Fin 2048) = ⟨n.val * 128 + r.val, by omega⟩ := Fin.ext (by unfold row; dsimp only; omega)
  have e3 (d' : Fin 64) : (⟨(lane h γ d).val / 64 * 64 + d'.val, by omega⟩ : Fin 1024) = lane h γ d' := Fin.ext (by unfold lane; dsimp only; omega)
  have e4 : (⟨(lane h γ d).val % 64, by omega⟩ : Fin 64) = d := Fin.ext (by unfold lane; dsimp only; omega)
  simp only [posOf, e1, e2, e3, e4]

theorem low_row (x : Fin 1024 → ℝ) (hP : P.val * 2 = h.val * 8 + γ.val) : low (rowOf x P) = fun d => x (lane h γ d) :=
  funext fun d => congrArg x (Fin.ext (by unfold lane; dsimp only; omega))
theorem high_row (x : Fin 1024 → ℝ) (hP : P.val * 2 + 1 = h.val * 8 + γ.val) : high (rowOf x P) = fun d => x (lane h γ d) :=
  funext fun d => congrArg x (Fin.ext (by unfold lane; dsimp only; omega))

theorem key_span (x : Fin 8192 → Fin 128 → ℝ) (hP : P.val / 4 = h.val) (d : Fin 64) (c : Fin 256) (hc : sees n.val r.val c.val) :
    keyOf (seqOf (row b n r) x) n P d c = span x b n h d c := by
  have hs := hc.2.2
  unfold keyOf seqOf span
  rw [if_neg (by omega)]
  refine congrArg₂ x (Fin.ext ?_) (Fin.ext (by dsimp only; omega))
  unfold win row
  split_ifs <;> dsimp only <;> omega

section
variable (hP : P.val = (h.val * 8 + γ.val) / 2) (hl : l.val = (h.val * 8 + γ.val) % 2 * 64 + d.val)
include hP hl

theorem dq_head : dqT q z g k v sk pos (row b n r) P l
    = Soft.hdq (fun c => sees n.val r.val c.val) (sk ⟨h.val * 8 + γ.val, by omega⟩) (fun d => headQ q pos b n r h γ d * (1 / 8)) (headG z g b n r h γ) (span k b n h) (span v b n h) d := by
  have e1 : (⟨(row b n r).val / 128 % 16, by omega⟩ : Fin 16) = n := Fin.ext (by unfold row; dsimp only; omega)
  have e2 : (⟨(row b n r).val % 128, by omega⟩ : Fin 128) = r := Fin.ext (by unfold row; dsimp only; omega)
  rw [dqT, e1, e2, rowDq, laneDq]
  have hk (d c) (hc : sees n.val r.val c.val) := key_span b n r h k (P := P) (by omega) d c hc
  have hv (d c) (hc : sees n.val r.val c.val) := key_span b n r h v (P := P) (by omega) d c hc
  rcases Nat.mod_two_eq_zero_or_one (h.val * 8 + γ.val) with e | e
  · have eq := low_row h γ (P := P) (turnedQ q pos (row b n r)) (by omega)
    have eg : low (gated (rowOf (g (row b n r)) P) (rowOf (z (row b n r)) P)) = headG z g b n r h γ := funext fun d => by
      show low (rowOf (g (row b n r)) P) d * (low (rowOf (z (row b n r)) P) d * Soft.sg (low (rowOf (z (row b n r)) P) d)) = _
      rw [low_row h γ _ (by omega), low_row h γ _ (by omega)]
      rfl
    have es : (⟨2 * P.val, by omega⟩ : Fin 16) = ⟨h.val * 8 + γ.val, by omega⟩ := Fin.ext (by dsimp only; omega)
    have ed : (⟨l.val, by omega⟩ : Fin 64) = d := Fin.ext (by dsimp only; omega)
    rw [dif_pos (by omega), eq, eg, es, ed]
    simp only [turned_head]
    exact Soft.hdq_congr _ _ _ _ _ _ _ _ hk hv d
  · have eq := high_row h γ (P := P) (turnedQ q pos (row b n r)) (by omega)
    have eg : high (gated (rowOf (g (row b n r)) P) (rowOf (z (row b n r)) P)) = headG z g b n r h γ := funext fun d => by
      show high (rowOf (g (row b n r)) P) d * (high (rowOf (z (row b n r)) P) d * Soft.sg (high (rowOf (z (row b n r)) P) d)) = _
      rw [high_row h γ _ (by omega), high_row h γ _ (by omega)]
      rfl
    have es : (⟨2 * P.val + 1, by omega⟩ : Fin 16) = ⟨h.val * 8 + γ.val, by omega⟩ := Fin.ext (by dsimp only; omega)
    have ed : (⟨l.val - 64, by omega⟩ : Fin 64) = d := Fin.ext (by dsimp only; omega)
    rw [dif_neg (by omega), eq, eg, es, ed]
    simp only [turned_head]
    exact Soft.hdq_congr _ _ _ _ _ _ _ _ hk hv d

theorem dz_head : dzT q z g k v sk pos (row b n r) P l
    = Soft.ho (fun c => sees n.val r.val c.val) (sk ⟨h.val * 8 + γ.val, by omega⟩) (fun d => headQ q pos b n r h γ d * (1 / 8)) (span k b n h) (span v b n h) d
      * g (row b n r) (lane h γ d) * (Soft.sg (z (row b n r) (lane h γ d)) * (1 + z (row b n r) (lane h γ d) * (1 - Soft.sg (z (row b n r) (lane h γ d))))) := by
  have e1 : (⟨(row b n r).val / 128 % 16, by omega⟩ : Fin 16) = n := Fin.ext (by unfold row; dsimp only; omega)
  have e2 : (⟨(row b n r).val % 128, by omega⟩ : Fin 128) = r := Fin.ext (by unfold row; dsimp only; omega)
  have er (x : Fin 1024 → ℝ) : rowOf x P l = x (lane h γ d) := congrArg x (Fin.ext (by unfold lane; dsimp only; omega))
  rw [dzT, e1, e2, rowDz, laneDz, er, er, laneO]
  have hk (d c) (hc : sees n.val r.val c.val) := key_span b n r h k (P := P) (by omega) d c hc
  have hv (d c) (hc : sees n.val r.val c.val) := key_span b n r h v (P := P) (by omega) d c hc
  refine congrArg (fun o => o * g (row b n r) (lane h γ d) * (Soft.sg (z (row b n r) (lane h γ d)) * (1 + z (row b n r) (lane h γ d) * (1 - Soft.sg (z (row b n r) (lane h γ d)))))) ?_
  rcases Nat.mod_two_eq_zero_or_one (h.val * 8 + γ.val) with e | e
  · have eq := low_row h γ (P := P) (turnedQ q pos (row b n r)) (by omega)
    have es : (⟨2 * P.val, by omega⟩ : Fin 16) = ⟨h.val * 8 + γ.val, by omega⟩ := Fin.ext (by dsimp only; omega)
    have ed : (⟨l.val, by omega⟩ : Fin 64) = d := Fin.ext (by dsimp only; omega)
    rw [dif_pos (by omega), eq, es, ed]
    simp only [turned_head]
    exact Soft.ho_congr _ _ _ _ _ _ _ hk hv d
  · have eq := high_row h γ (P := P) (turnedQ q pos (row b n r)) (by omega)
    have es : (⟨2 * P.val + 1, by omega⟩ : Fin 16) = ⟨h.val * 8 + γ.val, by omega⟩ := Fin.ext (by dsimp only; omega)
    have ed : (⟨l.val - 64, by omega⟩ : Fin 64) = d := Fin.ext (by dsimp only; omega)
    rw [dif_neg (by omega), eq, es, ed]
    simp only [turned_head]
    exact Soft.ho_congr _ _ _ _ _ _ _ hk hv d
end
end

/-! ## Turning back -/

theorem v205_apply (b : Fin 4) (s : Fin 2048) (H : Fin 16) (d : Fin 8) : res_main_v205 V0 (ix4 b s H d) = res_main_v202 V0 (ix4 b s H ⟨d.val, by omega⟩) := by
  pointwise [res_main_v205]
theorem v206_apply (b : Fin 4) (s : Fin 2048) (H : Fin 16) (d : Fin 8) : res_main_v206 V0 (ix4 b s H d) = res_main_v202 V0 (ix4 b s H ⟨8 + d.val, by omega⟩) := by
  pointwise [res_main_v206]

set_option maxHeartbeats 1000000 in
theorem back_apply (X : FVec Ideal S4x2048x16x64 .f32) (X0 X1 : FVec Ideal S4x2048x16x8 .f32) (C S : FVec Ideal S4x2048x1x8 .f32) (p : BitVec 32) (b : Fin 4) (s : Fin 2048) (H : Fin 16) (d : Fin 64) (G : Fin 128 → EReal)
    (hG : ∀ d : Fin 64, X (ix4 b s H d) = G ⟨H.val % 2 * 64 + d.val, by omega⟩) (h0 : ∀ d : Fin 8, X0 (ix4 b s H d) = X (ix4 b s H ⟨d.val, by omega⟩)) (h1 : ∀ d : Fin 8, X1 (ix4 b s H d) = X (ix4 b s H ⟨8 + d.val, by omega⟩))
    (hC : ∀ a : Fin 8, C (ix4 b s 0 a) = Ideal.cos (Rope.turn p a)) (hS : ∀ a : Fin 8, S (ix4 b s 0 a) = Ideal.sin (Rope.turn p a)) :
    back X X0 X1 C S (ix4 b s H d) = Rope.turnBack G (Rope.pieces p) ⟨H.val % 2 * 64 + d.val, by omega⟩ := by
  pointwise [back]
  simp only [h0, h1, hC, hS, hG]
  have hd := d.isLt
  have e (k k' : Fin 128) (hk : k.val = k'.val) : G k = G k' := by rw [Fin.ext hk]
  have f (a a' : Fin 8) (ha : a.val = a'.val) : Rope.turn p a = Rope.turn p a' := by rw [Fin.ext ha]
  have c8 : (H.val % 2 * 64 + d.val) % 8 < 8 := by omega
  have s8 : ¬ 8 + (H.val % 2 * 64 + d.val) % 8 < 8 := by omega
  have s16 : 8 + (H.val % 2 * 64 + d.val) % 8 < 16 := by omega
  unfold Rope.turnBack Rope.pieces
  dsimp only
  by_cases h8 : d.val < 8
  · have g1 : ¬ (16 ≤ d.val ∧ d.val - 16 < 48) := by omega
    have g2 : ¬ (8 ≤ d.val ∧ d.val - 8 < 8) := by omega
    have g3 : (H.val % 2 * 64 + d.val) % 64 < 8 := by omega
    rw [dif_neg g1, dif_neg g2, dif_pos h8, zero_add, zero_add, dif_pos g3, dif_pos c8, dif_neg s8, dif_pos s16, add_comm]
    exact Ideal.add_congr (Ideal.mul_congr rfl (congrArg _ (f _ _ (by dsimp only; omega))))
      (Ideal.mul_congr (e _ _ (by dsimp only; omega)) (congrArg _ (f _ _ (by dsimp only; omega))))
  · by_cases h16 : d.val < 16
    · have g1 : ¬ (16 ≤ d.val ∧ d.val - 16 < 48) := by omega
      have g2 : 8 ≤ d.val ∧ d.val - 8 < 8 := by omega
      have g3 : ¬ (H.val % 2 * 64 + d.val) % 64 < 8 := by omega
      have g4 : (H.val % 2 * 64 + d.val) % 64 < 16 := by omega
      rw [dif_neg g1, dif_pos g2, dif_neg h8, zero_add, add_zero, dif_neg g3, dif_pos g4, dif_pos c8, dif_neg s8, dif_pos s16, EReal.neg_mul, mul_neg]
      exact Ideal.add_congr (Ideal.mul_congr (e _ _ (by dsimp only; omega)) (congrArg _ (f _ _ (by dsimp only; omega))))
        (congrArg _ (Ideal.mul_congr (e _ _ (by dsimp only; omega)) (congrArg _ (f _ _ (by dsimp only; omega)))))
    · have g1 : 16 ≤ d.val ∧ d.val - 16 < 48 := by omega
      have g2 : ¬ (8 ≤ d.val ∧ d.val - 8 < 8) := by omega
      have g3 : ¬ (H.val % 2 * 64 + d.val) % 64 < 8 := by omega
      have g4 : ¬ (H.val % 2 * 64 + d.val) % 64 < 16 := by omega
      rw [dif_pos g1, dif_neg g2, dif_neg h8, dif_neg g3, dif_neg g4]
      refine (add_zero _).trans ((add_zero _).trans ?_)
      exact e _ _ (by dsimp only; omega)

theorem rBack_apply (b : Fin 4) (s : Fin 2048) (H : Fin 16) (d : Fin 64) (G : Fin 128 → EReal)
    (hG : ∀ d : Fin 64, res_main_v202 V0 (ix4 b s H d) = G ⟨H.val % 2 * 64 + d.val, by omega⟩) :
    rBack V0 (ix4 b s H d) = Rope.turnBack G (Rope.pieces (rPos V0 (ix2 b s))) ⟨H.val % 2 * 64 + d.val, by omega⟩ :=
  back_apply (res_main_v202 V0) (res_main_v205 V0) (res_main_v206 V0) (res_main_v18 V0) (res_main_v20 V0) _ b s H d G hG (v205_apply V0 b s H) (v206_apply V0 b s H)
    (v18_apply V0 b s) (v20_apply V0 b s)

theorem rProj_apply (T : Fin 8192) (j : Fin 2304) : rProj V0 (ix2 T j)
    = if h : j.val < 1024 then rBack V0 (ix4 ⟨T.val / 2048, by omega⟩ ⟨T.val % 2048, by omega⟩ ⟨j.val / 64, by omega⟩ ⟨j.val % 64, by omega⟩)
      else if h' : j.val < 1280 then (0 : EReal) else rDz V0 (ix2 T ⟨j.val - 1280, by omega⟩) := by
  pointwise [rProj]
  by_cases h : j.val < 1024
  · rw [dif_pos h, dif_pos h]
  · rw [dif_neg h, dif_neg h]
    by_cases h' : j.val < 1280
    · rw [dif_pos (show j.val - 1024 < 256 by omega), dif_pos h']
    · rw [dif_neg (show ¬ j.val - 1024 < 256 by omega), dif_neg h']
      exact congrArg (fun i => rDz V0 (ix2 T i)) (Fin.ext (by dsimp only; omega))

variable {q z g : Fin 8192 → Fin 1024 → ℝ} {k v : Fin 8192 → Fin 128 → ℝ} {sk : Fin 16 → ℝ}
  (hq : ∀ T j, rQ V0 (ix2 T j) = (q T j : EReal)) (hk : ∀ T j, rK V0 (ix2 T j) = (k T j : EReal)) (hv : ∀ T j, rV V0 (ix2 T j) = (v T j : EReal))
  (hz : ∀ T j, rZ V0 (ix2 T j) = (z T j : EReal)) (hs : ∀ j, rS V0 (ix2 0 j) = (sk j : EReal)) (hg : ∀ T j, rG V0 (ix2 T j) = (g T j : EReal))

include hq hk hv hz hs hg

theorem rDz_apply (T : Fin 8192) (j : Fin 1024) {o : ℝ} (ho : res_main_v136 V0 (ix2 T j) = (o : EReal)) :
    rDz V0 (ix2 T j) = (o * g T j * (Soft.sg (z T j) * (1 + z T j * (1 - Soft.sg (z T j)))) : ℝ) := by
  have h2 := v137_2_apply V0 T j (hz T j)
  have h5 : res_main_v139 V0 (ix2 T j) = (g T j : EReal) := hg T j
  pointwise [rDz, res_main_v140]
  rw [ho, h2, h5, hz T j, ← EReal.coe_one]
  simp only [← EReal.coe_mul, ← EReal.coe_sub, ← EReal.coe_add]
  exact congrArg Real.toEReal (by ring)

theorem rProj_eq : rProj V0 = projOf q z g k v sk (rPos V0) := by
  funext y
  obtain ⟨T, j, rfl⟩ : ∃ (T : Fin 8192) (j : Fin 2304), ix2 T j = y := ⟨y 0, y 1, ix2_eta y⟩
  rw [rProj_apply]
  show _ = cellOf (Rope.pieces (posOf (rPos V0) T)) (dqT q z g k v sk (rPos V0) T) (dzT q z g k v sk (rPos V0) T) j
  obtain ⟨b, n, r, rfl⟩ : ∃ (b : Fin 4) (n : Fin 16) (r : Fin 128), row b n r = T :=
    ⟨⟨T.val / 2048, by omega⟩, ⟨T.val / 128 % 16, by omega⟩, ⟨T.val % 128, by omega⟩, Fin.ext (by unfold row; dsimp only; omega)⟩
  unfold cellOf
  by_cases h : j.val < 1024
  · rw [dif_pos h, dif_pos h]
    obtain ⟨η, γ, d, hj⟩ : ∃ (η : Fin 2) (γ : Fin 8) (d : Fin 64), j.val = (η.val * 8 + γ.val) * 64 + d.val :=
      ⟨⟨j.val / 512, by omega⟩, ⟨j.val / 64 % 8, by omega⟩, ⟨j.val % 64, by omega⟩, by dsimp only; omega⟩
    have eb : (⟨(row b n r).val / 2048, by omega⟩ : Fin 4) = b := Fin.ext (by unfold row; dsimp only; omega)
    have es : (⟨(row b n r).val % 2048, by omega⟩ : Fin 2048) = ⟨n.val * 128 + r.val, by omega⟩ := Fin.ext (by unfold row; dsimp only; omega)
    have eH : (⟨j.val / 64, by omega⟩ : Fin 16) = ⟨η.val * 8 + γ.val, by omega⟩ := Fin.ext (by dsimp only; omega)
    have ed : (⟨j.val % 64, by omega⟩ : Fin 64) = d := Fin.ext (by dsimp only; omega)
    have el : (⟨j.val % 128, by omega⟩ : Fin 128) = ⟨(⟨η.val * 8 + γ.val, by omega⟩ : Fin 16).val % 2 * 64 + d.val, by omega⟩ := Fin.ext (by dsimp only; omega)
    rw [eb, es, eH, ed, el, posOf, eb, es]
    refine rBack_apply V0 b _ _ d _ fun d => ?_
    rw [at_dq V0 hq hk hv hz hs hg b n r η γ d]
    refine congrArg (fun a : EReal => a * ((1 / 8 : ℝ) : EReal)) (congrArg Real.toEReal (dq_head _ b n r η γ d ?_ ?_).symm)
    · dsimp only; omega
    · rfl
  · rw [dif_neg h, dif_neg h]
    by_cases h' : j.val < 1280
    · rw [dif_pos h', dif_pos h']
    · rw [dif_neg h', dif_neg h']
      obtain ⟨η, γ, d, hj⟩ : ∃ (η : Fin 2) (γ : Fin 8) (d : Fin 64), j.val - 1280 = (η.val * 8 + γ.val) * 64 + d.val :=
        ⟨⟨(j.val - 1280) / 512, by omega⟩, ⟨(j.val - 1280) / 64 % 8, by omega⟩, ⟨(j.val - 1280) % 64, by omega⟩, by dsimp only; omega⟩
      have ej : (⟨j.val - 1280, by omega⟩ : Fin 1024) = lane η γ d := Fin.ext hj
      rw [ej, rDz_apply V0 hq hk hv hz hs hg _ _ (at_o V0 hq hk hv hs b n r η γ d)]
      refine congrArg Real.toEReal (dz_head _ b n r η γ d ?_ ?_).symm
      · dsimp only; omega
      · dsimp only; omega

end Cert.Proof.Att5
end
-- ==== Proof.Pair5.lean ====
/- The fifth pair: from finite arrays both programs run and end in the same array. -/
module

public import proofs.«01_k».proof.Defs
public import proofs.«01_k».proof.Proof.Back5
public import Idealize.ShloMosaic.Lib.Claim

@[expose] public section

set_option maxRecDepth 16384

noncomputable section
open Idealize.ShloMosaic Idealize.ShloMosaic.TcCoe Idealize.SL.Sem

namespace Cert.Proof.Out5

/-! ## The precondition -/

/-- Its side conditions. -/
theorem finite_facts : Cert.Pre_finite5.Facts := ⟨by decide +kernel, by decide +kernel, by decide +kernel⟩

theorem real_of_lt {a : EReal} (h : Ideal.cmp .olt (max a (-a)) ⊤ = 1#1) : a = (a.toReal : EReal) := by
  induction a using EReal.rec with
  | bot => exact absurd h (by simp [Ideal.cmp])
  | coe x => rfl
  | top => exact absurd h (by simp [Ideal.cmp])

theorem real_f32 {a : EReal} (h : Ideal.cmp .olt (max a (-a)) (Ideal.ofBits .f32 0x7F800000#32) = 1#1) : a = (a.toReal : EReal) :=
  real_of_lt (by rwa [show Ideal.ofBits .f32 0x7F800000#32 = ⊤ by simp [Ideal.ofBits, Ideal.ieee]] at h)
theorem real_bf16 {a : EReal} (h : Ideal.cmp .olt (max a (-a)) (Ideal.ofBits .bf16 0x7F80#16) = 1#1) : a = (a.toReal : EReal) :=
  real_of_lt (by rwa [show Ideal.ofBits .bf16 0x7F80#16 = ⊤ by simp [Ideal.ofBits, Ideal.ieee]] at h)

section Kernel
open Cert.Kernel5Ideal Cert.Kernel5Ideal.Gen

variable (m : (ℓ : Loc nD τ sig) → Buf (Elt Ideal) ℓ)

set_option maxHeartbeats 2000000 in
theorem kernel_run (ρ : Dev nD → PrngReg) : θ_run defs (onTc (τ := τ) (main (F := Ideal))) ⟨m, fun _ => 0, ρ⟩ fun r => ∀ c : Dev nD,
      r.2.mem ((c.tc : Thread nD τ).loc main_v67_0) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((dats m 0 c).toRForget_arrAt_iff (fgt := others) (w := 7) rfl _ _).mp ((h c).1 7),
      ((h c).2 main_arg0 (Pipeline.mem_restRefs_of main_arg0 (by decide) (by decide))).trans (V_main_arg0 m c),
      ((congrFun (Pipeline.RDat.ArrAt_in ((dats m 0 c).toRForget others) 1 rfl _) _).mp ((h c).1 1)).trans (V_main_arg1 m c),
      ((congrFun (Pipeline.RDat.ArrAt_in ((dats m 0 c).toRForget others) 2 rfl _) _).mp ((h c).1 2)).trans (V_main_arg2 m c),
      ((congrFun (Pipeline.RDat.ArrAt_in ((dats m 0 c).toRForget others) 3 rfl _) _).mp ((h c).1 3)).trans (V_main_arg3 m c),
      ((h c).2 main_arg4 (Pipeline.mem_restRefs_of main_arg4 (by decide) (by decide))).trans (V_main_arg4 m c),
      ((congrFun (Pipeline.RDat.ArrAt_in ((dats m 0 c).toRForget others) 5 rfl _) _).mp ((h c).1 5)).trans (V_main_arg5 m c),
      ((h c).2 main_arg6 (Pipeline.mem_restRefs_of main_arg6 (by decide) (by decide))).trans (V_main_arg6 m c)⟩) (run_main m ρ)

end Kernel

section Reference
open Cert.Reference5Ideal Cert.Reference5Ideal.Gen

variable (m : (ℓ : Loc nD τ sig) → Buf (Elt Ideal) ℓ)

set_option maxHeartbeats 2000000 in
theorem ref_run (ρ : Dev nD → PrngReg) : θ_run defs (onTc (τ := τ) (main (F := Ideal))) ⟨m, fun _ => 0, ρ⟩ fun r => ∀ c : Dev nD,
      r.2.mem ((c.tc : Thread nD τ).loc main_v227) = Att5.rProj (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by unfold Att5.rProj Att5.rBack Att5.back Att5.rDz Att5.rZ; rfl), (h c).2⟩) (Cert.Reference5Ideal.Value.run m ρ)

end Reference

theorem algebraic : Cert.algebraic_Kernel5Ideal_Reference5Ideal (hPre_finite5 := finite_facts) := by
  pair_intro
  · run_from kernel_run m g
  · refine (θ_run _ _ _).mono (fun r h c => ?_) (ref_run m' g')
    obtain ⟨e0, ea⟩ := h c
    obtain ⟨h0, h1, h2, h3, h4, h5, h6⟩ := hagree c
    obtain ⟨f0, f1, f2, f3, f4, f5⟩ := hpre c
    have r0 T j : aQ m c (ix2 T j) = ((aQ m c (ix2 T j)).toReal : EReal) := real_f32 (congrFun f0 (ix2 T j))
    have r1 T j : aK m c (ix2 T j) = ((aK m c (ix2 T j)).toReal : EReal) := real_bf16 (congrFun f1 (ix2 T j))
    have r2 T j : aV m c (ix2 T j) = ((aV m c (ix2 T j)).toReal : EReal) := real_bf16 (congrFun f2 (ix2 T j))
    have r3 T j : aZ m c (ix2 T j) = ((aZ m c (ix2 T j)).toReal : EReal) := real_f32 (congrFun f3 (ix2 T j))
    have r4 j : aS m c (ix2 0 j) = ((aS m c (ix2 0 j)).toReal : EReal) := real_f32 (congrFun f4 (ix2 0 j))
    have r5 T j : aG m c (ix2 T j) = ((aG m c (ix2 T j)).toReal : EReal) := real_bf16 (congrFun f5 (ix2 T j))
    have e := Att5.rProj_eq (StableHlo.launchContents m' c) (fun T j => (congrFun h0 (ix2 T j)).trans (r0 T j)) (fun T j => (congrFun h1 (ix2 T j)).trans (r1 T j))
      (fun T j => (congrFun h2 (ix2 T j)).trans (r2 T j)) (fun T j => (congrFun h3 (ix2 T j)).trans (r3 T j)) (fun j => (congrFun h4 (ix2 0 j)).trans (r4 j)) (fun T j => (congrFun h5 (ix2 T j)).trans (r5 T j))
    rw [show Att5.rPos (StableHlo.launchContents m' c) = aPos m c from h6] at e
    exact ⟨e0.trans (e.trans (final m c r0 r1 r2 r3 r4 r5).symm), ea⟩

end Cert.Proof.Out5
end
-- ==== Proof.Ref6.lean ====
/- The sixth reference's arrays, with names, and what they hold at an index. -/
module

public import proofs.«01_k».proof.Proof.Gen.Reference6Ideal
public import proofs.«01_k».proof.Proof.Norm
public import proofs.«01_k».proof.Proof.HostNorm

@[expose] public section

set_option maxRecDepth 16384

noncomputable section
open Idealize.ShloMosaic Idealize.ShloMosaic.TcCoe Idealize.SL.Sem

namespace Cert.Proof.Out6
open Cert.Reference6Ideal Cert.Reference6Ideal.Gen

variable (dp : FVec Ideal S8192x2304 .bf16) (w : FVec Ideal S1x1024x2304 .f32) (x : FVec Ideal S8192x1024 .f32)
  (wp : FVec Ideal S2x1024 .f32) (dxo : FVec Ideal S8192x1024 .f32)

/-- The norm's weights along every row. -/
def rW : FVec Ideal S8192x1024 .f32 := hRow (extractStridedSlice S1x1024 ![0, 0] wp slices_S2x1024_S1x1024_0_0)

/-- The gradient of the scaled rows: the product with the transposed input weights. -/
def rDh : FVec Ideal S8192x1024 .f32 := Host.dotGeneral dot_S8192x2304_S1024x2304_S8192x1024_1_1_0_0_n_n none (extf .f32 dp bitsLt_bf16_f32)
  (shapeCast _ w shapeCasts_S1x1024x2304_S1024x2304)

/-- The gradient of the layer's input, with the one the residual carries. -/
def rDx : FVec Ideal S8192x1024 .f32 := addf (addf (addf dxo (mulf (mulf (rDh dp w) (rW wp)) (hRstd x)))
  (mulf x (hRstdGrad (mulf (rDh dp w) (rW wp)) x))) (mulf (hRstdGrad (mulf (rDh dp w) (rW wp)) x) x)

/-- The terms of the norm weights' gradient. -/
def rWpTerms : FVec Ideal S8192x1024 .f32 := mulf (mulf x (hRstd x)) (rDh dp w)

theorem rW_apply (i : Fin 8192) (j : Fin 1024) : rW wp (ix2 i j) = wp (ix2 0 j) := by
  pointwise [rW, hRow_apply]

theorem rDh_apply (i : Fin 8192) (j : Fin 1024) : rDh dp w (ix2 i j) = ∑ k : Fin 2304, dp (ix2 i k) * w (ix3 0 j k) := by
  pointwise [rDh]

theorem add_last (d a b e : EReal) : d + a + b + e = a + b + e + d := by ac_rfl

theorem rDx_apply (i : Fin 8192) (j : Fin 1024) : rDx dp w x wp dxo (ix2 i j)
    = normGrad (fun k => rDh dp w (ix2 i k) * wp (ix2 0 k)) (row x i) j + dxo (ix2 i j) := by
  have h : row (mulf (rDh dp w) (rW wp)) i = fun k => rDh dp w (ix2 i k) * wp (ix2 0 k) := by
    funext k
    pointwise [rW_apply]
  rw [← h, normGrad_eq]
  pointwise [rDx, hRstd_apply, hRstdGrad_apply]
  exact add_last _ _ _ _

end Cert.Proof.Out6
end
-- ==== Proof.Out6.lean ====
/- The gradient of the attention layer's input projection and pre-norm: what the kernel's arrays hold after the run. -/
module

public import proofs.«01_k».proof.Proof.Gen.Kernel6Ideal.Value
public import proofs.«01_k».proof.Proof.Norm
public import proofs.«01_k».proof.Proof.HostNorm
public import proofs.«01_k».proof.Proof.Ref6
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

namespace Cert.Proof.Out6
open Cert.Kernel6Ideal Cert.Kernel6Ideal.Gen

/-! ## What the body computes, at an index -/

theorem dh_apply (d w : FVec Ideal S1024x2304 .bf16) (i j : Fin 1024) :
    k0_pay3 (F := Ideal) d w (ix2 i j) = ∑ k : Fin 2304, d (ix2 i k) * w (ix2 j k) := by
  pointwise [k0_pay3]

theorem grad_apply (d w : FVec Ideal S1024x2304 .bf16) (x dxo : FVec Ideal S1024x1024 .f32) (wp : FVec Ideal S1x1024 .f32) (i j : Fin 1024) :
    k0_pay1 (F := Ideal) (k0_pay4 (F := Ideal) x) (k0_pay6 (F := Ideal) d w wp) (k0_pay8 (F := Ideal) d w x wp) dxo (ix2 i j)
      = normGrad (fun k => k0_pay3 (F := Ideal) d w (ix2 i k) * wp (ix2 0 k)) (row x i) j + dxo (ix2 i j) := by
  pointwise [k0_pay1, k0_pay8, k0_pay6, k0_pay5, k0_pay4, dh_apply, normGrad, rstd, meanSq]

theorem dwp_apply (d w : FVec Ideal S1024x2304 .bf16) (x : FVec Ideal S1024x1024 .f32) (acc : FVec Ideal S1x1024 .f32) (j : Fin 1024) :
    k0_pay7 (F := Ideal) d w x acc (ix2 0 j)
      = acc (ix2 0 j) + ∑ k : Fin 1024, k0_pay3 (F := Ideal) d w (ix2 k j) * (x (ix2 k j) * rstd (row x k)) := by
  pointwise [k0_pay7, k0_pay5, k0_pay4, dh_apply, rstd, meanSq]

/-! ## The kernel's blocks are the arrays' rows -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

abbrev aDp : FVec Ideal S8192x2304 .bf16 := m ((c.tc : Thread nD τ).loc main_arg0)
abbrev aW : FVec Ideal S1x1024x2304 .f32 := m ((c.tc : Thread nD τ).loc main_arg1)
abbrev aX : FVec Ideal S8192x1024 .f32 := m ((c.tc : Thread nD τ).loc main_arg2)
abbrev aWp : FVec Ideal S2x1024 .f32 := m ((c.tc : Thread nD τ).loc main_arg3)
abbrev aDxo : FVec Ideal S8192x1024 .f32 := m ((c.tc : Thread nD τ).loc main_arg4)
def aDh : FVec Ideal S8192x1024 .f32 := rDh (aDp m c) (aW m c)
def aDx : FVec Ideal S8192x1024 .f32 := rDx (aDp m c) (aW m c) (aX m c) (aWp m c) (aDxo m c)
def aWpTerms : FVec Ideal S8192x1024 .f32 := rWpTerms (aDp m c) (aW m c) (aX m c)

theorem V_w (i : Fin 1024) (j : Fin 2304) : (V m c main_v1 : FVec Ideal S1024x2304 .bf16) (ix2 i j) = aW m c (ix3 0 i j) := by
  entry_read
  pointwise

theorem V_wp (j : Fin 1024) : (V m c main_v2 : FVec Ideal S1x1024 .f32) (ix2 0 j) = aWp m c (ix2 0 j) := by
  entry_read
  pointwise

theorem lt8 (t : Fin cfg0.N) : t.val < 8 := N_0 ▸ t.isLt

/-- Row `r` of the block of rows that point `t` holds. -/
def at' (t : Fin cfg0.N) (r : Fin 1024) : Fin 8192 := ⟨t.val * 1024 + r.val, by have := lt8 t; omega⟩

theorem at'_val (t : Fin cfg0.N) (r : Fin 1024) : (at' t r).val = t.val * 1024 + r.val := rfl

theorem blk_dp (t : Fin cfg0.N) (r : Fin 1024) (k : Fin 2304) : (iblk m c 0 t : FVec Ideal S1024x2304 .bf16) (ix2 r k) = aDp m c (ix2 (at' t r) k) := by
  blk_point [iblk, V, idx t, at'_val]

theorem blk_w (t : Fin cfg0.N) (i : Fin 1024) (j : Fin 2304) : (iblk m c 1 t : FVec Ideal S1024x2304 .bf16) (ix2 i j) = aW m c (ix3 0 i j) := by
  rw [← V_w]
  blk_point [iblk, V, idx t, at'_val]

theorem blk_x (t : Fin cfg0.N) (r k : Fin 1024) : (iblk m c 2 t : FVec Ideal S1024x1024 .f32) (ix2 r k) = aX m c (ix2 (at' t r) k) := by
  blk_point [iblk, V, idx t, at'_val]

theorem blk_wp (t : Fin cfg0.N) (k : Fin 1024) : (iblk m c 3 t : FVec Ideal S1x1024 .f32) (ix2 0 k) = aWp m c (ix2 0 k) := by
  rw [← V_wp]
  blk_point [iblk, V, idx t, at'_val]

theorem blk_dxo (t : Fin cfg0.N) (r k : Fin 1024) : (iblk m c 4 t : FVec Ideal S1024x1024 .f32) (ix2 r k) = aDxo m c (ix2 (at' t r) k) := by
  blk_point [iblk, V, idx t, at'_val]

/-- The gradient of the scaled rows at point `t`, from the blocks it reads. -/
def dh (t : Fin cfg0.N) : FVec Ideal S1024x1024 .f32 := k0_pay3 (F := Ideal) (iblk m c 0 t) (iblk m c 1 t)

theorem dh_eq (t : Fin cfg0.N) (r j : Fin 1024) : dh m c t (ix2 r j) = aDh m c (ix2 (at' t r) j) := by
  refine (dh_apply _ _ r j).trans (Eq.trans ?_ (rDh_apply _ _ _ _).symm)
  exact Fin.sum_fin_congr fun k => Ideal.mul_congr (blk_dp m c t r k) (blk_w m c t j k)

/-! ## The result arrays after the run -/

theorem outs_dx (t : Fin cfg0.N) : (outsAt0 m c t.val t.isLt).1
    = k0_pay1 (F := Ideal) (k0_pay4 (F := Ideal) (iblk m c 2 t)) (k0_pay6 (F := Ideal) (iblk m c 0 t) (iblk m c 1 t) (iblk m c 3 t)) (k0_pay8 (F := Ideal) (iblk m c 0 t) (iblk m c 1 t) (iblk m c 2 t) (iblk m c 3 t)) (iblk m c 4 t) := by
  by_cases h0 : t.val % 8 = 0
  · rw [outsAt0_A m c t h0]; frame_out
  · rw [outsAt0_B m c t h0]; frame_out

theorem dx_eq (t : Fin cfg0.N) (r j : Fin 1024) :
    (k0_pay1 (F := Ideal) (k0_pay4 (F := Ideal) (iblk m c 2 t)) (k0_pay6 (F := Ideal) (iblk m c 0 t) (iblk m c 1 t) (iblk m c 3 t)) (k0_pay8 (F := Ideal) (iblk m c 0 t) (iblk m c 1 t) (iblk m c 2 t) (iblk m c 3 t)) (iblk m c 4 t) : FVec Ideal S1024x1024 .f32) (ix2 r j) = aDx m c (ix2 (at' t r) j) := by
  refine (grad_apply _ _ _ _ _ r j).trans (Eq.trans ?_ (rDx_apply _ _ _ _ _ _ _).symm)
  exact Ideal.add_congr (normGrad_congr (fun k => Ideal.mul_congr (dh_eq m c t r k) (blk_wp m c t k)) (fun k => blk_x m c t r k) j) (blk_dxo m c t r j)

theorem final_dx : (dats m 0 c).arrAt 5 (cfgs 0).N = aDx m c := by
  refine (dats m 0 c).arrAt_eq_of_covers 5 _ (by decide +kernel) fun t hf y => ?_
  idx_vars y
  blk_simp
  rw [after0_5, outs_dx, dx_eq]
  blk_point [idx t, at'_val]

theorem final_dwp : (dats m 0 c).arrAt 6 (cfgs 0).N = hColSum (aWpTerms m c) := by
  refine (dats m 0 c).arrAt_eq_of_after_last 6 t0_7 (by decide +kernel) _ fun j => ?_
  have hp (t : Fin cfg0.N) (acc : FVec Ideal S1x1024 .f32) (j : S1x1024.Idx) :
      k0_pay7 (F := Ideal) (iblk m c 0 t) (iblk m c 1 t) (iblk m c 2 t) acc j
        = acc j + ∑ k : Fin 1024, aWpTerms m c (ix2 (at' t k) (j 1)) := by
    idx_vars j
    obtain rfl : j0 = 0 := Subsingleton.elim _ _
    rw [dwp_apply]
    refine Ideal.add_congr rfl (Fin.sum_fin_congr fun k => ?_)
    have hr : row (φ := .f32) (iblk m c 2 t) k = row (aX m c) (at' t k) := funext fun x => blk_x m c t k x
    rw [hr, blk_x, show k0_pay3 (F := Ideal) (iblk m c 0 t) (iblk m c 1 t) (ix2 k j1) = _ from dh_eq m c t k j1]
    pointwise [aWpTerms, rWpTerms, hRstd_apply]
    exact EReal.mul_comm _ _
  blk_simp
  rw [after0_6, Pipeline.eq_sum_fin_of_reset_step_apply_last (fun n h => (outsAt0 m c n h).2) 8 (fun _ => 0)
    (fun t j => ∑ k : Fin 1024, aWpTerms m c (ix2 (at' t k) (j 1)))
    (fun t h j => by
      rw [outsAt0_A m c t h]; frame_out
      exact (hp t _ j).trans (Ideal.add_congr (by pointwise [k0_pay2]) rfl))
    (fun t h j => by
      rw [outsAt0_B m c t h]; frame_out; exact hp t _ j)
    (le_of_eq N_0) t0_7 rfl, zero_add]
  idx_vars j
  obtain rfl : j0 = 0 := Subsingleton.elim _ _
  rw [hColSum_apply]
  exact Fin.sum_mul_add_congr fun s k hl => rfl

end Cert.Proof.Out6
end
-- ==== Proof.Pair6.lean ====
/- The sixth pair: both programs run and end in the same arrays. -/
module

public import proofs.«01_k».proof.Defs
public import proofs.«01_k».proof.Proof.Out6
public import proofs.«01_k».proof.Proof.Gen.Reference6Ideal.Run
public import Idealize.ShloMosaic.Lib.Claim

@[expose] public section

set_option maxRecDepth 16384

noncomputable section
open Idealize.ShloMosaic Idealize.ShloMosaic.TcCoe Idealize.SL.Sem

namespace Cert.Proof.Out6

section Reference
open Cert.Reference6Ideal Cert.Reference6Ideal.Gen

variable (m : (ℓ : Loc nD τ sig) → Buf (Elt Ideal) ℓ)

abbrev dp (c : Dev nD) : FVec Ideal S8192x2304 .bf16 := m ((c.tc : Thread nD τ).loc main_arg0)
abbrev w (c : Dev nD) : FVec Ideal S1x1024x2304 .f32 := m ((c.tc : Thread nD τ).loc main_arg1)
abbrev x (c : Dev nD) : FVec Ideal S8192x1024 .f32 := m ((c.tc : Thread nD τ).loc main_arg2)
abbrev wp (c : Dev nD) : FVec Ideal S2x1024 .f32 := m ((c.tc : Thread nD τ).loc main_arg3)
abbrev dxo (c : Dev nD) : FVec Ideal S8192x1024 .f32 := m ((c.tc : Thread nD τ).loc main_arg4)

theorem ref_dx (c : Dev nD) : Cert.Reference6Ideal.Value.res_main_v42 m c = rDx (dp m c) (w m c) (x m c) (wp m c) (dxo m c) := rfl

theorem ref_run (ρ : Dev nD → PrngReg) :
    θ_run defs (onTc (τ := τ) (main (F := Ideal))) ⟨m, fun _ => 0, ρ⟩ fun r => ∀ c : Dev nD,
      r.2.mem ((c.tc : Thread nD τ).loc main_v42) = rDx (dp m c) (w m c) (x m c) (wp m c) (dxo m c)
      ∧ r.2.mem ((c.tc : Thread nD τ).loc main_v43) = hColSum (rWpTerms (dp m c) (w m c) (x m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, ha⟩ := h c
    exact ⟨h0.trans (ref_dx m c), h1, ha⟩)
    (Cert.Reference6Ideal.Value.run m ρ)

end Reference

theorem algebraic : Cert.algebraic_Kernel6Ideal_Reference6Ideal := by
  pair_intro
  · run_from Cert.Kernel6Ideal.Gen.run_main m g
  · refine (θ_run _ _ _).mono (fun r h c => ?_) (ref_run m' g')
    obtain ⟨e0, e1, ea⟩ := h c
    obtain ⟨h0, h1, h2, h3, h4⟩ := hagree c
    rw [show dp m' c = aDp m c from h0, show w m' c = aW m c from h1, show x m' c = aX m c from h2] at e0 e1
    rw [show wp m' c = aWp m c from h3, show dxo m' c = aDxo m c from h4] at e0
    exact ⟨e0.trans (final_dx m c).symm, e1.trans (final_dwp m c).symm, ea⟩

end Cert.Proof.Out6
end
-- ==== Proof.Out7.lean ====
/- The seventh pair, the attention layer's output projection with its post-norm and the residual: what the kernel's two
   arrays hold after the run, what the reference's hold, and the equation. -/
module

public import proofs.«01_k».proof.Defs
public import proofs.«01_k».proof.Proof.Gen.Kernel7Ideal.Value
public import proofs.«01_k».proof.Proof.Gen.Reference7Ideal.Run
public import proofs.«01_k».proof.Proof.HostNorm
public import Idealize.ShloMosaic.Lib.Pipeline.ValueKit
public import Idealize.ShloMosaic.Lib.Claim

@[expose] public section

set_option maxRecDepth 16384

noncomputable section
open Idealize.ShloMosaic Idealize.ShloMosaic.TcCoe Idealize.SL.Sem
open Idealize.ShloMosaic.Pipeline (Dat)

namespace Cert.Proof.Out7

/-! ## The reference's arrays -/

/-- The output of the projection, before its norm. -/
def rY (og : FVec Ideal ⟨2, ![8192, 1024]⟩ .bf16) (w : FVec Ideal ⟨3, ![1, 1024, 1024]⟩ .f32) (b : FVec Ideal ⟨2, ![1, 1024]⟩ .f32) :
    FVec Ideal ⟨2, ![8192, 1024]⟩ .f32 :=
  addf (hMul og w) (hRow b)

/-- The normed output on top of the residual. -/
def rX (y x : FVec Ideal ⟨2, ![8192, 1024]⟩ .f32) (wp : FVec Ideal ⟨2, ![2, 1024]⟩ .f32) : FVec Ideal ⟨2, ![8192, 1024]⟩ .f32 :=
  addf x (mulf (mulf y (hRstd y)) (hRow (extractStridedSlice _ ![0, 0] wp Cert.Reference7Ideal.Gen.slices_S2x1024_S1x1024_0_0)))

theorem rY_apply (og : FVec Ideal ⟨2, ![8192, 1024]⟩ .bf16) (w : FVec Ideal ⟨3, ![1, 1024, 1024]⟩ .f32) (b : FVec Ideal ⟨2, ![1, 1024]⟩ .f32)
    (i : Fin 8192) (j : Fin 1024) : rY og w b (ix2 i j) = ∑ k : Fin 1024, og (ix2 i k) * w (ix3 0 k j) + b (ix2 0 j) := by
  pointwise [rY, hMul_apply, hRow_apply]

theorem rX_apply (y x : FVec Ideal ⟨2, ![8192, 1024]⟩ .f32) (wp : FVec Ideal ⟨2, ![2, 1024]⟩ .f32) (i : Fin 8192) (j : Fin 1024) :
    rX y x wp (ix2 i j) = x (ix2 i j) + y (ix2 i j) * rstd (row y i) * wp (ix2 0 j) := by
  pointwise [rX, hRstd_apply, hRow_apply]

section Kernel
open Cert.Kernel7Ideal Cert.Kernel7Ideal.Gen

/-! ## What the body computes, at an index -/

theorem y_apply (og w : FVec Ideal S1024x1024 .bf16) (b : FVec Ideal S1x1024 .f32) (i j : Fin 1024) :
    k0_pay1 (F := Ideal) og w b (ix2 i j) = ∑ k : Fin 1024, og (ix2 i k) * w (ix2 k j) + b (ix2 0 j) := by
  pointwise [k0_pay1]

theorem yb_apply (og w : FVec Ideal S1024x1024 .bf16) (b : FVec Ideal S1x1024 .f32) (i j : Fin 1024) :
    k0_pay2 (F := Ideal) og w b (ix2 i j) = k0_pay1 (F := Ideal) og w b (ix2 i j) := by
  pointwise [k0_pay2]

theorem x_apply (og w : FVec Ideal S1024x1024 .bf16) (b : FVec Ideal S1x1024 .f32) (x : FVec Ideal S1024x1024 .f32) (wp : FVec Ideal S1x1024 .f32)
    (i j : Fin 1024) : k0_pay3 (F := Ideal) og w b x wp (ix2 i j)
      = x (ix2 i j) + k0_pay1 (F := Ideal) og w b (ix2 i j) * rstd (row (k0_pay1 (F := Ideal) og w b) i) * wp (ix2 0 j) := by
  pointwise [k0_pay3, rstd, meanSq]

/-! ## The kernel's blocks are the arrays' rows -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![t.val, 0] :=
  (by decide +kernel : ∀ t : Fin grid0.N, _)

abbrev aOg : FVec Ideal S8192x1024 .bf16 := m ((c.tc : Thread nD τ).loc main_arg0)
abbrev aW : FVec Ideal S1x1024x1024 .f32 := m ((c.tc : Thread nD τ).loc main_arg1)
abbrev aB : FVec Ideal S1x1024 .f32 := m ((c.tc : Thread nD τ).loc main_arg2)
abbrev aX : FVec Ideal S8192x1024 .f32 := m ((c.tc : Thread nD τ).loc main_arg3)
abbrev aWp : FVec Ideal S2x1024 .f32 := m ((c.tc : Thread nD τ).loc main_arg4)
def aY : FVec Ideal S8192x1024 .f32 := rY (aOg m c) (aW m c) (aB m c)

theorem V_w (i j : Fin 1024) : (V m c main_v1 : FVec Ideal S1024x1024 .bf16) (ix2 i j) = aW m c (ix3 0 i j) := by
  entry_read
  pointwise

theorem V_wp (j : Fin 1024) : (V m c main_v2 : FVec Ideal S1x1024 .f32) (ix2 0 j) = aWp m c (ix2 0 j) := by
  entry_read
  pointwise

theorem lt8 (t : Fin cfg0.N) : t.val < 8 := N_0 ▸ t.isLt

/-- Row `r` of the block of rows that point `t` holds. -/
def at' (t : Fin cfg0.N) (r : Fin 1024) : Fin 8192 := ⟨t.val * 1024 + r.val, by have := lt8 t; omega⟩

theorem at'_val (t : Fin cfg0.N) (r : Fin 1024) : (at' t r).val = t.val * 1024 + r.val := rfl

theorem blk_og (t : Fin cfg0.N) (r k : Fin 1024) : (iblk m c 0 t : FVec Ideal S1024x1024 .bf16) (ix2 r k) = aOg m c (ix2 (at' t r) k) := by
  blk_point [iblk, V, idx t, at'_val]

theorem blk_w (t : Fin cfg0.N) (r k : Fin 1024) : (iblk m c 1 t : FVec Ideal S1024x1024 .bf16) (ix2 r k) = aW m c (ix3 0 r k) := by
  rw [← V_w]
  blk_point [iblk, V, idx t, at'_val]

theorem blk_b (t : Fin cfg0.N) (k : Fin 1024) : (iblk m c 2 t : FVec Ideal S1x1024 .f32) (ix2 0 k) = aB m c (ix2 0 k) := by
  blk_point [iblk, V, idx t, at'_val]

theorem blk_x (t : Fin cfg0.N) (r k : Fin 1024) : (iblk m c 3 t : FVec Ideal S1024x1024 .f32) (ix2 r k) = aX m c (ix2 (at' t r) k) := by
  blk_point [iblk, V, idx t, at'_val]

theorem blk_wp (t : Fin cfg0.N) (k : Fin 1024) : (iblk m c 4 t : FVec Ideal S1x1024 .f32) (ix2 0 k) = aWp m c (ix2 0 k) := by
  rw [← V_wp]
  blk_point [iblk, V, idx t, at'_val]

theorem y_eq (t : Fin cfg0.N) (r j : Fin 1024) :
    k0_pay1 (F := Ideal) (iblk m c 0 t) (iblk m c 1 t) (iblk m c 2 t) (ix2 r j) = aY m c (ix2 (at' t r) j) :=
  (y_apply _ _ _ r j).trans (Eq.trans (Ideal.add_congr (Fin.sum_fin_congr fun k => Ideal.mul_congr (blk_og m c t r k) (blk_w m c t k j)) (blk_b m c t j))
    (rY_apply _ _ _ _ _).symm)

theorem x_eq (t : Fin cfg0.N) (r j : Fin 1024) :
    k0_pay3 (F := Ideal) (iblk m c 0 t) (iblk m c 1 t) (iblk m c 2 t) (iblk m c 3 t) (iblk m c 4 t) (ix2 r j)
      = rX (aY m c) (aX m c) (aWp m c) (ix2 (at' t r) j) := by
  refine (x_apply _ _ _ _ _ r j).trans (Eq.trans ?_ (rX_apply _ _ _ _ _).symm)
  have hr : row (φ := .f32) (k0_pay1 (F := Ideal) (iblk m c 0 t) (iblk m c 1 t) (iblk m c 2 t)) r = row (aY m c) (at' t r) := funext fun k => y_eq m c t r k
  rw [hr]
  exact Ideal.add_congr (blk_x m c t r j) (Ideal.mul_congr (Ideal.mul_congr (y_eq m c t r j) rfl) (blk_wp m c t j))

/-! ## The result arrays after the run -/

theorem final_y : (dats m 0 c).arrAt 5 (cfgs 0).N = truncf .bf16 (aY m c) bitsLt_bf16_f32 := by
  refine (dats m 0 c).arrAt_eq_of_covers 5 _ (by decide +kernel) fun t hf y => ?_
  have h : out0_5 (iblk m c 0 t) (iblk m c 1 t) (iblk m c 2 t) (iblk m c 3 t) (iblk m c 4 t) = k0_pay2 (iblk m c 0 t) (iblk m c 1 t) (iblk m c 2 t) := by
    unfold out0_5; frame_out
  idx_vars y
  blk_simp
  rw [after0_5, h, yb_apply, y_eq]
  blk_point [idx t, at'_val]

theorem final_x : (dats m 0 c).arrAt 6 (cfgs 0).N = rX (aY m c) (aX m c) (aWp m c) := by
  refine (dats m 0 c).arrAt_eq_of_covers 6 _ (by decide +kernel) fun t hf y => ?_
  have h : out0_6 (iblk m c 0 t) (iblk m c 1 t) (iblk m c 2 t) (iblk m c 3 t) (iblk m c 4 t)
      = k0_pay3 (iblk m c 0 t) (iblk m c 1 t) (iblk m c 2 t) (iblk m c 3 t) (iblk m c 4 t) := by
    unfold out0_6; frame_out
  idx_vars y
  blk_simp
  rw [after0_6, h, x_eq]
  blk_point [idx t, at'_val]

end Kernel

section Reference
open Cert.Reference7Ideal Cert.Reference7Ideal.Gen

variable (m : (ℓ : Loc nD τ sig) → Buf (Elt Ideal) ℓ)

/-- The projection's output in the reference. -/
abbrev refY (c : Dev nD) : FVec Ideal S8192x1024 .f32 :=
  rY (m ((c.tc : Thread nD τ).loc main_arg0)) (m ((c.tc : Thread nD τ).loc main_arg1)) (m ((c.tc : Thread nD τ).loc main_arg2))

theorem ref_run (ρ : Dev nD → PrngReg) :
    θ_run defs (onTc (τ := τ) (main (F := Ideal))) ⟨m, fun _ => 0, ρ⟩ fun r => ∀ c : Dev nD,
      r.2.mem ((c.tc : Thread nD τ).loc main_v7) = truncf .bf16 (refY m c) bitsLt_bf16_f32
      ∧ r.2.mem ((c.tc : Thread nD τ).loc main_v23) = rX (refY m c) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2⟩) (Cert.Reference7Ideal.Value.run m ρ)

end Reference

theorem algebraic : Cert.algebraic_Kernel7Ideal_Reference7Ideal := by
  pair_intro
  · run_from Cert.Kernel7Ideal.Value.run_blocks m g
  · run_from ref_run m' g'
    all_goals obtain ⟨h0, h1, h2, h3, h4⟩ := hagree c
    all_goals simp only [refY, h0, h1, h2, h3, h4]
    · exact (final_y m c).symm
    · exact (final_x m c).symm

end Cert.Proof.Out7
end
-- ==== Proof.Out8.lean ====
/- The eighth pair, the recurrent layer's pre-norm and input projection: what the kernel's two arrays hold after the run,
   what the reference's hold, and the equation. -/
module

public import proofs.«01_k».proof.Defs
public import proofs.«01_k».proof.Proof.Gen.Kernel8Ideal.Value
public import proofs.«01_k».proof.Proof.Gen.Reference8Ideal.Run
public import proofs.«01_k».proof.Proof.HostNorm
public import Idealize.ShloMosaic.Lib.Pipeline.ValueKit
public import Idealize.ShloMosaic.Lib.Claim

@[expose] public section

set_option maxRecDepth 16384

noncomputable section
open Idealize.ShloMosaic Idealize.ShloMosaic.TcCoe Idealize.SL.Sem
open Idealize.ShloMosaic.Pipeline (Dat)

namespace Cert.Proof.Out8

/-! ## The reference's arrays -/

/-- The normed rows. -/
def rH (x : FVec Ideal ⟨2, ![8192, 1024]⟩ .f32) (wp : FVec Ideal ⟨2, ![2, 1024]⟩ .f32) : FVec Ideal ⟨2, ![8192, 1024]⟩ .f32 :=
  mulf (mulf x (hRstd x)) (hRow (extractStridedSlice _ ![1, 0] wp Cert.Reference8Ideal.Gen.slices_S2x1024_S1x1024_1_0))

/-- Their projection. -/
def rP (h : FVec Ideal ⟨2, ![8192, 1024]⟩ .f32) (w : FVec Ideal ⟨3, ![1, 1024, 4096]⟩ .f32) : FVec Ideal ⟨2, ![8192, 4096]⟩ .f32 :=
  Host.dotGeneral Cert.Reference8Ideal.dot_S8192x1024_S1024x4096_S8192x4096_1_0_0_1_n_n none h
    (shapeCast _ w Cert.Reference8Ideal.Gen.shapeCasts_S1x1024x4096_S1024x4096)

theorem rH_apply (x : FVec Ideal ⟨2, ![8192, 1024]⟩ .f32) (wp : FVec Ideal ⟨2, ![2, 1024]⟩ .f32) (i : Fin 8192) (j : Fin 1024) :
    rH x wp (ix2 i j) = x (ix2 i j) * rstd (row x i) * wp (ix2 1 j) := by
  pointwise [rH, hRstd_apply, hRow_apply]

theorem rP_apply (h : FVec Ideal ⟨2, ![8192, 1024]⟩ .f32) (w : FVec Ideal ⟨3, ![1, 1024, 4096]⟩ .f32) (i : Fin 8192) (j : Fin 4096) :
    rP h w (ix2 i j) = ∑ k : Fin 1024, h (ix2 i k) * w (ix3 0 k j) := by
  pointwise [rP]

section Kernel
open Cert.Kernel8Ideal Cert.Kernel8Ideal.Gen

/-! ## What the body computes, at an index -/

theorem h_apply (x : FVec Ideal S1024x1024 .f32) (wp : FVec Ideal S1x1024 .f32) (i j : Fin 1024) :
    k0_pay2 (F := Ideal) x wp (ix2 i j) = x (ix2 i j) * rstd (row x i) * wp (ix2 0 j) := by
  pointwise [k0_pay2, rstd, meanSq]

theorem p_apply (h : FVec Ideal S1024x1024 .bf16) (w : FVec Ideal S1x1024x1024 .bf16) (i j : Fin 1024) :
    k0_pay1 (F := Ideal) h w (ix2 i j) = ∑ k : Fin 1024, h (ix2 i k) * w (ix3 0 k j) := by
  pointwise [k0_pay1]

/-! ## The kernel's blocks are the arrays' rows -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

abbrev aX : FVec Ideal S8192x1024 .f32 := m ((c.tc : Thread nD τ).loc main_arg0)
abbrev aWp : FVec Ideal S2x1024 .f32 := m ((c.tc : Thread nD τ).loc main_arg1)
abbrev aW : FVec Ideal S1x1024x4096 .f32 := m ((c.tc : Thread nD τ).loc main_arg2)
def aH : FVec Ideal S8192x1024 .f32 := rH (aX m c) (aWp m c)

theorem V_w (s : Fin 4) (i j : Fin 1024) : (V m c main_v3 : FVec Ideal S4x1024x1024 .bf16) (ix3 s i j)
    = aW m c (ix3 0 i ⟨s.val * 1024 + j.val, by omega⟩) := by
  entry_read
  pointwise

theorem V_wp (j : Fin 1024) : (V m c main_v4 : FVec Ideal S1x1024 .f32) (ix2 0 j) = aWp m c (ix2 1 j) := by
  entry_read
  pointwise

theorem lt8 (t : Fin cfg0.N) : t.val < 8 := N_0 ▸ t.isLt

/-- Row `r` of the block of rows that point `t` holds. -/
def at' (t : Fin cfg0.N) (r : Fin 1024) : Fin 8192 := ⟨t.val * 1024 + r.val, by have := lt8 t; omega⟩

theorem at'_val (t : Fin cfg0.N) (r : Fin 1024) : (at' t r).val = t.val * 1024 + r.val := rfl

theorem blk_x (t : Fin cfg0.N) (r k : Fin 1024) : (iblk m c 0 t : FVec Ideal S1024x1024 .f32) (ix2 r k) = aX m c (ix2 (at' t r) k) := by
  blk_point [iblk, V, idx t, at'_val]

theorem blk_wp (t : Fin cfg0.N) (k : Fin 1024) : (iblk m c 1 t : FVec Ideal S1x1024 .f32) (ix2 0 k) = aWp m c (ix2 1 k) := by
  rw [← V_wp]
  blk_point [iblk, V, idx t, at'_val]

theorem blk_w (t : Fin cfg0.N) (s : Fin 4) (i j : Fin 1024) : (iblk m c 2 t : FVec Ideal S4x1024x1024 .bf16) (ix3 s i j)
    = aW m c (ix3 0 i ⟨s.val * 1024 + j.val, by omega⟩) := by
  rw [← V_w]
  blk_point [iblk, V, idx t, at'_val]

theorem h_eq (t : Fin cfg0.N) (r j : Fin 1024) : k0_pay2 (F := Ideal) (iblk m c 0 t) (iblk m c 1 t) (ix2 r j) = aH m c (ix2 (at' t r) j) := by
  refine (h_apply _ _ r j).trans (Eq.trans ?_ (rH_apply _ _ _ _).symm)
  have hr : row (φ := .f32) (iblk m c 0 t) r = row (aX m c) (at' t r) := funext fun k => blk_x m c t r k
  rw [hr]
  exact Ideal.mul_congr (Ideal.mul_congr (blk_x m c t r j) rfl) (blk_wp m c t j)

theorem ld_cols (W : Vec Ideal S4x1024x1024 .bf16) (o : ℕ) (h) (j k : Fin 1024) (ho : o < 4) :
    View.ld (Val := Elt Ideal) (e' := .bf16) W (Rect.unit (s := S4x1024x1024) ![o, 0, 0] S1x1024x1024.size h) (ix3 0 j k) = W (ix3 ⟨o, ho⟩ j k) := by
  refine congrArg W (funext fun a => Fin.ext ?_)
  fin_cases a <;> simp [Rect.unit]

theorem ld_x (X : Vec Ideal S1024x1024 .f32) : View.ld (Val := Elt Ideal) (e' := .f32) X r0_0 = X := View.ld_unit_lit _ X (by decide)

theorem ld_wp (X : Vec Ideal S1x1024 .f32) : View.ld (Val := Elt Ideal) (e' := .f32) X r0_1 = X := View.ld_unit_lit _ X (by decide)

/-- One block of columns of the product, from the block of rows and that block of the weights. -/
theorem p_eq (t : Fin cfg0.N) (s : Fin 4) (h) (r : Fin 1024) (j : Fin 4096) (l : Fin 1024) (hl : j.val = s.val * 1024 + l.val) :
    k0_pay1 (F := Ideal) (k0_pay2 (iblk m c 0 t) (iblk m c 1 t))
      (View.ld (Val := Elt Ideal) (e' := .bf16) (iblk m c 2 t) (Rect.unit (s := S4x1024x1024) ![s.val, 0, 0] S1x1024x1024.size h)) (ix2 r l)
      = rP (aH m c) (aW m c) (ix2 (at' t r) j) := by
  have ej : j = ⟨s.val * 1024 + l.val, by clear hl; omega⟩ := Fin.ext hl
  rw [ej]
  refine (p_apply _ _ r l).trans (Eq.trans ?_ (rP_apply _ _ _ _).symm)
  exact Fin.sum_fin_congr fun k => Ideal.mul_congr (h_eq m c t r k) ((ld_cols _ _ _ k l s.isLt).trans (blk_w m c t s k l))

/-! ## The result arrays after the run -/

theorem final_h : (dats m 0 c).arrAt 3 (cfgs 0).N = truncf .bf16 (aH m c) bitsLt_bf16_f32 := by
  refine (dats m 0 c).arrAt_eq_of_covers 3 _ (by decide +kernel) fun t hf y => ?_
  have h : out0_3 (iblk m c 0 t) (iblk m c 1 t) (iblk m c 2 t) = k0_pay2 (iblk m c 0 t) (iblk m c 1 t) := by
    unfold out0_3; frame_out
  idx_vars y
  blk_simp
  rw [after0_3, h, h_eq]
  blk_point [idx t, at'_val]

theorem out_p (t : Fin cfg0.N) (r : Fin 1024) (j : Fin 4096) :
    out0_4 (F := Ideal) (iblk m c 0 t) (iblk m c 1 t) (iblk m c 2 t) (ix2 r j) = rP (aH m c) (aW m c) (ix2 (at' t r) j) := by
  have hc (s : Fin 4) (hw) (x : S1024x1024.Idx) (off : ℕ) (ho : off = s.val * 1024) (hx : ∀ a : Fin 2, ((ix2 r j : S1024x4096.Idx) a : ℕ) = ![0, off] a + x a) :
      k0_pay1 (F := Ideal) (k0_pay2 (iblk m c 0 t) (iblk m c 1 t))
        (View.ld (Val := Elt Ideal) (e' := .bf16) (iblk m c 2 t) (Rect.unit (s := S4x1024x1024) ![s.val, 0, 0] S1x1024x1024.size hw)) x
        = rP (aH m c) (aW m c) (ix2 (at' t r) j) := by
    idx_vars x
    have e0 : r = x0 := Fin.ext (by simpa using hx 0)
    subst e0
    exact p_eq m c t s hw _ j x1 (by simpa [ho] using hx 1)
  unfold out0_4
  rw [ld_x, ld_wp]
  refine View.canon_eq_of_allAt _ _ _ (cover0_4 _ _ _ _ _) ?_
  refine View.allAt_cons_unit _ _ _ _ _ (fun x hx => hc 3 _ x 3072 rfl hx) ?_
  refine View.allAt_cons_unit _ _ _ _ _ (fun x hx => hc 2 _ x 2048 rfl hx) ?_
  refine View.allAt_cons_unit _ _ _ _ _ (fun x hx => hc 1 _ x 1024 rfl hx) ?_
  exact View.allAt_cons_unit _ _ _ _ _ (fun x hx => hc 0 _ x 0 rfl hx) (View.allAt_nil _ _)

theorem final_p : (dats m 0 c).arrAt 4 (cfgs 0).N = rP (aH m c) (aW m c) := by
  refine (dats m 0 c).arrAt_eq_of_covers 4 _ (by decide +kernel) fun t hf y => ?_
  idx_vars y
  blk_simp
  rw [after0_4, out_p]
  blk_point [idx t, at'_val]

end Kernel

section Reference
open Cert.Reference8Ideal Cert.Reference8Ideal.Gen

variable (m : (ℓ : Loc nD τ sig) → Buf (Elt Ideal) ℓ)

/-- The normed rows in the reference. -/
abbrev refH (c : Dev nD) : FVec Ideal S8192x1024 .f32 := rH (m ((c.tc : Thread nD τ).loc main_arg0)) (m ((c.tc : Thread nD τ).loc main_arg1))

theorem ref_run (ρ : Dev nD → PrngReg) :
    θ_run defs (onTc (τ := τ) (main (F := Ideal))) ⟨m, fun _ => 0, ρ⟩ fun r => ∀ c : Dev nD,
      r.2.mem ((c.tc : Thread nD τ).loc main_v15) = truncf .bf16 (refH m c) bitsLt_bf16_f32
      ∧ r.2.mem ((c.tc : Thread nD τ).loc main_v17) = rP (refH m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2⟩) (Cert.Reference8Ideal.Value.run m ρ)

end Reference

theorem algebraic : Cert.algebraic_Kernel8Ideal_Reference8Ideal := by
  pair_intro
  · run_from Cert.Kernel8Ideal.Value.run_blocks m g
  · run_from ref_run m' g'
    all_goals obtain ⟨h0, h1, h2⟩ := hagree c
    all_goals simp only [refH, h0, h1, h2]
    · exact (final_h m c).symm
    · exact (final_p m c).symm

end Cert.Proof.Out8
end
-- ==== Proof.Host9.lean ====
/- The attention layer's pre-norm and input projection: the reference's arrays, and what they hold at an index. -/
module

public import proofs.«01_k».proof.Proof.Gen.Reference9Ideal.Run
public import proofs.«01_k».proof.Proof.HostNorm
public import proofs.«01_k».proof.Proof.Kern5
public import Idealize.ShloMosaic.Lib.Pipeline.ValueKit

@[expose] public section

set_option maxRecDepth 16384

noncomputable section
open Idealize.ShloMosaic Idealize.ShloMosaic.TcCoe Idealize.SL.Sem

namespace Cert.Proof.Out9
open Cert.Reference9Ideal Cert.Reference9Ideal.Gen

/-- The normed rows. -/
def rH (x : FVec Ideal S8192x1024 .f32) (wp : FVec Ideal S2x1024 .f32) : FVec Ideal S8192x1024 .f32 :=
  mulf (mulf x (hRstd x)) (hRow (extractStridedSlice _ ![0, 0] wp slices_S2x1024_S1x1024_0_0))

/-- Their projection. -/
def rP (h : FVec Ideal S8192x1024 .f32) (w : FVec Ideal S1x1024x2304 .f32) (b : FVec Ideal S1x2304 .f32) : FVec Ideal S8192x2304 .f32 :=
  addf (Host.dotGeneral dot_S8192x1024_S1024x2304_S8192x2304_1_0_0_1_n_n none h (shapeCast _ w shapeCasts_S1x1024x2304_S1024x2304))
    (broadcastInDim S8192x2304 ![0, 1] bcast_S1x2304_S8192x2304_0_1 (broadcastInDim S1x2304 ![1] bcast_S2304_S1x2304_1 (shapeCast _ b shapeCasts_S1x2304_S2304)))

/-- Its columns of queries, scaled and turned. -/
def rQ (p : FVec Ideal S8192x2304 .f32) (pos : IVec S4x2048 32) : FVec Ideal S8192x1024 .bf16 :=
  Out5.kRows (extractStridedSlice S8192x1024 ![0, 0] p slices_S8192x2304_S8192x1024_0_0) pos

def rHeads (f : FVec Ideal S4x2048x8 .f32) : FVec Ideal S4x2048x2x8 .f32 :=
  broadcastInDim S4x2048x2x8 ![0, 1, 2, 3] bcast_S4x2048x1x8_S4x2048x2x8_0_1_2_3
    (broadcastInDim S4x2048x1x8 ![0, 1, 3] bcast_S4x2048x8_S4x2048x1x8_0_1_3 f)

def rLow (x : FVec Ideal S4x2048x2x64 .f32) : FVec Ideal S4x2048x2x8 .f32 := extractStridedSlice S4x2048x2x8 ![0, 0, 0, 0] x slices_S4x2048x2x64_S4x2048x2x8_0_0_0_0
def rHigh (x : FVec Ideal S4x2048x2x64 .f32) : FVec Ideal S4x2048x2x8 .f32 := extractStridedSlice S4x2048x2x8 ![0, 0, 0, 8] x slices_S4x2048x2x64_S4x2048x2x8_0_0_0_8

/-- The two heads of keys, turned by their angles. -/
def rTurnedBy (x : FVec Ideal S4x2048x2x64 .f32) (ang : FVec Ideal S4x2048x8 .f32) : FVec Ideal S4x2048x2x64 .f32 :=
  concatenate S4x2048x2x64 3 [⟨S4x2048x2x8, subf (mulf (rLow x) (rHeads (Host.cos ang))) (mulf (rHigh x) (rHeads (Host.sin ang)))⟩,
    ⟨S4x2048x2x8, addf (mulf (rHigh x) (rHeads (Host.cos ang))) (mulf (rLow x) (rHeads (Host.sin ang)))⟩,
    ⟨S4x2048x2x48, extractStridedSlice S4x2048x2x48 ![0, 0, 0, 16] x slices_S4x2048x2x64_S4x2048x2x48_0_0_0_16⟩] concatenates_S4x2048x2x8_S4x2048x2x8_S4x2048x2x48_S4x2048x2x64_d3

/-- Its columns of keys, turned. -/
def rK (p : FVec Ideal S8192x2304 .f32) (pos : IVec S4x2048 32) : FVec Ideal S8192x128 .bf16 :=
  truncf .bf16 (shapeCast _ (rTurnedBy (shapeCast _ (extractStridedSlice S8192x128 ![0, 1024] p slices_S8192x2304_S8192x128_0_1024)
    shapeCasts_S8192x128_S4x2048x2x64) (Out5.kAng pos)) shapeCasts_S4x2048x2x64_S8192x128) bitsLt_bf16_f32

def rV (p : FVec Ideal S8192x2304 .f32) : FVec Ideal S8192x128 .bf16 :=
  truncf .bf16 (extractStridedSlice S8192x128 ![0, 1152] p slices_S8192x2304_S8192x128_0_1152) bitsLt_bf16_f32

def rZ (p : FVec Ideal S8192x2304 .f32) : FVec Ideal S8192x1024 .f32 := extractStridedSlice S8192x1024 ![0, 1280] p slices_S8192x2304_S8192x1024_0_1280

/-! ## At an index -/

theorem rH_apply (x : FVec Ideal S8192x1024 .f32) (wp : FVec Ideal S2x1024 .f32) (i : Fin 8192) (j : Fin 1024) :
    rH x wp (ix2 i j) = x (ix2 i j) * rstd (row x i) * wp (ix2 0 j) := by
  pointwise [rH, hRstd_apply, hRow_apply]

theorem rP_apply (h : FVec Ideal S8192x1024 .f32) (w : FVec Ideal S1x1024x2304 .f32) (b : FVec Ideal S1x2304 .f32) (i : Fin 8192) (j : Fin 2304) :
    rP h w b (ix2 i j) = (∑ k : Fin 1024, h (ix2 i k) * w (ix3 0 k j)) + b (ix2 0 j) := by
  pointwise [rP]

/-- The turn of the positions of row `T`. -/
def turns (pos : IVec S4x2048 32) (T : Fin 8192) : Fin 48 → EReal := Rope.pieces (pos (ix2 ⟨T.val / 2048, by omega⟩ ⟨T.val % 2048, by omega⟩))

theorem rQ_apply (p : FVec Ideal S8192x2304 .f32) (pos : IVec S4x2048 32) (T : Fin 8192) (j : Fin 1024) :
    rQ p pos (ix2 T j) = Rope.forth (fun d => p (ix2 T ⟨j.val / 64 * 64 + d.val, by omega⟩) * ((1 / 8 : ℝ) : EReal)) (turns pos T) ⟨j.val % 64, by omega⟩ := by
  pointwise [rQ, Out5.kRows, Out5.kTurned_apply, Out5.kScaled_apply]
  refine congrArg₂ (fun X d => Rope.forth X _ d) (funext fun d => ?_) (Fin.ext (by dsimp only))
  exact congrArg (fun i => p i * ((1 / 8 : ℝ) : EReal)) (congrArg₂ ix2 (Fin.ext (by dsimp only; omega)) (Fin.ext (by dsimp only)))

theorem rTurned_apply (x : FVec Ideal S4x2048x2x64 .f32) (pos : IVec S4x2048 32) (b : Fin 4) (s : Fin 2048) (h : Fin 2) (d : Fin 64) :
    rTurnedBy x (Out5.kAng pos) (ix4 b s h d) = Rope.forth (fun d => x (ix4 b s h d)) (Rope.pieces (pos (ix2 b s))) d := by
  pointwise [rTurnedBy, rLow, rHigh, rHeads, Out5.kAng_apply]
  have hd := d.isLt
  have e (k k' : Fin 64) (hk : k.val = k'.val) : x (ix4 b s h k) = x (ix4 b s h k') := by rw [Fin.ext hk]
  have f (a a' : Fin 8) (ha : a.val = a'.val) : Rope.turn (pos (ix2 b s)) a = Rope.turn (pos (ix2 b s)) a' := by rw [Fin.ext ha]
  have s8 : ¬ 8 + d.val < 8 := by omega
  unfold Rope.forth Rope.pieces
  dsimp only
  by_cases h8 : d.val < 8
  · have s16 : 8 + d.val < 16 := by omega
    rw [dif_pos h8, dif_pos h8, dif_pos h8, dif_neg s8, dif_pos s16]
    exact congrArg₂ (fun a b : EReal => a - b) (Ideal.mul_congr (e _ _ (by dsimp only)) (congrArg _ (f _ _ (by dsimp only))))
      (Ideal.mul_congr (e _ _ (by dsimp only; omega)) (congrArg _ (f _ _ (by dsimp only; omega))))
  · by_cases h16 : d.val < 16
    · have g1 : d.val - 8 < 8 := by omega
      rw [dif_neg h8, dif_neg h8, dif_pos h16, dif_pos g1, dif_pos g1, dif_neg h8, dif_pos h16]
      exact Ideal.add_congr (Ideal.mul_congr (e _ _ (by dsimp only; omega)) (congrArg _ (f _ _ (by dsimp only))))
        (Ideal.mul_congr (e _ _ (by dsimp only)) (congrArg _ (f _ _ (by dsimp only))))
    · have g1 : ¬ d.val - 8 < 8 := by omega
      rw [dif_neg h8, dif_neg h8, dif_neg h16, dif_neg g1]
      exact e _ _ (by dsimp only; omega)

theorem rK_apply (p : FVec Ideal S8192x2304 .f32) (pos : IVec S4x2048 32) (T : Fin 8192) (j : Fin 128) :
    rK p pos (ix2 T j) = Rope.forth (fun d => p (ix2 T ⟨1024 + (j.val / 64 * 64 + d.val), by omega⟩)) (turns pos T) ⟨j.val % 64, by omega⟩ := by
  pointwise [rK, rTurned_apply]
  refine congrArg₂ (fun X d => Rope.forth X _ d) (funext fun d => ?_) (Fin.ext (by dsimp only))
  exact congrArg p (congrArg₂ ix2 (Fin.ext (by dsimp only)) (Fin.ext (by dsimp only)))

theorem rV_apply (p : FVec Ideal S8192x2304 .f32) (T : Fin 8192) (j : Fin 128) : rV p (ix2 T j) = p (ix2 T ⟨1152 + j.val, by omega⟩) := by
  pointwise [rV]

theorem rZ_apply (p : FVec Ideal S8192x2304 .f32) (T : Fin 8192) (j : Fin 1024) : rZ p (ix2 T j) = p (ix2 T ⟨1280 + j.val, by omega⟩) := by
  pointwise [rZ]

/-! ## The reference's run -/

variable (m : (ℓ : Loc nD τ sig) → Buf (Elt Ideal) ℓ)

abbrev refH (c : Dev nD) : FVec Ideal S8192x1024 .f32 := rH (m ((c.tc : Thread nD τ).loc main_arg0)) (m ((c.tc : Thread nD τ).loc main_arg1))
abbrev refP (c : Dev nD) : FVec Ideal S8192x2304 .f32 :=
  rP (refH m c) (m ((c.tc : Thread nD τ).loc main_arg2)) (m ((c.tc : Thread nD τ).loc main_arg3))

set_option maxHeartbeats 4000000 in
theorem ref_q (c : Dev nD) : Value.res_main_v96 m c = rQ (refP m c) (m ((c.tc : Thread nD τ).loc main_arg4)) := rfl

set_option maxHeartbeats 4000000 in
theorem ref_k (c : Dev nD) : Value.res_main_v97 m c = rK (refP m c) (m ((c.tc : Thread nD τ).loc main_arg4)) := rfl

set_option maxHeartbeats 4000000 in
theorem ref_run (ρ : Dev nD → PrngReg) :
    θ_run defs (onTc (τ := τ) (main (F := Ideal))) ⟨m, fun _ => 0, ρ⟩ fun r => ∀ c : Dev nD,
      r.2.mem ((c.tc : Thread nD τ).loc main_v95) = truncf .bf16 (refH m c) bitsLt_bf16_f32
      ∧ r.2.mem ((c.tc : Thread nD τ).loc main_v96) = rQ (refP m c) (m ((c.tc : Thread nD τ).loc main_arg4))
      ∧ r.2.mem ((c.tc : Thread nD τ).loc main_v97) = rK (refP m c) (m ((c.tc : Thread nD τ).loc main_arg4))
      ∧ r.2.mem ((c.tc : Thread nD τ).loc main_v98) = rV (refP m c)
      ∧ r.2.mem ((c.tc : Thread nD τ).loc main_v24) = rZ (refP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans (ref_q m c), (h c).2.2.1.trans (ref_k m c),
    (h c).2.2.2.1.trans rfl, (h c).2.2.2.2.1.trans rfl, (h c).2.2.2.2.2⟩) (Value.run m ρ)

end Cert.Proof.Out9
end
-- ==== Proof.Tab9.lean ====
/- The attention layer's input projection: the rotation of one row of two heads, by rolled products with the tables that the kernel makes. -/
module

public import proofs.«01_k».proof.Proof.Gen.Kernel9Ideal.Frame
public import proofs.«01_k».proof.Proof.Tab4
public import proofs.«01_k».proof.Proof.Turn
public import Idealize.ShloMosaic.Lib.Pipeline.ValueKit

@[expose] public section

set_option maxRecDepth 16384

noncomputable section
open Idealize.ShloMosaic Idealize.ShloMosaic.TcCoe Idealize.SL.Sem

namespace Cert.Proof.Out9

/-- Two heads' row turned, by head and lane. -/
def forth2 (x : Fin 128 → EReal) (p : Fin 48 → EReal) (l : Fin 128) : EReal :=
  Rope.forth (fun d => x ⟨l.val / 64 * 64 + d.val, by omega⟩) p ⟨l.val % 64, by omega⟩

/-- The row times the table of cosines, beside two rolled rows times the tables of sines, is the rotation. -/
theorem forth2_of_rolls (x : Fin 128 → EReal) (p : Fin 48 → EReal) (hp : ∀ k, 16 ≤ k.val → p k = 0) (l : Fin 128) :
    x l * (∑ k : Fin 48, p k * Rope.signOf (k.val % 16) 0 (l.val % 64) + if l.val % 64 < 16 then 0 else 1)
      + x ⟨(l.val + 120) % 128, by omega⟩ * ∑ k : Fin 48, p k * Rope.signOf (k.val % 16) 1 (l.val % 64)
      + x ⟨(l.val + 8) % 128, by omega⟩ * ∑ k : Fin 48, p k * Rope.signOf (k.val % 16) 2 (l.val % 64)
      = forth2 x p l := by
  have hl := l.isLt
  simp only [Rope.pick_sum p hp, forth2, Rope.forth]
  have e0 : l.val / 64 * 64 + l.val % 64 = l.val := by omega
  by_cases h : l.val % 64 < 8
  · have a1 : l.val % 64 < 16 := by omega
    have a2 : ¬ 8 ≤ l.val % 64 := by omega
    have e1 : l.val % 64 % 8 = l.val % 64 := by omega
    have e2 : (l.val + 8) % 128 = l.val + 8 := by omega
    have e3 : l.val / 64 * 64 + (l.val % 64 + 8) = l.val + 8 := by omega
    simp [h, a1, a2, e0, e1, e2, e3, sub_eq_add_neg]
  · by_cases h' : l.val % 64 < 16
    · have a2 : 8 ≤ l.val % 64 := by omega
      have e1 : l.val % 64 % 8 = l.val % 64 - 8 := by omega
      have e2 : (l.val + 120) % 128 = l.val - 8 := by omega
      have e3 : l.val / 64 * 64 + (l.val % 64 - 8) = l.val - 8 := by omega
      have e4 : 8 + (l.val % 64 - 8) = l.val % 64 := by omega
      simp [h, h', a2, e0, e1, e2, e3, e4]
    · simp [h, h', e0]

open Cert.Kernel9Ideal Cert.Kernel9Ideal.Gen

abbrev dig := k0_pay12 (Scalar.select (Scalar.cmpi .eq 16#32 0#32) 1#32 16#32) k0_pay8 k0_pay9 k0_pay10 k0_pay11
abbrev ones := k0_pay16 dig k0_pay13 k0_pay14
abbrev lows := k0_pay17 dig k0_pay13 k0_pay14

theorem dig_apply (k : Fin 48) (l : Fin 384) : dig (ix2 k l) = BitVec.ofNat 32 (k.val % 16) :=
  (show dig (ix2 k l) = dig (ix2 k 0) by pointwise [k0_pay12, k0_pay8, k0_pay9, k0_pay10, k0_pay11]).trans
    ((by decide +kernel : ∀ k : Fin 48, dig (ix2 k 0) = BitVec.ofNat 32 (k.val % 16)) k)

theorem tab_apply (k : Fin 48) (l : Fin 384) : k0_pay13 (ix2 k l) = BitVec.ofNat 32 (l.val / 128) :=
  (show k0_pay13 (ix2 k l) = k0_pay13 (ix2 0 l) by pointwise [k0_pay13]).trans
    ((by decide +kernel : ∀ l : Fin 384, k0_pay13 (ix2 0 l) = BitVec.ofNat 32 (l.val / 128)) l)

theorem lane64_apply (k : Fin 48) (l : Fin 384) : k0_pay14 (ix2 k l) = BitVec.ofNat 32 (l.val % 64) :=
  (show k0_pay14 (ix2 k l) = k0_pay14 (ix2 0 l) by pointwise [k0_pay14]).trans
    ((by decide +kernel : ∀ l : Fin 384, k0_pay14 (ix2 0 l) = BitVec.ofNat 32 (l.val % 64)) l)

theorem lane8_apply (k : Fin 48) (l : Fin 384) : k0_pay15 k0_pay14 (ix2 k l) = BitVec.ofNat 32 (l.val % 8) :=
  (show k0_pay15 k0_pay14 (ix2 k l) = k0_pay15 k0_pay14 (ix2 0 l) by pointwise [k0_pay15, k0_pay14]).trans
    ((by decide +kernel : ∀ l : Fin 384, k0_pay15 k0_pay14 (ix2 0 l) = BitVec.ofNat 32 (l.val % 8)) l)

theorem pick_apply (cs : FVec Ideal S1024x48 .bf16) (r : Fin 1024) (l : Fin 384) :
    k0_pay18 (F := Ideal) cs ones lows (ix2 r l) = ∑ k : Fin 48, cs (ix2 r k) * Rope.signOf (k.val % 16) (l.val / 128) (l.val % 64) := by
  pointwise [k0_pay18, k0_pay16, k0_pay17]
  simp only [dig_apply, tab_apply, lane64_apply, lane8_apply]
  refine Fin.sum_fin_congr fun k => Ideal.mul_congr rfl ?_
  exact Rope.select_sign l.val l.isLt k.val

/-! ## The tables of cosines and of sines -/

abbrev tCos (cs : FVec Ideal S1024x48 .bf16) : FVec Ideal S1024x128 .f32 := k0_pay19 (F := Ideal) cs ones lows
abbrev tLow (cs : FVec Ideal S1024x48 .bf16) : FVec Ideal S1024x128 .f32 := k0_pay20 (F := Ideal) cs ones lows
abbrev tHigh (cs : FVec Ideal S1024x48 .bf16) : FVec Ideal S1024x128 .f32 := k0_pay21 (F := Ideal) cs ones lows

theorem tCos_apply (cs : FVec Ideal S1024x48 .bf16) (r : Fin 1024) (l : Fin 128) :
    tCos cs (ix2 r l) = (∑ k : Fin 48, cs (ix2 r k) * Rope.signOf (k.val % 16) 0 (l.val % 64)) + if l.val % 64 < 16 then 0 else 1 := by
  have hl := l.isLt
  pointwise [k0_pay19]
  rw [Out4.low_bit, pick_apply]
  refine Ideal.add_congr ?_ ?_
  · exact Fin.sum_fin_congr fun k => Ideal.mul_congr rfl (congrArg₂ _ (by dsimp only; omega) (by dsimp only))
  · split_ifs <;> rfl

theorem tLow_apply (cs : FVec Ideal S1024x48 .bf16) (r : Fin 1024) (l : Fin 128) :
    tLow cs (ix2 r l) = ∑ k : Fin 48, cs (ix2 r k) * Rope.signOf (k.val % 16) 1 (l.val % 64) := by
  have hl := l.isLt
  pointwise [k0_pay20]
  rw [pick_apply]
  exact Fin.sum_fin_congr fun k => Ideal.mul_congr rfl (congrArg₂ _ (by dsimp only; omega) (by dsimp only; omega))

theorem tHigh_apply (cs : FVec Ideal S1024x48 .bf16) (r : Fin 1024) (l : Fin 128) :
    tHigh cs (ix2 r l) = ∑ k : Fin 48, cs (ix2 r k) * Rope.signOf (k.val % 16) 2 (l.val % 64) := by
  have hl := l.isLt
  pointwise [k0_pay21]
  rw [pick_apply]
  exact Fin.sum_fin_congr fun k => Ideal.mul_congr rfl (congrArg₂ _ (by dsimp only; omega) (by dsimp only; omega))

/-! ## The rolled products -/

/-- A block of rows over two heads, turned. -/
def spun (X C S T : FVec Ideal S1024x128 .f32) : FVec Ideal S1024x128 .bf16 :=
  truncf .bf16 (addf (addf (mulf X C) (mulf (dynamicRotate 1 8#32 none X rotates_S1024x128_d1) S))
    (mulf (dynamicRotate 1 120#32 none X rotates_S1024x128_d1) T)) bitsLt_bf16_f32

theorem spun_apply (cs : FVec Ideal S1024x48 .bf16) (X : FVec Ideal S1024x128 .f32) (r : Fin 1024) (l : Fin 128)
    (hp : ∀ k : Fin 48, 16 ≤ k.val → cs (ix2 r k) = 0) :
    spun X (tCos cs) (tLow cs) (tHigh cs) (ix2 r l) = forth2 (fun l => X (ix2 r l)) (fun k => cs (ix2 r k)) l := by
  rw [← forth2_of_rolls _ _ hp]
  have hl := l.isLt
  pointwise [spun]
  rw [tCos_apply, tLow_apply, tHigh_apply]
  refine Ideal.add_congr (Ideal.add_congr rfl (Ideal.mul_congr ?_ rfl)) (Ideal.mul_congr ?_ rfl)
  · exact congrArg (fun i => X (ix2 r i)) (Fin.ext (by dsimp only; omega))
  · exact congrArg (fun i => X (ix2 r i)) (Fin.ext (by dsimp only; omega))

/-- 128 columns of the projection, scaled. -/
def qCols (p : FVec Ideal S1024x2304 .f32) (o : ℕ) (h : S1024x2304.Slices ![0, o] S1024x128) : FVec Ideal S1024x128 .f32 :=
  mulf (extractStridedSlice S1024x128 ![0, o] p h) (broadcast S1024x128 (Scalar.ofBits (F := Ideal) .f32 0x3E000000#32))

end Cert.Proof.Out9
end
-- ==== Proof.Out9.lean ====
/- The ninth pair, the attention layer's pre-norm, input projection and rotary embedding: what the kernel's five arrays hold
   after the run, and the equation. -/
module

public import proofs.«01_k».proof.Defs
public import proofs.«01_k».proof.Proof.Gen.Kernel9Ideal.Value
public import proofs.«01_k».proof.Proof.Host9
public import proofs.«01_k».proof.Proof.Tab9
public import Idealize.ShloMosaic.Lib.Claim

@[expose] public section

set_option maxRecDepth 16384

noncomputable section
open Idealize.ShloMosaic Idealize.ShloMosaic.TcCoe Idealize.SL.Sem
open Idealize.ShloMosaic.Pipeline (Dat)

namespace Cert.Proof.Out9

section Kernel
open Cert.Kernel9Ideal Cert.Kernel9Ideal.Gen

/-! ## What the body computes, at an index -/

theorem h_apply (x : FVec Ideal S1024x1024 .f32) (wp : FVec Ideal S1x1024 .f32) (i j : Fin 1024) :
    k0_pay5 (F := Ideal) x wp (ix2 i j) = x (ix2 i j) * rstd (row x i) * wp (ix2 0 j) := by
  pointwise [k0_pay5, rstd, meanSq]

theorem p_apply (x : FVec Ideal S1024x1024 .f32) (wp : FVec Ideal S1x1024 .f32) (w : FVec Ideal S1024x2304 .bf16) (b : FVec Ideal S1x2304 .f32) (i : Fin 1024) (j : Fin 2304) :
    k0_pay6 (F := Ideal) x wp w b (ix2 i j) = (∑ k : Fin 1024, k0_pay5 (F := Ideal) x wp (ix2 i k) * w (ix2 k j)) + b (ix2 0 j) := by
  pointwise [k0_pay6]

/-! ## The kernel's blocks are the arrays' rows -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

abbrev aX : FVec Ideal S8192x1024 .f32 := m ((c.tc : Thread nD τ).loc main_arg0)
abbrev aWp : FVec Ideal S2x1024 .f32 := m ((c.tc : Thread nD τ).loc main_arg1)
abbrev aW : FVec Ideal S1x1024x2304 .f32 := m ((c.tc : Thread nD τ).loc main_arg2)
abbrev aB : FVec Ideal S1x2304 .f32 := m ((c.tc : Thread nD τ).loc main_arg3)
abbrev aPos : IVec S4x2048 32 := m ((c.tc : Thread nD τ).loc main_arg4)
def aH : FVec Ideal S8192x1024 .f32 := rH (aX m c) (aWp m c)
def aP : FVec Ideal ⟨2, ![8192, 2304]⟩ .f32 := rP (aH m c) (aW m c) (aB m c)

theorem V_wp (j : Fin 1024) : (V m c main_v0 : FVec Ideal S1x1024 .f32) (ix2 0 j) = aWp m c (ix2 0 j) := by
  entry_read
  pointwise

theorem V_w (i : Fin 1024) (j : Fin 2304) : (V m c main_v2 : FVec Ideal S1024x2304 .bf16) (ix2 i j) = aW m c (ix3 0 i j) := by
  entry_read
  pointwise

theorem V_16 : (V m c main_v16 : FVec Ideal S8192x8 .f32) = Out4.hAng (aPos m c) := by
  entry_read
  rfl
set_option maxHeartbeats 4000000 in
theorem V_19 : (V m c main_v19 : FVec Ideal S8192x16 .f32) = Out4.hTrig (aPos m c) :=
  (show (V m c main_v19 : FVec Ideal S8192x16 .f32) = Out5.trigOf (V m c main_v16) from rfl).trans (congrArg Out5.trigOf (V_16 m c))
theorem V_22 : (V m c main_v22 : FVec Ideal S8192x16 .f32) = Out4.hRest (aPos m c) := by
  rw [Out4.hRest, ← V_19]
  rfl
set_option maxHeartbeats 4000000 in
theorem V_27 : (V m c main_v27 : FVec Ideal S8192x48 .bf16) = Out4.hPieces (aPos m c) :=
  (show (V m c main_v27 : FVec Ideal S8192x48 .bf16) = Out5.piecesOf (V m c main_v19) (V m c main_v22) from rfl).trans (congrArg₂ Out5.piecesOf (V_19 m c) (V_22 m c))

theorem lt8 (t : Fin cfg0.N) : t.val < 8 := N_0 ▸ t.isLt

/-- Row `r` of the block of rows that point `t` holds. -/
def at' (t : Fin cfg0.N) (r : Fin 1024) : Fin 8192 := ⟨t.val * 1024 + r.val, by have := lt8 t; omega⟩

theorem at'_val (t : Fin cfg0.N) (r : Fin 1024) : (at' t r).val = t.val * 1024 + r.val := rfl

theorem blk_x (t : Fin cfg0.N) (r k : Fin 1024) : (iblk m c 0 t : FVec Ideal S1024x1024 .f32) (ix2 r k) = aX m c (ix2 (at' t r) k) := by
  blk_point [iblk, V, idx t, at'_val]

theorem blk_wp (t : Fin cfg0.N) (k : Fin 1024) : (iblk m c 1 t : FVec Ideal S1x1024 .f32) (ix2 0 k) = aWp m c (ix2 0 k) := by
  rw [← V_wp]
  blk_point [iblk, V, idx t, at'_val]

theorem blk_w (t : Fin cfg0.N) (i : Fin 1024) (j : Fin 2304) : (iblk m c 2 t : FVec Ideal S1024x2304 .bf16) (ix2 i j) = aW m c (ix3 0 i j) := by
  rw [← V_w]
  blk_point [iblk, V, idx t, at'_val]

theorem blk_b (t : Fin cfg0.N) (j : Fin 2304) : (iblk m c 3 t : FVec Ideal S1x2304 .f32) (ix2 0 j) = aB m c (ix2 0 j) := by
  blk_point [iblk, V, idx t, at'_val]

theorem blk_cs (t : Fin cfg0.N) (r : Fin 1024) : (fun k : Fin 48 => (iblk m c 4 t : FVec Ideal S1024x48 .bf16) (ix2 r k)) = turns (aPos m c) (at' t r) := by
  funext k
  refine Eq.trans ?_ (Out4.hPieces_apply (aPos m c) (at' t r) k)
  rw [← V_27]
  blk_point [iblk, V, idx t, at'_val]

theorem h_eq (t : Fin cfg0.N) (r j : Fin 1024) : k0_pay5 (F := Ideal) (iblk m c 0 t) (iblk m c 1 t) (ix2 r j) = aH m c (ix2 (at' t r) j) := by
  refine (h_apply _ _ r j).trans (Eq.trans ?_ (rH_apply _ _ _ _).symm)
  have hr : row (φ := .f32) (iblk m c 0 t) r = row (aX m c) (at' t r) := funext fun k => blk_x m c t r k
  rw [hr]
  exact Ideal.mul_congr (Ideal.mul_congr (blk_x m c t r j) rfl) (blk_wp m c t j)

/-- The block of rows' projection. -/
abbrev bP (t : Fin cfg0.N) : FVec Ideal S1024x2304 .f32 := k0_pay6 (F := Ideal) (iblk m c 0 t) (iblk m c 1 t) (iblk m c 2 t) (iblk m c 3 t)

theorem p_eq (t : Fin cfg0.N) (r : Fin 1024) (j : Fin 2304) : bP m c t (ix2 r j) = aP m c (ix2 (at' t r) j) := by
  refine (p_apply _ _ _ _ r j).trans (Eq.trans ?_ (rP_apply _ _ _ _ _).symm)
  exact Ideal.add_congr (Fin.sum_fin_congr fun k => Ideal.mul_congr (h_eq m c t r k) (blk_w m c t k j)) (blk_b m c t j)

theorem ld_x (X : Vec Ideal S1024x1024 .f32) : View.ld (Val := Elt Ideal) (e' := .f32) X r0_0 = X := View.ld_unit_lit _ X (by decide)
theorem ld_wp (X : Vec Ideal S1x1024 .f32) : View.ld (Val := Elt Ideal) (e' := .f32) X r0_1 = X := View.ld_unit_lit _ X (by decide)
theorem ld_w (X : Vec Ideal S1024x2304 .bf16) : View.ld (Val := Elt Ideal) (e' := .bf16) X r0_2 = X := View.ld_unit_lit _ X (by decide)
theorem ld_b (X : Vec Ideal S1x2304 .f32) : View.ld (Val := Elt Ideal) (e' := .f32) X r0_3 = X := View.ld_unit_lit _ X (by decide)
theorem ld_cs (X : Vec Ideal S1024x48 .bf16) : View.ld (Val := Elt Ideal) (e' := .bf16) X r0_4 = X := View.ld_unit_lit _ X (by decide)

/-! ## The values that several stores share, and the stored ones -/

section Shared
variable (x0 : Vec Ideal S1024x1024 .f32) (x1 : Vec Ideal S1x1024 .f32) (x2 : Vec Ideal S1024x2304 .bf16) (x3 : Vec Ideal S1x2304 .f32) (x4 : Vec Ideal S1024x48 .bf16)

theorem proj_eq : k0_pay34 (F := Ideal) x0 x1 x2 x3 x4 = k0_pay6 (F := Ideal) x0 x1 x2 x3 := by
  unfold k0_pay34; rw [ld_x, ld_wp, ld_w, ld_b]
theorem pay7_eq (x : FVec Ideal S1024x48 .bf16) : k0_pay7 (F := Ideal) x = x := by
  funext y
  idx_vars y
  pointwise [k0_pay7]
theorem cs_eq : k0_pay35 (F := Ideal) x0 x1 x2 x3 x4 = x4 := by
  unfold k0_pay35; rw [ld_cs, pay7_eq]
theorem ones_eq : k0_pay39 (F := Ideal) x0 x1 x2 x3 x4 = ones := rfl
theorem lows_eq : k0_pay40 (F := Ideal) x0 x1 x2 x3 x4 = lows := rfl
theorem cos_eq : k0_pay41 (F := Ideal) x0 x1 x2 x3 x4 = tCos x4 := by
  unfold k0_pay41; rw [cs_eq, ones_eq, lows_eq]
theorem low_eq : k0_pay42 (F := Ideal) x0 x1 x2 x3 x4 = tLow x4 := by
  unfold k0_pay42; rw [cs_eq, ones_eq, lows_eq]
theorem high_eq : k0_pay43 (F := Ideal) x0 x1 x2 x3 x4 = tHigh x4 := by
  unfold k0_pay43; rw [cs_eq, ones_eq, lows_eq]

end Shared

section Stored
variable (p : FVec Ideal S1024x2304 .f32) (C S T : FVec Ideal S1024x128 .f32) (cs : FVec Ideal S1024x48 .bf16)

theorem piece_0 : k0_pay23 (F := Ideal) (k0_pay22 p cs ones lows) = spun (qCols p 0 slices_S1024x2304_o0_0_S1024x128) (tCos cs) (tLow cs) (tHigh cs) := rfl
theorem piece_1 : k0_pay24 (F := Ideal) p C S T = spun (qCols p 128 slices_S1024x2304_o0_128_S1024x128) C S T := rfl
theorem piece_2 : k0_pay25 (F := Ideal) p C S T = spun (qCols p 256 slices_S1024x2304_o0_256_S1024x128) C S T := rfl
theorem piece_3 : k0_pay26 (F := Ideal) p C S T = spun (qCols p 384 slices_S1024x2304_o0_384_S1024x128) C S T := rfl
theorem piece_4 : k0_pay28 (F := Ideal) C S T (k0_pay27 p) = spun (qCols p 512 slices_S1024x2304_o0_512_S1024x128) C S T := rfl
theorem piece_5 : k0_pay29 (F := Ideal) p C S T = spun (qCols p 640 slices_S1024x2304_o0_640_S1024x128) C S T := rfl
theorem piece_6 : k0_pay30 (F := Ideal) p C S T = spun (qCols p 768 slices_S1024x2304_o0_768_S1024x128) C S T := rfl
theorem piece_7 : k0_pay1 (F := Ideal) S T (k0_pay31 p) (k0_pay32 p C) (k0_pay33 p) = spun (qCols p 896 slices_S1024x2304_o0_896_S1024x128) C S T := rfl
theorem piece_k : k0_pay2 (F := Ideal) p C S T = spun (extractStridedSlice S1024x128 ![0, 1024] p slices_S1024x2304_o0_1024_S1024x128) C S T := rfl

end Stored

/-- The block's rows over two heads, turned. -/
abbrev bSpun (t : Fin cfg0.N) (X : FVec Ideal S1024x128 .f32) : FVec Ideal S1024x128 .bf16 :=
  spun X (tCos (iblk m c 4 t)) (tLow (iblk m c 4 t)) (tHigh (iblk m c 4 t))

theorem bSpun_apply (t : Fin cfg0.N) (X : FVec Ideal S1024x128 .f32) (r : Fin 1024) (l : Fin 128) :
    bSpun m c t X (ix2 r l) = Rope.forth (fun d => X (ix2 r ⟨l.val / 64 * 64 + d.val, by omega⟩)) (turns (aPos m c) (at' t r)) ⟨l.val % 64, by omega⟩ := by
  refine (spun_apply _ X r l fun k hk => ?_).trans ?_
  · exact (congrFun (blk_cs m c t r) k).trans (Rope.pieces_zero _ k hk)
  · rw [blk_cs]
    rfl

/-! ## The result arrays after the run -/

theorem final_h : (dats m 0 c).arrAt 5 (cfgs 0).N = truncf .bf16 (aH m c) bitsLt_bf16_f32 := by
  refine (dats m 0 c).arrAt_eq_of_covers 5 _ (by decide +kernel) fun t hf y => ?_
  have h : out0_5 (iblk m c 0 t) (iblk m c 1 t) (iblk m c 2 t) (iblk m c 3 t) (iblk m c 4 t) = k0_pay5 (iblk m c 0 t) (iblk m c 1 t) := by
    unfold out0_5; frame_out
  idx_vars y
  blk_simp
  rw [after0_5, h, h_eq]
  blk_point [idx t, at'_val]

theorem q_eq (t : Fin cfg0.N) (r : Fin 1024) (j : Fin 1024) (o : ℕ) (h) (l : Fin 128) (s : ℕ) (ho : o = s * 128) (hj : j.val = o + l.val) :
    bSpun m c t (qCols (bP m c t) o h) (ix2 r l) = rQ (aP m c) (aPos m c) (ix2 (at' t r) j) := by
  have hl := l.isLt
  have hj' := j.isLt
  rw [bSpun_apply, rQ_apply]
  refine congrArg₂ (fun X d => Rope.forth X _ d) (funext fun d => ?_) (Fin.ext (by dsimp only; omega))
  have hd := d.isLt
  have e : qCols (bP m c t) o h (ix2 r ⟨l.val / 64 * 64 + d.val, by omega⟩) = bP m c t (ix2 r ⟨j.val / 64 * 64 + d.val, by omega⟩) * ((1 / 8 : ℝ) : EReal) := by
    rw [← Out5.bits_eighth]
    pointwise [qCols]
    exact Ideal.mul_congr (congrArg (fun i => bP m c t (ix2 r i)) (Fin.ext (by dsimp only; omega))) rfl
  rw [e, p_eq]

theorem out_q (t : Fin cfg0.N) (r : Fin 1024) (j : Fin 1024) :
    out0_6 (F := Ideal) (iblk m c 0 t) (iblk m c 1 t) (iblk m c 2 t) (iblk m c 3 t) (iblk m c 4 t) (ix2 r j) = rQ (aP m c) (aPos m c) (ix2 (at' t r) j) := by
  have hc (s o : ℕ) (h) (p : FVec Ideal S1024x128 .bf16) (hp : p = bSpun m c t (qCols (bP m c t) o h)) (ho : o = s * 128) (x : S1024x128.Idx)
      (hx : ∀ a : Fin 2, ((ix2 r j : S1024x1024.Idx) a : ℕ) = ![0, o] a + x a) : p x = rQ (aP m c) (aPos m c) (ix2 (at' t r) j) := by
    subst hp
    idx_vars x
    have e0 : r = x0 := Fin.ext (by simpa using hx 0)
    subst e0
    exact q_eq m c t _ j o h x1 s ho (by simpa using hx 1)
  unfold out0_6
  rw [proj_eq, cos_eq, low_eq, high_eq, cs_eq, ones_eq, lows_eq, piece_0, piece_1, piece_2, piece_3, piece_4, piece_5, piece_6, piece_7]
  refine View.canon_eq_of_allAt _ _ _ (cover0_6 _ _ _ _ _ _ _ _ _) ?_
  refine View.allAt_cons_unit _ _ _ _ _ (fun x hx => hc 7 896 slices_S1024x2304_o0_896_S1024x128 _ rfl rfl x hx) ?_
  refine View.allAt_cons_unit _ _ _ _ _ (fun x hx => hc 6 768 slices_S1024x2304_o0_768_S1024x128 _ rfl rfl x hx) ?_
  refine View.allAt_cons_unit _ _ _ _ _ (fun x hx => hc 5 640 slices_S1024x2304_o0_640_S1024x128 _ rfl rfl x hx) ?_
  refine View.allAt_cons_unit _ _ _ _ _ (fun x hx => hc 4 512 slices_S1024x2304_o0_512_S1024x128 _ rfl rfl x hx) ?_
  refine View.allAt_cons_unit _ _ _ _ _ (fun x hx => hc 3 384 slices_S1024x2304_o0_384_S1024x128 _ rfl rfl x hx) ?_
  refine View.allAt_cons_unit _ _ _ _ _ (fun x hx => hc 2 256 slices_S1024x2304_o0_256_S1024x128 _ rfl rfl x hx) ?_
  refine View.allAt_cons_unit _ _ _ _ _ (fun x hx => hc 1 128 slices_S1024x2304_o0_128_S1024x128 _ rfl rfl x hx) ?_
  exact View.allAt_cons_unit _ _ _ _ _ (fun x hx => hc 0 0 slices_S1024x2304_o0_0_S1024x128 _ rfl rfl x hx) (View.allAt_nil _ _)

theorem final_q : (dats m 0 c).arrAt 6 (cfgs 0).N = rQ (aP m c) (aPos m c) := by
  refine (dats m 0 c).arrAt_eq_of_covers 6 _ (by decide +kernel) fun t hf y => ?_
  idx_vars y
  blk_simp
  rw [after0_6, out_q]
  blk_point [idx t, at'_val]

theorem out_k (t : Fin cfg0.N) (r : Fin 1024) (j : Fin 128) :
    out0_7 (F := Ideal) (iblk m c 0 t) (iblk m c 1 t) (iblk m c 2 t) (iblk m c 3 t) (iblk m c 4 t) (ix2 r j) = rK (aP m c) (aPos m c) (ix2 (at' t r) j) := by
  have h : out0_7 (F := Ideal) (iblk m c 0 t) (iblk m c 1 t) (iblk m c 2 t) (iblk m c 3 t) (iblk m c 4 t)
      = bSpun m c t (extractStridedSlice S1024x128 ![0, 1024] (bP m c t) slices_S1024x2304_o0_1024_S1024x128) := by
    unfold out0_7
    rw [proj_eq, cos_eq, low_eq, high_eq, piece_k]
    frame_out
  rw [h, bSpun_apply, rK_apply]
  refine congrArg (fun X => Rope.forth X _ _) (funext fun d => ?_)
  rw [← p_eq]
  pointwise

theorem final_k : (dats m 0 c).arrAt 7 (cfgs 0).N = rK (aP m c) (aPos m c) := by
  refine (dats m 0 c).arrAt_eq_of_covers 7 _ (by decide +kernel) fun t hf y => ?_
  idx_vars y
  blk_simp
  rw [after0_7, out_k]
  generalize rK (aP m c) (aPos m c) = A
  blk_point [idx t, at'_val]

theorem final_v : (dats m 0 c).arrAt 8 (cfgs 0).N = rV (aP m c) := by
  refine (dats m 0 c).arrAt_eq_of_covers 8 _ (by decide +kernel) fun t hf y => ?_
  have h : out0_8 (F := Ideal) (iblk m c 0 t) (iblk m c 1 t) (iblk m c 2 t) (iblk m c 3 t) (iblk m c 4 t) = k0_pay3 (bP m c t) := by
    unfold out0_8
    rw [proj_eq]
    frame_out
  idx_vars y
  blk_simp
  rw [after0_8, h]
  refine Eq.trans (b := rV (aP m c) (ix2 (at' t y0) y1)) ?_ ?_
  · rw [rV_apply, ← p_eq]
    pointwise [k0_pay3]
  · blk_point [idx t, at'_val]

theorem final_z : (dats m 0 c).arrAt 9 (cfgs 0).N = rZ (aP m c) := by
  refine (dats m 0 c).arrAt_eq_of_covers 9 _ (by decide +kernel) fun t hf y => ?_
  have h : out0_9 (F := Ideal) (iblk m c 0 t) (iblk m c 1 t) (iblk m c 2 t) (iblk m c 3 t) (iblk m c 4 t) = k0_pay4 (bP m c t) := by
    unfold out0_9
    rw [proj_eq]
    frame_out
  idx_vars y
  blk_simp
  rw [after0_9, h]
  refine Eq.trans (b := rZ (aP m c) (ix2 (at' t y0) y1)) ?_ ?_
  · rw [rZ_apply, ← p_eq]
    pointwise [k0_pay4]
  · blk_point [idx t, at'_val]

end Kernel

theorem algebraic : Cert.algebraic_Kernel9Ideal_Reference9Ideal := by
  pair_intro
  · run_from Cert.Kernel9Ideal.Value.run_blocks m g
  · run_from ref_run m' g'
    all_goals obtain ⟨h0, h1, h2, h3, h4⟩ := hagree c
    all_goals simp only [refP, refH, h0, h1, h2, h3, h4]
    · exact (final_h m c).symm
    · exact (final_q m c).symm
    · exact (final_k m c).symm
    · exact (final_v m c).symm
    · exact (final_z m c).symm

end Cert.Proof.Out9
end
-- ==== Proof.lean ====
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Pair1
public import proofs.«01_k».proof.Proof.Pair2
public import proofs.«01_k».proof.Proof.Pair3
public import proofs.«01_k».proof.Proof.Pair4
public import proofs.«01_k».proof.Proof.Pair5
public import proofs.«01_k».proof.Proof.Pair6
public import proofs.«01_k».proof.Proof.Gen.Kernel4Ideal.Value
public import proofs.«01_k».proof.Proof.Gen.Reference4Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Out7
public import proofs.«01_k».proof.Proof.Out8
public import proofs.«01_k».proof.Proof.Gen.Kernel7.Frame
public import proofs.«01_k».proof.Proof.Gen.Kernel7Ideal.Value
public import proofs.«01_k».proof.Proof.Gen.Reference7Ideal.Run
public import proofs.«01_k».proof.Proof.Out9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel8.Frame
public import proofs.«01_k».proof.Proof.Gen.Kernel8Ideal.Value
public import proofs.«01_k».proof.Proof.Gen.Reference8Ideal.Run
public import proofs.«01_k».proof.Proof.Body5
public import proofs.«01_k».proof.Proof.Body5I
public import proofs.«01_k».proof.Proof.Gen.Reference5Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel4.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Adequacy
public import Idealize.ShloMosaic.Init

@[expose] public section

noncomputable section

namespace Cert.Proof

open Idealize.ShloMosaic Idealize.SL.Sem Cert.Kernel

/-- The references run, their arguments end as they were, and they declare no semaphore. -/
theorem frame_r1 : Cert.quiescent_ReferenceIdeal := fun m ρ _ =>
  (θ_run _ _ _).mono (fun r h => ⟨fun c => (h c).2.2.2.2.2, sem_eq_zero_of_no_sems (by decide) r.2⟩) (Cert.ReferenceIdeal.Value.run m ρ)

theorem frame_r2 : Cert.quiescent_Reference2Ideal := fun m ρ _ =>
  (θ_run _ _ _).mono (fun r h => ⟨fun c => (h c).2.2.2.2.2.2, sem_eq_zero_of_no_sems (by decide) r.2⟩) (Cert.Reference2Ideal.Value.run m ρ)

theorem frame_r3 : Cert.quiescent_Reference3Ideal := fun m ρ _ =>
  (θ_run _ _ _).mono (fun r h => ⟨fun c => (h c).2.2, sem_eq_zero_of_no_sems (by decide) r.2⟩) (Cert.Reference3Ideal.Value.run m ρ)

theorem frame_r4 : Cert.quiescent_Reference4Ideal := fun m ρ _ =>
  (θ_run _ _ _).mono (fun r h => ⟨fun c => (h c).2.2.2.2.2.2, sem_eq_zero_of_no_sems (by decide) r.2⟩) (Cert.Reference4Ideal.Value.run m ρ)

theorem frame_r5 : Cert.quiescent_Reference5Ideal := fun m ρ _ =>
  (θ_run _ _ _).mono (fun r h => ⟨fun c => (h c).2, sem_eq_zero_of_no_sems (by decide) r.2⟩) (Cert.Reference5Ideal.Value.run m ρ)

theorem frame_r6 : Cert.quiescent_Reference6Ideal := fun m ρ _ =>
  (θ_run _ _ _).mono (fun r h => ⟨fun c => (h c).2.2, sem_eq_zero_of_no_sems (by decide) r.2⟩) (Cert.Reference6Ideal.Value.run m ρ)

theorem frame_r7 : Cert.quiescent_Reference7Ideal := fun m ρ _ =>
  (θ_run _ _ _).mono (fun r h => ⟨fun c => (h c).2.2, sem_eq_zero_of_no_sems (by decide) r.2⟩) (Cert.Reference7Ideal.Value.run m ρ)

theorem frame_r8 : Cert.quiescent_Reference8Ideal := fun m ρ _ =>
  (θ_run _ _ _).mono (fun r h => ⟨fun c => (h c).2.2, sem_eq_zero_of_no_sems (by decide) r.2⟩) (Cert.Reference8Ideal.Value.run m ρ)

theorem frame_r9 : Cert.quiescent_Reference9Ideal := fun m ρ _ =>
  (θ_run _ _ _).mono (fun r h => ⟨fun c => (h c).2.2.2.2.2, sem_eq_zero_of_no_sems (by decide) r.2⟩) (Cert.Reference9Ideal.Value.run m ρ)

/-- The mask's constant is the name's pattern. -/
theorem mask5 : Cert.preserves_Kernel5_Kernel5Ideal :=
  IdealRules.named_const.statement Cert.Kernel5Ideal.κ "mask" .f32 0xF149F2CA#32 ⊥ rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Out5.finite_facts, by
  exact ⟨fun m ρ _ => Cert.Kernel.Gen.frame m ρ, fun m ρ _ => Cert.KernelIdeal.Gen.frame m ρ, frame_r1,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Hand.frame m ρ, fun m ρ _ => Cert.Kernel5Ideal.Hand.frame m ρ, frame_r5, fun m ρ _ => frame_r5 m ρ trivial,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, frame_r7,
    fun m ρ _ => Cert.Kernel8.Gen.frame m ρ, fun m ρ _ => Cert.Kernel8Ideal.Gen.frame m ρ, frame_r8,
    fun m ρ _ => Cert.Kernel9.Gen.frame m ρ, fun m ρ _ => Cert.Kernel9Ideal.Gen.frame m ρ, frame_r9,
    fun m ρ _ => Cert.Kernel10.Gen.frame m ρ, fun m ρ _ => Cert.Kernel10Ideal.Gen.frame m ρ,
    trivial, Out1.algebraic, trivial, Out2.algebraic, trivial, Out3.algebraic, trivial, Out4.algebraic, mask5, Out5.algebraic, trivial, Out6.algebraic,
    trivial, Out7.algebraic, trivial, Out8.algebraic, trivial, Out9.algebraic, trivial⟩⟩

end Cert.Proof

end
